-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_xi_nonnegative [hPre_xi_nonnegative : Cert.Pre_xi_nonnegative.Facts] (m : (ℓ : Loc Cert.RetIdeal.nD Cert.RetIdeal.τ Cert.RetIdeal.sig) → Buf (Elt Ideal) ℓ) : Prop :=
  ∀ c : Dev Cert.RetIdeal.nD,
    (Cert.Pre_xi_nonnegative.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_xi_nonnegative [hPre_xi_nonnegative : Cert.Pre_xi_nonnegative.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_xi_nonnegative.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ r.2.sem = fun _ => 0)

def quiescent_RetIdeal_pre_xi_nonnegative [hRetIdeal : Cert.RetIdeal.Facts] [hPre_xi_nonnegative : Cert.Pre_xi_nonnegative.Facts] : Prop :=
  ∀ (m : (ℓ : Loc Cert.RetIdeal.nD Cert.RetIdeal.τ Cert.RetIdeal.sig) → Buf (Elt Ideal) ℓ) (g : Dev Cert.RetIdeal.nD → PrngReg), Pre_RetIdeal_xi_nonnegative m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4))
      ∧ r.2.sem = fun _ => 0)

def quiescent_RetRefIdeal_pre_xi_nonnegative [hRetRefIdeal : Cert.RetRefIdeal.Facts] [hPre_xi_nonnegative : Cert.Pre_xi_nonnegative.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_xi_nonnegative m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4)
      ∧ r.2.mem ((c.tc : Thread Cert.Half.nD Cert.Half.τ).loc Cert.Half.main_arg5) = m ((c.tc : Thread Cert.Half.nD Cert.Half.τ).loc Cert.Half.main_arg5)
      ∧ r.2.mem ((c.tc : Thread Cert.Half.nD Cert.Half.τ).loc Cert.Half.main_arg6) = m ((c.tc : Thread Cert.Half.nD Cert.Half.τ).loc Cert.Half.main_arg6)
      ∧ r.2.mem ((c.tc : Thread Cert.Half.nD Cert.Half.τ).loc Cert.Half.main_arg7) = m ((c.tc : Thread Cert.Half.nD Cert.Half.τ).loc Cert.Half.main_arg7)
      ∧ r.2.mem ((c.tc : Thread Cert.Half.nD Cert.Half.τ).loc Cert.Half.main_arg8) = m ((c.tc : Thread Cert.Half.nD Cert.Half.τ).loc Cert.Half.main_arg8)
      ∧ r.2.mem ((c.tc : Thread Cert.Half.nD Cert.Half.τ).loc Cert.Half.main_arg9) = m ((c.tc : Thread Cert.Half.nD Cert.Half.τ).loc Cert.Half.main_arg9))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
      ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5)
      ∧ r.2.mem ((c.tc : Thread Cert.HalfIdeal.nD Cert.HalfIdeal.τ).loc Cert.HalfIdeal.main_arg6) = m ((c.tc : Thread Cert.HalfIdeal.nD Cert.HalfIdeal.τ).loc Cert.HalfIdeal.main_arg6)
      ∧ r.2.mem ((c.tc : Thread Cert.HalfIdeal.nD Cert.HalfIdeal.τ).loc Cert.HalfIdeal.main_arg7) = m ((c.tc : Thread Cert.HalfIdeal.nD Cert.HalfIdeal.τ).loc Cert.HalfIdeal.main_arg7)
      ∧ r.2.mem ((c.tc : Thread Cert.HalfIdeal.nD Cert.HalfIdeal.τ).loc Cert.HalfIdeal.main_arg8) = m ((c.tc : Thread Cert.HalfIdeal.nD Cert.HalfIdeal.τ).loc Cert.HalfIdeal.main_arg8)
      ∧ r.2.mem ((c.tc : Thread Cert.HalfIdeal.nD Cert.HalfIdeal.τ).loc Cert.HalfIdeal.main_arg9) = m ((c.tc : Thread Cert.HalfIdeal.nD Cert.HalfIdeal.τ).loc Cert.HalfIdeal.main_arg9))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4)
      ∧ r.2.mem ((c.tc : Thread Cert.HalfRefIdeal.nD Cert.HalfRefIdeal.τ).loc Cert.HalfRefIdeal.main_arg5) = m ((c.tc : Thread Cert.HalfRefIdeal.nD Cert.HalfRefIdeal.τ).loc Cert.HalfRefIdeal.main_arg5)
      ∧ r.2.mem ((c.tc : Thread Cert.HalfRefIdeal.nD Cert.HalfRefIdeal.τ).loc Cert.HalfRefIdeal.main_arg6) = m ((c.tc : Thread Cert.HalfRefIdeal.nD Cert.HalfRefIdeal.τ).loc Cert.HalfRefIdeal.main_arg6)
      ∧ r.2.mem ((c.tc : Thread Cert.HalfRefIdeal.nD Cert.HalfRefIdeal.τ).loc Cert.HalfRefIdeal.main_arg7) = m ((c.tc : Thread Cert.HalfRefIdeal.nD Cert.HalfRefIdeal.τ).loc Cert.HalfRefIdeal.main_arg7)
      ∧ r.2.mem ((c.tc : Thread Cert.HalfRefIdeal.nD Cert.HalfRefIdeal.τ).loc Cert.HalfRefIdeal.main_arg8) = m ((c.tc : Thread Cert.HalfRefIdeal.nD Cert.HalfRefIdeal.τ).loc Cert.HalfRefIdeal.main_arg8)
      ∧ r.2.mem ((c.tc : Thread Cert.HalfRefIdeal.nD Cert.HalfRefIdeal.τ).loc Cert.HalfRefIdeal.main_arg9) = m ((c.tc : Thread Cert.HalfRefIdeal.nD Cert.HalfRefIdeal.τ).loc Cert.HalfRefIdeal.main_arg9))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def preserves_Ret_RetIdeal : Prop :=
  True

def algebraic_RetIdeal_RetRefIdeal_pre_xi_nonnegative [hRetIdeal : Cert.RetIdeal.Facts] [hRetRefIdeal : Cert.RetRefIdeal.Facts] [hPre_xi_nonnegative : Cert.Pre_xi_nonnegative.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_xi_nonnegative m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)) →
    ∃ (v0 : (c : Dev Cert.RetIdeal.nD) → Buf (Elt Ideal) ((c.tc : Thread Cert.RetIdeal.nD Cert.RetIdeal.τ).loc Cert.RetIdeal.main_v4)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v4) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v74) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v6_2)) (v3 : (c : Dev Cert.ProjIdeal.nD) → Buf (Elt Ideal) ((c.tc : Thread Cert.ProjIdeal.nD Cert.ProjIdeal.τ).loc Cert.ProjIdeal.main_v6_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v6_2) = v2 c
          ∧ r.2.mem ((c.tc : Thread Cert.ProjIdeal.nD Cert.ProjIdeal.τ).loc Cert.ProjIdeal.main_v6_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v95) = v0 c
          ∧ r.2.mem ((c.tc : Thread Cert.ProjRefIdeal.nD Cert.ProjRefIdeal.τ).loc Cert.ProjRefIdeal.main_v98) = v1 c
          ∧ r.2.mem ((c.tc : Thread Cert.ProjRefIdeal.nD Cert.ProjRefIdeal.τ).loc Cert.ProjRefIdeal.main_v101) = v2 c
          ∧ r.2.mem ((c.tc : Thread Cert.ProjRefIdeal.nD Cert.ProjRefIdeal.τ).loc Cert.ProjRefIdeal.main_v104) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)
      ∧ m' ((c.tc : Thread Cert.HalfRefIdeal.nD Cert.HalfRefIdeal.τ).loc Cert.HalfRefIdeal.main_arg5) = m ((c.tc : Thread Cert.HalfIdeal.nD Cert.HalfIdeal.τ).loc Cert.HalfIdeal.main_arg5)
      ∧ m' ((c.tc : Thread Cert.HalfRefIdeal.nD Cert.HalfRefIdeal.τ).loc Cert.HalfRefIdeal.main_arg6) = m ((c.tc : Thread Cert.HalfIdeal.nD Cert.HalfIdeal.τ).loc Cert.HalfIdeal.main_arg6)
      ∧ m' ((c.tc : Thread Cert.HalfRefIdeal.nD Cert.HalfRefIdeal.τ).loc Cert.HalfRefIdeal.main_arg7) = m ((c.tc : Thread Cert.HalfIdeal.nD Cert.HalfIdeal.τ).loc Cert.HalfIdeal.main_arg7)
      ∧ m' ((c.tc : Thread Cert.HalfRefIdeal.nD Cert.HalfRefIdeal.τ).loc Cert.HalfRefIdeal.main_arg8) = m ((c.tc : Thread Cert.HalfIdeal.nD Cert.HalfIdeal.τ).loc Cert.HalfIdeal.main_arg8)
      ∧ m' ((c.tc : Thread Cert.HalfRefIdeal.nD Cert.HalfRefIdeal.τ).loc Cert.HalfRefIdeal.main_arg9) = m ((c.tc : Thread Cert.HalfIdeal.nD Cert.HalfIdeal.τ).loc Cert.HalfIdeal.main_arg9)) →
    ∃ (v0 : (c : Dev Cert.HalfIdeal.nD) → Buf (Elt Ideal) ((c.tc : Thread Cert.HalfIdeal.nD Cert.HalfIdeal.τ).loc Cert.HalfIdeal.main_v0_0)) (v1 : (c : Dev Cert.HalfIdeal.nD) → Buf (Elt Ideal) ((c.tc : Thread Cert.HalfIdeal.nD Cert.HalfIdeal.τ).loc Cert.HalfIdeal.main_v0_1)) (v2 : (c : Dev Cert.HalfIdeal.nD) → Buf (Elt Ideal) ((c.tc : Thread Cert.HalfIdeal.nD Cert.HalfIdeal.τ).loc Cert.HalfIdeal.main_v0_2)) (v3 : (c : Dev Cert.HalfIdeal.nD) → Buf (Elt Ideal) ((c.tc : Thread Cert.HalfIdeal.nD Cert.HalfIdeal.τ).loc Cert.HalfIdeal.main_v0_3)) (v4 : (c : Dev Cert.HalfIdeal.nD) → Buf (Elt Ideal) ((c.tc : Thread Cert.HalfIdeal.nD Cert.HalfIdeal.τ).loc Cert.HalfIdeal.main_v0_4)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v0_0) = v0 c
          ∧ r.2.mem ((c.tc : Thread Cert.HalfIdeal.nD Cert.HalfIdeal.τ).loc Cert.HalfIdeal.main_v0_1) = v1 c
          ∧ r.2.mem ((c.tc : Thread Cert.HalfIdeal.nD Cert.HalfIdeal.τ).loc Cert.HalfIdeal.main_v0_2) = v2 c
          ∧ r.2.mem ((c.tc : Thread Cert.HalfIdeal.nD Cert.HalfIdeal.τ).loc Cert.HalfIdeal.main_v0_3) = v3 c
          ∧ r.2.mem ((c.tc : Thread Cert.HalfIdeal.nD Cert.HalfIdeal.τ).loc Cert.HalfIdeal.main_v0_4) = v4 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
          ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5)
          ∧ r.2.mem ((c.tc : Thread Cert.HalfIdeal.nD Cert.HalfIdeal.τ).loc Cert.HalfIdeal.main_arg6) = m ((c.tc : Thread Cert.HalfIdeal.nD Cert.HalfIdeal.τ).loc Cert.HalfIdeal.main_arg6)
          ∧ r.2.mem ((c.tc : Thread Cert.HalfIdeal.nD Cert.HalfIdeal.τ).loc Cert.HalfIdeal.main_arg7) = m ((c.tc : Thread Cert.HalfIdeal.nD Cert.HalfIdeal.τ).loc Cert.HalfIdeal.main_arg7)
          ∧ r.2.mem ((c.tc : Thread Cert.HalfIdeal.nD Cert.HalfIdeal.τ).loc Cert.HalfIdeal.main_arg8) = m ((c.tc : Thread Cert.HalfIdeal.nD Cert.HalfIdeal.τ).loc Cert.HalfIdeal.main_arg8)
          ∧ r.2.mem ((c.tc : Thread Cert.HalfIdeal.nD Cert.HalfIdeal.τ).loc Cert.HalfIdeal.main_arg9) = m ((c.tc : Thread Cert.HalfIdeal.nD Cert.HalfIdeal.τ).loc Cert.HalfIdeal.main_arg9))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v24) = v0 c
          ∧ r.2.mem ((c.tc : Thread Cert.HalfRefIdeal.nD Cert.HalfRefIdeal.τ).loc Cert.HalfRefIdeal.main_v27) = v1 c
          ∧ r.2.mem ((c.tc : Thread Cert.HalfRefIdeal.nD Cert.HalfRefIdeal.τ).loc Cert.HalfRefIdeal.main_v30) = v2 c
          ∧ r.2.mem ((c.tc : Thread Cert.HalfRefIdeal.nD Cert.HalfRefIdeal.τ).loc Cert.HalfRefIdeal.main_v33) = v3 c
          ∧ r.2.mem ((c.tc : Thread Cert.HalfRefIdeal.nD Cert.HalfRefIdeal.τ).loc Cert.HalfRefIdeal.main_v36) = v4 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4)
          ∧ r.2.mem ((c.tc : Thread Cert.HalfRefIdeal.nD Cert.HalfRefIdeal.τ).loc Cert.HalfRefIdeal.main_arg5) = m' ((c.tc : Thread Cert.HalfRefIdeal.nD Cert.HalfRefIdeal.τ).loc Cert.HalfRefIdeal.main_arg5)
          ∧ r.2.mem ((c.tc : Thread Cert.HalfRefIdeal.nD Cert.HalfRefIdeal.τ).loc Cert.HalfRefIdeal.main_arg6) = m' ((c.tc : Thread Cert.HalfRefIdeal.nD Cert.HalfRefIdeal.τ).loc Cert.HalfRefIdeal.main_arg6)
          ∧ r.2.mem ((c.tc : Thread Cert.HalfRefIdeal.nD Cert.HalfRefIdeal.τ).loc Cert.HalfRefIdeal.main_arg7) = m' ((c.tc : Thread Cert.HalfRefIdeal.nD Cert.HalfRefIdeal.τ).loc Cert.HalfRefIdeal.main_arg7)
          ∧ r.2.mem ((c.tc : Thread Cert.HalfRefIdeal.nD Cert.HalfRefIdeal.τ).loc Cert.HalfRefIdeal.main_arg8) = m' ((c.tc : Thread Cert.HalfRefIdeal.nD Cert.HalfRefIdeal.τ).loc Cert.HalfRefIdeal.main_arg8)
          ∧ r.2.mem ((c.tc : Thread Cert.HalfRefIdeal.nD Cert.HalfRefIdeal.τ).loc Cert.HalfRefIdeal.main_arg9) = m' ((c.tc : Thread Cert.HalfRefIdeal.nD Cert.HalfRefIdeal.τ).loc Cert.HalfRefIdeal.main_arg9))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v24) = v0 c
          ∧ r.2.mem ((c.tc : Thread Cert.MidRefIdeal.nD Cert.MidRefIdeal.τ).loc Cert.MidRefIdeal.main_v27) = v1 c
          ∧ r.2.mem ((c.tc : Thread Cert.MidRefIdeal.nD Cert.MidRefIdeal.τ).loc Cert.MidRefIdeal.main_v30) = v2 c
          ∧ r.2.mem ((c.tc : Thread Cert.MidRefIdeal.nD Cert.MidRefIdeal.τ).loc Cert.MidRefIdeal.main_v33) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def Claim : Prop :=
  ∃ (hRet : Cert.Ret.Facts) (hRetIdeal : Cert.RetIdeal.Facts) (hRetRefIdeal : Cert.RetRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hHalf : Cert.Half.Facts) (hHalfIdeal : Cert.HalfIdeal.Facts) (hHalfRefIdeal : Cert.HalfRefIdeal.Facts) (hMid : Cert.Mid.Facts) (hMidIdeal : Cert.MidIdeal.Facts) (hMidRefIdeal : Cert.MidRefIdeal.Facts) (hPre_xi_nonnegative : Cert.Pre_xi_nonnegative.Facts),
    quiescent_Ret (hRet := hRet)
    ∧ quiescent_RetIdeal (hRetIdeal := hRetIdeal)
    ∧ quiescent_RetIdeal_pre_xi_nonnegative (hRetIdeal := hRetIdeal) (hPre_xi_nonnegative := hPre_xi_nonnegative)
    ∧ quiescent_RetRefIdeal (hRetRefIdeal := hRetRefIdeal)
    ∧ quiescent_RetRefIdeal_pre_xi_nonnegative (hRetRefIdeal := hRetRefIdeal) (hPre_xi_nonnegative := hPre_xi_nonnegative)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Half (hHalf := hHalf)
    ∧ quiescent_HalfIdeal (hHalfIdeal := hHalfIdeal)
    ∧ quiescent_HalfRefIdeal (hHalfRefIdeal := hHalfRefIdeal)
    ∧ quiescent_Mid (hMid := hMid)
    ∧ quiescent_MidIdeal (hMidIdeal := hMidIdeal)
    ∧ quiescent_MidRefIdeal (hMidRefIdeal := hMidRefIdeal)
    ∧ preserves_Ret_RetIdeal
    ∧ algebraic_RetIdeal_RetRefIdeal_pre_xi_nonnegative (hRetIdeal := hRetIdeal) (hRetRefIdeal := hRetRefIdeal) (hPre_xi_nonnegative := hPre_xi_nonnegative)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Half_HalfIdeal
    ∧ algebraic_HalfIdeal_HalfRefIdeal (hHalfIdeal := hHalfIdeal) (hHalfRefIdeal := hHalfRefIdeal)
    ∧ preserves_Mid_MidIdeal
    ∧ algebraic_MidIdeal_MidRefIdeal (hMidIdeal := hMidIdeal) (hMidRefIdeal := hMidRefIdeal)
-- ==== Pre_xi_nonnegative.lean ====
abbrev S8192x13312 : Shape := ⟨2, ![8192, 13312]⟩
abbrev S8x128x128 : Shape := ⟨3, ![8, 128, 128]⟩
abbrev S8x128 : Shape := ⟨2, ![8, 128]⟩
abbrev S8 : Shape := ⟨1, ![8]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S8192x13312 .bf16) (main_arg1 : FVec F S8x128x128 .f32) (main_arg2 : FVec F S8x128 .f32) (main_arg3 : FVec F S8x128 .f32) (main_arg4 : FVec F S8 .f32) : IVec S_ 1 :=
  let main_cst : FVec F S_ .f32 := constant S_ .f32 0x00000000#32
  let main_v0 : FVec F S8x128 .f32 := broadcastInDim S8x128 ![] bcast_S_S8x128 main_cst
  let main_v1 : IVec S8x128 1 := cmpf .oge main_arg3 main_v0
  let main_cst_0 : FVec F S_ .f32 := constant S_ .f32 0x7F800000#32
  let main_v2 : FVec F S8x128 .f32 := broadcastInDim S8x128 ![] bcast_S_S8x128 main_cst_0
  let main_v3 : IVec S8x128 1 := cmpf .olt main_arg3 main_v2
  let main_v4 : IVec S8x128 1 := andi main_v1 main_v3
  let main_c : IVec S_ 1 := constantI S_ 1 1#1
  let main_v5 : IVec S_ 1 := (fun x v => Host.reduce IntOp.andi x v reducesTo_S8x128_S_d0_1 h_S_) main_v4 main_c
  main_v5
-- ==== Ret.lean ====
abbrev S8192x13312 : Shape := ⟨2, ![8192, 13312]⟩
abbrev S8x128x128 : Shape := ⟨3, ![8, 128, 128]⟩
abbrev S8x128 : Shape := ⟨2, ![8, 128]⟩
abbrev S8 : Shape := ⟨1, ![8]⟩
abbrev S8x1x1 : Shape := ⟨3, ![8, 1, 1]⟩
abbrev S8x1x256 : Shape := ⟨3, ![8, 1, 256]⟩
abbrev S8x128x1 : Shape := ⟨3, ![8, 128, 1]⟩
abbrev S8192x2048 : Shape := ⟨2, ![8192, 2048]⟩
abbrev S4096x128 : Shape := ⟨2, ![4096, 128]⟩
abbrev S4096x256 : Shape := ⟨2, ![4096, 256]⟩
abbrev S1x128x128 : Shape := ⟨3, ![1, 128, 128]⟩
abbrev S1x128x1 : Shape := ⟨3, ![1, 128, 1]⟩
abbrev S1x1x256 : Shape := ⟨3, ![1, 1, 256]⟩
abbrev S32x128x256 : Shape := ⟨3, ![32, 128, 256]⟩
abbrev S128x128 : Shape := ⟨2, ![128, 128]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S256x256 : Shape := ⟨2, ![256, 256]⟩
abbrev S128 : Shape := ⟨1, ![128]⟩

abbrev nBuf : Space → Nat
  | .hbm => 10
  | .vmem => 19
  | .smem => 0
  | _ => 0

abbrev bufTy : (tb : Table) → Fin (tcTables nBuf tb) → BufTy
  | .hbm, ⟨0, _⟩ => ⟨S8192x13312, .bf16⟩
  | .hbm, ⟨1, _⟩ => ⟨S8x128x128, .f32⟩
  | .hbm, ⟨2, _⟩ => ⟨S8x128, .f32⟩
  | .hbm, ⟨3, _⟩ => ⟨S8x128, .f32⟩
  | .hbm, ⟨4, _⟩ => ⟨S8, .f32⟩
  | .hbm, ⟨5, _⟩ => ⟨S8x1x1, .f32⟩
  | .hbm, ⟨6, _⟩ => ⟨S8x1x256, .f32⟩
  | .hbm, ⟨7, _⟩ => ⟨S8x128x1, .f32⟩
  | .hbm, ⟨8, _⟩ => ⟨S8x128x1, .f32⟩
  | .hbm, ⟨9, _⟩ => ⟨S8192x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S1x128x1, .f32⟩
  | .local _ .vmem, ⟨14, _⟩ => ⟨S1x1x256, .f32⟩
  | .local _ .vmem, ⟨15, _⟩ => ⟨S1x1x256, .f32⟩
  | .local _ .vmem, ⟨16, _⟩ => ⟨S4096x256, .bf16⟩
  | .local _ .vmem, ⟨17, _⟩ => ⟨S4096x256, .bf16⟩
  | .local _ .vmem, ⟨18, _⟩ => ⟨S32x128x256, .f32⟩
  | _, _ => ⟨S8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_mult1 : BitVec 32 :=
  let c0_i32 : BitVec 32 := 0#32
  let c128_i32 : BitVec 32 := 128#32
  let v8 : BitVec 32 := Scalar.muli c0_i32 c128_i32
  v8
def k0_off1 (c0_i32 : BitVec 32) : Fin 2 → Nat :=
  let c128_i32 : BitVec 32 := 128#32
  let v8 : BitVec 32 := Scalar.muli c0_i32 c128_i32
  let v9 : BitVec 32 := v8
  let v10 : Index := Scalar.indexCast v9
  let c0_11 : Index := 0#32
  ![v10.toNat, 0]
def k0_off2 (c0_i32 : BitVec 32) : Fin 2 → Nat :=
  let c128_i32 : BitVec 32 := 128#32
  let v8 : BitVec 32 := Scalar.muli c0_i32 c128_i32
  let v9 : BitVec 32 := v8
  let v16 : Index := Scalar.indexCast v9
  let c0_12 : Index := 0#32
  ![v16.toNat, 0]
def k0_mult2 : BitVec 32 :=
  let c1_i32 : BitVec 32 := 1#32
  let c128_i32_15 : BitVec 32 := 128#32
  let v23 : BitVec 32 := Scalar.muli c1_i32 c128_i32_15
  v23
def k0_mult3 : BitVec 32 :=
  let c2_i32 : BitVec 32 := 2#32
  let c128_i32_21 : BitVec 32 := 128#32
  let v38 : BitVec 32 := Scalar.muli c2_i32 c128_i32_21
  v38
def k0_mult4 : BitVec 32 :=
  let c3_i32 : BitVec 32 := 3#32
  let c128_i32_27 : BitVec 32 := 128#32
  let v53 : BitVec 32 := Scalar.muli c3_i32 c128_i32_27
  v53
def k0_mult5 : BitVec 32 :=
  let c4_i32 : BitVec 32 := 4#32
  let c128_i32_33 : BitVec 32 := 128#32
  let v68 : BitVec 32 := Scalar.muli c4_i32 c128_i32_33
  v68
def k0_mult6 : BitVec 32 :=
  let c5_i32 : BitVec 32 := 5#32
  let c128_i32_39 : BitVec 32 := 128#32
  let v83 : BitVec 32 := Scalar.muli c5_i32 c128_i32_39
  v83
def k0_mult7 : BitVec 32 :=
  let c6_i32 : BitVec 32 := 6#32
  let c128_i32_45 : BitVec 32 := 128#32
  let v98 : BitVec 32 := Scalar.muli c6_i32 c128_i32_45
  v98
def k0_mult8 : BitVec 32 :=
  let c7_i32 : BitVec 32 := 7#32
  let c128_i32_51 : BitVec 32 := 128#32
  let v113 : BitVec 32 := Scalar.muli c7_i32 c128_i32_51
  v113
def k0_mult9 : BitVec 32 :=
  let c8_i32 : BitVec 32 := 8#32
  let c128_i32_57 : BitVec 32 := 128#32
  let v128 : BitVec 32 := Scalar.muli c8_i32 c128_i32_57
  v128
def k0_mult10 : BitVec 32 :=
  let c9_i32 : BitVec 32 := 9#32
  let c128_i32_63 : BitVec 32 := 128#32
  let v143 : BitVec 32 := Scalar.muli c9_i32 c128_i32_63
  v143
def k0_mult11 : BitVec 32 :=
  let c10_i32 : BitVec 32 := 10#32
  let c128_i32_69 : BitVec 32 := 128#32
  let v158 : BitVec 32 := Scalar.muli c10_i32 c128_i32_69
  v158
def k0_mult12 : BitVec 32 :=
  let c11_i32 : BitVec 32 := 11#32
  let c128_i32_75 : BitVec 32 := 128#32
  let v173 : BitVec 32 := Scalar.muli c11_i32 c128_i32_75
  v173
def k0_mult13 : BitVec 32 :=
  let c12_i32 : BitVec 32 := 12#32
  let c128_i32_81 : BitVec 32 := 128#32
  let v188 : BitVec 32 := Scalar.muli c12_i32 c128_i32_81
  v188
def k0_mult14 : BitVec 32 :=
  let c13_i32 : BitVec 32 := 13#32
  let c128_i32_87 : BitVec 32 := 128#32
  let v203 : BitVec 32 := Scalar.muli c13_i32 c128_i32_87
  v203
def k0_mult15 : BitVec 32 :=
  let c14_i32 : BitVec 32 := 14#32
  let c128_i32_93 : BitVec 32 := 128#32
  let v218 : BitVec 32 := Scalar.muli c14_i32 c128_i32_93
  v218
def k0_mult16 : BitVec 32 :=
  let c15_i32 : BitVec 32 := 15#32
  let c128_i32_99 : BitVec 32 := 128#32
  let v233 : BitVec 32 := Scalar.muli c15_i32 c128_i32_99
  v233
def k0_mult17 : BitVec 32 :=
  let c16_i32 : BitVec 32 := 16#32
  let c128_i32_105 : BitVec 32 := 128#32
  let v248 : BitVec 32 := Scalar.muli c16_i32 c128_i32_105
  v248
def k0_mult18 : BitVec 32 :=
  let c17_i32 : BitVec 32 := 17#32
  let c128_i32_111 : BitVec 32 := 128#32
  let v263 : BitVec 32 := Scalar.muli c17_i32 c128_i32_111
  v263
def k0_mult19 : BitVec 32 :=
  let c18_i32 : BitVec 32 := 18#32
  let c128_i32_117 : BitVec 32 := 128#32
  let v278 : BitVec 32 := Scalar.muli c18_i32 c128_i32_117
  v278
def k0_mult20 : BitVec 32 :=
  let c19_i32 : BitVec 32 := 19#32
  let c128_i32_123 : BitVec 32 := 128#32
  let v293 : BitVec 32 := Scalar.muli c19_i32 c128_i32_123
  v293
def k0_mult21 : BitVec 32 :=
  let c20_i32 : BitVec 32 := 20#32
  let c128_i32_129 : BitVec 32 := 128#32
  let v308 : BitVec 32 := Scalar.muli c20_i32 c128_i32_129
  v308
def k0_mult22 : BitVec 32 :=
  let c21_i32 : BitVec 32 := 21#32
  let c128_i32_135 : BitVec 32 := 128#32
  let v323 : BitVec 32 := Scalar.muli c21_i32 c128_i32_135
  v323
def k0_mult23 : BitVec 32 :=
  let c22_i32 : BitVec 32 := 22#32
  let c128_i32_141 : BitVec 32 := 128#32
  let v338 : BitVec 32 := Scalar.muli c22_i32 c128_i32_141
  v338
def k0_mult24 : BitVec 32 :=
  let c23_i32 : BitVec 32 := 23#32
  let c128_i32_147 : BitVec 32 := 128#32
  let v353 : BitVec 32 := Scalar.muli c23_i32 c128_i32_147
  v353
def k0_mult25 : BitVec 32 :=
  let c24_i32 : BitVec 32 := 24#32
  let c128_i32_153 : BitVec 32 := 128#32
  let v368 : BitVec 32 := Scalar.muli c24_i32 c128_i32_153
  v368
def k0_mult26 : BitVec 32 :=
  let c25_i32 : BitVec 32 := 25#32
  let c128_i32_159 : BitVec 32 := 128#32
  let v383 : BitVec 32 := Scalar.muli c25_i32 c128_i32_159
  v383
def k0_mult27 : BitVec 32 :=
  let c26_i32 : BitVec 32 := 26#32
  let c128_i32_165 : BitVec 32 := 128#32
  let v398 : BitVec 32 := Scalar.muli c26_i32 c128_i32_165
  v398
def k0_mult28 : BitVec 32 :=
  let c27_i32 : BitVec 32 := 27#32
  let c128_i32_171 : BitVec 32 := 128#32
  let v413 : BitVec 32 := Scalar.muli c27_i32 c128_i32_171
  v413
def k0_mult29 : BitVec 32 :=
  let c28_i32 : BitVec 32 := 28#32
  let c128_i32_177 : BitVec 32 := 128#32
  let v428 : BitVec 32 := Scalar.muli c28_i32 c128_i32_177
  v428
def k0_mult30 : BitVec 32 :=
  let c29_i32 : BitVec 32 := 29#32
  let c128_i32_183 : BitVec 32 := 128#32
  let v443 : BitVec 32 := Scalar.muli c29_i32 c128_i32_183
  v443
def k0_mult31 : BitVec 32 :=
  let c30_i32 : BitVec 32 := 30#32
  let c128_i32_189 : BitVec 32 := 128#32
  let v458 : BitVec 32 := Scalar.muli c30_i32 c128_i32_189
  v458
def k0_mult32 : BitVec 32 :=
  let c31_i32 : BitVec 32 := 31#32
  let c128_i32_195 : BitVec 32 := 128#32
  let v473 : BitVec 32 := Scalar.muli c31_i32 c128_i32_195
  v473
@[reducible] def k0_t1_loop : Scf.Loop 32 :=
  let c0_i32_202 : BitVec 32 := 0#32
  let c32_i32_203 : BitVec 32 := 32#32
  let v489 : BitVec 32 := Scalar.addi c0_i32_202 c32_i32_203
  let c1_i32_204 : BitVec 32 := 1#32
  ⟨c0_i32_202, v489, c1_i32_204⟩
def k0_off3 (k0_t1 : Fin k0_t1_loop.trips) : Fin 3 → Nat :=
  let c0_i32_202 : BitVec 32 := 0#32
  let c1_i32_204 : BitVec 32 := 1#32
  let arg12 : BitVec 32 := Scf.iv c0_i32_202 c1_i32_204 k0_t1
  let v2187 : Index := Scalar.indexCast arg12
  let c0_815 : Index := 0#32
  let c0_816 : Index := 0#32
  ![v2187.toNat, 0, 0]
def k0_mult33 : BitVec 32 :=
  let c0_i32_206 : BitVec 32 := 0#32
  let c128_i32_207 : BitVec 32 := 128#32
  let v491 : BitVec 32 := Scalar.muli c0_i32_206 c128_i32_207
  v491
def k0_mult34 : BitVec 32 :=
  let c1_i32_225 : BitVec 32 := 1#32
  let c128_i32_226 : BitVec 32 := 128#32
  let v544 : BitVec 32 := Scalar.muli c1_i32_225 c128_i32_226
  v544
def k0_mult35 : BitVec 32 :=
  let c2_i32_244 : BitVec 32 := 2#32
  let c128_i32_245 : BitVec 32 := 128#32
  let v597 : BitVec 32 := Scalar.muli c2_i32_244 c128_i32_245
  v597
def k0_mult36 : BitVec 32 :=
  let c3_i32_263 : BitVec 32 := 3#32
  let c128_i32_264 : BitVec 32 := 128#32
  let v650 : BitVec 32 := Scalar.muli c3_i32_263 c128_i32_264
  v650
def k0_mult37 : BitVec 32 :=
  let c4_i32_282 : BitVec 32 := 4#32
  let c128_i32_283 : BitVec 32 := 128#32
  let v703 : BitVec 32 := Scalar.muli c4_i32_282 c128_i32_283
  v703
def k0_mult38 : BitVec 32 :=
  let c5_i32_301 : BitVec 32 := 5#32
  let c128_i32_302 : BitVec 32 := 128#32
  let v756 : BitVec 32 := Scalar.muli c5_i32_301 c128_i32_302
  v756
def k0_mult39 : BitVec 32 :=
  let c6_i32_320 : BitVec 32 := 6#32
  let c128_i32_321 : BitVec 32 := 128#32
  let v809 : BitVec 32 := Scalar.muli c6_i32_320 c128_i32_321
  v809
def k0_mult40 : BitVec 32 :=
  let c7_i32_339 : BitVec 32 := 7#32
  let c128_i32_340 : BitVec 32 := 128#32
  let v862 : BitVec 32 := Scalar.muli c7_i32_339 c128_i32_340
  v862
def k0_mult41 : BitVec 32 :=
  let c8_i32_358 : BitVec 32 := 8#32
  let c128_i32_359 : BitVec 32 := 128#32
  let v915 : BitVec 32 := Scalar.muli c8_i32_358 c128_i32_359
  v915
def k0_mult42 : BitVec 32 :=
  let c9_i32_377 : BitVec 32 := 9#32
  let c128_i32_378 : BitVec 32 := 128#32
  let v968 : BitVec 32 := Scalar.muli c9_i32_377 c128_i32_378
  v968
def k0_mult43 : BitVec 32 :=
  let c10_i32_396 : BitVec 32 := 10#32
  let c128_i32_397 : BitVec 32 := 128#32
  let v1021 : BitVec 32 := Scalar.muli c10_i32_396 c128_i32_397
  v1021
def k0_mult44 : BitVec 32 :=
  let c11_i32_415 : BitVec 32 := 11#32
  let c128_i32_416 : BitVec 32 := 128#32
  let v1074 : BitVec 32 := Scalar.muli c11_i32_415 c128_i32_416
  v1074
def k0_mult45 : BitVec 32 :=
  let c12_i32_434 : BitVec 32 := 12#32
  let c128_i32_435 : BitVec 32 := 128#32
  let v1127 : BitVec 32 := Scalar.muli c12_i32_434 c128_i32_435
  v1127
def k0_mult46 : BitVec 32 :=
  let c13_i32_453 : BitVec 32 := 13#32
  let c128_i32_454 : BitVec 32 := 128#32
  let v1180 : BitVec 32 := Scalar.muli c13_i32_453 c128_i32_454
  v1180
def k0_mult47 : BitVec 32 :=
  let c14_i32_472 : BitVec 32 := 14#32
  let c128_i32_473 : BitVec 32 := 128#32
  let v1233 : BitVec 32 := Scalar.muli c14_i32_472 c128_i32_473
  v1233
def k0_mult48 : BitVec 32 :=
  let c15_i32_491 : BitVec 32 := 15#32
  let c128_i32_492 : BitVec 32 := 128#32
  let v1286 : BitVec 32 := Scalar.muli c15_i32_491 c128_i32_492
  v1286
def k0_mult49 : BitVec 32 :=
  let c16_i32_510 : BitVec 32 := 16#32
  let c128_i32_511 : BitVec 32 := 128#32
  let v1339 : BitVec 32 := Scalar.muli c16_i32_510 c128_i32_511
  v1339
def k0_mult50 : BitVec 32 :=
  let c17_i32_529 : BitVec 32 := 17#32
  let c128_i32_530 : BitVec 32 := 128#32
  let v1392 : BitVec 32 := Scalar.muli c17_i32_529 c128_i32_530
  v1392
def k0_mult51 : BitVec 32 :=
  let c18_i32_548 : BitVec 32 := 18#32
  let c128_i32_549 : BitVec 32 := 128#32
  let v1445 : BitVec 32 := Scalar.muli c18_i32_548 c128_i32_549
  v1445
def k0_mult52 : BitVec 32 :=
  let c19_i32_567 : BitVec 32 := 19#32
  let c128_i32_568 : BitVec 32 := 128#32
  let v1498 : BitVec 32 := Scalar.muli c19_i32_567 c128_i32_568
  v1498
def k0_mult53 : BitVec 32 :=
  let c20_i32_586 : BitVec 32 := 20#32
  let c128_i32_587 : BitVec 32 := 128#32
  let v1551 : BitVec 32 := Scalar.muli c20_i32_586 c128_i32_587
  v1551
def k0_mult54 : BitVec 32 :=
  let c21_i32_605 : BitVec 32 := 21#32
  let c128_i32_606 : BitVec 32 := 128#32
  let v1604 : BitVec 32 := Scalar.muli c21_i32_605 c128_i32_606
  v1604
def k0_mult55 : BitVec 32 :=
  let c22_i32_624 : BitVec 32 := 22#32
  let c128_i32_625 : BitVec 32 := 128#32
  let v1657 : BitVec 32 := Scalar.muli c22_i32_624 c128_i32_625
  v1657
def k0_mult56 : BitVec 32 :=
  let c23_i32_643 : BitVec 32 := 23#32
  let c128_i32_644 : BitVec 32 := 128#32
  let v1710 : BitVec 32 := Scalar.muli c23_i32_643 c128_i32_644
  v1710
def k0_mult57 : BitVec 32 :=
  let c24_i32_662 : BitVec 32 := 24#32
  let c128_i32_663 : BitVec 32 := 128#32
  let v1763 : BitVec 32 := Scalar.muli c24_i32_662 c128_i32_663
  v1763
def k0_mult58 : BitVec 32 :=
  let c25_i32_681 : BitVec 32 := 25#32
  let c128_i32_682 : BitVec 32 := 128#32
  let v1816 : BitVec 32 := Scalar.muli c25_i32_681 c128_i32_682
  v1816
def k0_mult59 : BitVec 32 :=
  let c26_i32_700 : BitVec 32 := 26#32
  let c128_i32_701 : BitVec 32 := 128#32
  let v1869 : BitVec 32 := Scalar.muli c26_i32_700 c128_i32_701
  v1869
def k0_mult60 : BitVec 32 :=
  let c27_i32_719 : BitVec 32 := 27#32
  let c128_i32_720 : BitVec 32 := 128#32
  let v1922 : BitVec 32 := Scalar.muli c27_i32_719 c128_i32_720
  v1922
def k0_mult61 : BitVec 32 :=
  let c28_i32_738 : BitVec 32 := 28#32
  let c128_i32_739 : BitVec 32 := 128#32
  let v1975 : BitVec 32 := Scalar.muli c28_i32_738 c128_i32_739
  v1975
def k0_mult62 : BitVec 32 :=
  let c29_i32_757 : BitVec 32 := 29#32
  let c128_i32_758 : BitVec 32 := 128#32
  let v2028 : BitVec 32 := Scalar.muli c29_i32_757 c128_i32_758
  v2028
def k0_mult63 : BitVec 32 :=
  let c30_i32_776 : BitVec 32 := 30#32
  let c128_i32_777 : BitVec 32 := 128#32
  let v2081 : BitVec 32 := Scalar.muli c30_i32_776 c128_i32_777
  v2081
def k0_mult64 : BitVec 32 :=
  let c31_i32_795 : BitVec 32 := 31#32
  let c128_i32_796 : BitVec 32 := 128#32
  let v2134 : BitVec 32 := Scalar.muli c31_i32_795 c128_i32_796
  v2134
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetRefIdeal.lean ====
abbrev S8192x13312 : Shape := ⟨2, ![8192, 13312]⟩
abbrev S8x128x128 : Shape := ⟨3, ![8, 128, 128]⟩
abbrev S8x128 : Shape := ⟨2, ![8, 128]⟩
abbrev S8 : Shape := ⟨1, ![8]⟩
abbrev S8192x1024 : Shape := ⟨2, ![8192, 1024]⟩
abbrev S2x4096x8x128 : Shape := ⟨4, ![2, 4096, 8, 128]⟩
abbrev S2x32x128x8x128 : Shape := ⟨5, ![2, 32, 128, 8, 128]⟩
abbrev S2x8x32x128x128 : Shape := ⟨5, ![2, 8, 32, 128, 128]⟩
abbrev S8192x2048 : Shape := ⟨2, ![8192, 2048]⟩
abbrev S2x4096x8x256 : Shape := ⟨4, ![2, 4096, 8, 256]⟩
abbrev S2x32x128x8x256 : Shape := ⟨5, ![2, 32, 128, 8, 256]⟩
abbrev S2x8x32x128x256 : Shape := ⟨5, ![2, 8, 32, 128, 256]⟩
abbrev S8x1x128x1 : Shape := ⟨4, ![8, 1, 128, 1]⟩
abbrev S1x8x1x128x1 : Shape := ⟨5, ![1, 8, 1, 128, 1]⟩
abbrev S1x8x1x1 : Shape := ⟨4, ![1, 8, 1, 1]⟩
abbrev S_ : Shape := ⟨0, ![]⟩
abbrev S2x8x128x256 : Shape := ⟨4, ![2, 8, 128, 256]⟩
abbrev S32x2x8x128x256 : Shape := ⟨5, ![32, 2, 8, 128, 256]⟩
abbrev S1x2x8x128x256 : Shape := ⟨5, ![1, 2, 8, 128, 256]⟩
abbrev S8x1x128x128 : Shape := ⟨4, ![8, 1, 128, 128]⟩
abbrev S1x8x1x128x128 : Shape := ⟨5, ![1, 8, 1, 128, 128]⟩
abbrev S2x8x32x128 : Shape := ⟨4, ![2, 8, 32, 128]⟩
abbrev S2x8x32x128x1 : Shape := ⟨5, ![2, 8, 32, 128, 1]⟩
abbrev S2x4096x2048 : Shape := ⟨3, ![2, 4096, 2048]⟩

abbrev nBuf : Space → Nat
  | .hbm => 119
  | .vmem => 0
  | .smem => 0
  | _ => 0

abbrev bufTy : (tb : Table) → Fin (tcTables nBuf tb) → BufTy
  | .hbm, ⟨0, _⟩ => ⟨S8192x13312, .bf16⟩
  | .hbm, ⟨1, _⟩ => ⟨S8x128x128, .f32⟩
  | .hbm, ⟨2, _⟩ => ⟨S8x128, .f32⟩
  | .hbm, ⟨3, _⟩ => ⟨S8x128, .f32⟩
  | .hbm, ⟨4, _⟩ => ⟨S8, .f32⟩
  | .hbm, ⟨5, _⟩ => ⟨S8192x1024, .bf16⟩
  | .hbm, ⟨6, _⟩ => ⟨S8192x1024, .f32⟩
  | .hbm, ⟨7, _⟩ => ⟨S2x4096x8x128, .f32⟩
  | .hbm, ⟨8, _⟩ => ⟨S2x32x128x8x128, .f32⟩
  | .hbm, ⟨9, _⟩ => ⟨S2x8x32x128x128, .f32⟩
  | .hbm, ⟨10, _⟩ => ⟨S8192x2048, .bf16⟩
  | .hbm, ⟨11, _⟩ => ⟨S8192x2048, .f32⟩
  | .hbm, ⟨12, _⟩ => ⟨S2x4096x8x256, .f32⟩
  | .hbm, ⟨13, _⟩ => ⟨S2x32x128x8x256, .f32⟩
  | .hbm, ⟨14, _⟩ => ⟨S2x8x32x128x256, .f32⟩
  | .hbm, ⟨15, _⟩ => ⟨S8x1x128x1, .f32⟩
  | .hbm, ⟨16, _⟩ => ⟨S1x8x1x128x1, .f32⟩
  | .hbm, ⟨17, _⟩ => ⟨S2x8x32x128x128, .f32⟩
  | .hbm, ⟨18, _⟩ => ⟨S2x8x32x128x128, .f32⟩
  | .hbm, ⟨19, _⟩ => ⟨S2x8x32x128x256, .f32⟩
  | .hbm, ⟨20, _⟩ => ⟨S1x8x1x1, .f32⟩
  | .hbm, ⟨21, _⟩ => ⟨S_, .f32⟩
  | .hbm, ⟨22, _⟩ => ⟨S2x8x128x256, .f32⟩
  | .hbm, ⟨23, _⟩ => ⟨S32x2x8x128x256, .f32⟩
  | .hbm, ⟨24, _⟩ => ⟨S_, .f32⟩
  | .hbm, ⟨25, _⟩ => ⟨S32x2x8x128x256, .f32⟩
  | .hbm, ⟨26, _⟩ => ⟨S_, .i32⟩
  | .hbm, ⟨27, _⟩ => ⟨S32x2x8x128x256, .f32⟩
  | .hbm, ⟨28, _⟩ => ⟨S1x8x1x1, .f32⟩
  | .hbm, ⟨29, _⟩ => ⟨S_, .i32⟩
  | .hbm, ⟨30, _⟩ => ⟨S2x8x128x256, .f32⟩
  | .hbm, ⟨31, _⟩ => ⟨S32x2x8x128x256, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x2x8x128x256, .f32⟩
  | .hbm, ⟨39, _⟩ => ⟨S2x8x128x256, .f32⟩
  | .hbm, ⟨40, _⟩ => ⟨S2x8x128x256, .f32⟩
  | .hbm, ⟨41, _⟩ => ⟨S2x8x128x256, .f32⟩
  | .hbm, ⟨42, _⟩ => ⟨S2x8x128x256, .f32⟩
  | .hbm, ⟨43, _⟩ => ⟨S1x2x8x128x256, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S32x2x8x128x256, .f32⟩
  | .hbm, ⟨49, _⟩ => ⟨S_, .i32⟩
  | .hbm, ⟨50, _⟩ => ⟨S_, .i32⟩
  | .hbm, ⟨51, _⟩ => ⟨S2x8x32x128x256, .f32⟩
  | .hbm, ⟨52, _⟩ => ⟨S8192x1024, .bf16⟩
  | .hbm, ⟨53, _⟩ => ⟨S8192x1024, .f32⟩
  | .hbm, ⟨54, _⟩ => ⟨S2x4096x8x128, .f32⟩
  | .hbm, ⟨55, _⟩ => ⟨S2x32x128x8x128, .f32⟩
  | .hbm, ⟨56, _⟩ => ⟨S2x8x32x128x128, .f32⟩
  | .hbm, ⟨57, _⟩ => ⟨S8192x1024, .bf16⟩
  | .hbm, ⟨58, _⟩ => ⟨S8192x1024, .f32⟩
  | .hbm, ⟨59, _⟩ => ⟨S2x4096x8x128, .f32⟩
  | .hbm, ⟨60, _⟩ => ⟨S2x32x128x8x128, .f32⟩
  | .hbm, ⟨61, _⟩ => ⟨S2x8x32x128x128, .f32⟩
  | .hbm, ⟨62, _⟩ => ⟨S8192x2048, .bf16⟩
  | .hbm, ⟨63, _⟩ => ⟨S8192x2048, .f32⟩
  | .hbm, ⟨64, _⟩ => ⟨S2x4096x8x256, .f32⟩
  | .hbm, ⟨65, _⟩ => ⟨S2x32x128x8x256, .f32⟩
  | .hbm, ⟨66, _⟩ => ⟨S2x8x32x128x256, .f32⟩
  | .hbm, ⟨67, _⟩ => ⟨S2x8x32x128x128, .f32⟩
  | .hbm, ⟨68, _⟩ => ⟨S8x1x128x128, .f32⟩
  | .hbm, ⟨69, _⟩ => ⟨S1x8x1x128x128, .f32⟩
  | .hbm, ⟨70, _⟩ => ⟨S2x8x32x128x128, .f32⟩
  | .hbm, ⟨71, _⟩ => ⟨S2x8x32x128x128, .f32⟩
  | .hbm, ⟨72, _⟩ => ⟨S2x8x32x128x256, .f32⟩
  | .hbm, ⟨73, _⟩ => ⟨S2x8x32x128x256, .f32⟩
  | .hbm, ⟨74, _⟩ => ⟨S8x1x128x1, .f32⟩
  | .hbm, ⟨75, _⟩ => ⟨S1x8x1x128x1, .f32⟩
  | .hbm, ⟨76, _⟩ => ⟨S2x8x32x128x256, .f32⟩
  | .hbm, ⟨77, _⟩ => ⟨S2x8x32x128x256, .f32⟩
  | .hbm, ⟨78, _⟩ => ⟨S2x8x32x128x256, .f32⟩
  | .hbm, ⟨79, _⟩ => ⟨S_, .f32⟩
  | .hbm, ⟨80, _⟩ => ⟨S2x8x32x128, .f32⟩
  | .hbm, ⟨81, _⟩ => ⟨S2x8x32x128x1, .f32⟩
  | .hbm, ⟨82, _⟩ => ⟨S_, .f32⟩
  | .hbm, ⟨83, _⟩ => ⟨S2x8x32x128x1, .f32⟩
  | .hbm, ⟨84, _⟩ => ⟨S2x8x32x128x1, .f32⟩
  | .hbm, ⟨85, _⟩ => ⟨S2x8x32x128x256, .f32⟩
  | .hbm, ⟨86, _⟩ => ⟨S2x8x32x128x256, .f32⟩
  | .hbm, ⟨87, _⟩ => ⟨S2x8x32x128x256, .f32⟩
  | .hbm, ⟨88, _⟩ => ⟨S_, .f32⟩
  | .hbm, ⟨89, _⟩ => ⟨S2x8x32x128, .f32⟩
  | .hbm, ⟨90, _⟩ => ⟨S2x8x32x128x1, .f32⟩
  | .hbm, ⟨91, _⟩ => ⟨S_, .f32⟩
  | .hbm, ⟨92, _⟩ => ⟨S2x8x32x128x1, .f32⟩
  | .hbm, ⟨93, _⟩ => ⟨S2x8x32x128x1, .f32⟩
  | .hbm, ⟨94, _⟩ => ⟨S2x8x32x128x256, .f32⟩
  | .hbm, ⟨95, _⟩ => ⟨S2x8x32x128x256, .f32⟩
  | .hbm, ⟨96, _⟩ => ⟨S_, .f32⟩
  | .hbm, ⟨97, _⟩ => ⟨S2x8x32x128x1, .f32⟩
  | .hbm, ⟨98, _⟩ => ⟨S2x8x32x128x1, .f32⟩
  | .hbm, ⟨99, _⟩ => ⟨S2x8x32x128x1, .f32⟩
  | .hbm, ⟨100, _⟩ => ⟨S2x8x32x128x256, .f32⟩
  | .hbm, ⟨101, _⟩ => ⟨S2x8x32x128x256, .f32⟩
  | .hbm, ⟨102, _⟩ => ⟨S2x32x128x8x256, .f32⟩
  | .hbm, ⟨103, _⟩ => ⟨S2x4096x2048, .f32⟩
  | .hbm, ⟨104, _⟩ => ⟨S8192x2048, .bf16⟩
  | .hbm, ⟨105, _⟩ => ⟨S8192x2048, .f32⟩
  | .hbm, ⟨106, _⟩ => ⟨S2x4096x2048, .f32⟩
  | .hbm, ⟨107, _⟩ => ⟨S2x4096x2048, .f32⟩
  | .hbm, ⟨108, _⟩ => ⟨S2x4096x2048, .f32⟩
  | .hbm, ⟨109, _⟩ => ⟨S_, .f32⟩
  | .hbm, ⟨110, _⟩ => ⟨S2x4096x2048, .f32⟩
  | .hbm, ⟨111, _⟩ => ⟨S2x4096x2048, .f32⟩
  | .hbm, ⟨112, _⟩ => ⟨S_, .f32⟩
  | .hbm, ⟨113, _⟩ => ⟨S2x4096x2048, .f32⟩
  | .hbm, ⟨114, _⟩ => ⟨S2x4096x2048, .f32⟩
  | .hbm, ⟨115, _⟩ => ⟨S2x4096x2048, .f32⟩
  | .hbm, ⟨116, _⟩ => ⟨S2x4096x2048, .f32⟩
  | .hbm, ⟨117, _⟩ => ⟨S8192x2048, .f32⟩
  | .hbm, ⟨118, _⟩ => ⟨S8192x2048, .bf16⟩
  | _, _ => ⟨S8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_c : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev main_while0c_c_10 : Ref sig .tc := ⟨.hbm, 32, rfl⟩
abbrev main_while0c_v75 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_c_2 : Ref sig .tc := ⟨.hbm, 37, rfl⟩
abbrev main_while0b_call0_v0 : Ref sig .tc := ⟨.hbm, 38, rfl⟩
abbrev main_while0b_v75 : Ref sig .tc := ⟨.hbm, 39, rfl⟩
abbrev main_while0b_v76 : Ref sig .tc := ⟨.hbm, 40, rfl⟩
abbrev main_while0b_v77 : Ref sig .tc := ⟨.hbm, 41, rfl⟩
abbrev main_while0b_v78 : Ref sig .tc := ⟨.hbm, 42, rfl⟩
abbrev main_while0b_call1_v0 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_v79 : Ref sig .tc := ⟨.hbm, 48, rfl⟩
abbrev main_while0b_c_10 : Ref sig .tc := ⟨.hbm, 49, rfl⟩
abbrev main_while0b_v80 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_1 : Ref sig .tc := ⟨.hbm, 79, rfl⟩
abbrev main_v48 : Ref sig .tc := ⟨.hbm, 80, rfl⟩
abbrev main_v49 : Ref sig .tc := ⟨.hbm, 81, rfl⟩
abbrev main_cst_2 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_3 : Ref sig .tc := ⟨.hbm, 88, rfl⟩
abbrev main_v55 : Ref sig .tc := ⟨.hbm, 89, rfl⟩
abbrev main_v56 : Ref sig .tc := ⟨.hbm, 90, rfl⟩
abbrev main_cst_4 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_5 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩

abbrev nD : Nat := 1
abbrev τ : Topo := Topo.v7x

variable {F : FTy → Type} [FloatOps F]

abbrev main_while0_count : Scf.Loop 32 := ⟨0#32, 32#32, 1#32⟩
-- ==== Merge.lean ====
abbrev S8192x1024 : Shape := ⟨2, ![8192, 1024]⟩
abbrev S8192x2048 : Shape := ⟨2, ![8192, 2048]⟩
abbrev S8192x13312 : Shape := ⟨2, ![8192, 13312]⟩
abbrev S1024x2048 : Shape := ⟨2, ![1024, 2048]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x13312, .bf16⟩
  | .hbm, ⟨3, _⟩ => ⟨S1024x2048, .bf16⟩
  | .hbm, ⟨4, _⟩ => ⟨S2048x2048, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x1024 : Shape := ⟨2, ![8192, 1024]⟩
abbrev S8192x2048 : Shape := ⟨2, ![8192, 2048]⟩
abbrev S8192x13312 : Shape := ⟨2, ![8192, 13312]⟩
abbrev S1024x2048 : Shape := ⟨2, ![1024, 2048]⟩
abbrev S2048x2048 : Shape := ⟨2, ![2048, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x13312, .bf16⟩
  | .hbm, ⟨3, _⟩ => ⟨S1024x2048, .bf16⟩
  | .hbm, ⟨4, _⟩ => ⟨S2048x2048, .bf16⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x1024, .f32⟩
  | .hbm, ⟨10, _⟩ => ⟨S1024x2048, .f32⟩
  | .hbm, ⟨11, _⟩ => ⟨S8192x2048, .f32⟩
  | .hbm, ⟨12, _⟩ => ⟨S8192x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ffn.lean ====
abbrev S8192x2048 : Shape := ⟨2, ![8192, 2048]⟩
abbrev S2x1x2048 : Shape := ⟨3, ![2, 1, 2048]⟩
abbrev S2048x5632 : Shape := ⟨2, ![2048, 5632]⟩
abbrev S5632x2048 : Shape := ⟨2, ![5632, 2048]⟩
abbrev S1x2048 : Shape := ⟨2, ![1, 2048]⟩
abbrev S1x1x2048 : Shape := ⟨3, ![1, 1, 2048]⟩
abbrev S2048x512 : Shape := ⟨2, ![2048, 512]⟩
abbrev S512x2048 : Shape := ⟨2, ![512, 2048]⟩
abbrev S1024x2048 : Shape := ⟨2, ![1024, 2048]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .local _ .vmem, ⟨0, _⟩ => ⟨S1x1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_20 : BitVec 32 := 0#32
  let v33 : BitVec 1 := Scalar.cmpi .eq arg0 c0_i32_20
  let v34 : BitVec 32 := Scalar.extui v33
  let c0_i32_21 : BitVec 32 := 0#32
  let v35 : BitVec 1 := Scalar.cmpi .ne v34 c0_i32_21
  v35

def k0_mult1 : BitVec 32 :=
  let c0_i32_27 : BitVec 32 := 0#32
  c0_i32_27
def k0_mult2 (i : grid0.Coords) : BitVec 32 :=
  let arg0 : BitVec 32 := BitVec.ofNat 32 (i 0).val
  let c1024_i32 : BitVec 32 := 1024#32
  let v36 : BitVec 32 := Scalar.muli arg0 c1024_i32
  v36
def k0_off1 (i : grid0.Coords) : Fin 2 → Nat :=
  let arg0 : BitVec 32 := BitVec.ofNat 32 (i 0).val
  let c1024_i32 : BitVec 32 := 1024#32
  let v36 : BitVec 32 := Scalar.muli arg0 c1024_i32
  let v37 : BitVec 32 := v36
  let c0_i32_22 : BitVec 32 := 0#32
  ![v37.toNat, 0]
@[reducible] def k0_t1_loop : Scf.Loop 32 :=
  let c0_i32_23 : BitVec 32 := 0#32
  let c8_i32_24 : BitVec 32 := 8#32
  let v39 : BitVec 32 := Scalar.addi c0_i32_23 c8_i32_24
  let c1_i32_25 : BitVec 32 := 1#32
  ⟨c0_i32_23, v39, c1_i32_25⟩
def k0_mult3 (k0_t1 : Fin k0_t1_loop.trips) : BitVec 32 :=
  let c0_i32_23 : BitVec 32 := 0#32
  let c1_i32_25 : BitVec 32 := 1#32
  let arg12 : BitVec 32 := Scf.iv c0_i32_23 c1_i32_25 k0_t1
  let c128_i32 : BitVec 32 := 128#32
  let v40 : BitVec 32 := Scalar.muli arg12 c128_i32
  v40
def k0_off2 (k0_t1 : Fin k0_t1_loop.trips) : Fin 2 → Nat :=
  let c0_i32_23 : BitVec 32 := 0#32
  let c1_i32_25 : BitVec 32 := 1#32
  let arg12 : BitVec 32 := Scf.iv c0_i32_23 c1_i32_25 k0_t1
  let c128_i32 : BitVec 32 := 128#32
  let v40 : BitVec 32 := Scalar.muli arg12 c128_i32
  let v41 : BitVec 32 := v40
  let v42 : Index := Scalar.indexCast v41
  let c0_27 : Index := 0#32
  ![v42.toNat, 0]
def k0_cond3 (i : grid0.Coords) : BitVec 1 :=
  let arg1 : BitVec 32 := BitVec.ofNat 32 (i 1).val
  let c1_i32 : BitVec 32 := 1#32
  let v3 : BitVec 1 := Scalar.cmpi .eq arg1 c1_i32
  let arg0 : BitVec 32 := BitVec.ofNat 32 (i 0).val
  let c1_i32_1 : BitVec 32 := 1#32
  let v4 : BitVec 32 := Scalar.addi arg0 c1_i32_1
  let c8_i32 : BitVec 32 := 8#32
  let v5 : BitVec 1 := Scalar.cmpi .slt v4 c8_i32
  let v6 : BitVec 1 := Scalar.andi v3 v5
  let v7 : BitVec 32 := Scalar.extui v6
  let c0_i32_2 : BitVec 32 := 0#32
  let v8 : BitVec 1 := Scalar.cmpi .ne v7 c0_i32_2
  v8

def k0_mult4 (i : grid0.Coords) : BitVec 32 :=
  let arg0 : BitVec 32 := BitVec.ofNat 32 (i 0).val
  let c1_i32_20 : BitVec 32 := 1#32
  let v33 : BitVec 32 := Scalar.addi arg0 c1_i32_20
  let c1024_i32 : BitVec 32 := 1024#32
  let v34 : BitVec 32 := Scalar.muli v33 c1024_i32
  v34
def k0_off3 (i : grid0.Coords) : Fin 2 → Nat :=
  let arg0 : BitVec 32 := BitVec.ofNat 32 (i 0).val
  let c1_i32_20 : BitVec 32 := 1#32
  let v33 : BitVec 32 := Scalar.addi arg0 c1_i32_20
  let c1024_i32 : BitVec 32 := 1024#32
  let v34 : BitVec 32 := Scalar.muli v33 c1024_i32
  let v35 : BitVec 32 := v34
  let c0_i32_21 : BitVec 32 := 0#32
  ![v35.toNat, 0]
def k0_cond4 (i : grid0.Coords) : BitVec 1 :=
  let arg1 : BitVec 32 := BitVec.ofNat 32 (i 1).val
  let c10_i32 : BitVec 32 := 10#32
  let v30 : BitVec 1 := Scalar.cmpi .eq arg1 c10_i32
  let v31 : BitVec 32 := Scalar.extui v30
  let c0_i32_19 : BitVec 32 := 0#32
  let v32 : BitVec 1 := Scalar.cmpi .ne v31 c0_i32_19
  v32

@[reducible] def k0_t2_loop : Scf.Loop 32 :=
  let c0_i32_20 : BitVec 32 := 0#32
  let c8_i32_21 : BitVec 32 := 8#32
  let v33 : BitVec 32 := Scalar.addi c0_i32_20 c8_i32_21
  let c1_i32_22 : BitVec 32 := 1#32
  ⟨c0_i32_20, v33, c1_i32_22⟩
def k0_mult5 (k0_t2 : Fin k0_t2_loop.trips) : BitVec 32 :=
  let c0_i32_20 : BitVec 32 := 0#32
  let c1_i32_22 : BitVec 32 := 1#32
  let arg12 : BitVec 32 := Scf.iv c0_i32_20 c1_i32_22 k0_t2
  let c128_i32 : BitVec 32 := 128#32
  let v34 : BitVec 32 := Scalar.muli arg12 c128_i32
  v34
def k0_off4 (k0_t2 : Fin k0_t2_loop.trips) : Fin 2 → Nat :=
  let c0_i32_20 : BitVec 32 := 0#32
  let c1_i32_22 : BitVec 32 := 1#32
  let arg12 : BitVec 32 := Scf.iv c0_i32_20 c1_i32_22 k0_t2
  let c128_i32 : BitVec 32 := 128#32
  let v34 : BitVec 32 := Scalar.muli arg12 c128_i32
  let v35 : BitVec 32 := v34
  let v36 : Index := Scalar.indexCast v35
  let c0_24 : Index := 0#32
  ![v36.toNat, 0]
def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2x1x2048 : Shape := ⟨3, ![2, 1, 2048]⟩
abbrev S2048x5632 : Shape := ⟨2, ![2048, 5632]⟩
abbrev S5632x2048 : Shape := ⟨2, ![5632, 2048]⟩
abbrev S1x2048 : Shape := ⟨2, ![1, 2048]⟩
abbrev S1x1x2048 : Shape := ⟨3, ![1, 1, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S1x1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S2048x5632, .f32⟩
  | .hbm, ⟨35, _⟩ => ⟨S8192x5632, .f32⟩
  | .hbm, ⟨36, _⟩ => ⟨S8192x5632, .f32⟩
  | .hbm, ⟨37, _⟩ => ⟨S5632x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proj.lean ====
abbrev S8192x2048 : Shape := ⟨2, ![8192, 2048]⟩
abbrev S2x1x2048 : Shape := ⟨3, ![2, 1, 2048]⟩
abbrev S2048x13312 : Shape := ⟨2, ![2048, 13312]⟩
abbrev S4096x64 : Shape := ⟨2, ![4096, 64]⟩
abbrev S2x2048x5632 : Shape := ⟨3, ![2, 2048, 5632]⟩
abbrev S2x5632x2048 : Shape := ⟨3, ![2, 5632, 2048]⟩
abbrev S4096x128 : Shape := ⟨2, ![4096, 128]⟩
abbrev S8192x13312 : Shape := ⟨2, ![8192, 13312]⟩
abbrev S2048x5632 : Shape := ⟨2, ![2048, 5632]⟩
abbrev S5632x2048 : Shape := ⟨2, ![5632, 2048]⟩
abbrev S1024x2048 : Shape := ⟨2, ![1024, 2048]⟩
abbrev S1x1x2048 : Shape := ⟨3, ![1, 1, 2048]⟩
abbrev S2048x1024 : Shape := ⟨2, ![2048, 1024]⟩
abbrev S1024x128 : Shape := ⟨2, ![1024, 128]⟩
abbrev S1x32x5632 : Shape := ⟨3, ![1, 32, 5632]⟩
abbrev S1x64x2048 : Shape := ⟨3, ![1, 64, 2048]⟩
abbrev S1024x1024 : Shape := ⟨2, ![1024, 1024]⟩
abbrev S32x5632 : Shape := ⟨2, ![32, 5632]⟩
abbrev S64x2048 : Shape := ⟨2, ![64, 2048]⟩
abbrev S1x2048 : Shape := ⟨2, ![1, 2048]⟩
abbrev S1024 : Shape := ⟨1, ![1024]⟩
abbrev S1024x1 : Shape := ⟨2, ![1024, 1]⟩

abbrev nBuf : Space → Nat
  | .hbm => 20
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x13312, .bf16⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S2x2048x5632, .f32⟩
  | .hbm, ⟨8, _⟩ => ⟨S2x2048x5632, .f32⟩
  | .hbm, ⟨9, _⟩ => ⟨S2x5632x2048, .f32⟩
  | .hbm, ⟨10, _⟩ => ⟨S4096x128, .f32⟩
  | .hbm, ⟨11, _⟩ => ⟨S4096x64, .f32⟩
  | .hbm, ⟨12, _⟩ => ⟨S4096x128, .f32⟩
  | .hbm, ⟨13, _⟩ => ⟨S4096x128, .f32⟩
  | .hbm, ⟨14, _⟩ => ⟨S4096x64, .f32⟩
  | .hbm, ⟨15, _⟩ => ⟨S4096x128, .f32⟩
  | .hbm, ⟨16, _⟩ => ⟨S8192x13312, .bf16⟩
  | .hbm, ⟨17, _⟩ => ⟨S2048x5632, .bf16⟩
  | .hbm, ⟨18, _⟩ => ⟨S2048x5632, .bf16⟩
  | .hbm, ⟨19, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x32x5632, .f32⟩
  | .local _ .vmem, ⟨14, _⟩ => ⟨S1x32x5632, .f32⟩
  | .local _ .vmem, ⟨15, _⟩ => ⟨S1x32x5632, .f32⟩
  | .local _ .vmem, ⟨16, _⟩ => ⟨S1x32x5632, .f32⟩
  | .local _ .vmem, ⟨17, _⟩ => ⟨S1x64x2048, .f32⟩
  | .local _ .vmem, ⟨18, _⟩ => ⟨S1x64x2048, .f32⟩
  | .local _ .vmem, ⟨19, _⟩ => ⟨S1024x1024, .bf16⟩
  | .local _ .vmem, ⟨20, _⟩ => ⟨S1024x1024, .bf16⟩
  | .local _ .vmem, ⟨21, _⟩ => ⟨S32x5632, .bf16⟩
  | .local _ .vmem, ⟨22, _⟩ => ⟨S32x5632, .bf16⟩
  | .local _ .vmem, ⟨23, _⟩ => ⟨S32x5632, .bf16⟩
  | .local _ .vmem, ⟨24, _⟩ => ⟨S32x5632, .bf16⟩
  | .local _ .vmem, ⟨25, _⟩ => ⟨S64x2048, .bf16⟩
  | .local _ .vmem, ⟨26, _⟩ => ⟨S64x2048, .bf16⟩
  | .local _ .vmem, ⟨27, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 13], ![false, false]⟩

def k0_cond2 (i : grid0.Coords) : BitVec 1 :=
  let arg1 : BitVec 32 := BitVec.ofNat 32 (i 1).val
  let c1024_i32 : BitVec 32 := 1024#32
  let v3 : BitVec 32 := Scalar.muli arg1 c1024_i32
  let c2048_i32 : BitVec 32 := 2048#32
  let v4 : BitVec 1 := Scalar.cmpi .slt v3 c2048_i32
  let v12 : BitVec 32 := Scalar.extui v4
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c1024_i32 : BitVec 32 := 1024#32
  let v3 : BitVec 32 := Scalar.muli arg1 c1024_i32
  let c3072_i32 : BitVec 32 := 3072#32
  let v5 : BitVec 1 := Scalar.cmpi .sge v3 c3072_i32
  let c5120_i32 : BitVec 32 := 5120#32
  let v6 : BitVec 1 := Scalar.cmpi .slt v3 c5120_i32
  let v7 : BitVec 1 := Scalar.andi v5 v6
  let v14 : BitVec 32 := Scalar.extui v7
  let c0_i32_6 : BitVec 32 := 0#32
  let v15 : BitVec 1 := Scalar.cmpi .ne v14 c0_i32_6
  v15

def k0_cond4 (i : grid0.Coords) : BitVec 1 :=
  let arg1 : BitVec 32 := BitVec.ofNat 32 (i 1).val
  let c1024_i32 : BitVec 32 := 1024#32
  let v3 : BitVec 32 := Scalar.muli arg1 c1024_i32
  let c2048_i32 : BitVec 32 := 2048#32
  let v4 : BitVec 1 := Scalar.cmpi .slt v3 c2048_i32
  let c3072_i32 : BitVec 32 := 3072#32
  let v5 : BitVec 1 := Scalar.cmpi .sge v3 c3072_i32
  let c5120_i32 : BitVec 32 := 5120#32
  let v6 : BitVec 1 := Scalar.cmpi .slt v3 c5120_i32
  let v7 : BitVec 1 := Scalar.andi v5 v6
  let v16 : BitVec 1 := Scalar.ori v4 v7
  let v_true : BitVec 1 := 1#1
  let v17 : BitVec 1 := Scalar.xori v16 v_true
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S8192x2048 : Shape := ⟨2, ![8192, 2048]⟩
abbrev S2x1x2048 : Shape := ⟨3, ![2, 1, 2048]⟩
abbrev S2048x13312 : Shape := ⟨2, ![2048, 13312]⟩
abbrev S4096x64 : Shape := ⟨2, ![4096, 64]⟩
abbrev S2x2048x5632 : Shape := ⟨3, ![2, 2048, 5632]⟩
abbrev S2x5632x2048 : Shape := ⟨3, ![2, 5632, 2048]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x13312 : Shape := ⟨2, ![8192, 13312]⟩
abbrev S8192x1024 : Shape := ⟨2, ![8192, 1024]⟩
abbrev S2x4096x8x128 : Shape := ⟨4, ![2, 4096, 8, 128]⟩
abbrev S2x4096x8x64 : Shape := ⟨4, ![2, 4096, 8, 64]⟩
abbrev S1x4096x1x64 : Shape := ⟨4, ![1, 4096, 1, 64]⟩
abbrev S8192x8192 : Shape := ⟨2, ![8192, 8192]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 120
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x13312, .bf16⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S2x2048x5632, .f32⟩
  | .hbm, ⟨8, _⟩ => ⟨S2x2048x5632, .f32⟩
  | .hbm, ⟨9, _⟩ => ⟨S2x5632x2048, .f32⟩
  | .hbm, ⟨10, _⟩ => ⟨S1x1x2048, .f32⟩
  | .hbm, ⟨11, _⟩ => ⟨S1x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S2048x13312, .f32⟩
  | .hbm, ⟨28, _⟩ => ⟨S8192x13312, .f32⟩
  | .hbm, ⟨29, _⟩ => ⟨S8192x1024, .f32⟩
  | .hbm, ⟨30, _⟩ => ⟨S2x4096x8x128, .f32⟩
  | .hbm, ⟨31, _⟩ => ⟨S2x4096x8x64, .f32⟩
  | .hbm, ⟨32, _⟩ => ⟨S2x4096x8x64, .f32⟩
  | .hbm, ⟨33, _⟩ => ⟨S1x4096x1x64, .f32⟩
  | .hbm, ⟨34, _⟩ => ⟨S1x4096x1x64, .f32⟩
  | .hbm, ⟨35, _⟩ => ⟨S2x4096x8x64, .f32⟩
  | .hbm, ⟨36, _⟩ => ⟨S2x4096x8x64, .f32⟩
  | .hbm, ⟨37, _⟩ => ⟨S2x4096x8x64, .f32⟩
  | .hbm, ⟨38, _⟩ => ⟨S2x4096x8x64, .f32⟩
  | .hbm, ⟨39, _⟩ => ⟨S2x4096x8x64, .f32⟩
  | .hbm, ⟨40, _⟩ => ⟨S2x4096x8x64, .f32⟩
  | .hbm, ⟨41, _⟩ => ⟨S2x4096x8x64, .f32⟩
  | .hbm, ⟨42, _⟩ => ⟨S2x4096x8x64, .f32⟩
  | .hbm, ⟨43, _⟩ => ⟨S2x4096x8x64, .f32⟩
  | .hbm, ⟨44, _⟩ => ⟨S2x4096x8x64, .f32⟩
  | .hbm, ⟨45, _⟩ => ⟨S2x4096x8x128, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S2x4096x8x128, .f32⟩
  | .hbm, ⟨52, _⟩ => ⟨S2x4096x8x64, .f32⟩
  | .hbm, ⟨53, _⟩ => ⟨S2x4096x8x64, .f32⟩
  | .hbm, ⟨54, _⟩ => ⟨S1x4096x1x64, .f32⟩
  | .hbm, ⟨55, _⟩ => ⟨S1x4096x1x64, .f32⟩
  | .hbm, ⟨56, _⟩ => ⟨S2x4096x8x64, .f32⟩
  | .hbm, ⟨57, _⟩ => ⟨S2x4096x8x64, .f32⟩
  | .hbm, ⟨58, _⟩ => ⟨S2x4096x8x64, .f32⟩
  | .hbm, ⟨59, _⟩ => ⟨S2x4096x8x64, .f32⟩
  | .hbm, ⟨60, _⟩ => ⟨S2x4096x8x64, .f32⟩
  | .hbm, ⟨61, _⟩ => ⟨S2x4096x8x64, .f32⟩
  | .hbm, ⟨62, _⟩ => ⟨S2x4096x8x64, .f32⟩
  | .hbm, ⟨63, _⟩ => ⟨S2x4096x8x64, .f32⟩
  | .hbm, ⟨64, _⟩ => ⟨S2x4096x8x64, .f32⟩
  | .hbm, ⟨65, _⟩ => ⟨S2x4096x8x64, .f32⟩
  | .hbm, ⟨66, _⟩ => ⟨S2x4096x8x128, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S2x4096x8x128, .f32⟩
  | .hbm, ⟨71, _⟩ => ⟨S2x4096x8x64, .f32⟩
  | .hbm, ⟨72, _⟩ => ⟨S2x4096x8x64, .f32⟩
  | .hbm, ⟨73, _⟩ => ⟨S1x4096x1x64, .f32⟩
  | .hbm, ⟨74, _⟩ => ⟨S1x4096x1x64, .f32⟩
  | .hbm, ⟨75, _⟩ => ⟨S2x4096x8x64, .f32⟩
  | .hbm, ⟨76, _⟩ => ⟨S2x4096x8x64, .f32⟩
  | .hbm, ⟨77, _⟩ => ⟨S2x4096x8x64, .f32⟩
  | .hbm, ⟨78, _⟩ => ⟨S2x4096x8x64, .f32⟩
  | .hbm, ⟨79, _⟩ => ⟨S2x4096x8x64, .f32⟩
  | .hbm, ⟨80, _⟩ => ⟨S2x4096x8x64, .f32⟩
  | .hbm, ⟨81, _⟩ => ⟨S2x4096x8x64, .f32⟩
  | .hbm, ⟨82, _⟩ => ⟨S2x4096x8x64, .f32⟩
  | .hbm, ⟨83, _⟩ => ⟨S2x4096x8x64, .f32⟩
  | .hbm, ⟨84, _⟩ => ⟨S2x4096x8x64, .f32⟩
  | .hbm, ⟨85, _⟩ => ⟨S2x4096x8x128, .f32⟩
  | .hbm, ⟨86, _⟩ => ⟨S8192x1024, .f32⟩
  | .hbm, ⟨87, _⟩ => ⟨S8192x1024, .f32⟩
  | .hbm, ⟨88, _⟩ => ⟨S2x4096x8x128, .f32⟩
  | .hbm, ⟨89, _⟩ => ⟨S2x4096x8x64, .f32⟩
  | .hbm, ⟨90, _⟩ => ⟨S2x4096x8x64, .f32⟩
  | .hbm, ⟨91, _⟩ => ⟨S1x4096x1x64, .f32⟩
  | .hbm, ⟨92, _⟩ => ⟨S1x4096x1x64, .f32⟩
  | .hbm, ⟨93, _⟩ => ⟨S2x4096x8x64, .f32⟩
  | .hbm, ⟨94, _⟩ => ⟨S2x4096x8x64, .f32⟩
  | .hbm, ⟨95, _⟩ => ⟨S2x4096x8x64, .f32⟩
  | .hbm, ⟨96, _⟩ => ⟨S2x4096x8x64, .f32⟩
  | .hbm, ⟨97, _⟩ => ⟨S2x4096x8x64, .f32⟩
  | .hbm, ⟨98, _⟩ => ⟨S2x4096x8x64, .f32⟩
  | .hbm, ⟨99, _⟩ => ⟨S2x4096x8x64, .f32⟩
  | .hbm, ⟨100, _⟩ => ⟨S2x4096x8x64, .f32⟩
  | .hbm, ⟨101, _⟩ => ⟨S2x4096x8x64, .f32⟩
  | .hbm, ⟨102, _⟩ => ⟨S2x4096x8x64, .f32⟩
  | .hbm, ⟨103, _⟩ => ⟨S2x4096x8x128, .f32⟩
  | .hbm, ⟨104, _⟩ => ⟨S8192x1024, .f32⟩
  | .hbm, ⟨105, _⟩ => ⟨S_, .f32⟩
  | .hbm, ⟨106, _⟩ => ⟨S8192x1024, .f32⟩
  | .hbm, ⟨107, _⟩ => ⟨S8192x1024, .f32⟩
  | .hbm, ⟨108, _⟩ => ⟨S8192x8192, .f32⟩
  | .hbm, ⟨109, _⟩ => ⟨S8192x13312, .f32⟩
  | .hbm, ⟨110, _⟩ => ⟨S8192x13312, .bf16⟩
  | .hbm, ⟨111, _⟩ => ⟨S1x2048x5632, .f32⟩
  | .hbm, ⟨112, _⟩ => ⟨S2048x5632, .f32⟩
  | .hbm, ⟨113, _⟩ => ⟨S2048x5632, .bf16⟩
  | .hbm, ⟨114, _⟩ => ⟨S1x2048x5632, .f32⟩
  | .hbm, ⟨115, _⟩ => ⟨S2048x5632, .f32⟩
  | .hbm, ⟨116, _⟩ => ⟨S2048x5632, .bf16⟩
  | .hbm, ⟨117, _⟩ => ⟨S1x5632x2048, .f32⟩
  | .hbm, ⟨118, _⟩ => ⟨S5632x2048, .f32⟩
  | .hbm, ⟨119, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_3 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩

abbrev nD : Nat := 1
abbrev τ : Topo := Topo.v7x

variable {F : FTy → Type} [FloatOps F]
-- ==== Half.lean ====
abbrev S8192x2048 : Shape := ⟨2, ![8192, 2048]⟩
abbrev S2x1x2048 : Shape := ⟨3, ![2, 1, 2048]⟩
abbrev S2048x5632 : Shape := ⟨2, ![2048, 5632]⟩
abbrev S5632x2048 : Shape := ⟨2, ![5632, 2048]⟩
abbrev S1x2048 : Shape := ⟨2, ![1, 2048]⟩
abbrev S2x2048x13312 : Shape := ⟨3, ![2, 2048, 13312]⟩
abbrev S2x1024x2048 : Shape := ⟨3, ![2, 1024, 2048]⟩
abbrev S2x2048x2048 : Shape := ⟨3, ![2, 2048, 2048]⟩
abbrev S2048x13312 : Shape := ⟨2, ![2048, 13312]⟩
abbrev S1024x2048 : Shape := ⟨2, ![1024, 2048]⟩
abbrev S2048x2048 : Shape := ⟨2, ![2048, 2048]⟩
abbrev S1x1x2048 : Shape := ⟨3, ![1, 1, 2048]⟩
abbrev S2048x512 : Shape := ⟨2, ![2048, 512]⟩
abbrev S512x2048 : Shape := ⟨2, ![512, 2048]⟩
abbrev S1x32x13312 : Shape := ⟨3, ![1, 32, 13312]⟩
abbrev S1x16x2048 : Shape := ⟨3, ![1, 16, 2048]⟩
abbrev S1x32x2048 : Shape := ⟨3, ![1, 32, 2048]⟩
abbrev S32x13312 : Shape := ⟨2, ![32, 13312]⟩
abbrev S16x2048 : Shape := ⟨2, ![16, 2048]⟩
abbrev S32x2048 : Shape := ⟨2, ![32, 2048]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 15
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2x2048x13312, .f32⟩
  | .hbm, ⟨7, _⟩ => ⟨S2x1024x2048, .f32⟩
  | .hbm, ⟨8, _⟩ => ⟨S2x2048x2048, .f32⟩
  | .hbm, ⟨9, _⟩ => ⟨S2x2048x2048, .f32⟩
  | .hbm, ⟨10, _⟩ => ⟨S8192x2048, .f32⟩
  | .hbm, ⟨11, _⟩ => ⟨S2048x13312, .bf16⟩
  | .hbm, ⟨12, _⟩ => ⟨S1024x2048, .bf16⟩
  | .hbm, ⟨13, _⟩ => ⟨S2048x2048, .bf16⟩
  | .hbm, ⟨14, _⟩ => ⟨S2048x2048, .bf16⟩
  | .local _ .vmem, ⟨0, _⟩ => ⟨S1x1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x32x13312, .f32⟩
  | .local _ .vmem, ⟨9, _⟩ => ⟨S1x32x13312, .f32⟩
  | .local _ .vmem, ⟨10, _⟩ => ⟨S1x16x2048, .f32⟩
  | .local _ .vmem, ⟨11, _⟩ => ⟨S1x16x2048, .f32⟩
  | .local _ .vmem, ⟨12, _⟩ => ⟨S1x32x2048, .f32⟩
  | .local _ .vmem, ⟨13, _⟩ => ⟨S1x32x2048, .f32⟩
  | .local _ .vmem, ⟨14, _⟩ => ⟨S1x32x2048, .f32⟩
  | .local _ .vmem, ⟨15, _⟩ => ⟨S1x32x2048, .f32⟩
  | .local _ .vmem, ⟨16, _⟩ => ⟨S1024x2048, .f32⟩
  | .local _ .vmem, ⟨17, _⟩ => ⟨S1024x2048, .f32⟩
  | .local _ .vmem, ⟨18, _⟩ => ⟨S32x13312, .bf16⟩
  | .local _ .vmem, ⟨19, _⟩ => ⟨S32x13312, .bf16⟩
  | .local _ .vmem, ⟨20, _⟩ => ⟨S16x2048, .bf16⟩
  | .local _ .vmem, ⟨21, _⟩ => ⟨S16x2048, .bf16⟩
  | .local _ .vmem, ⟨22, _⟩ => ⟨S32x2048, .bf16⟩
  | .local _ .vmem, ⟨23, _⟩ => ⟨S32x2048, .bf16⟩
  | .local _ .vmem, ⟨24, _⟩ => ⟨S32x2048, .bf16⟩
  | .local _ .vmem, ⟨25, _⟩ => ⟨S32x2048, .bf16⟩
  | .local _ .vmem, ⟨26, _⟩ => ⟨S1024x2048, .bf16⟩
  | .local _ .vmem, ⟨27, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_40 : BitVec 32 := 0#32
  let v49 : BitVec 1 := Scalar.cmpi .eq arg0 c0_i32_40
  let v50 : BitVec 32 := Scalar.extui v49
  let c0_i32_41 : BitVec 32 := 0#32
  let v51 : BitVec 1 := Scalar.cmpi .ne v50 c0_i32_41
  v51

def k0_mult1 : BitVec 32 :=
  let c0_i32_47 : BitVec 32 := 0#32
  c0_i32_47
def k0_mult2 (i : grid0.Coords) : BitVec 32 :=
  let arg0 : BitVec 32 := BitVec.ofNat 32 (i 0).val
  let c1024_i32 : BitVec 32 := 1024#32
  let v52 : BitVec 32 := Scalar.muli arg0 c1024_i32
  v52
def k0_off1 (i : grid0.Coords) : Fin 2 → Nat :=
  let arg0 : BitVec 32 := BitVec.ofNat 32 (i 0).val
  let c1024_i32 : BitVec 32 := 1024#32
  let v52 : BitVec 32 := Scalar.muli arg0 c1024_i32
  let v53 : BitVec 32 := v52
  let c0_i32_42 : BitVec 32 := 0#32
  ![v53.toNat, 0]
@[reducible] def k0_t1_loop : Scf.Loop 32 :=
  let c0_i32_43 : BitVec 32 := 0#32
  let c8_i32_44 : BitVec 32 := 8#32
  let v55 : BitVec 32 := Scalar.addi c0_i32_43 c8_i32_44
  let c1_i32_45 : BitVec 32 := 1#32
  ⟨c0_i32_43, v55, c1_i32_45⟩
def k0_mult3 (k0_t1 : Fin k0_t1_loop.trips) : BitVec 32 :=
  let c0_i32_43 : BitVec 32 := 0#32
  let c1_i32_45 : BitVec 32 := 1#32
  let arg20 : BitVec 32 := Scf.iv c0_i32_43 c1_i32_45 k0_t1
  let c128_i32 : BitVec 32 := 128#32
  let v56 : BitVec 32 := Scalar.muli arg20 c128_i32
  v56
def k0_off2 (k0_t1 : Fin k0_t1_loop.trips) : Fin 2 → Nat :=
  let c0_i32_43 : BitVec 32 := 0#32
  let c1_i32_45 : BitVec 32 := 1#32
  let arg20 : BitVec 32 := Scf.iv c0_i32_43 c1_i32_45 k0_t1
  let c128_i32 : BitVec 32 := 128#32
  let v56 : BitVec 32 := Scalar.muli arg20 c128_i32
  let v57 : BitVec 32 := v56
  let v58 : Index := Scalar.indexCast v57
  let c0_47 : Index := 0#32
  ![v58.toNat, 0]
def k0_cond3 (i : grid0.Coords) : BitVec 1 :=
  let arg1 : BitVec 32 := BitVec.ofNat 32 (i 1).val
  let c1_i32 : BitVec 32 := 1#32
  let v3 : BitVec 1 := Scalar.cmpi .eq arg1 c1_i32
  let arg0 : BitVec 32 := BitVec.ofNat 32 (i 0).val
  let c1_i32_1 : BitVec 32 := 1#32
  let v4 : BitVec 32 := Scalar.addi arg0 c1_i32_1
  let c8_i32 : BitVec 32 := 8#32
  let v5 : BitVec 1 := Scalar.cmpi .slt v4 c8_i32
  let v6 : BitVec 1 := Scalar.andi v3 v5
  let v7 : BitVec 32 := Scalar.extui v6
  let c0_i32_2 : BitVec 32 := 0#32
  let v8 : BitVec 1 := Scalar.cmpi .ne v7 c0_i32_2
  v8

def k0_mult4 (i : grid0.Coords) : BitVec 32 :=
  let arg0 : BitVec 32 := BitVec.ofNat 32 (i 0).val
  let c1_i32_40 : BitVec 32 := 1#32
  let v49 : BitVec 32 := Scalar.addi arg0 c1_i32_40
  let c1024_i32 : BitVec 32 := 1024#32
  let v50 : BitVec 32 := Scalar.muli v49 c1024_i32
  v50
def k0_off3 (i : grid0.Coords) : Fin 2 → Nat :=
  let arg0 : BitVec 32 := BitVec.ofNat 32 (i 0).val
  let c1_i32_40 : BitVec 32 := 1#32
  let v49 : BitVec 32 := Scalar.addi arg0 c1_i32_40
  let c1024_i32 : BitVec 32 := 1024#32
  let v50 : BitVec 32 := Scalar.muli v49 c1024_i32
  let v51 : BitVec 32 := v50
  let c0_i32_41 : BitVec 32 := 0#32
  ![v51.toNat, 0]
def k0_cond4 (i : grid0.Coords) : BitVec 1 :=
  let arg1 : BitVec 32 := BitVec.ofNat 32 (i 1).val
  let c10_i32 : BitVec 32 := 10#32
  let v46 : BitVec 1 := Scalar.cmpi .eq arg1 c10_i32
  let v47 : BitVec 32 := Scalar.extui v46
  let c0_i32_39 : BitVec 32 := 0#32
  let v48 : BitVec 1 := Scalar.cmpi .ne v47 c0_i32_39
  v48

@[reducible] def k0_t2_loop : Scf.Loop 32 :=
  let c0_i32_40 : BitVec 32 := 0#32
  let c8_i32_41 : BitVec 32 := 8#32
  let v49 : BitVec 32 := Scalar.addi c0_i32_40 c8_i32_41
  let c1_i32_42 : BitVec 32 := 1#32
  ⟨c0_i32_40, v49, c1_i32_42⟩
def k0_mult5 (k0_t2 : Fin k0_t2_loop.trips) : BitVec 32 :=
  let c0_i32_40 : BitVec 32 := 0#32
  let c1_i32_42 : BitVec 32 := 1#32
  let arg20 : BitVec 32 := Scf.iv c0_i32_40 c1_i32_42 k0_t2
  let c128_i32 : BitVec 32 := 128#32
  let v50 : BitVec 32 := Scalar.muli arg20 c128_i32
  v50
def k0_off4 (k0_t2 : Fin k0_t2_loop.trips) : Fin 2 → Nat :=
  let c0_i32_40 : BitVec 32 := 0#32
  let c1_i32_42 : BitVec 32 := 1#32
  let arg20 : BitVec 32 := Scf.iv c0_i32_40 c1_i32_42 k0_t2
  let c128_i32 : BitVec 32 := 128#32
  let v50 : BitVec 32 := Scalar.muli arg20 c128_i32
  let v51 : BitVec 32 := v50
  let v52 : Index := Scalar.indexCast v51
  let c0_44 : Index := 0#32
  ![v52.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x13312 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x13312 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== HalfRefIdeal.lean ====
abbrev S8192x2048 : Shape := ⟨2, ![8192, 2048]⟩
abbrev S2x1x2048 : Shape := ⟨3, ![2, 1, 2048]⟩
abbrev S2048x5632 : Shape := ⟨2, ![2048, 5632]⟩
abbrev S5632x2048 : Shape := ⟨2, ![5632, 2048]⟩
abbrev S1x2048 : Shape := ⟨2, ![1, 2048]⟩
abbrev S2x2048x13312 : Shape := ⟨3, ![2, 2048, 13312]⟩
abbrev S2x1024x2048 : Shape := ⟨3, ![2, 1024, 2048]⟩
abbrev S2x2048x2048 : Shape := ⟨3, ![2, 2048, 2048]⟩
abbrev S1x1x2048 : Shape := ⟨3, ![1, 1, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1x2048x13312 : Shape := ⟨3, ![1, 2048, 13312]⟩
abbrev S2048x13312 : Shape := ⟨2, ![2048, 13312]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2x2048x13312, .f32⟩
  | .hbm, ⟨7, _⟩ => ⟨S2x1024x2048, .f32⟩
  | .hbm, ⟨8, _⟩ => ⟨S2x2048x2048, .f32⟩
  | .hbm, ⟨9, _⟩ => ⟨S2x2048x2048, .f32⟩
  | .hbm, ⟨10, _⟩ => ⟨S1x1x2048, .f32⟩
  | .hbm, ⟨11, _⟩ => ⟨S1x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S2048x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S2048x5632, .f32⟩
  | .hbm, ⟨39, _⟩ => ⟨S8192x5632, .f32⟩
  | .hbm, ⟨40, _⟩ => ⟨S8192x5632, .f32⟩
  | .hbm, ⟨41, _⟩ => ⟨S5632x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x2048x13312, .f32⟩
  | .hbm, ⟨48, _⟩ => ⟨S2048x13312, .f32⟩
  | .hbm, ⟨49, _⟩ => ⟨S2048x13312, .bf16⟩
  | .hbm, ⟨50, _⟩ => ⟨S1x1024x2048, .f32⟩
  | .hbm, ⟨51, _⟩ => ⟨S1024x2048, .f32⟩
  | .hbm, ⟨52, _⟩ => ⟨S1024x2048, .bf16⟩
  | .hbm, ⟨53, _⟩ => ⟨S1x2048x2048, .f32⟩
  | .hbm, ⟨54, _⟩ => ⟨S2048x2048, .f32⟩
  | .hbm, ⟨55, _⟩ => ⟨S2048x2048, .bf16⟩
  | .hbm, ⟨56, _⟩ => ⟨S1x2048x2048, .f32⟩
  | .hbm, ⟨57, _⟩ => ⟨S2048x2048, .f32⟩
  | .hbm, ⟨58, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Mid.lean ====
abbrev S8192x2048 : Shape := ⟨2, ![8192, 2048]⟩
abbrev S2x1x2048 : Shape := ⟨3, ![2, 1, 2048]⟩
abbrev S2048x5632 : Shape := ⟨2, ![2048, 5632]⟩
abbrev S5632x2048 : Shape := ⟨2, ![5632, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1x1x2048 : Shape := ⟨3, ![1, 1, 2048]⟩
abbrev S2048x512 : Shape := ⟨2, ![2048, 512]⟩
abbrev S512x2048 : Shape := ⟨2, ![512, 2048]⟩
abbrev S1x32x5632 : Shape := ⟨3, ![1, 32, 5632]⟩
abbrev S1x64x2048 : Shape := ⟨3, ![1, 64, 2048]⟩
abbrev S1024x2048 : Shape := ⟨2, ![1024, 2048]⟩
abbrev S32x5632 : Shape := ⟨2, ![32, 5632]⟩
abbrev S64x2048 : Shape := ⟨2, ![64, 2048]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 13
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2x2048x5632, .f32⟩
  | .hbm, ⟨7, _⟩ => ⟨S2x2048x5632, .f32⟩
  | .hbm, ⟨8, _⟩ => ⟨S2x5632x2048, .f32⟩
  | .hbm, ⟨9, _⟩ => ⟨S8192x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .local _ .vmem, ⟨0, _⟩ => ⟨S1x1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x32x5632, .f32⟩
  | .local _ .vmem, ⟨9, _⟩ => ⟨S1x32x5632, .f32⟩
  | .local _ .vmem, ⟨10, _⟩ => ⟨S1x32x5632, .f32⟩
  | .local _ .vmem, ⟨11, _⟩ => ⟨S1x32x5632, .f32⟩
  | .local _ .vmem, ⟨12, _⟩ => ⟨S1x64x2048, .f32⟩
  | .local _ .vmem, ⟨13, _⟩ => ⟨S1x64x2048, .f32⟩
  | .local _ .vmem, ⟨14, _⟩ => ⟨S1024x2048, .f32⟩
  | .local _ .vmem, ⟨15, _⟩ => ⟨S1024x2048, .f32⟩
  | .local _ .vmem, ⟨16, _⟩ => ⟨S32x5632, .bf16⟩
  | .local _ .vmem, ⟨17, _⟩ => ⟨S32x5632, .bf16⟩
  | .local _ .vmem, ⟨18, _⟩ => ⟨S32x5632, .bf16⟩
  | .local _ .vmem, ⟨19, _⟩ => ⟨S32x5632, .bf16⟩
  | .local _ .vmem, ⟨20, _⟩ => ⟨S64x2048, .bf16⟩
  | .local _ .vmem, ⟨21, _⟩ => ⟨S64x2048, .bf16⟩
  | .local _ .vmem, ⟨22, _⟩ => ⟨S1024x2048, .bf16⟩
  | .local _ .vmem, ⟨23, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_35 : BitVec 32 := 0#32
  let v45 : BitVec 1 := Scalar.cmpi .eq arg0 c0_i32_35
  let v46 : BitVec 32 := Scalar.extui v45
  let c0_i32_36 : BitVec 32 := 0#32
  let v47 : BitVec 1 := Scalar.cmpi .ne v46 c0_i32_36
  v47

def k0_mult1 : BitVec 32 :=
  let c0_i32_42 : BitVec 32 := 0#32
  c0_i32_42
def k0_mult2 (i : grid0.Coords) : BitVec 32 :=
  let arg0 : BitVec 32 := BitVec.ofNat 32 (i 0).val
  let c1024_i32 : BitVec 32 := 1024#32
  let v48 : BitVec 32 := Scalar.muli arg0 c1024_i32
  v48
def k0_off1 (i : grid0.Coords) : Fin 2 → Nat :=
  let arg0 : BitVec 32 := BitVec.ofNat 32 (i 0).val
  let c1024_i32 : BitVec 32 := 1024#32
  let v48 : BitVec 32 := Scalar.muli arg0 c1024_i32
  let v49 : BitVec 32 := v48
  let c0_i32_37 : BitVec 32 := 0#32
  ![v49.toNat, 0]
@[reducible] def k0_t1_loop : Scf.Loop 32 :=
  let c0_i32_38 : BitVec 32 := 0#32
  let c8_i32_39 : BitVec 32 := 8#32
  let v51 : BitVec 32 := Scalar.addi c0_i32_38 c8_i32_39
  let c1_i32_40 : BitVec 32 := 1#32
  ⟨c0_i32_38, v51, c1_i32_40⟩
def k0_mult3 (k0_t1 : Fin k0_t1_loop.trips) : BitVec 32 :=
  let c0_i32_38 : BitVec 32 := 0#32
  let c1_i32_40 : BitVec 32 := 1#32
  let arg18 : BitVec 32 := Scf.iv c0_i32_38 c1_i32_40 k0_t1
  let c128_i32 : BitVec 32 := 128#32
  let v52 : BitVec 32 := Scalar.muli arg18 c128_i32
  v52
def k0_off2 (k0_t1 : Fin k0_t1_loop.trips) : Fin 2 → Nat :=
  let c0_i32_38 : BitVec 32 := 0#32
  let c1_i32_40 : BitVec 32 := 1#32
  let arg18 : BitVec 32 := Scf.iv c0_i32_38 c1_i32_40 k0_t1
  let c128_i32 : BitVec 32 := 128#32
  let v52 : BitVec 32 := Scalar.muli arg18 c128_i32
  let v53 : BitVec 32 := v52
  let v54 : Index := Scalar.indexCast v53
  let c0_42 : Index := 0#32
  ![v54.toNat, 0]
def k0_cond3 (i : grid0.Coords) : BitVec 1 :=
  let arg1 : BitVec 32 := BitVec.ofNat 32 (i 1).val
  let c1_i32 : BitVec 32 := 1#32
  let v3 : BitVec 1 := Scalar.cmpi .eq arg1 c1_i32
  let arg0 : BitVec 32 := BitVec.ofNat 32 (i 0).val
  let c1_i32_1 : BitVec 32 := 1#32
  let v4 : BitVec 32 := Scalar.addi arg0 c1_i32_1
  let c8_i32 : BitVec 32 := 8#32
  let v5 : BitVec 1 := Scalar.cmpi .slt v4 c8_i32
  let v6 : BitVec 1 := Scalar.andi v3 v5
  let v7 : BitVec 32 := Scalar.extui v6
  let c0_i32_2 : BitVec 32 := 0#32
  let v8 : BitVec 1 := Scalar.cmpi .ne v7 c0_i32_2
  v8

def k0_mult4 (i : grid0.Coords) : BitVec 32 :=
  let arg0 : BitVec 32 := BitVec.ofNat 32 (i 0).val
  let c1_i32_35 : BitVec 32 := 1#32
  let v45 : BitVec 32 := Scalar.addi arg0 c1_i32_35
  let c1024_i32 : BitVec 32 := 1024#32
  let v46 : BitVec 32 := Scalar.muli v45 c1024_i32
  v46
def k0_off3 (i : grid0.Coords) : Fin 2 → Nat :=
  let arg0 : BitVec 32 := BitVec.ofNat 32 (i 0).val
  let c1_i32_35 : BitVec 32 := 1#32
  let v45 : BitVec 32 := Scalar.addi arg0 c1_i32_35
  let c1024_i32 : BitVec 32 := 1024#32
  let v46 : BitVec 32 := Scalar.muli v45 c1024_i32
  let v47 : BitVec 32 := v46
  let c0_i32_36 : BitVec 32 := 0#32
  ![v47.toNat, 0]
def k0_cond4 (i : grid0.Coords) : BitVec 1 :=
  let arg1 : BitVec 32 := BitVec.ofNat 32 (i 1).val
  let c10_i32 : BitVec 32 := 10#32
  let v42 : BitVec 1 := Scalar.cmpi .eq arg1 c10_i32
  let v43 : BitVec 32 := Scalar.extui v42
  let c0_i32_34 : BitVec 32 := 0#32
  let v44 : BitVec 1 := Scalar.cmpi .ne v43 c0_i32_34
  v44

@[reducible] def k0_t2_loop : Scf.Loop 32 :=
  let c0_i32_35 : BitVec 32 := 0#32
  let c8_i32_36 : BitVec 32 := 8#32
  let v45 : BitVec 32 := Scalar.addi c0_i32_35 c8_i32_36
  let c1_i32_37 : BitVec 32 := 1#32
  ⟨c0_i32_35, v45, c1_i32_37⟩
def k0_mult5 (k0_t2 : Fin k0_t2_loop.trips) : BitVec 32 :=
  let c0_i32_35 : BitVec 32 := 0#32
  let c1_i32_37 : BitVec 32 := 1#32
  let arg18 : BitVec 32 := Scf.iv c0_i32_35 c1_i32_37 k0_t2
  let c128_i32 : BitVec 32 := 128#32
  let v46 : BitVec 32 := Scalar.muli arg18 c128_i32
  v46
def k0_off4 (k0_t2 : Fin k0_t2_loop.trips) : Fin 2 → Nat :=
  let c0_i32_35 : BitVec 32 := 0#32
  let c1_i32_37 : BitVec 32 := 1#32
  let arg18 : BitVec 32 := Scf.iv c0_i32_35 c1_i32_37 k0_t2
  let c128_i32 : BitVec 32 := 128#32
  let v46 : BitVec 32 := Scalar.muli arg18 c128_i32
  let v47 : BitVec 32 := v46
  let v48 : Index := Scalar.indexCast v47
  let c0_39 : Index := 0#32
  ![v48.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c1_i32 : BitVec 32 := 1#32
  let c0_i32 : BitVec 32 := 0#32
  let c0_i32_0 : BitVec 32 := 0#32
  ![c1_i32.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c1_i32 : BitVec 32 := 1#32
  let c0_i32 : BitVec 32 := 0#32
  let c0_i32_0 : BitVec 32 := 0#32
  ![c1_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c1_i32 : BitVec 32 := 1#32
  let c0_i32 : BitVec 32 := 0#32
  let c0_i32_0 : BitVec 32 := 0#32
  ![c1_i32.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MidRefIdeal.lean ====
abbrev S8192x2048 : Shape := ⟨2, ![8192, 2048]⟩
abbrev S2x1x2048 : Shape := ⟨3, ![2, 1, 2048]⟩
abbrev S2048x5632 : Shape := ⟨2, ![2048, 5632]⟩
abbrev S5632x2048 : Shape := ⟨2, ![5632, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1x1x2048 : Shape := ⟨3, ![1, 1, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1x2048x5632 : Shape := ⟨3, ![1, 2048, 5632]⟩
abbrev S1x5632x2048 : Shape := ⟨3, ![1, 5632, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2x2048x5632, .f32⟩
  | .hbm, ⟨7, _⟩ => ⟨S2x2048x5632, .f32⟩
  | .hbm, ⟨8, _⟩ => ⟨S2x5632x2048, .f32⟩
  | .hbm, ⟨9, _⟩ => ⟨S1x1x2048, .f32⟩
  | .hbm, ⟨10, _⟩ => ⟨S1x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S2048x5632, .f32⟩
  | .hbm, ⟨38, _⟩ => ⟨S8192x5632, .f32⟩
  | .hbm, ⟨39, _⟩ => ⟨S8192x5632, .f32⟩
  | .hbm, ⟨40, _⟩ => ⟨S5632x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x2048x5632, .f32⟩
  | .hbm, ⟨47, _⟩ => ⟨S2048x5632, .f32⟩
  | .hbm, ⟨48, _⟩ => ⟨S2048x5632, .bf16⟩
  | .hbm, ⟨49, _⟩ => ⟨S1x2048x5632, .f32⟩
  | .hbm, ⟨50, _⟩ => ⟨S2048x5632, .f32⟩
  | .hbm, ⟨51, _⟩ => ⟨S2048x5632, .bf16⟩
  | .hbm, ⟨52, _⟩ => ⟨S1x5632x2048, .f32⟩
  | .hbm, ⟨53, _⟩ => ⟨S5632x2048, .f32⟩
  | .hbm, ⟨54, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.Chunks.lean ====
module

public import proofs.«01_k».proof.Proof.Gen.RetIdeal.Value
public import Idealize.ShloMosaic.Lib.WritesUnit

@[expose] public section

set_option maxRecDepth 16384

noncomputable section

namespace Cert.RetIdeal.Chunks

open Cert.RetIdeal Cert.RetIdeal.Gen Idealize.ShloMosaic Idealize.ShloMosaic.TcCoe Idealize.SL.Sem

variable {F : FTy → Type} [FloatOps F]

/-! ## One chunk of the kernel, as functions of the blocks it reads -/

/-- One chunk's own state: the keys scaled by zeta, contracted over their rows with the values. -/
def kvChunk (z : FVec F S128x1 .f32) (k : Vec F S128x128 .bf16) (v : Vec F S128x256 .bf16) : FVec F S1x128x256 .f32 :=
  shapeCast S1x128x256 (matmul dot_S128x128_S128x256_S128x256_0_0_1_1_n_n none
    (truncf .bf16 (mulf (extf .f32 k bitsLt_bf16_f32) (broadcastTo S128x128 z broadcasts_S128x1_S128x128)) bitsLt_bf16_f32) v
    (constant S128x256 .f32 0x00000000#32)) shapeCasts_S128x256_S1x128x256

/-- One chunk's retained values before the norm: the masked scores and the scaled queries side by side, against the
    values over the state. -/
def mix (dec : FVec F S128x128 .f32) (xi : FVec F S128x1 .f32) (q k : Vec F S128x128 .bf16) (v : Vec F S128x256 .bf16)
    (st : Vec F S1x128x256 .f32) : FVec F S128x256 .f32 :=
  matmul dot_S128x256_S256x256_S128x256_1_0_0_1_n_n none
    (concatenate S128x256 1 [⟨S128x128, truncf .bf16 (mulf (matmul dot_S128x128_S128x128_S128x128_1_1_0_0_n_n none q k (constant S128x128 .f32 0x00000000#32)) dec) bitsLt_bf16_f32⟩,
      ⟨S128x128, truncf .bf16 (mulf (extf .f32 q bitsLt_bf16_f32) (broadcastTo S128x128 xi broadcasts_S128x1_S128x128)) bitsLt_bf16_f32⟩] concatenates_S128x128_S128x128_S128x256_d1)
    (concatenate S256x256 0 [⟨S128x256, v⟩, ⟨S128x256, truncf .bf16 (shapeCast S128x256 st shapeCasts_S1x128x256_S128x256) bitsLt_bf16_f32⟩] concatenates_S128x256_S128x256_S256x256_d0)
    (constant S128x256 .f32 0x00000000#32)

/-- A row's mean, as a column. -/
def rowMean (o : FVec F S128x256 .f32) : FVec F S128x1 .f32 :=
  divf (shapeCast S128x1 (multiReduction .add [1] S128 o 0x00000000#32 reduces_S128x256_S128 (.inl rfl) rfl) shapeCasts_S128_S128x1)
    (broadcast S128x1 (Scalar.ofBits .f32 0x43800000#32))

/-- The rows less their means. -/
def centred (o : FVec F S128x256 .f32) : FVec F S128x256 .f32 :=
  subf o (broadcastTo S128x256 (rowMean o) broadcasts_S128x1_S128x256)

/-- The rows normed. -/
def normed (o : FVec F S128x256 .f32) : FVec F S128x256 .f32 :=
  mulf (centred o) (broadcastTo S128x256 (rsqrt (addf (rowMean (mulf (centred o) (centred o)))
    (broadcast S128x1 (Scalar.ofBits .f32 0x358637BD#32)))) broadcasts_S128x1_S128x256)

/-- A gate: the entry times its sigmoid. -/
def gate (g : Vec F S128x256 .bf16) : FVec F S128x256 .f32 :=
  mulf (extf .f32 g bitsLt_bf16_f32) (divf (broadcast S128x256 (Scalar.ofBits .f32 0x3F800000#32))
    (addf (broadcast S128x256 (Scalar.ofBits .f32 0x3F800000#32))
      (exp (subf (broadcast S128x256 (Scalar.ofBits .f32 0x00000000#32)) (extf .f32 g bitsLt_bf16_f32)))))

/-- What one chunk stores. -/
def outChunk (dec : FVec F S128x128 .f32) (xi : FVec F S128x1 .f32) (q k : Vec F S128x128 .bf16) (v g : Vec F S128x256 .bf16)
    (st : Vec F S1x128x256 .f32) : FVec F S128x256 .bf16 :=
  truncf .bf16 (mulf (normed (mix dec xi q k v st)) (gate g)) bitsLt_bf16_f32

/-! ## The run's lists -/

theorem inbQ (n : Fin 32) (a : Fin 2) : (![128 * n.val, 0] : Fin 2 → ℕ) a + (![128, 128] : Fin 2 → ℕ) a ≤ S4096x128.size a := by
  match a with
  | ⟨0, _⟩ => show 128 * n.val + 128 ≤ 4096; omega
  | ⟨1, _⟩ => show 0 + 128 ≤ 128; omega

theorem inbV (n : Fin 32) (a : Fin 2) : (![128 * n.val, 0] : Fin 2 → ℕ) a + (![128, 256] : Fin 2 → ℕ) a ≤ S4096x256.size a := by
  match a with
  | ⟨0, _⟩ => show 128 * n.val + 128 ≤ 4096; omega
  | ⟨1, _⟩ => show 0 + 256 ≤ 256; omega

theorem inbS (n : Fin 32) (a : Fin 3) : (![n.val, 0, 0] : Fin 3 → ℕ) a + (![1, 128, 256] : Fin 3 → ℕ) a ≤ S32x128x256.size a := by
  match a with
  | ⟨0, _⟩ => show n.val + 1 ≤ 32; omega
  | ⟨1, _⟩ => show 0 + 128 ≤ 128; omega
  | ⟨2, _⟩ => show 0 + 256 ≤ 256; omega

variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S1x128x128 .f32) (harg6 : arg6.IsWhole) (arg7 : Memref sig .tc .vmem S1x128x1 .f32) (harg7 : arg7.IsWhole)
  (arg8 : Memref sig .tc .vmem S1x128x1 .f32) (harg8 : arg8.IsWhole) (arg9 : Memref sig .tc .vmem S1x1x256 .f32) (harg9 : arg9.IsWhole)
  (arg10 : Memref sig .tc .vmem S4096x256 .bf16) (harg10 : arg10.IsWhole) (arg11 : Memref sig .tc .vmem S32x128x256 .f32) (harg11 : arg11.IsWhole)
  (x0 x1 : Vec F S4096x128 .bf16) (x2 x3 : Vec F S4096x256 .bf16) (x4 : Vec F S1x128x128 .f32) (x5 x6 : Vec F S1x128x1 .f32) (x7 : Vec F S1x1x256 .f32)

/-- A chunk's 128 rows of a block of 128 columns, as the run loads them. -/
def rowsQ (M : Memref sig .tc .vmem S4096x128 .bf16) (hM : M.IsWhole) (x : Vec F S4096x128 .bf16) (n : Fin 32) : Vec F S128x128 .bf16 :=
  View.readAt (Elt F) M.view (Rect.unit (s := S4096x128) ![128 * n.val, 0] S128x128.size (inbQ n)).toLoadRect (hM.unread x)

/-- A chunk's 128 rows of a block of 256 columns, as the run loads them. -/
def rowsV (M : Memref sig .tc .vmem S4096x256 .bf16) (hM : M.IsWhole) (x : Vec F S4096x256 .bf16) (n : Fin 32) : Vec F S128x256 .bf16 :=
  View.readAt (Elt F) M.view (Rect.unit (s := S4096x256) ![128 * n.val, 0] S128x256.size (inbV n)).toLoadRect (hM.unread x)

/-- The three tables and the chunk decay, as the run loads them. -/
def decT : FVec F S128x128 .f32 := k0_pay2 (View.readAt (Elt F) arg6.view (Rect.unit ![0, 0, 0] S1x128x128.size inb_S1x128x128_S1x128x128_0_0_0).toLoadRect (harg6.unread x4))
def zetaT : FVec F S128x1 .f32 := k0_pay3 (View.readAt (Elt F) arg7.view (Rect.unit ![0, 0, 0] S1x128x1.size inb_S1x128x1_S1x128x1_0_0_0).toLoadRect (harg7.unread x5))
def xiT : FVec F S128x1 .f32 := k0_pay4 (View.readAt (Elt F) arg8.view (Rect.unit ![0, 0, 0] S1x128x1.size inb_S1x128x1_S1x128x1_0_0_0).toLoadRect (harg8.unread x6))
def cdT : FVec F S1x256 .f32 := k0_pay5 (View.readAt (Elt F) arg9.view (Rect.unit ![0, 0, 0] S1x1x256.size inb_S1x1x256_S1x1x256_0_0_0).toLoadRect (harg9.unread x7))

/-- The states of the chunks by themselves, as the run computes them. -/
def kvP (n : Fin 32) : FVec F S1x128x256 .f32 :=
  kvChunk (zetaT arg7 harg7 x5) (rowsQ arg3 harg3 x1 n) (rowsV arg4 harg4 x2 n)

/-- The first loop's stores into the scratch, one slot a chunk. -/
def kvL : List (View.Piece (Elt F) S32x128x256 .f32) :=
  View.tilePieces ![1, 128, 256] (fun n : Fin 32 => ![n.val, 0, 0]) inbS (fun n => kvP arg3 harg3 arg4 harg4 arg7 harg7 x1 x2 x5 n) 32 le_rfl

/-- The state loop's list of stores at its end, over the first loop's. -/
def stL : List (View.Piece (Elt F) S32x128x256 .f32) :=
  (st_k0_t1 Variants.none c none i arg2 harg2 arg3 harg3 arg4 harg4 arg5 harg5 arg6 harg6 arg7 harg7 arg8 harg8 arg9 harg9 arg10 harg10 arg11 harg11
    (decT arg6 harg6 x4) (zetaT arg7 harg7 x5) (cdT arg9 harg9 x7) (30#32) (3840#32) (k0_pay43 (rowsQ arg3 harg3 x1 30))
    (arg11.view.writes (Elt F) arg11.view.junk (kvL arg3 harg3 arg4 harg4 arg7 harg7 x1 x2 x5)) k0_pay46 (Scf.trips k0_t1_loop.lb k0_t1_loop.ub k0_t1_loop.st)).2
  ++ kvL arg3 harg3 arg4 harg4 arg7 harg7 x1 x2 x5

/-- The state the run reads back from slot `n` of the scratch. -/
def slotP (n : Fin 32) : Vec F S1x128x256 .f32 :=
  arg11.view.readCov (stL c i arg2 harg2 arg3 harg3 arg4 harg4 arg5 harg5 arg6 harg6 arg7 harg7 arg8 harg8 arg9 harg9 arg10 harg10 arg11 harg11 x1 x2 x4 x5 x7)
      (Rect.unit (s := S32x128x256) ![n.val, 0, 0] S1x128x256.size (inbS n)).toLoadRect

/-- What chunk `n` stores, of the run's loads. -/
def outP (n : Fin 32) : FVec F S128x256 .bf16 :=
  outChunk (decT arg6 harg6 x4) (xiT arg8 harg8 x6) (rowsQ arg2 harg2 x0 n) (rowsQ arg3 harg3 x1 n) (rowsV arg4 harg4 x2 n) (rowsV arg5 harg5 x3 n)
    (slotP c i arg2 harg2 arg3 harg3 arg4 harg4 arg5 harg5 arg6 harg6 arg7 harg7 arg8 harg8 arg9 harg9 arg10 harg10 arg11 harg11 x1 x2 x4 x5 x7 n)

/-- The run's list of stores into the output block IS the chunks', in order. -/
theorem pieces_eq : (kernelRun0_A c i arg2 harg2 arg3 harg3 arg4 harg4 arg5 harg5 arg6 harg6 arg7 harg7 arg8 harg8 arg9 harg9 arg10 harg10 arg11 harg11 x0 x1 x2 x3 x4 x5 x6 x7).1
    = View.tilePieces ![128, 256] (fun n : Fin 32 => ![128 * n.val, 0]) inbV
        (fun n => outP c i arg2 harg2 arg3 harg3 arg4 harg4 arg5 harg5 arg6 harg6 arg7 harg7 arg8 harg8 arg9 harg9 arg10 harg10 arg11 harg11 x0 x1 x2 x3 x4 x5 x6 x7 n) 32 le_rfl := by
  sl_kernel_rfl

/-! ## The states the loop leaves -/

/-- The trips' offsets in the scratch. -/
theorem off3_eq : ∀ k : Fin k0_t1_loop.trips, k0_off3 k = ![k.val, 0, 0] := by decide +kernel

/-- A store's piece at equal offsets. -/
theorem piece_congr {off off' : Fin 3 → ℕ} (h : off = off') (inb : ∀ a, off a + S1x128x256.size a ≤ S32x128x256.size a)
    (inb' : ∀ a, off' a + S1x128x256.size a ≤ S32x128x256.size a) (w : FVec F S1x128x256 .f32) :
    (⟨Rect.unit off S1x128x256.size inb, w⟩ : View.Piece (Elt F) S32x128x256 .f32) = ⟨Rect.unit off' S1x128x256.size inb', w⟩ := by
  subst h; rfl

/-- A load at equal offsets. -/
theorem load_congr {off off' : Fin 3 → ℕ} (h : off = off') (inb : ∀ a, off a + S1x128x256.size a ≤ S32x128x256.size a)
    (inb' : ∀ a, off' a + S1x128x256.size a ≤ S32x128x256.size a) (f : BufTy.Contents (Elt F) arg11.view.ty) :
    (View.readAt (Elt F) arg11.view (Rect.unit (s := S32x128x256) off S1x128x256.size inb).toLoadRect f : Vec F S1x128x256 .f32)
      = View.readAt (Elt F) arg11.view (Rect.unit (s := S32x128x256) off' S1x128x256.size inb').toLoadRect f := by
  subst h; rfl

variable (v1 : FVec F S128x128 .f32) (v3 : FVec F S128x1 .f32) (v7 : FVec F S1x256 .f32) (c30 v459 : BitVec 32) (v462 : FVec F S128x128 .f32)

theorem tripL_eq (k : Fin k0_t1_loop.trips) (acc : FVec F S128x256 .f32) (f : BufTy.Contents (Elt F) arg11.view.ty) :
    tripL_k0_t1 Variants.none c none i arg2 harg2 arg3 harg3 arg4 harg4 arg5 harg5 arg6 harg6 arg7 harg7 arg8 harg8 arg9 harg9 arg10 harg10 arg11 harg11 v1 v3 v7 c30 v459 v462 k acc f
      = [⟨Rect.unit (k0_off3 k) S1x128x256.size (k0_off3_inb k), k0_pay47 acc⟩] := by
  unfold tripL_k0_t1 trip_k0_t1; rfl

theorem tripR_eq (k : Fin k0_t1_loop.trips) (acc : FVec F S128x256 .f32) (f : BufTy.Contents (Elt F) arg11.view.ty) :
    tripR_k0_t1 Variants.none c none i arg2 harg2 arg3 harg3 arg4 harg4 arg5 harg5 arg6 harg6 arg7 harg7 arg8 harg8 arg9 harg9 arg10 harg10 arg11 harg11 v1 v3 v7 c30 v459 v462 k acc f
      = k0_pay48 v7 acc (View.readAt (Elt F) arg11.view (Rect.unit (s := S32x128x256) (k0_off3 k) S1x128x256.size (k0_off3_inb k)).toLoadRect f) := by
  unfold tripR_k0_t1 trip_k0_t1; rfl

/-- The running state over the chunks' own states `kv`. -/
def run (cd : FVec F S1x256 .f32) (kv : Fin 32 → FVec F S1x128x256 .f32) : ℕ → FVec F S128x256 .f32
  | 0 => k0_pay46
  | k + 1 => if h : k < 32 then k0_pay48 cd (run cd kv k) (kv ⟨k, h⟩) else run cd kv k

/-- Slot `n` after `j > n` stores, one slot each. -/
theorem read_slot (f : BufTy.Contents (Elt F) arg11.view.ty) (P : Fin 32 → FVec F S1x128x256 .f32) (j : ℕ) (hj : j ≤ 32) (n : Fin 32) (hn : n.val < j)
    (y : S1x128x256.Idx) :
    arg11.view.read (Elt F) (arg11.view.writes (Elt F) f (View.tilePieces ![1, 128, 256] (fun n : Fin 32 => ![n.val, 0, 0]) inbS P j hj))
      ((Rect.unit (s := S32x128x256) ![n.val, 0, 0] S1x128x256.size (inbS n)).idx y) = P n y := by
  have hy : (y 0).val < 1 := (y 0).isLt
  have h0 : ((Rect.unit (s := S32x128x256) ![n.val, 0, 0] S1x128x256.size (inbS n)).idx y 0).val = n.val + 1 * (y 0).val := rfl
  refine View.read_tilePieces arg11.view f ![1, 128, 256] (fun n : Fin 32 => ![n.val, 0, 0]) inbS P j hj _ n hn y
    (fun a => congrArg (_ + ·) (Nat.one_mul _)) 0 ?_
  intro i' hi'
  have : i'.val ≠ n.val := fun h => hi' (Fin.ext h)
  rw [h0]
  show _ < i'.val ∨ i'.val + 1 ≤ _
  omega

/-- Slot `n` after `j ≤ n` stores, one slot each: as it was. -/
theorem read_slot_miss (f : BufTy.Contents (Elt F) arg11.view.ty) (P : Fin 32 → FVec F S1x128x256 .f32) (j : ℕ) (hj : j ≤ 32) (n : Fin 32) (hn : j ≤ n.val)
    (y : S1x128x256.Idx) :
    arg11.view.read (Elt F) (arg11.view.writes (Elt F) f (View.tilePieces ![1, 128, 256] (fun n : Fin 32 => ![n.val, 0, 0]) inbS P j hj))
      ((Rect.unit (s := S32x128x256) ![n.val, 0, 0] S1x128x256.size (inbS n)).idx y)
    = arg11.view.read (Elt F) f ((Rect.unit (s := S32x128x256) ![n.val, 0, 0] S1x128x256.size (inbS n)).idx y) := by
  have h0 : ((Rect.unit (s := S32x128x256) ![n.val, 0, 0] S1x128x256.size (inbS n)).idx y 0).val = n.val + 1 * (y 0).val := rfl
  refine View.read_tilePieces_miss arg11.view f ![1, 128, 256] (fun n : Fin 32 => ![n.val, 0, 0]) inbS P j hj _ 0 ?_
  intro i' hi'
  right
  rw [h0]
  show i'.val + 1 ≤ _
  omega

/-- Slot `n` after the first loop's stores and those of the trips before `k ≤ n`: the chunk's own state. -/
theorem read_kv (kv : Fin 32 → FVec F S1x128x256 .f32) (P : Fin 32 → FVec F S1x128x256 .f32) (k : ℕ) (hk : k ≤ 32) (n : Fin 32) (hn : k ≤ n.val) :
    (View.readAt (Elt F) arg11.view (Rect.unit (s := S32x128x256) ![n.val, 0, 0] S1x128x256.size (inbS n)).toLoadRect
      (arg11.view.writes (Elt F) (arg11.view.writes (Elt F) arg11.view.junk
        (View.tilePieces ![1, 128, 256] (fun n : Fin 32 => ![n.val, 0, 0]) inbS kv 32 le_rfl))
        (View.tilePieces ![1, 128, 256] (fun n : Fin 32 => ![n.val, 0, 0]) inbS P k hk)) : Vec F S1x128x256 .f32) = kv n :=
  funext fun y => (read_slot_miss arg11 _ P k hk n hn y).trans (read_slot arg11 _ kv 32 le_rfl n n.isLt y)

/-- The state loop before trip `k`: the running state, and the states before the earlier trips stored in their slots. -/
theorem st_eq (kv : Fin 32 → FVec F S1x128x256 .f32) (k : ℕ) (hk : k ≤ 32) :
    st_k0_t1 Variants.none c none i arg2 harg2 arg3 harg3 arg4 harg4 arg5 harg5 arg6 harg6 arg7 harg7 arg8 harg8 arg9 harg9 arg10 harg10 arg11 harg11 v1 v3 v7 c30 v459 v462
      (arg11.view.writes (Elt F) arg11.view.junk (View.tilePieces ![1, 128, 256] (fun n : Fin 32 => ![n.val, 0, 0]) inbS kv 32 le_rfl)) k0_pay46 k
    = (run v7 kv k, View.tilePieces ![1, 128, 256] (fun n : Fin 32 => ![n.val, 0, 0]) inbS (fun n => k0_pay47 (run v7 kv n.val)) k hk) := by
  induction k with
  | zero => rfl
  | succ k ih =>
    have ht : k < k0_t1_loop.trips := hk
    rw [st_k0_t1_succ (k := ⟨k, ht⟩), ih (by omega)]
    refine Prod.ext ?_ ?_
    · show tripR_k0_t1 _ _ _ _ _ _ _ _ _ _ _ _ _ _ _ _ _ _ _ _ _ _ _ _ _ _ _ _ _ _ _ _ _ = _
      rw [tripR_eq, load_congr arg11 (off3_eq ⟨k, ht⟩) _ (inbS ⟨k, hk⟩), read_kv arg11 kv _ k (by omega) ⟨k, hk⟩ le_rfl]
      show _ = if h : k < 32 then _ else _
      rw [dif_pos (show k < 32 from hk)]
    · show tripL_k0_t1 _ _ _ _ _ _ _ _ _ _ _ _ _ _ _ _ _ _ _ _ _ _ _ _ _ _ _ _ _ _ _ _ _ ++ _ = _
      rw [tripL_eq, piece_congr (off3_eq ⟨k, ht⟩) _ (inbS ⟨k, hk⟩)]
      rfl

/-- What the run reads back from slot `n`: the running state before chunk `n`. -/
theorem slotP_eq (n : Fin 32) :
    slotP c i arg2 harg2 arg3 harg3 arg4 harg4 arg5 harg5 arg6 harg6 arg7 harg7 arg8 harg8 arg9 harg9 arg10 harg10 arg11 harg11 x1 x2 x4 x5 x7 n
      = k0_pay47 (run (cdT arg9 harg9 x7) (kvP arg3 harg3 arg4 harg4 arg7 harg7 x1 x2 x5) n.val) := by
  unfold slotP stL kvL
  rw [show Scf.trips k0_t1_loop.lb k0_t1_loop.ub k0_t1_loop.st = 32 from rfl, st_eq (hk := le_rfl)]
  unfold View.readCov
  rw [View.writes_append]
  exact funext fun y => read_slot arg11 _ _ 32 le_rfl n n.isLt y

end Cert.RetIdeal.Chunks

end
-- ==== Proof.Spec.lean ====
module

public import Idealize.ShloMosaic.PureOps.Ideal.Laws

/-! The retention of one head over the extended reals: the state carried over the chunks, the mix of a chunk's own
scores with that state, the norm over the head's columns, and the gate. -/

@[expose] public section

noncomputable section

namespace Retention

open Idealize.ShloMosaic

/-- The state before chunk `n`, when each chunk adds `kv`. -/
def stateAt (cd : EReal) (kv : Fin 32 → EReal) : ℕ → EReal
  | 0 => 0
  | n + 1 => if h : n < 32 then cd * stateAt cd kv n + kv ⟨n, h⟩ else stateAt cd kv n

/-- What a chunk adds to the state. -/
def addAt (k : Fin 128 → Fin 128 → EReal) (zeta : Fin 128 → EReal) (v : Fin 128 → Fin 256 → EReal) (d : Fin 128) (e : Fin 256) : EReal :=
  ∑ j : Fin 128, k j d * zeta j * v j e

/-- A row of a chunk against the chunk itself. -/
def innerAt (q k : Fin 128 → Fin 128 → EReal) (dec : Fin 128 → Fin 128 → EReal) (v : Fin 128 → Fin 256 → EReal)
    (i : Fin 128) (e : Fin 256) : EReal :=
  ∑ m : Fin 128, (∑ d : Fin 128, q i d * k m d) * dec i m * v m e

/-- A row against the state before the chunk, the decay on the sum. -/
def crossAt (q : Fin 128 → EReal) (xi : EReal) (st : Fin 128 → EReal) : EReal := (∑ d : Fin 128, q d * st d) * xi

/-- The decay moves onto the row: it is a nonnegative real number. -/
theorem crossAt_row (q st : Fin 128 → EReal) (xi : EReal) (h0 : 0 ≤ xi) (h1 : xi ≠ ⊤) :
    ∑ d : Fin 128, q d * xi * st d = crossAt q xi st := by
  unfold crossAt
  induction (Finset.univ : Finset (Fin 128)) using Finset.induction_on with
  | empty => simp
  | insert a s ha ih =>
    rw [Finset.sum_insert ha, Finset.sum_insert ha, EReal.right_distrib_of_nonneg_of_ne_top h0 h1, ih]
    congr 1
    rw [mul_assoc, mul_comm xi, ← mul_assoc]

/-- The norm over a head's columns. -/
def normAt (o : Fin 256 → EReal) (e : Fin 256) : EReal :=
  (o e - Ideal.div (∑ x, o x) (Ideal.ofBits FTy.f32 1132462080#32)) *
    Ideal.rsqrt (Ideal.div (∑ x, (o x - Ideal.div (∑ x, o x) (Ideal.ofBits FTy.f32 1132462080#32)) *
      (o x - Ideal.div (∑ x, o x) (Ideal.ofBits FTy.f32 1132462080#32))) (Ideal.ofBits FTy.f32 1132462080#32)
        + Ideal.ofBits FTy.f32 897988541#32)

def siluAt (g : EReal) : EReal := g * Ideal.div 1 (1 + Ideal.exp (-g))

/-! ## The whole result, from the layer's projections and the decay tables -/

/-- Row `j` of chunk `n` of sample `b`. -/
def row (b : Fin 2) (n : Fin 32) (j : Fin 128) : Fin 8192 := ⟨b.val * 4096 + n.val * 128 + j.val, by omega⟩

variable (X : Fin 8192 → Fin 13312 → EReal) (dec : Fin 8 → Fin 128 → Fin 128 → EReal) (zeta xi : Fin 8 → Fin 128 → EReal) (cd : Fin 8 → EReal)

def query (b : Fin 2) (h : Fin 8) (n : Fin 32) (j d : Fin 128) : EReal := X (row b n j) ⟨3072 + (h.val * 128 + d.val), by omega⟩
def key (b : Fin 2) (h : Fin 8) (n : Fin 32) (j d : Fin 128) : EReal := X (row b n j) ⟨4096 + (h.val * 128 + d.val), by omega⟩
def value (b : Fin 2) (h : Fin 8) (n : Fin 32) (j : Fin 128) (e : Fin 256) : EReal := X (row b n j) ⟨5120 + (h.val * 256 + e.val), by omega⟩

/-- The state of head `h` before chunk `n`. -/
def state (b : Fin 2) (h : Fin 8) (n : ℕ) (d : Fin 128) (e : Fin 256) : EReal :=
  stateAt (cd h) (fun n => addAt (key X b h n) (zeta h) (value X b h n) d e) n

/-- A chunk's retained values before the norm. -/
def retained (b : Fin 2) (h : Fin 8) (n : Fin 32) (j : Fin 128) (e : Fin 256) : EReal :=
  innerAt (query X b h n) (key X b h n) (dec h) (value X b h n) j e
    + crossAt (query X b h n j) (xi h j) (fun d => state X zeta cd b h n.val d e)

def resultAt (r : Fin 8192) (l : Fin 2048) : EReal :=
  normAt (retained X dec zeta xi cd ⟨r.val / 4096, by omega⟩ ⟨l.val / 256, by omega⟩ ⟨r.val % 4096 / 128, by omega⟩ ⟨r.val % 4096 % 128, by omega⟩)
      ⟨l.val % 256, by omega⟩
    * siluAt (X r ⟨7168 + l.val, by omega⟩)

theorem resultAt_row (b : Fin 2) (h : Fin 8) (n : Fin 32) (j : Fin 128) (e : Fin 256) :
    resultAt X dec zeta xi cd (row b n j) ⟨h.val * 256 + e.val, by omega⟩
      = normAt (retained X dec zeta xi cd b h n j) e * siluAt (X (row b n j) ⟨7168 + (h.val * 256 + e.val), by omega⟩) := by
  have e1 : (⟨(row b n j).val / 4096, by omega⟩ : Fin 2) = b := Fin.ext (by unfold row; dsimp only; omega)
  have e2 : (⟨(h.val * 256 + e.val) / 256, by omega⟩ : Fin 8) = h := Fin.ext (by dsimp only; omega)
  have e3 : (⟨(row b n j).val % 4096 / 128, by omega⟩ : Fin 32) = n := Fin.ext (by unfold row; dsimp only; omega)
  have e4 : (⟨(row b n j).val % 4096 % 128, by omega⟩ : Fin 128) = j := Fin.ext (by unfold row; dsimp only; omega)
  have e5 : (⟨(h.val * 256 + e.val) % 256, by omega⟩ : Fin 256) = e := Fin.ext (by dsimp only; omega)
  unfold resultAt
  dsimp only
  rw [e1, e2, e3, e4, e5]

end Retention

end
-- ==== Proof.ChunkValue.lean ====
module

public import proofs.«01_k».proof.Proof.Chunks
public import proofs.«01_k».proof.Proof.Spec
public import Idealize.ShloMosaic.Lib.Pointwise

/-! The kernel's chunks at one place, over the extended reals: what a point stores at a row and a column of its block, from
the blocks it reads. -/

@[expose] public section

set_option maxRecDepth 16384

noncomputable section

namespace Cert.RetIdeal.Chunks

open Cert.RetIdeal Cert.RetIdeal.Gen Retention
open Idealize.ShloMosaic Idealize.ShloMosaic.TcCoe
open Idealize.SL.Sem

theorem load_unread {F : FTy → Type} [FloatOps F] {S : Shape} {e : EltTy} (M : Memref sig .tc .vmem S e) (hM : M.IsWhole) (x : Vec F S e)
    (off size : Fin S.rank → ℕ) (inb : ∀ a, off a + size a ≤ S.size a) (y : (Rect.unit off size inb).shape.Idx) :
    View.readAt (Elt F) M.view (Rect.unit off size inb).toLoadRect (hM.unread x) y = x ((Rect.unit off size inb).idx y) :=
  congrFun (hM.read_unread x) _

theorem kvChunk_apply (z : FVec Ideal S128x1 .f32) (k : Vec Ideal S128x128 .bf16) (v : Vec Ideal S128x256 .bf16) (d : Fin 128) (e : Fin 256) :
    kvChunk z k v (ix3 (0 : Fin 1) d e) = addAt (fun j d => k (ix2 j d)) (fun j => z (ix2 j (0 : Fin 1))) (fun j e => v (ix2 j e)) d e := by
  unfold addAt
  pointwise [kvChunk]

theorem mix_apply (dec : FVec Ideal S128x128 .f32) (xi : FVec Ideal S128x1 .f32) (q k : Vec Ideal S128x128 .bf16) (v : Vec Ideal S128x256 .bf16)
    (st : Vec Ideal S1x128x256 .f32) (i : Fin 128) (e : Fin 256) :
    mix dec xi q k v st (ix2 i e)
      = innerAt (fun i d => q (ix2 i d)) (fun m d => k (ix2 m d)) (fun i m => dec (ix2 i m)) (fun m e => v (ix2 m e)) i e
        + ∑ d : Fin 128, q (ix2 i d) * xi (ix2 i (0 : Fin 1)) * st (ix3 (0 : Fin 1) d e) := by
  unfold innerAt
  pointwise [mix]

theorem outChunk_apply (dec : FVec Ideal S128x128 .f32) (xi : FVec Ideal S128x1 .f32) (q k : Vec Ideal S128x128 .bf16) (v g : Vec Ideal S128x256 .bf16)
    (st : Vec Ideal S1x128x256 .f32) (i : Fin 128) (e : Fin 256) :
    outChunk dec xi q k v g st (ix2 i e) = normAt (fun e => mix dec xi q k v st (ix2 i e)) e * siluAt (g (ix2 i e)) := by
  unfold normAt siluAt
  pointwise [outChunk, normed, centred, rowMean, gate]
  rw [zero_sub]

theorem run_apply (cd : FVec Ideal S1x256 .f32) (kv : Fin 32 → FVec Ideal S1x128x256 .f32) (d : Fin 128) (e : Fin 256) (n : ℕ) :
    run cd kv n (ix2 d e) = stateAt (cd (ix2 (0 : Fin 1) e)) (fun n => kv n (ix3 (0 : Fin 1) d e)) n := by
  induction n with
  | zero => pointwise [run, k0_pay46, stateAt]
  | succ n ih =>
    unfold run stateAt
    by_cases h : n < 32
    · rw [dif_pos h, dif_pos h, ← ih]
      pointwise [k0_pay48]
    · rw [dif_neg h, dif_neg h, ih]

theorem rowsQ_apply (M : Memref sig .tc .vmem S4096x128 .bf16) (hM : M.IsWhole) (x : Vec Ideal S4096x128 .bf16) (n : Fin 32) (j d : Fin 128) :
    rowsQ M hM x n (ix2 j d) = x (ix2 ⟨128 * n.val + j.val, by omega⟩ d) :=
  (load_unread M hM x _ _ _ _).trans (congrArg x (funext fun a => Fin.ext (by
    match a with
    | ⟨0, _⟩ => show 128 * n.val + 1 * j.val = 128 * n.val + j.val; rw [Nat.one_mul]
    | ⟨1, _⟩ => show 0 + 1 * d.val = d.val; omega)))

theorem rowsV_apply (M : Memref sig .tc .vmem S4096x256 .bf16) (hM : M.IsWhole) (x : Vec Ideal S4096x256 .bf16) (n : Fin 32) (j : Fin 128) (e : Fin 256) :
    rowsV M hM x n (ix2 j e) = x (ix2 ⟨128 * n.val + j.val, by omega⟩ e) :=
  (load_unread M hM x _ _ _ _).trans (congrArg x (funext fun a => Fin.ext (by
    match a with
    | ⟨0, _⟩ => show 128 * n.val + 1 * j.val = 128 * n.val + j.val; rw [Nat.one_mul]
    | ⟨1, _⟩ => show 0 + 1 * e.val = e.val; omega)))

/-- A load of the whole of a rank-three block. -/
theorem load_whole3 {p q r : ℕ} {e : EltTy} (M : Memref sig .tc .vmem ⟨3, ![p, q, r]⟩ e) (hM : M.IsWhole) (x : Vec Ideal ⟨3, ![p, q, r]⟩ e)
    (inb : ∀ a, (![0, 0, 0] : Fin 3 → ℕ) a + (![p, q, r] : Fin 3 → ℕ) a ≤ (⟨3, ![p, q, r]⟩ : Shape).size a) :
    View.readAt (Elt Ideal) M.view (Rect.unit (s := ⟨3, ![p, q, r]⟩) ![0, 0, 0] ![p, q, r] inb).toLoadRect (hM.unread x) = x :=
  funext fun y => (load_unread M hM x _ _ inb y).trans (congrArg x (funext fun a => Fin.ext (by
    match a with
    | ⟨0, _⟩ => show 0 + 1 * (y 0).val = _; rw [Nat.one_mul, Nat.zero_add]; rfl
    | ⟨1, _⟩ => show 0 + 1 * (y 1).val = _; rw [Nat.one_mul, Nat.zero_add]; rfl
    | ⟨2, _⟩ => show 0 + 1 * (y 2).val = _; rw [Nat.one_mul, Nat.zero_add]; rfl)))

theorem decT_apply (M : Memref sig .tc .vmem S1x128x128 .f32) (hM : M.IsWhole) (x : Vec Ideal S1x128x128 .f32) (i j : Fin 128) :
    decT M hM x (ix2 i j) = x (ix3 (0 : Fin 1) i j) := by
  unfold decT
  rw [load_whole3 M hM x]
  pointwise [k0_pay2]

theorem zetaT_apply (M : Memref sig .tc .vmem S1x128x1 .f32) (hM : M.IsWhole) (x : Vec Ideal S1x128x1 .f32) (i : Fin 128) :
    zetaT M hM x (ix2 i (0 : Fin 1)) = x (ix3 (0 : Fin 1) i (0 : Fin 1)) := by
  unfold zetaT
  rw [load_whole3 M hM x]
  pointwise [k0_pay3]

theorem xiT_apply (M : Memref sig .tc .vmem S1x128x1 .f32) (hM : M.IsWhole) (x : Vec Ideal S1x128x1 .f32) (i : Fin 128) :
    xiT M hM x (ix2 i (0 : Fin 1)) = x (ix3 (0 : Fin 1) i (0 : Fin 1)) := by
  unfold xiT
  rw [load_whole3 M hM x]
  pointwise [k0_pay4]

theorem cdT_apply (M : Memref sig .tc .vmem S1x1x256 .f32) (hM : M.IsWhole) (x : Vec Ideal S1x1x256 .f32) (e : Fin 256) :
    cdT M hM x (ix2 (0 : Fin 1) e) = x (ix3 (0 : Fin 1) (0 : Fin 1) e) := by
  unfold cdT
  rw [load_whole3 M hM x]
  pointwise [k0_pay5]

variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S1x128x128 .f32) (harg6 : arg6.IsWhole) (arg7 : Memref sig .tc .vmem S1x128x1 .f32) (harg7 : arg7.IsWhole)
  (arg8 : Memref sig .tc .vmem S1x128x1 .f32) (harg8 : arg8.IsWhole) (arg9 : Memref sig .tc .vmem S1x1x256 .f32) (harg9 : arg9.IsWhole)
  (arg10 : Memref sig .tc .vmem S4096x256 .bf16) (harg10 : arg10.IsWhole) (arg11 : Memref sig .tc .vmem S32x128x256 .f32) (harg11 : arg11.IsWhole)
  (x0 x1 : Vec Ideal S4096x128 .bf16) (x2 x3 : Vec Ideal S4096x256 .bf16) (x4 : Vec Ideal S1x128x128 .f32) (x5 x6 : Vec Ideal S1x128x1 .f32) (x7 : Vec Ideal S1x1x256 .f32)

/-- A chunk's row in a block of 4096 rows. -/
def rowAt (n : Fin 32) (j : Fin 128) : Fin 4096 := ⟨128 * n.val + j.val, by omega⟩

/-- The state before chunk `n`, from the blocks. -/
def stOf (n : Fin 32) (d : Fin 128) (e : Fin 256) : EReal :=
  stateAt (x7 (ix3 (0 : Fin 1) (0 : Fin 1) e)) (fun n => addAt (fun j d => x1 (ix2 (rowAt n j) d)) (fun j => x5 (ix3 (0 : Fin 1) j (0 : Fin 1)))
    (fun j e => x2 (ix2 (rowAt n j) e)) d e) n.val

/-- A chunk's retained values before the norm, from the blocks. -/
def oOf (n : Fin 32) (j : Fin 128) (e : Fin 256) : EReal :=
  innerAt (fun j d => x0 (ix2 (rowAt n j) d)) (fun j d => x1 (ix2 (rowAt n j) d)) (fun i j => x4 (ix3 (0 : Fin 1) i j)) (fun j e => x2 (ix2 (rowAt n j) e)) j e
    + ∑ d : Fin 128, x0 (ix2 (rowAt n j) d) * x6 (ix3 (0 : Fin 1) j (0 : Fin 1)) * stOf x1 x2 x5 x7 n d e

theorem slot_apply (n : Fin 32) (d : Fin 128) (e : Fin 256) :
    slotP c i arg2 harg2 arg3 harg3 arg4 harg4 arg5 harg5 arg6 harg6 arg7 harg7 arg8 harg8 arg9 harg9 arg10 harg10 arg11 harg11 x1 x2 x4 x5 x7 n (ix3 (0 : Fin 1) d e)
      = stOf x1 x2 x5 x7 n d e := by
  rw [slotP_eq]
  have h : ∀ a : FVec Ideal S128x256 .f32, k0_pay47 a (ix3 (0 : Fin 1) d e) = a (ix2 d e) := fun a => by pointwise [k0_pay47]
  rw [h, run_apply, cdT_apply]
  unfold stOf kvP
  simp only [kvChunk_apply, zetaT_apply, rowsQ_apply, rowsV_apply]
  rfl

theorem outP_apply (n : Fin 32) (j : Fin 128) (e : Fin 256) :
    outP c i arg2 harg2 arg3 harg3 arg4 harg4 arg5 harg5 arg6 harg6 arg7 harg7 arg8 harg8 arg9 harg9 arg10 harg10 arg11 harg11 x0 x1 x2 x3 x4 x5 x6 x7 n (ix2 j e)
      = normAt (oOf x0 x1 x2 x4 x5 x6 x7 n j) e * siluAt (x3 (ix2 (rowAt n j) e)) := by
  unfold outP
  rw [outChunk_apply, rowsV_apply]
  simp only [mix_apply, slot_apply, xiT_apply, decT_apply, rowsQ_apply, rowsV_apply]
  rfl

/-- Row `j` of chunk `n` after all the chunks' stores. -/
theorem read_rows (v : View sig .tc .vmem S4096x256 .bf16) (f : BufTy.Contents (Elt Ideal) v.ty) (P : Fin 32 → FVec Ideal S128x256 .bf16)
    (n : Fin 32) (j : Fin 128) (e : Fin 256) :
    v.read (Elt Ideal) (v.writes (Elt Ideal) f (View.tilePieces ![128, 256] (fun n : Fin 32 => ![128 * n.val, 0]) inbV P 32 le_rfl)) (ix2 (rowAt n j) e)
      = P n (ix2 j e) := by
  refine View.read_tilePieces v f ![128, 256] (fun n : Fin 32 => ![128 * n.val, 0]) inbV P 32 le_rfl (ix2 (rowAt n j) e) n n.isLt (ix2 j e)
    (fun a => ?_) 0 ?_
  · match a with
    | ⟨0, _⟩ => rfl
    | ⟨1, _⟩ => exact (Nat.zero_add _).symm
  · intro i' hi'
    have : i'.val ≠ n.val := fun h => hi' (Fin.ext h)
    show 128 * n.val + j.val < 128 * i'.val ∨ 128 * i'.val + 128 ≤ 128 * n.val + j.val
    omega

/-- What the point leaves at a row and a column of its block. -/
theorem out_apply (n : Fin 32) (j : Fin 128) (e : Fin 256) :
    out0_A_8 c i arg2 harg2 arg3 harg3 arg4 harg4 arg5 harg5 arg6 harg6 arg7 harg7 arg8 harg8 arg9 harg9 arg10 harg10 arg11 harg11 x0 x1 x2 x3 x4 x5 x6 x7
        (ix2 (rowAt n j) e)
      = normAt (oOf x0 x1 x2 x4 x5 x6 x7 n j) e * siluAt (x3 (ix2 (rowAt n j) e)) := by
  unfold out0_A_8
  rw [pieces_eq]
  exact (read_rows _ _ _ n j e).trans (outP_apply c i arg2 harg2 arg3 harg3 arg4 harg4 arg5 harg5 arg6 harg6 arg7 harg7 arg8 harg8 arg9 harg9 arg10 harg10 arg11 harg11 x0 x1 x2 x3 x4 x5 x6 x7 n j e)

end Cert.RetIdeal.Chunks

end
-- ==== Proof.KernelValue.lean ====
module

public import proofs.«01_k».proof.Proof.ChunkValue
public import Idealize.ShloMosaic.Lib.Pipeline.ValueKit

/-! The kernel's result array, over the extended reals: the retention of every head at every row. -/

@[expose] public section

set_option maxRecDepth 16384

noncomputable section

namespace Cert.RetIdeal.Chunks

open Cert.RetIdeal Cert.RetIdeal.Gen Retention
open Idealize.ShloMosaic Idealize.ShloMosaic.TcCoe
open Idealize.SL.Sem

theorem idx_q : ∀ t : Fin cfg0.N, win0_0.index t = ![(grid0.coords t 0).val, 24 + (grid0.coords t 1).val] :=
  (by decide +kernel : ∀ t : Fin grid0.N, win0_0.index t = ![(grid0.coords t 0).val, 24 + (grid0.coords t 1).val])
theorem idx_k : ∀ t : Fin cfg0.N, win0_1.index t = ![(grid0.coords t 0).val, 32 + (grid0.coords t 1).val] :=
  (by decide +kernel : ∀ t : Fin grid0.N, win0_1.index t = ![(grid0.coords t 0).val, 32 + (grid0.coords t 1).val])
theorem idx_v : ∀ t : Fin cfg0.N, win0_2.index t = ![(grid0.coords t 0).val, 20 + (grid0.coords t 1).val] :=
  (by decide +kernel : ∀ t : Fin grid0.N, win0_2.index t = ![(grid0.coords t 0).val, 20 + (grid0.coords t 1).val])
theorem idx_g : ∀ t : Fin cfg0.N, win0_3.index t = ![(grid0.coords t 0).val, 28 + (grid0.coords t 1).val] :=
  (by decide +kernel : ∀ t : Fin grid0.N, win0_3.index t = ![(grid0.coords t 0).val, 28 + (grid0.coords t 1).val])
theorem idx_dec : ∀ t : Fin cfg0.N, win0_4.index t = ![(grid0.coords t 1).val, 0, 0] :=
  (by decide +kernel : ∀ t : Fin grid0.N, win0_4.index t = ![(grid0.coords t 1).val, 0, 0])
theorem idx_zeta : ∀ t : Fin cfg0.N, win0_5.index t = ![(grid0.coords t 1).val, 0, 0] :=
  (by decide +kernel : ∀ t : Fin grid0.N, win0_5.index t = ![(grid0.coords t 1).val, 0, 0])
theorem idx_xi : ∀ t : Fin cfg0.N, win0_6.index t = ![(grid0.coords t 1).val, 0, 0] :=
  (by decide +kernel : ∀ t : Fin grid0.N, win0_6.index t = ![(grid0.coords t 1).val, 0, 0])
theorem idx_cd : ∀ t : Fin cfg0.N, win0_7.index t = ![(grid0.coords t 1).val, 0, 0] :=
  (by decide +kernel : ∀ t : Fin grid0.N, win0_7.index t = ![(grid0.coords t 1).val, 0, 0])
theorem idx_o : ∀ t : Fin cfg0.N, win0_8.index t = ![(grid0.coords t 0).val, (grid0.coords t 1).val] :=
  (by decide +kernel : ∀ t : Fin grid0.N, win0_8.index t = ![(grid0.coords t 0).val, (grid0.coords t 1).val])

variable (m : (ℓ : Loc nD τ sig) → Buf (Elt Ideal) ℓ) (c : Dev nD)

abbrev argX (r : Fin 8192) (l : Fin 13312) : EReal := m ((c.tc : Thread nD τ).loc main_arg0) (ix2 r l)
abbrev argDec (h : Fin 8) (i j : Fin 128) : EReal := m ((c.tc : Thread nD τ).loc main_arg1) (ix3 h i j)
abbrev argZeta (h : Fin 8) (i : Fin 128) : EReal := m ((c.tc : Thread nD τ).loc main_arg2) (ix2 h i)
abbrev argXi (h : Fin 8) (i : Fin 128) : EReal := m ((c.tc : Thread nD τ).loc main_arg3) (ix2 h i)
abbrev argCd (h : Fin 8) : EReal := m ((c.tc : Thread nD τ).loc main_arg4) (ix1 h)

section blocks
variable (t : Fin cfg0.N)

/-- The point's sample and head. -/
abbrev smp : Fin 2 := grid0.coords t 0
abbrev hd : Fin 8 := grid0.coords t 1

theorem blk_q (n : Fin 32) (j d : Fin 128) : iblk m c 0 t (ix2 (rowAt n j) d) = query (argX m c) (smp t) (hd t) n j d := by
  unfold query argX row rowAt smp hd
  blk_ext! [iblk, V, idx_q t]
theorem blk_k (n : Fin 32) (j d : Fin 128) : iblk m c 1 t (ix2 (rowAt n j) d) = key (argX m c) (smp t) (hd t) n j d := by
  unfold key argX row rowAt smp hd
  blk_ext! [iblk, V, idx_k t]
theorem blk_v (n : Fin 32) (j : Fin 128) (e : Fin 256) : iblk m c 2 t (ix2 (rowAt n j) e) = value (argX m c) (smp t) (hd t) n j e := by
  unfold value argX row rowAt smp hd
  blk_ext! [iblk, V, idx_v t]
theorem blk_g (n : Fin 32) (j : Fin 128) (e : Fin 256) : iblk m c 3 t (ix2 (rowAt n j) e)
    = argX m c (row (smp t) n j) ⟨7168 + ((hd t).val * 256 + e.val), by have := (hd t).isLt; omega⟩ := by
  unfold argX row rowAt smp hd
  blk_ext! [iblk, V, idx_g t]
theorem blk_dec (i j : Fin 128) : iblk m c 4 t (ix3 (0 : Fin 1) i j) = argDec m c (hd t) i j := by
  unfold argDec hd
  blk_ext! [iblk, V, idx_dec t]
theorem blk_zeta (i : Fin 128) : iblk m c 5 t (ix3 (0 : Fin 1) i (0 : Fin 1)) = argZeta m c (hd t) i := by
  unfold argZeta hd
  blk_ext! [iblk, V, idx_zeta t]
theorem blk_xi (i : Fin 128) : iblk m c 6 t (ix3 (0 : Fin 1) i (0 : Fin 1)) = argXi m c (hd t) i := by
  unfold argXi hd
  blk_ext! [iblk, V, idx_xi t]
theorem blk_cd (e : Fin 256) : iblk m c 7 t (ix3 (0 : Fin 1) (0 : Fin 1) e) = argCd m c (hd t) := by
  unfold argCd hd
  blk_ext! [iblk, V, idx_cd t]

/-- The decay from the state before the chunk is a nonnegative real number, on every head and row. -/
def XiReal (m : (ℓ : Loc nD τ sig) → Buf (Elt Ideal) ℓ) (c : Dev nD) : Prop := ∀ h i, 0 ≤ argXi m c h i ∧ argXi m c h i ≠ ⊤

theorem oOf_blk (hxi : XiReal m c) (n : Fin 32) (j : Fin 128) :
    oOf (iblk m c 0 t) (iblk m c 1 t) (iblk m c 2 t) (iblk m c 4 t) (iblk m c 5 t) (iblk m c 6 t) (iblk m c 7 t) n j
      = retained (argX m c) (argDec m c) (argZeta m c) (argXi m c) (argCd m c) (smp t) (hd t) n j := by
  funext e
  unfold oOf stOf retained state
  simp only [blk_q, blk_k, blk_v, blk_dec, blk_zeta, blk_xi, blk_cd]
  rw [crossAt_row _ _ _ (hxi _ _).1 (hxi _ _).2]

end blocks

/-- The array the kernel leaves. -/
def result (i : S8192x2048.Idx) : EReal := resultAt (argX m c) (argDec m c) (argZeta m c) (argXi m c) (argCd m c) (i 0) (i 1)

theorem point (hxi : XiReal m c) (t : Fin cfg0.N) (n : Fin 32) (j : Fin 128) (e : Fin 256) :
    outsAt0 m c t (ix2 (rowAt n j) e)
      = resultAt (argX m c) (argDec m c) (argZeta m c) (argXi m c) (argCd m c) (row (smp t) n j) ⟨(hd t).val * 256 + e.val, by have := (hd t).isLt; omega⟩ := by
  rw [resultAt_row]
  show out0_A_8 _ _ _ _ _ _ _ _ _ _ _ _ _ _ _ _ _ _ _ _ _ _ _ _ _ _ _ _ _ _ _ = _
  rw [out_apply, oOf_blk m c t hxi, blk_g]

theorem final (hxi : XiReal m c) : (dats m 0 c).arrAt 8 cfg0.N = result m c := by
  refine (dats m 0 c).arrAt_eq_of_covers 8 _ (by decide +kernel) fun t hf y => ?_
  blk_simp
  rw [after0_8]
  have h0 : (y 0).val < 4096 := (y 0).isLt
  have h1 : (y 1).val < 256 := (y 1).isLt
  have hy : y = ix2 (rowAt ⟨(y 0).val / 128, by omega⟩ ⟨(y 0).val % 128, by omega⟩) (⟨(y 1).val, h1⟩ : Fin 256) := by
    funext a
    match a with
    | ⟨0, _⟩ => exact Fin.ext (Nat.div_add_mod (y 0).val 128).symm
    | ⟨1, _⟩ => rfl
  have v0 : ((win0_8.blk t).view.emb y 0).val = (grid0.coords t 0).val * 4096 + (y 0).val := by blk_simp [idx_o t]
  have v1 : ((win0_8.blk t).view.emb y 1).val = (grid0.coords t 1).val * 256 + (y 1).val := by blk_simp [idx_o t]
  have e0 : ((win0_8.blk t).view.emb y 0 : Fin 8192) = row (smp t) ⟨(y 0).val / 128, by omega⟩ ⟨(y 0).val % 128, by omega⟩ := by
    refine Fin.ext (v0.trans ?_)
    show _ = (grid0.coords t 0).val * 4096 + (y 0).val / 128 * 128 + (y 0).val % 128
    omega
  have e1 : ((win0_8.blk t).view.emb y 1 : Fin 2048) = ⟨(hd t).val * 256 + (y 1).val, by have : (hd t).val < 8 := (hd t).isLt; show (hd t).val * 256 + (y 1).val < 2048; omega⟩ :=
    Fin.ext v1
  refine Eq.trans ?_ ((point m c hxi t ⟨(y 0).val / 128, by omega⟩ ⟨(y 0).val % 128, by omega⟩ ⟨(y 1).val, h1⟩).trans ?_)
  · exact congrArg (outsAt0 m c t) hy
  · unfold result
    rw [e0, e1]
    rfl

variable (ρ : Dev nD → PrngReg)

/-- The kernel's run: its result is the retention, its arguments are as they were. -/
theorem runs (hxi : ∀ c, XiReal m c) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c (hxi c)), (h c).2⟩) (Cert.RetIdeal.Value.run_blocks m ρ)

end Cert.RetIdeal.Chunks

end
-- ==== Proof.RefChunks.lean ====
module

public import proofs.«01_k».proof.Proof.Gen.RetRefIdeal.Run
public import Idealize.ShloMosaic.Lib.Pointwise

/-! The retention reference in named steps: the projections cut into heads and chunks, the mix of the scores inside a
chunk with the state before it, the norm over a head's columns, and the gate. -/

@[expose] public section

set_option maxRecDepth 16384

noncomputable section

namespace Cert.RetRefIdeal.Chunks

open Cert.RetRefIdeal Cert.RetRefIdeal.Gen Cert.RetRefIdeal.Value
open Idealize.ShloMosaic Idealize.ShloMosaic.TcCoe
open Idealize.SL.Sem

variable {F : FTy → Type} [FloatOps F]

/-- A projection of eight heads of 128 columns, by sample, head, chunk, row of the chunk and column of the head. -/
def splitQ (y : Vec F S8192x1024 .bf16) : FVec F S2x8x32x128x128 .f32 :=
  transpose S2x8x32x128x128 [0, 3, 1, 2, 4] (shapeCast S2x32x128x8x128 (shapeCast S2x4096x8x128 (extf .f32 y bitsLt_bf16_f32)
    shapeCasts_S8192x1024_S2x4096x8x128) shapeCasts_S2x4096x8x128_S2x32x128x8x128) transposes_S2x32x128x8x128_S2x8x32x128x128_0_3_1_2_4

/-- The same of eight heads of 256 columns. -/
def splitV (y : Vec F S8192x2048 .bf16) : FVec F S2x8x32x128x256 .f32 :=
  transpose S2x8x32x128x256 [0, 3, 1, 2, 4] (shapeCast S2x32x128x8x256 (shapeCast S2x4096x8x256 (extf .f32 y bitsLt_bf16_f32)
    shapeCasts_S8192x2048_S2x4096x8x256) shapeCasts_S2x4096x8x256_S2x32x128x8x256) transposes_S2x32x128x8x256_S2x8x32x128x256_0_3_1_2_4

def queries (x : Vec F S8192x13312 .bf16) : FVec F S2x8x32x128x128 .f32 :=
  splitQ (extractStridedSlice S8192x1024 ![0, 3072] x slices_S8192x13312_S8192x1024_0_3072)
def keys (x : Vec F S8192x13312 .bf16) : FVec F S2x8x32x128x128 .f32 :=
  splitQ (extractStridedSlice S8192x1024 ![0, 4096] x slices_S8192x13312_S8192x1024_0_4096)
def values (x : Vec F S8192x13312 .bf16) : FVec F S2x8x32x128x256 .f32 :=
  splitV (extractStridedSlice S8192x2048 ![0, 5120] x slices_S8192x13312_S8192x2048_0_5120)

/-- What each chunk adds to the state. -/
def added (x : Vec F S8192x13312 .bf16) (zeta : FVec F S8x128 .f32) : FVec F S2x8x32x128x256 .f32 :=
  Host.dotGeneral dot_S2x8x32x128x128_S2x8x32x128x256_S2x8x32x128x256_3_3_4_4_012_012 none
    (mulf (keys x) (broadcastInDim S2x8x32x128x128 ![0, 1, 2, 3, 4] bcast_S1x8x1x128x1_S2x8x32x128x128_0_1_2_3_4
      (broadcastInDim S1x8x1x128x1 ![1, 2, 3, 4] bcast_S8x1x128x1_S1x8x1x128x1_1_2_3_4
        (broadcastInDim S8x1x128x1 ![0, 2] bcast_S8x128_S8x1x128x1_0_2 zeta)))) (values x)

/-- The scores inside each chunk, by the decay between their rows. -/
def scores (x : Vec F S8192x13312 .bf16) (dec : FVec F S8x128x128 .f32) : FVec F S2x8x32x128x128 .f32 :=
  mulf (Host.dotGeneral dot_S2x8x32x128x128_S2x8x32x128x128_S2x8x32x128x128_4_4_3_3_012_012 none (queries x) (keys x))
    (broadcastInDim S2x8x32x128x128 ![0, 1, 2, 3, 4] bcast_S1x8x1x128x128_S2x8x32x128x128_0_1_2_3_4
      (broadcastInDim S1x8x1x128x128 ![1, 2, 3, 4] bcast_S8x1x128x128_S1x8x1x128x128_1_2_3_4
        (broadcastInDim S8x1x128x128 ![0, 2, 3] bcast_S8x128x128_S8x1x128x128_0_2_3 dec)))

/-- What the state before each chunk gives, by the decay from there. -/
def crossed (x : Vec F S8192x13312 .bf16) (xi : FVec F S8x128 .f32) (prev : FVec F S32x2x8x128x256 .f32) :
    FVec F S2x8x32x128x256 .f32 :=
  mulf (Host.dotGeneral dot_S2x8x32x128x128_S2x8x32x128x256_S2x8x32x128x256_4_3_3_4_012_012 none (queries x)
      (transpose S2x8x32x128x256 [1, 2, 0, 3, 4] prev transposes_S32x2x8x128x256_S2x8x32x128x256_1_2_0_3_4))
    (broadcastInDim S2x8x32x128x256 ![0, 1, 2, 3, 4] bcast_S1x8x1x128x1_S2x8x32x128x256_0_1_2_3_4
      (broadcastInDim S1x8x1x128x1 ![1, 2, 3, 4] bcast_S8x1x128x1_S1x8x1x128x1_1_2_3_4
        (broadcastInDim S8x1x128x1 ![0, 2] bcast_S8x128_S8x1x128x1_0_2 xi)))

def mixed (x : Vec F S8192x13312 .bf16) (dec : FVec F S8x128x128 .f32) (xi : FVec F S8x128 .f32)
    (prev : FVec F S32x2x8x128x256 .f32) : FVec F S2x8x32x128x256 .f32 :=
  addf (Host.dotGeneral dot_S2x8x32x128x128_S2x8x32x128x256_S2x8x32x128x256_4_3_3_4_012_012 none (scores x dec) (values x))
    (crossed x xi prev)

/-- The mean over a head's columns. -/
def headMean (o : FVec F S2x8x32x128x256 .f32) : FVec F S2x8x32x128x1 .f32 :=
  Host.divf (broadcastInDim S2x8x32x128x1 ![0, 1, 2, 3] bcast_S2x8x32x128_S2x8x32x128x1_0_1_2_3
      (Host.reduceAdd o (constant S_ .f32 0x00000000#32) reducesTo_S2x8x32x128x256_S2x8x32x128_d4 h_S_))
    (broadcastInDim S2x8x32x128x1 ![] bcast_S_S2x8x32x128x1 (constant S_ .f32 0x43800000#32))

def lessMean (o : FVec F S2x8x32x128x256 .f32) : FVec F S2x8x32x128x256 .f32 :=
  subf o (broadcastInDim S2x8x32x128x256 ![0, 1, 2, 3, 4] bcast_S2x8x32x128x1_S2x8x32x128x256_0_1_2_3_4 (headMean o))

def headNorm (o : FVec F S2x8x32x128x256 .f32) : FVec F S2x8x32x128x256 .f32 :=
  mulf (lessMean o) (broadcastInDim S2x8x32x128x256 ![0, 1, 2, 3, 4] bcast_S2x8x32x128x1_S2x8x32x128x256_0_1_2_3_4
    (Host.rsqrt (addf (headMean (mulf (lessMean o) (lessMean o)))
      (broadcastInDim S2x8x32x128x1 ![] bcast_S_S2x8x32x128x1 (constant S_ .f32 0x358637BD#32)))))

/-- The heads side by side again. -/
def joined (o : FVec F S2x8x32x128x256 .f32) : FVec F S2x4096x2048 .f32 :=
  shapeCast S2x4096x2048 (transpose S2x32x128x8x256 [0, 2, 3, 1, 4] o transposes_S2x8x32x128x256_S2x32x128x8x256_0_2_3_1_4)
    shapeCasts_S2x32x128x8x256_S2x4096x2048

def gates (x : Vec F S8192x13312 .bf16) : FVec F S2x4096x2048 .f32 :=
  shapeCast S2x4096x2048 (extf .f32 (extractStridedSlice S8192x2048 ![0, 7168] x slices_S8192x13312_S8192x2048_0_7168) bitsLt_bf16_f32)
    shapeCasts_S8192x2048_S2x4096x2048

def silu (g : FVec F S2x4096x2048 .f32) : FVec F S2x4096x2048 .f32 :=
  mulf g (Host.divf (broadcastInDim S2x4096x2048 ![] bcast_S_S2x4096x2048 (constant S_ .f32 0x3F800000#32))
    (addf (broadcastInDim S2x4096x2048 ![] bcast_S_S2x4096x2048 (constant S_ .f32 0x3F800000#32)) (Host.exp (Host.negf g))))

def result (x : Vec F S8192x13312 .bf16) (o : FVec F S2x8x32x128x256 .f32) : Vec F S8192x2048 .bf16 :=
  truncf .bf16 (shapeCast S8192x2048 (mulf (joined (headNorm o)) (silu (gates x))) shapeCasts_S2x4096x2048_S8192x2048) bitsLt_bf16_f32

end Cert.RetRefIdeal.Chunks

end
-- ==== Proof.RefLoop.lean ====
module

public import proofs.«01_k».proof.Proof.RefChunks
public import Idealize.ShloMosaic.Lib.DynamicIndex
public import Idealize.ShloMosaic.Lib.Tactic

@[expose] public section

set_option maxRecDepth 16384

noncomputable section

namespace Cert.RetRefIdeal.Chunks

open Cert.RetRefIdeal Cert.RetRefIdeal.Gen Cert.RetRefIdeal.Value
open Idealize.ShloMosaic Idealize.ShloMosaic.TcCoe Idealize.ShloMosaic.StableHlo Idealize.ShloMosaic.Tactic
open Idealize.SL.Sem

variable {F : FTy → Type} [FloatOps F]

/-- The counter as the loop's slices take it: the chunk on the first axis. -/
def starts (ctr : IVec S_ 32) : Fin 5 → Int :=
  fun k => ((![ctr, constantI S_ 32 0#32, constantI S_ 32 0#32, constantI S_ 32 0#32, constantI S_ 32 0#32] :
    Fin 5 → IVec S_ 32) k (Shape.Idx.first h_S_)).toInt

/-- The state after a chunk. -/
def nextState (kv : FVec F S32x2x8x128x256 .f32) (cd : FVec F S1x8x1x1 .f32) (ctr : IVec S_ 32)
    (st : FVec F S2x8x128x256 .f32) : FVec F S2x8x128x256 .f32 :=
  addf (mulf (broadcastInDim S2x8x128x256 ![0, 1, 2, 3] bcast_S1x8x1x1_S2x8x128x256_0_1_2_3 cd) st)
    (shapeCast S2x8x128x256 (Host.dynamicSlice S1x2x8x128x256 kv (starts ctr) sliceFits_S32x2x8x128x256_S1x2x8x128x256)
      shapeCasts_S1x2x8x128x256_S2x8x128x256)

/-- The states kept so far, with the state before this chunk put in its place. -/
def nextStack (ctr : IVec S_ 32) (st : FVec F S2x8x128x256 .f32) (prevs : FVec F S32x2x8x128x256 .f32) :
    FVec F S32x2x8x128x256 .f32 :=
  Host.dynamicUpdateSlice prevs (broadcastInDim S1x2x8x128x256 ![1, 2, 3, 4] bcast_S2x8x128x256_S1x2x8x128x256_1_2_3_4 st)
    (starts ctr) updateFits_S32x2x8x128x256_S1x2x8x128x256

theorem step3_eq (V : Valuation τ sig (Elt F)) : step_main_v19_3 V = nextState (V (Proc.devRef .tc main_v19_0))
    (V (Proc.devRef .tc main_v19_1)) (V (Proc.devRef .tc main_v19_2)) (V (Proc.devRef .tc main_v19_3)) := rfl

theorem step4_eq (V : Valuation τ sig (Elt F)) : step_main_v19_4 V = nextStack (V (Proc.devRef .tc main_v19_2))
    (V (Proc.devRef .tc main_v19_3)) (V (Proc.devRef .tc main_v19_4)) := by
  sl_kernel_rfl

theorem starts_eq (k : Fin 32) (a : Fin 5) : starts (fun _ => BitVec.ofNat 32 k.val) a = ((![k.val, 0, 0, 0, 0] : Fin 5 → ℕ) a : Int) := by
  revert k a; decide +kernel

theorem clamp_eq (k : Fin 32) (ht : S1x2x8x128x256.rank = S32x2x8x128x256.rank) (a : Fin 5) :
    Host.clampedStart S32x2x8x128x256 S1x2x8x128x256 ht (starts fun _ => BitVec.ofNat 32 k.val) a
      = (![k.val, 0, 0, 0, 0] : Fin 5 → ℕ) a :=
  Host.clampedStart_of_le ht _ a _ (starts_eq k a) (by
    have := k.isLt
    fin_cases a <;> first | (show k.val + 1 ≤ 32; omega) | exact Nat.le_of_eq (Nat.zero_add _))

section
variable (k : Fin 32) (ht : S1x2x8x128x256.rank = S32x2x8x128x256.rank)

theorem clamp_zero : Host.clampedStart S32x2x8x128x256 S1x2x8x128x256 ht (starts fun _ => BitVec.ofNat 32 k.val) 0 = k.val := clamp_eq k ht 0
theorem clamp_one : Host.clampedStart S32x2x8x128x256 S1x2x8x128x256 ht (starts fun _ => BitVec.ofNat 32 k.val) 1 = 0 := clamp_eq k ht 1
theorem clamp_two : Host.clampedStart S32x2x8x128x256 S1x2x8x128x256 ht (starts fun _ => BitVec.ofNat 32 k.val) 2 = 0 := clamp_eq k ht 2
theorem clamp_three : Host.clampedStart S32x2x8x128x256 S1x2x8x128x256 ht (starts fun _ => BitVec.ofNat 32 k.val) 3 = 0 := clamp_eq k ht 3
theorem clamp_four : Host.clampedStart S32x2x8x128x256 S1x2x8x128x256 ht (starts fun _ => BitVec.ofNat 32 k.val) 4 = 0 := clamp_eq k ht 4
end

theorem nextState_apply (kv : FVec Ideal S32x2x8x128x256 .f32) (cd : FVec Ideal S1x8x1x1 .f32) (k : Fin 32)
    (st : FVec Ideal S2x8x128x256 .f32) (b : Fin 2) (h : Fin 8) (d : Fin 128) (e : Fin 256) :
    nextState kv cd (fun _ => BitVec.ofNat 32 k.val) st (ix4 b h d e)
      = cd (ix4 (0 : Fin 1) h (0 : Fin 1) (0 : Fin 1)) * st (ix4 b h d e) + kv (ix5 k b h d e) := by
  pointwise [nextState]
  simp only [clamp_zero, clamp_one, clamp_two, clamp_three, clamp_four, Nat.zero_add, Nat.add_zero]

theorem nextStack_apply (k : Fin 32) (st : FVec Ideal S2x8x128x256 .f32) (prevs : FVec Ideal S32x2x8x128x256 .f32)
    (n : Fin 32) (b : Fin 2) (h : Fin 8) (d : Fin 128) (e : Fin 256) :
    nextStack (fun _ => BitVec.ofNat 32 k.val) st prevs (ix5 n b h d e)
      = if n = k then st (ix4 b h d e) else prevs (ix5 n b h d e) := by
  pointwise [nextStack]
  simp only [clamp_zero, clamp_one, clamp_two, clamp_three, clamp_four, Nat.zero_le, Nat.sub_zero, and_true]
  by_cases hnk : n = k
  · rw [if_pos hnk, dif_pos (by rw [hnk]; omega)]
  · rw [if_neg hnk, dif_neg (fun hh => hnk (Fin.ext (by omega)))]

variable (m : (ℓ : Loc nD τ sig) → Buf (Elt F) ℓ)
theorem entry_v19_0 (c : Dev nD) :
    entryContents preI m c (Proc.devRef .tc main_v19_0)
      = transpose S32x2x8x128x256 [2, 0, 1, 3, 4] (added (m ((c.tc : Thread nD τ).loc main_arg0)) (m ((c.tc : Thread nD τ).loc main_arg2)))
          transposes_S2x8x32x128x256_S32x2x8x128x256_2_0_1_3_4 := by
  simp only [entryContents, afterL_cons, afterL_nil]
  after_results_entrywise [cast_eq]

theorem entry_v19_1 (c : Dev nD) : entryContents preI m c (Proc.devRef .tc main_v19_1)
      = broadcastInDim S1x8x1x1 ![1] bcast_S8_S1x8x1x1_1 (m ((c.tc : Thread nD τ).loc main_arg4)) := by
  simp only [entryContents, afterL_cons, afterL_nil]
  after_results_entrywise [cast_eq]

theorem entry_v19_3 (c : Dev nD) : entryContents preI m c (Proc.devRef .tc main_v19_3)
      = broadcastInDim S2x8x128x256 ![] bcast_S_S2x8x128x256 (constant S_ .f32 0x00000000#32) := by
  simp only [entryContents, afterL_cons, afterL_nil]
  after_results_entrywise [cast_eq]

end Cert.RetRefIdeal.Chunks

end
-- ==== Proof.RefOut.lean ====
module

public import proofs.«01_k».proof.Proof.RefChunks

@[expose] public section

set_option maxRecDepth 16384

noncomputable section

namespace Cert.RetRefIdeal.Chunks

open Cert.RetRefIdeal Cert.RetRefIdeal.Gen Cert.RetRefIdeal.Value
open Idealize.ShloMosaic Idealize.ShloMosaic.TcCoe
open Idealize.SL.Sem

variable {F : FTy → Type} [FloatOps F]

theorem out_eq (V0 : Valuation τ sig (Elt F)) : out_main_v74 V0
    = result (V0 (Proc.devRef .tc main_arg0)) (mixed (V0 (Proc.devRef .tc main_arg0)) (V0 (Proc.devRef .tc main_arg1))
        (V0 (Proc.devRef .tc main_arg3)) (V0 (Proc.devRef .tc main_v19_4))) := rfl

end Cert.RetRefIdeal.Chunks

end
-- ==== Proof.RefValue.lean ====
module

public import proofs.«01_k».proof.Proof.RefLoop
public import proofs.«01_k».proof.Proof.RefOut
public import proofs.«01_k».proof.Proof.Spec

@[expose] public section

set_option maxRecDepth 16384

noncomputable section

namespace Cert.RetRefIdeal.Chunks

open Cert.RetRefIdeal Cert.RetRefIdeal.Gen Cert.RetRefIdeal.Value
open Idealize.ShloMosaic Idealize.ShloMosaic.TcCoe Idealize.ShloMosaic.StableHlo Retention
open Idealize.SL.Sem

/-! ## At one place, over the extended reals -/

theorem splitQ_apply (y : Vec Ideal S8192x1024 .bf16) (b : Fin 2) (h : Fin 8) (n : Fin 32) (j d : Fin 128) :
    splitQ y (ix5 b h n j d) = y (ix2 ⟨b.val * 4096 + n.val * 128 + j.val, by omega⟩ ⟨h.val * 128 + d.val, by omega⟩) := by
  pointwise [splitQ]

theorem added_apply (x : Vec Ideal S8192x13312 .bf16) (zeta : FVec Ideal S8x128 .f32)  (b : Fin 2) (h : Fin 8) (n : Fin 32) (d : Fin 128) (e : Fin 256) :
    added x zeta (ix5 b h n d e) = ∑ j : Fin 128, keys x (ix5 b h n j d) * zeta (ix2 h j) * values x (ix5 b h n j e) := by
  pointwise [added]
theorem mixed_apply (x : Vec Ideal S8192x13312 .bf16) (dec : FVec Ideal S8x128x128 .f32) (xi : FVec Ideal S8x128 .f32)
    (prev : FVec Ideal S32x2x8x128x256 .f32)  (b : Fin 2) (h : Fin 8) (n : Fin 32) (i : Fin 128) (e : Fin 256) :
    mixed x dec xi prev (ix5 b h n i e)
      = (∑ m : Fin 128, (∑ d : Fin 128, queries x (ix5 b h n i d) * keys x (ix5 b h n m d)) * dec (ix3 h i m) * values x (ix5 b h n m e))
        + (∑ d : Fin 128, queries x (ix5 b h n i d) * prev (ix5 n b h d e)) * xi (ix2 h i) := by
  pointwise [mixed, crossed, scores]
theorem headNorm_apply (o : FVec Ideal S2x8x32x128x256 .f32) (b : Fin 2) (h : Fin 8) (n : Fin 32) (i : Fin 128) (e : Fin 256) :
    headNorm o (ix5 b h n i e) = normAt (fun e => o (ix5 b h n i e)) e := by
  unfold normAt
  pointwise [headNorm, lessMean, headMean]
theorem result_apply (x : Vec Ideal S8192x13312 .bf16) (o : FVec Ideal S2x8x32x128x256 .f32) (r : Fin 8192) (l : Fin 2048) :
    result x o (ix2 r l) = headNorm o (ix5 ⟨r.val / 4096, by omega⟩ ⟨l.val / 256, by omega⟩ ⟨r.val % 4096 / 128, by omega⟩
      ⟨r.val % 4096 % 128, by omega⟩ ⟨l.val % 256, by omega⟩) * (x (ix2 r ⟨7168 + l.val, by omega⟩)
        * Ideal.div 1 (1 + Ideal.exp (-x (ix2 r ⟨7168 + l.val, by omega⟩)))) := by
  pointwise [result, joined, silu, gates]

theorem splitV_apply (y : Vec Ideal S8192x2048 .bf16) (b : Fin 2) (h : Fin 8) (n : Fin 32) (j : Fin 128) (e : Fin 256) :
    splitV y (ix5 b h n j e) = y (ix2 ⟨b.val * 4096 + n.val * 128 + j.val, by omega⟩ ⟨h.val * 256 + e.val, by omega⟩) := by
  pointwise [splitV]

theorem queries_apply (x : Vec Ideal S8192x13312 .bf16) (b : Fin 2) (h : Fin 8) (n : Fin 32) (j d : Fin 128) :
    queries x (ix5 b h n j d) = query (fun r l => x (ix2 r l)) b h n j d := by
  unfold queries
  rw [splitQ_apply]
  unfold query row
  pointwise

theorem keys_apply (x : Vec Ideal S8192x13312 .bf16) (b : Fin 2) (h : Fin 8) (n : Fin 32) (j d : Fin 128) :
    keys x (ix5 b h n j d) = key (fun r l => x (ix2 r l)) b h n j d := by
  unfold keys
  rw [splitQ_apply]
  unfold key row
  pointwise

theorem values_apply (x : Vec Ideal S8192x13312 .bf16) (b : Fin 2) (h : Fin 8) (n : Fin 32) (j : Fin 128) (e : Fin 256) :
    values x (ix5 b h n j e) = value (fun r l => x (ix2 r l)) b h n j e := by
  unfold values
  rw [splitV_apply]
  unfold value row
  pointwise

/-! ## The loop -/

variable (m : (ℓ : Loc nD τ sig) → Buf (Elt Ideal) ℓ) (c : Dev nD)

abbrev argX (r : Fin 8192) (l : Fin 13312) : EReal := m ((c.tc : Thread nD τ).loc main_arg0) (ix2 r l)
abbrev argDec (h : Fin 8) (i j : Fin 128) : EReal := m ((c.tc : Thread nD τ).loc main_arg1) (ix3 h i j)
abbrev argZeta (h : Fin 8) (i : Fin 128) : EReal := m ((c.tc : Thread nD τ).loc main_arg2) (ix2 h i)
abbrev argXi (h : Fin 8) (i : Fin 128) : EReal := m ((c.tc : Thread nD τ).loc main_arg3) (ix2 h i)
abbrev argCd (h : Fin 8) : EReal := m ((c.tc : Thread nD τ).loc main_arg4) (ix1 h)

/-- The loop's contents before trip `k`. -/
abbrev before (k : ℕ) : Valuation τ sig (Elt Ideal) := STEP^[k] (entryContents preI m c)

theorem before_succ (k : ℕ) : before m c (k + 1) = STEP (before m c k) := Function.iterate_succ_apply' ..

/-- Chunk states, as the loop's operand holds them. -/
def addedT : FVec Ideal S32x2x8x128x256 .f32 :=
  transpose S32x2x8x128x256 [2, 0, 1, 3, 4] (added (m ((c.tc : Thread nD τ).loc main_arg0)) (m ((c.tc : Thread nD τ).loc main_arg2)))
    transposes_S2x8x32x128x256_S32x2x8x128x256_2_0_1_3_4

def decayB : FVec Ideal S1x8x1x1 .f32 := broadcastInDim S1x8x1x1 ![1] bcast_S8_S1x8x1x1_1 (m ((c.tc : Thread nD τ).loc main_arg4))

theorem before_kv (k : ℕ) : before m c k (Proc.devRef .tc main_v19_0) = addedT m c := by
  induction k with
  | zero => exact entry_v19_0 m c
  | succ k ih => rw [before_succ, STEP_main_v19_0, ih]

theorem before_cd (k : ℕ) : before m c k (Proc.devRef .tc main_v19_1) = decayB m c := by
  induction k with
  | zero => exact entry_v19_1 m c
  | succ k ih => rw [before_succ, STEP_main_v19_1, ih]

theorem before_ctr (k : ℕ) : before m c k (Proc.devRef .tc main_v19_2) = fun _ => (BitVec.ofNat 32 k : BitVec 32) := by
  induction k with
  | zero => exact ctr_entry m c
  | succ k ih =>
    rw [before_succ, STEP_main_v19_2]
    unfold step_main_v19_2
    rw [ih]
    funext i
    show BitVec.ofNat 32 k + 1#32 = BitVec.ofNat 32 (k + 1)
    rw [BitVec.ofNat_add]

/-- The state and the kept states, at their types. -/
def stateB (k : ℕ) : FVec Ideal S2x8x128x256 .f32 := before m c k (Proc.devRef .tc main_v19_3)
def stackB (k : ℕ) : FVec Ideal S32x2x8x128x256 .f32 := before m c k (Proc.devRef .tc main_v19_4)

theorem stateB_succ (k : Fin 32) : stateB m c (k.val + 1) = nextState (addedT m c) (decayB m c) (fun _ => BitVec.ofNat 32 k.val) (stateB m c k.val) := by
  unfold stateB
  rw [before_succ, STEP_main_v19_3, step3_eq, before_kv, before_cd, before_ctr]
  rfl

theorem stackB_succ (k : Fin 32) : stackB m c (k.val + 1) = nextStack (fun _ => BitVec.ofNat 32 k.val) (stateB m c k.val) (stackB m c k.val) := by
  unfold stackB stateB
  rw [before_succ, STEP_main_v19_4, step4_eq, before_ctr]
  rfl

theorem addedT_apply (b : Fin 2) (h : Fin 8) (n : Fin 32) (d : Fin 128) (e : Fin 256) :
    addedT m c (ix5 n b h d e) = addAt (key (argX m c) b h n) (argZeta m c h) (value (argX m c) b h n) d e := by
  unfold addAt argX argZeta
  simp only [← keys_apply, ← values_apply]
  pointwise [addedT, added]

theorem stateB_apply (b : Fin 2) (h : Fin 8) (d : Fin 128) (e : Fin 256) (k : ℕ) (hk : k ≤ 32) :
    stateB m c k (ix4 b h d e) = state (argX m c) (argZeta m c) (argCd m c) b h k d e := by
  induction k with
  | zero =>
    unfold stateB before
    rw [Function.iterate_zero, id_eq, entry_v19_3]
    unfold state stateAt
    pointwise
  | succ k ih =>
    have hk' : k < 32 := hk
    rw [stateB_succ m c ⟨k, hk'⟩, nextState_apply, ih (by omega), addedT_apply]
    unfold state
    rw [stateAt, dif_pos hk']
    congr 2
    pointwise [decayB]

theorem stackB_apply (b : Fin 2) (h : Fin 8) (d : Fin 128) (e : Fin 256) (k : ℕ) (hk : k ≤ 32) (n : Fin 32) (hn : n.val < k) :
    stackB m c k (ix5 n b h d e) = state (argX m c) (argZeta m c) (argCd m c) b h n.val d e := by
  induction k with
  | zero => omega
  | succ k ih =>
    have hk' : k < 32 := hk
    rw [stackB_succ m c ⟨k, hk'⟩, nextStack_apply]
    by_cases hnk : n = ⟨k, hk'⟩
    · rw [if_pos hnk, stateB_apply m c b h d e k (by omega), hnk]
    · rw [if_neg hnk, ih (by omega) (by have : n.val ≠ k := fun h => hnk (Fin.ext h); omega)]

/-! ## The result -/

theorem mixed_row (b : Fin 2) (h : Fin 8) (n : Fin 32) (i : Fin 128) (e : Fin 256) :
    mixed (m ((c.tc : Thread nD τ).loc main_arg0)) (m ((c.tc : Thread nD τ).loc main_arg1)) (m ((c.tc : Thread nD τ).loc main_arg3)) (stackB m c 32)
        (ix5 b h n i e)
      = retained (argX m c) (argDec m c) (argZeta m c) (argXi m c) (argCd m c) b h n i e := by
  rw [mixed_apply]
  simp only [queries_apply, keys_apply, values_apply, fun d => stackB_apply m c b h d e 32 le_rfl n n.isLt]
  rfl

theorem result_eq (i : S8192x2048.Idx) : out_main_v74 (before m c 32) i
    = resultAt (argX m c) (argDec m c) (argZeta m c) (argXi m c) (argCd m c) (i 0) (i 1) := by
  obtain ⟨r, l, rfl⟩ : ∃ (r : Fin 8192) (l : Fin 2048), i = ix2 r l := ⟨i 0, i 1, by idx_vars i⟩
  rw [out_eq, show before m c 32 (Proc.devRef .tc main_arg0) = m ((c.tc : Thread nD τ).loc main_arg0) from iter_main_arg0 m c 32,
    show before m c 32 (Proc.devRef .tc main_arg1) = m ((c.tc : Thread nD τ).loc main_arg1) from iter_main_arg1 m c 32,
    show before m c 32 (Proc.devRef .tc main_arg3) = m ((c.tc : Thread nD τ).loc main_arg3) from iter_main_arg3 m c 32]
  refine (result_apply _ _ r l).trans ?_
  rw [headNorm_apply]
  unfold resultAt siluAt
  exact congrArg (fun f => normAt f _ * _) (funext fun e => mixed_row m c _ _ _ _ e)

end Cert.RetRefIdeal.Chunks

end
-- ==== Proof.MergeValue.lean ====
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Quiescent

/-! The merge of the two branches: each branch projected and gated, and the two added. -/

@[expose] public section

set_option maxRecDepth 16384

noncomputable section

namespace Merged
open Idealize.ShloMosaic

def sigmoidAt (g : EReal) : EReal := Ideal.div 1 (1 + Ideal.exp (-g))

/-- One entry of the merge. -/
def mergedAt (ya : Fin 8192 → Fin 1024 → EReal) (yr : Fin 8192 → Fin 2048 → EReal) (proj : Fin 8192 → Fin 13312 → EReal)
    (wa : Fin 1024 → Fin 2048 → EReal) (wb : Fin 2048 → Fin 2048 → EReal) (r : Fin 8192) (l : Fin 2048) : EReal :=
  sigmoidAt (proj r ⟨9216 + l.val, by omega⟩) * (∑ k, ya r k * wa k l)
    + sigmoidAt (proj r ⟨11264 + l.val, by omega⟩) * (∑ k, yr r k * wb k l)

end Merged

namespace Cert.MergeIdeal.Whole

open Cert.MergeIdeal Cert.MergeIdeal.Gen Merged
open Idealize.ShloMosaic Idealize.ShloMosaic.TcCoe
open Idealize.SL.Sem

theorem idx_ya : ∀ t : Fin cfg0.N, win0_0.index t = ![(grid0.coords t 0).val, 0] :=
  (by decide +kernel : ∀ t : Fin grid0.N, win0_0.index t = ![(grid0.coords t 0).val, 0])
theorem idx_yr : ∀ t : Fin cfg0.N, win0_1.index t = ![(grid0.coords t 0).val, 0] :=
  (by decide +kernel : ∀ t : Fin grid0.N, win0_1.index t = ![(grid0.coords t 0).val, 0])
theorem idx_ga : ∀ t : Fin cfg0.N, win0_2.index t = ![(grid0.coords t 0).val, 9 + (grid0.coords t 1).val] :=
  (by decide +kernel : ∀ t : Fin grid0.N, win0_2.index t = ![(grid0.coords t 0).val, 9 + (grid0.coords t 1).val])
theorem idx_gb : ∀ t : Fin cfg0.N, win0_3.index t = ![(grid0.coords t 0).val, 11 + (grid0.coords t 1).val] :=
  (by decide +kernel : ∀ t : Fin grid0.N, win0_3.index t = ![(grid0.coords t 0).val, 11 + (grid0.coords t 1).val])
theorem idx_wa : ∀ t : Fin cfg0.N, win0_4.index t = ![0, (grid0.coords t 1).val] :=
  (by decide +kernel : ∀ t : Fin grid0.N, win0_4.index t = ![0, (grid0.coords t 1).val])
theorem idx_wb : ∀ t : Fin cfg0.N, win0_5.index t = ![0, (grid0.coords t 1).val] :=
  (by decide +kernel : ∀ t : Fin grid0.N, win0_5.index t = ![0, (grid0.coords t 1).val])
theorem idx_o : ∀ t : Fin cfg0.N, win0_6.index t = ![(grid0.coords t 0).val, (grid0.coords t 1).val] :=
  (by decide +kernel : ∀ t : Fin grid0.N, win0_6.index t = ![(grid0.coords t 0).val, (grid0.coords t 1).val])

variable (m : (ℓ : Loc nD τ sig) → Buf (Elt Ideal) ℓ) (c : Dev nD)

/-- The array the kernel leaves. -/
def result (i : S8192x2048.Idx) : EReal :=
  mergedAt (fun r k => m ((c.tc : Thread nD τ).loc main_arg0) (ix2 r k)) (fun r k => m ((c.tc : Thread nD τ).loc main_arg1) (ix2 r k))
    (fun r k => m ((c.tc : Thread nD τ).loc main_arg2) (ix2 r k)) (fun k l => m ((c.tc : Thread nD τ).loc main_arg3) (ix2 k l))
    (fun k l => m ((c.tc : Thread nD τ).loc main_arg4) (ix2 k l)) (i 0) (i 1)

theorem out_apply (x0 : Vec Ideal S1024x1024 .bf16) (x1 : Vec Ideal S1024x2048 .bf16) (x2 x3 x4 : Vec Ideal S1024x1024 .bf16)
    (x5 : Vec Ideal S2048x1024 .bf16) (p q : Fin 1024) :
    out0_6 x0 x1 x2 x3 x4 x5 (ix2 p q)
      = sigmoidAt (x2 (ix2 p q)) * (∑ k, x0 (ix2 p k) * x4 (ix2 k q)) + sigmoidAt (x3 (ix2 p q)) * (∑ k, x1 (ix2 p k) * x5 (ix2 k q)) := by
  unfold sigmoidAt
  frame_out [out0_6]
  pointwise [k0_pay1]
  simp only [zero_sub]

theorem final : (dats m 0 c).arrAt 6 cfg0.N = result m c := by
  refine (dats m 0 c).arrAt_eq_of_covers 6 _ (by decide +kernel) fun t hf y => ?_
  blk_simp
  rw [after0_6]
  obtain ⟨p, q, rfl⟩ : ∃ p q : Fin 1024, y = ix2 p q := ⟨y 0, y 1, by idx_vars y⟩
  have h0 : (grid0.coords t 0).val < 8 := (grid0.coords t 0).isLt
  have h1 : (grid0.coords t 1).val < 2 := (grid0.coords t 1).isLt
  have e0 : ((win0_6.blk t).view.emb (ix2 p q) 0 : Fin 8192) = (⟨(grid0.coords t 0).val * 1024 + p.val, by omega⟩ : Fin 8192) :=
    Fin.ext (by blk_simp [idx_o t])
  have e1 : ((win0_6.blk t).view.emb (ix2 p q) 1 : Fin 2048) = (⟨(grid0.coords t 1).val * 1024 + q.val, by omega⟩ : Fin 2048) :=
    Fin.ext (by blk_simp [idx_o t])
  refine (out_apply _ _ _ _ _ _ p q).trans ?_
  unfold result mergedAt
  rw [e0, e1]
  have b0 : ∀ k, iblk m c 0 t (ix2 p k) = m ((c.tc : Thread nD τ).loc main_arg0) (ix2 ⟨(grid0.coords t 0).val * 1024 + p.val, by omega⟩ k) := fun k => by
    blk_ext! [iblk, V, idx_ya t]
  have b1 : ∀ k, iblk m c 1 t (ix2 p k) = m ((c.tc : Thread nD τ).loc main_arg1) (ix2 ⟨(grid0.coords t 0).val * 1024 + p.val, by omega⟩ k) := fun k => by
    blk_ext! [iblk, V, idx_yr t]
  have b2 : iblk m c 2 t (ix2 p q) = m ((c.tc : Thread nD τ).loc main_arg2)
      (ix2 ⟨(grid0.coords t 0).val * 1024 + p.val, by omega⟩ ⟨9216 + ((grid0.coords t 1).val * 1024 + q.val), by omega⟩) := by
    blk_ext! [iblk, V, idx_ga t]
  have b3 : iblk m c 3 t (ix2 p q) = m ((c.tc : Thread nD τ).loc main_arg2)
      (ix2 ⟨(grid0.coords t 0).val * 1024 + p.val, by omega⟩ ⟨11264 + ((grid0.coords t 1).val * 1024 + q.val), by omega⟩) := by
    blk_ext! [iblk, V, idx_gb t]
  have b4 : ∀ k, iblk m c 4 t (ix2 k q) = m ((c.tc : Thread nD τ).loc main_arg3) (ix2 k ⟨(grid0.coords t 1).val * 1024 + q.val, by omega⟩) := fun k => by
    blk_ext! [iblk, V, idx_wa t]
  have b5 : ∀ k, iblk m c 5 t (ix2 k q) = m ((c.tc : Thread nD τ).loc main_arg4) (ix2 k ⟨(grid0.coords t 1).val * 1024 + q.val, by omega⟩) := fun k => by
    blk_ext! [iblk, V, idx_wb t]
  rw [b2, b3]
  simp only [b0, b1, b4, b5]

end Cert.MergeIdeal.Whole

namespace Cert.Proof
open Idealize.ShloMosaic Idealize.SL.Sem Cert.MergeRefIdeal

theorem mergeRef_frame : Cert.quiescent_MergeRefIdeal := fun m g _ =>
  (θ_run _ _ _).mono (fun r h => ⟨fun c => (h c).2, sem_eq_zero_of_no_sems (by decide) r.2⟩) (Cert.MergeRefIdeal.Value.run m g)

theorem merge_algebraic : Cert.algebraic_MergeIdeal_MergeRefIdeal := fun m g m' g' hpre hag =>
  ⟨fun c => Cert.MergeIdeal.Whole.result m c,
    (θ_run _ _ _).mono (fun r h c => ⟨(h c).1.trans (Cert.MergeIdeal.Whole.final m c), (h c).2⟩) (Cert.MergeIdeal.Value.run_blocks m g),
    (θ_run _ _ _).mono (fun r h c => ⟨(h c).1.trans (by
      obtain ⟨h0, h1, h2, h3, h4⟩ := hag c
      rw [h0, h1, h2, h3, h4]
      funext i
      obtain ⟨r, l, rfl⟩ : ∃ (r : Fin 8192) (l : Fin 2048), i = ix2 r l := ⟨i 0, i 1, by idx_vars i⟩
      show _ = Merged.mergedAt _ _ _ _ _ r l
      unfold Merged.mergedAt Merged.sigmoidAt
      pointwise), (h c).2⟩) (Cert.MergeRefIdeal.Value.run m' g')⟩

end Cert.Proof

end
-- ==== Proof.OutValue.lean ====
module

public import proofs.«01_k».proof.Defs
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Quiescent

/-! The output projection and its residual. -/

@[expose] public section

set_option maxRecDepth 16384

noncomputable section

namespace Cert.OutIdeal.Whole

open Cert.OutIdeal Cert.OutIdeal.Gen
open Idealize.ShloMosaic Idealize.ShloMosaic.TcCoe
open Idealize.SL.Sem

theorem idx_m : ∀ t : Fin cfg0.N, win0_0.index t = ![(grid0.coords t 0).val, 0] :=
  (by decide +kernel : ∀ t : Fin grid0.N, win0_0.index t = ![(grid0.coords t 0).val, 0])
theorem idx_w : ∀ t : Fin cfg0.N, win0_1.index t = ![0, 0] :=
  (by decide +kernel : ∀ t : Fin grid0.N, win0_1.index t = ![0, 0])
theorem idx_x : ∀ t : Fin cfg0.N, win0_2.index t = ![(grid0.coords t 0).val, 0] :=
  (by decide +kernel : ∀ t : Fin grid0.N, win0_2.index t = ![(grid0.coords t 0).val, 0])
theorem idx_o : ∀ t : Fin cfg0.N, win0_3.index t = ![(grid0.coords t 0).val, 0] :=
  (by decide +kernel : ∀ t : Fin grid0.N, win0_3.index t = ![(grid0.coords t 0).val, 0])

/-- One entry of the projection with its residual. -/
def projectedAt (x : Fin 8192 → Fin 2048 → EReal) (a : Fin 8192 → Fin 2048 → EReal) (w : Fin 2048 → Fin 2048 → EReal) (r : Fin 8192) (l : Fin 2048) : EReal :=
  x r l + ∑ k, a r k * w k l

variable (m : (ℓ : Loc nD τ sig) → Buf (Elt Ideal) ℓ) (c : Dev nD)

/-- The array the kernel leaves. -/
def result (i : S8192x2048.Idx) : EReal :=
  projectedAt (fun r k => m ((c.tc : Thread nD τ).loc main_arg2) (ix2 r k)) (fun r k => m ((c.tc : Thread nD τ).loc main_arg0) (ix2 r k))
    (fun k l => m ((c.tc : Thread nD τ).loc main_arg1) (ix2 k l)) (i 0) (i 1)

theorem out_apply (x0 : Vec Ideal S512x2048 .bf16) (x1 : Vec Ideal S2048x2048 .bf16) (x2 : Vec Ideal S512x2048 .f32) (p : Fin 512) (q : Fin 2048) :
    out0_3 x0 x1 x2 (ix2 p q) = x2 (ix2 p q) + ∑ k, x0 (ix2 p k) * x1 (ix2 k q) := by
  frame_out [out0_3]
  pointwise [k0_pay1]

theorem final : (dats m 0 c).arrAt 3 cfg0.N = result m c := by
  refine (dats m 0 c).arrAt_eq_of_covers 3 _ (by decide +kernel) fun t hf y => ?_
  blk_simp
  rw [after0_3]
  obtain ⟨p, q, rfl⟩ : ∃ (p : Fin 512) (q : Fin 2048), y = ix2 p q := ⟨y 0, y 1, by idx_vars y⟩
  have h0 : (grid0.coords t 0).val < 16 := (grid0.coords t 0).isLt
  have e0 : ((win0_3.blk t).view.emb (ix2 p q) 0 : Fin 8192) = (⟨(grid0.coords t 0).val * 512 + p.val, by omega⟩ : Fin 8192) :=
    Fin.ext (by blk_simp [idx_o t])
  have e1 : ((win0_3.blk t).view.emb (ix2 p q) 1 : Fin 2048) = q :=
    Fin.ext (by blk_simp [idx_o t])
  refine (out_apply _ _ _ p q).trans ?_
  unfold result projectedAt
  rw [e0, e1]
  have b0 : ∀ k, iblk m c 0 t (ix2 p k) = m ((c.tc : Thread nD τ).loc main_arg0) (ix2 ⟨(grid0.coords t 0).val * 512 + p.val, by omega⟩ k) := fun k => by
    blk_ext! [iblk, V, idx_m t]
  have b1 : ∀ k, iblk m c 1 t (ix2 k q) = m ((c.tc : Thread nD τ).loc main_arg1) (ix2 k q) := fun k => by
    blk_ext! [iblk, V, idx_w t]
  have b2 : iblk m c 2 t (ix2 p q) = m ((c.tc : Thread nD τ).loc main_arg2) (ix2 ⟨(grid0.coords t 0).val * 512 + p.val, by omega⟩ q) := by
    blk_ext! [iblk, V, idx_x t]
  rw [b2]
  simp only [b0, b1]

end Cert.OutIdeal.Whole

namespace Cert.Proof
open Idealize.ShloMosaic Idealize.SL.Sem Cert.OutRefIdeal

theorem outRef_frame : Cert.quiescent_OutRefIdeal := fun m g _ =>
  (θ_run _ _ _).mono (fun r h => ⟨fun c => (h c).2, sem_eq_zero_of_no_sems (by decide) r.2⟩) (Cert.OutRefIdeal.Value.run m g)

theorem out_algebraic : Cert.algebraic_OutIdeal_OutRefIdeal := fun m g m' g' hpre hag =>
  ⟨fun c => Cert.OutIdeal.Whole.result m c,
    (θ_run _ _ _).mono (fun r h c => ⟨(h c).1.trans (Cert.OutIdeal.Whole.final m c), (h c).2⟩) (Cert.OutIdeal.Value.run_blocks m g),
    (θ_run _ _ _).mono (fun r h c => ⟨(h c).1.trans (by
      obtain ⟨h0, h1, h2⟩ := hag c
      rw [h0, h1, h2]
      funext i
      obtain ⟨r, l, rfl⟩ : ∃ (r : Fin 8192) (l : Fin 2048), i = ix2 r l := ⟨i 0, i 1, by idx_vars i⟩
      show _ = Cert.OutIdeal.Whole.projectedAt _ _ _ r l
      unfold Cert.OutIdeal.Whole.projectedAt
      pointwise), (h c).2⟩) (Cert.OutRefIdeal.Value.run m' g')⟩

end Cert.Proof

end
-- ==== Proof.FfnIdealLoops.lean ====
/- The feed-forward kernel's two counted loops, each by an invariant: the pieces its trips before the k-th have
   written, listed, and what a whole buffer reads as once all eight trips have run. -/
module

public import proofs.«01_k».proof.Proof.Gen.FfnIdeal.Skeleton
public import proofs.«01_k».proof.Proof.Gen.FfnIdeal.Launch
public import proofs.«01_k».proof.Proof.Gen.FfnIdeal.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.Pointwise

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

abbrev MM (F : FTy → Type) := MT nD τ sig Unit (Elt F) ℕ (Pipeline.UD sig nD τ) ℕ

/-- The rows `128 r`, …, `128 r + 127` of a tile. -/
def rowsOf (x : Vec F S1024x2048 .f32) (r : ℕ) (hr : r < 8) : Vec F S128x2048 .f32 :=
  fun j => x (ix2 (⟨128 * r + (j 0).val, by have h : (j 0).val < 128 := (j 0).isLt; omega⟩ : Fin 1024) (j 1 : Fin 2048))

/-- The normalised tile, rounded to bf16. -/
def hnV (x : Vec F S1024x2048 .f32) (g : Vec F S1x1x2048 .f32) : Vec F S1024x2048 .bf16 :=
  fun y => k0_pay2 (rowsOf x ((y 0).val / 128) (by have h : (y 0).val < 1024 := (y 0).isLt; omega)) g
    (ix2 (⟨(y 0).val % 128, Nat.mod_lt _ (by decide)⟩ : Fin 128) (y 1 : Fin 2048))

/-- Twice the tile. -/
def twoV (x : Vec F S1024x2048 .f32) : Vec F S1024x2048 .f32 :=
  fun y => k0_pay3 (rowsOf x ((y 0).val / 128) (by have h : (y 0).val < 1024 := (y 0).isLt; omega))
    (ix2 (⟨(y 0).val % 128, Nat.mod_lt _ (by decide)⟩ : Fin 128) (y 1 : Fin 2048))

/-- Half the accumulated tile, normalised. -/
def finV (x : Vec F S1024x2048 .f32) (g : Vec F S1x2048 .f32) : Vec F S1024x2048 .f32 :=
  fun y => k0_pay1 (rowsOf x ((y 0).val / 128) (by have h : (y 0).val < 1024 := (y 0).isLt; omega)) g
    (ix2 (⟨(y 0).val % 128, Nat.mod_lt _ (by decide)⟩ : Fin 128) (y 1 : Fin 2048))

theorem trips1 : k0_t1_loop.trips = 8 := by decide +kernel
theorem trips2 : k0_t2_loop.trips = 8 := by decide +kernel

section Pieces
variable (i : grid0.Coords) (arg2 : Memref sig .tc .hbm S8192x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (arg11 : DmaSems sig S_)

/-- The rows trip `k` of the first loop addresses. -/
abbrev rect1 (k0_h1 : k0_cond1 i = 1#1) (k : Fin k0_t1_loop.trips) : Rect S1024x2048 :=
  Rect.unit (s := S1024x2048) (k0_off2 k) S128x2048.size (k0_off2_inb i k k0_h1)
abbrev rect2 (k0_h4 : k0_cond4 i = 1#1) (k : Fin k0_t2_loop.trips) : Rect S1024x2048 :=
  Rect.unit (s := S1024x2048) (k0_off4 k) S128x2048.size (k0_off4_inb i k k0_h4)

/-- What the first loop's trips before the `k`-th wrote into the output window, the last first. -/
def p8 (k0_h1 : k0_cond1 i = 1#1) (X10 : BufTy.Contents (Elt F) arg10.view.ty) : ℕ → List (View.Piece (Elt F) S1024x2048 .f32)
  | 0 => []
  | k + 1 => if h : k < k0_t1_loop.trips then
      [⟨rect1 i k0_h1 ⟨k, h⟩, k0_pay3 (arg10.view.readAt (Elt F) (rect1 i k0_h1 ⟨k, h⟩).toLoadRect X10)⟩] ++ p8 k0_h1 X10 k
      else p8 k0_h1 X10 k

/-- And into the normalised tile's scratch. -/
def p9 (k0_h1 : k0_cond1 i = 1#1) (X3 : BufTy.Contents (Elt F) arg3.view.ty) (X10 : BufTy.Contents (Elt F) arg10.view.ty) : ℕ → List (View.Piece (Elt F) S1024x2048 .bf16)
  | 0 => []
  | k + 1 => if h : k < k0_t1_loop.trips then
      [⟨rect1 i k0_h1 ⟨k, h⟩, k0_pay2 (arg10.view.readAt (Elt F) (rect1 i k0_h1 ⟨k, h⟩).toLoadRect X10)
        (arg3.view.readAt (Elt F) (Rect.unit (s := S1x1x2048) ![0, 0, 0] S1x1x2048.size inb_S1x1x2048_S1x1x2048_0_0_0).toLoadRect X3)⟩] ++ p9 k0_h1 X3 X10 k
      else p9 k0_h1 X3 X10 k

/-- What the last loop's trips before the `k`-th wrote over the output window, found at `G`. -/
def q8 (k0_h4 : k0_cond4 i = 1#1) (X7 : BufTy.Contents (Elt F) arg7.view.ty) (G : BufTy.Contents (Elt F) arg8.view.ty) : ℕ → List (View.Piece (Elt F) S1024x2048 .f32)
  | 0 => []
  | k + 1 => if h : k < k0_t2_loop.trips then
      [⟨rect2 i k0_h4 ⟨k, h⟩, k0_pay1 (arg8.view.readAt (Elt F) (rect2 i k0_h4 ⟨k, h⟩).toLoadRect (arg8.view.writes (Elt F) G (q8 k0_h4 X7 G k)))
        (arg7.view.readAt (Elt F) (Rect.unit (s := S1x2048) ![0, 0] S1x2048.size inb_S1x2048_S1x2048_0_0).toLoadRect X7)⟩] ++ q8 k0_h4 X7 G k
      else q8 k0_h4 X7 G k

set_option warn.classDefReducibility false in
/-- The first loop by its invariant. -/
@[sl_loop] def loop1 (𝒱 : Variants) (c : Dev nD) (bd : Option 𝒱.V) (E : Set ℕ) (k0_h1 : k0_cond1 i = 1#1)
    (X3 : BufTy.Contents (Elt F) arg3.view.ty) (X10 : BufTy.Contents (Elt F) arg10.view.ty) (G8 : BufTy.Contents (Elt F) arg8.view.ty) (G9 : BufTy.Contents (Elt F) arg9.view.ty) :
    Idealize.ShloMosaic.LoopInv (M := (MM F)) Idealize.ShloMosaic.frame (wpE (defs₀ (F := F)) 𝒱 (c : Thread nD τ) bd) E
      k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 k0_h1) where
  inv k _ := iprop((arg3.view.loc (c : Thread nD τ) ↦[arg3.view.set]{fullShare} X3) ∗ (arg10.view.loc (c : Thread nD τ) ↦[arg10.view.set]{fullShare} X10)
    ∗ (∃ f, (arg8.view.loc (c : Thread nD τ) ↦[arg8.view.set]{fullShare} f) ∗ ⌜f = arg8.view.writes (Elt F) G8 (p8 i arg10 k0_h1 X10 k)⌝)
    ∗ (∃ f, (arg9.view.loc (c : Thread nD τ) ↦[arg9.view.set]{fullShare} f) ∗ ⌜f = arg9.view.writes (Elt F) G9 (p9 i arg3 arg10 k0_h1 X3 X10 k)⌝))
  step k acc := by
    have hk : k.val < 8 := Nat.lt_of_lt_of_le k.isLt k0_t1_abs.2.1
    iintro ⟨H3, H10, ⟨%f8, H8, %h8⟩, ⟨%f9, H9, %h9⟩⟩
    unfold k0_t1_body
    sl_exec
    sl_step
    isplitl [H3]; · iexact H3
    isplitl [H10]; · iexact H10
    isplitl [H8]
    · iexists _; isplitl [H8]; · iexact H8
      ipureintro; rw [p8, dif_pos k.isLt, View.writes_append, h8]
    · iexists _; isplitl [H9]; · iexact H9
      ipureintro; rw [p9, dif_pos k.isLt, View.writes_append, h9]

set_option warn.classDefReducibility false in
/-- The last loop by its invariant. -/
@[sl_loop] def loop2 (𝒱 : Variants) (c : Dev nD) (bd : Option 𝒱.V) (E : Set ℕ) (k0_h4 : k0_cond4 i = 1#1)
    (X7 : BufTy.Contents (Elt F) arg7.view.ty) (G8 : BufTy.Contents (Elt F) arg8.view.ty) :
    Idealize.ShloMosaic.LoopInv (M := (MM F)) Idealize.ShloMosaic.frame (wpE (defs₀ (F := F)) 𝒱 (c : Thread nD τ) bd) E
      k0_t2_loop.lb k0_t2_loop.ub k0_t2_loop.st (k0_t2_ok i k0_h4) () (k0_t2_body (F := F) i arg2 harg2 arg3 harg3 arg4 harg4 arg5 harg5 arg6 harg6 arg7 harg7 arg8 harg8 arg9 harg9 arg10 harg10 arg11 k0_h4) where
  inv k _ := iprop((arg7.view.loc (c : Thread nD τ) ↦[arg7.view.set]{fullShare} X7)
    ∗ (∃ f, (arg8.view.loc (c : Thread nD τ) ↦[arg8.view.set]{fullShare} f) ∗ ⌜f = arg8.view.writes (Elt F) G8 (q8 i arg7 arg8 k0_h4 X7 G8 k)⌝))
  step k acc := by
    have hk : k.val < 8 := Nat.lt_of_lt_of_le k.isLt k0_t2_abs.2.1
    iintro ⟨H7, ⟨%f8, H8, %h8⟩⟩
    unfold k0_t2_body
    sl_exec
    sl_step
    isplitl [H7]; · iexact H7
    · iexists _; isplitl [H8]; · iexact H8
      ipureintro; rw [q8, dif_pos k.isLt, View.writes_append, h8]

end Pieces

section Reads
variable (i : grid0.Coords) (arg2 : Memref sig .tc .hbm S8192x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (arg11 : DmaSems sig S_)

theorem pay4_congr {a a' : Vec F S1024x2048 .bf16} {b b' d d' : Vec F S2048x512 .bf16} {o o' : Vec F S1024x2048 .f32} {w w' : Vec F S512x2048 .bf16}
    (h1 : a = a') (h2 : b = b') (h3 : d = d') (h4 : o = o') (h5 : w = w') : k0_pay4 a b d o w = k0_pay4 a' b' d' o' w' := by
  rw [h1, h2, h3, h4, h5]

/-- The local index of row `y 0` in its group of 128. -/
abbrev locOf (y : S1024x2048.Idx) : S128x2048.Idx :=
  ix2 (⟨(y 0).val % 128, Nat.mod_lt _ (by decide)⟩ : Fin 128) (y 1 : Fin 2048)

theorem readAt_whole2 {e : EltTy} {a b : ℕ} (m : Memref sig .tc .vmem (⟨2, ![a, b]⟩ : Shape) e) (inb) (f : BufTy.Contents (Elt F) m.view.ty) :
    m.view.readAt (Elt F) (Rect.unit (s := (⟨2, ![a, b]⟩ : Shape)) ![0, 0] ![a, b] inb).toLoadRect f = m.view.read (Elt F) f := by
  funext x
  refine congrArg (m.view.read (Elt F) f) (funext fun a => Fin.ext ?_)
  show (![0, 0] : Fin 2 → ℕ) a + 1 * (x a).val = (x a).val
  fin_cases a <;> simp

theorem readAt_whole3 {e : EltTy} {a b d : ℕ} (m : Memref sig .tc .vmem (⟨3, ![a, b, d]⟩ : Shape) e) (inb) (f : BufTy.Contents (Elt F) m.view.ty) :
    m.view.readAt (Elt F) (Rect.unit (s := (⟨3, ![a, b, d]⟩ : Shape)) ![0, 0, 0] ![a, b, d] inb).toLoadRect f = m.view.read (Elt F) f := by
  funext x
  refine congrArg (m.view.read (Elt F) f) (funext fun a => Fin.ext ?_)
  show (![0, 0, 0] : Fin 3 → ℕ) a + 1 * (x a).val = (x a).val
  fin_cases a <;> simp

theorem read_whole2 {e : EltTy} {a b : ℕ} (m : Memref sig .tc .vmem (⟨2, ![a, b]⟩ : Shape) e) (inb) (f : BufTy.Contents (Elt F) m.view.ty)
    (w : (⟨2, ![a, b]⟩ : Shape).Idx → Elt F e) (L : List (View.Piece (Elt F) (⟨2, ![a, b]⟩ : Shape) e)) :
    m.view.read (Elt F) (m.view.writes (Elt F) f ((⟨Rect.unit (s := (⟨2, ![a, b]⟩ : Shape)) ![0, 0] ![a, b] inb, w⟩ : View.Piece (Elt F) (⟨2, ![a, b]⟩ : Shape) e) :: L)) = w := by
  funext y
  exact View.read_writes_cons_unit_of_mem m.view f inb w L y y rfl (fun a => by fin_cases a <;> simp)

/-- Rows `128 k`, …, `128 k + 127` as a load reads them. -/
theorem readAt_rows (m : Memref sig .tc .vmem S1024x2048 .f32) {off : Fin 2 → ℕ} (k : ℕ) (hk : k < 8) (ho : off = ![128 * k, 0]) (inb)
    (f : BufTy.Contents (Elt F) m.view.ty) :
    m.view.readAt (Elt F) (Rect.unit (s := S1024x2048) off S128x2048.size inb).toLoadRect f = rowsOf (m.view.read (Elt F) f) k hk := by
  subst ho
  funext x
  refine congrArg (m.view.read (Elt F) f) (funext fun a => Fin.ext ?_)
  show (![128 * k, 0] : Fin 2 → ℕ) a + 1 * (x a).val = _
  fin_cases a
  · show 128 * k + 1 * (x 0).val = 128 * k + (x 0).val; omega
  · show 0 + 1 * (x 1).val = (x 1).val; omega

theorem rowsOf_congr (x : Vec F S1024x2048 .f32) {r r' : ℕ} (h : r = r') (hr : r < 8) (hr' : r' < 8) : rowsOf x r hr = rowsOf x r' hr' := by
  subst h; rfl

theorem read_p8 (k0_h1 : k0_cond1 i = 1#1) (X10 : BufTy.Contents (Elt F) arg10.view.ty) (G : BufTy.Contents (Elt F) arg8.view.ty)
    (n : ℕ) (hn : n ≤ 8) (y : S1024x2048.Idx) (hy : (y 0).val < 128 * n) :
    arg8.view.read (Elt F) (arg8.view.writes (Elt F) G (p8 i arg10 k0_h1 X10 n)) y = twoV (arg10.view.read (Elt F) X10) y := by
  induction n with
  | zero => omega
  | succ n ih =>
    have hlt : n < k0_t1_loop.trips := by rw [trips1]; omega
    rw [p8, dif_pos hlt, List.singleton_append]
    by_cases h : (y 0).val < 128 * n
    · rw [View.read_writes_cons_rows_of_not_mem (d := S1024x2048.size) (size := S128x2048.size) arg8.view G _ _ _ y (k0_off2_eq ⟨n, hlt⟩) rfl (Or.inl h)]
      exact ih (by omega) h
    · refine (View.read_writes_cons_rows_of_mem (d := S1024x2048.size) (size := S128x2048.size) arg8.view G _ _ _ y (locOf y) (k0_off2_eq ⟨n, hlt⟩) ?_ rfl).trans ?_
      · show (y 0).val = 128 * n + (y 0).val % 128; omega
      · rw [readAt_rows arg10 n (by omega) (k0_off2_eq ⟨n, hlt⟩)]
        unfold twoV
        rw [rowsOf_congr _ (show n = (y 0).val / 128 by omega)]

theorem read_p9 (k0_h1 : k0_cond1 i = 1#1) (X3 : BufTy.Contents (Elt F) arg3.view.ty) (X10 : BufTy.Contents (Elt F) arg10.view.ty) (G : BufTy.Contents (Elt F) arg9.view.ty)
    (n : ℕ) (hn : n ≤ 8) (y : S1024x2048.Idx) (hy : (y 0).val < 128 * n) :
    arg9.view.read (Elt F) (arg9.view.writes (Elt F) G (p9 i arg3 arg10 k0_h1 X3 X10 n)) y = hnV (arg10.view.read (Elt F) X10) (arg3.view.read (Elt F) X3) y := by
  induction n with
  | zero => omega
  | succ n ih =>
    have hlt : n < k0_t1_loop.trips := by rw [trips1]; omega
    rw [p9, dif_pos hlt, List.singleton_append]
    by_cases h : (y 0).val < 128 * n
    · rw [View.read_writes_cons_rows_of_not_mem (d := S1024x2048.size) (size := S128x2048.size) arg9.view G _ _ _ y (k0_off2_eq ⟨n, hlt⟩) rfl (Or.inl h)]
      exact ih (by omega) h
    · refine (View.read_writes_cons_rows_of_mem (d := S1024x2048.size) (size := S128x2048.size) arg9.view G _ _ _ y (locOf y) (k0_off2_eq ⟨n, hlt⟩) ?_ rfl).trans ?_
      · show (y 0).val = 128 * n + (y 0).val % 128; omega
      · rw [readAt_rows arg10 n (by omega) (k0_off2_eq ⟨n, hlt⟩)]
        unfold hnV
        rw [rowsOf_congr _ (show n = (y 0).val / 128 by omega)]
        exact congrArg (fun z => k0_pay2 _ z (locOf y)) (readAt_whole3 arg3 _ X3)

theorem read_q8_ge (k0_h4 : k0_cond4 i = 1#1) (X7 : BufTy.Contents (Elt F) arg7.view.ty) (G : BufTy.Contents (Elt F) arg8.view.ty)
    (n : ℕ) (hn : n ≤ 8) (y : S1024x2048.Idx) (hy : 128 * n ≤ (y 0).val) :
    arg8.view.read (Elt F) (arg8.view.writes (Elt F) G (q8 i arg7 arg8 k0_h4 X7 G n)) y = arg8.view.read (Elt F) G y := by
  induction n with
  | zero => rfl
  | succ n ih =>
    have hlt : n < k0_t2_loop.trips := by rw [trips2]; omega
    rw [q8, dif_pos hlt, List.singleton_append]
    rw [View.read_writes_cons_rows_of_not_mem (d := S1024x2048.size) (size := S128x2048.size) arg8.view G _ _ _ y (k0_off4_eq ⟨n, hlt⟩) rfl (Or.inr (by show 128 * n + 128 ≤ _; omega))]
    exact ih (by omega) (by omega)

theorem read_q8 (k0_h4 : k0_cond4 i = 1#1) (X7 : BufTy.Contents (Elt F) arg7.view.ty) (G : BufTy.Contents (Elt F) arg8.view.ty)
    (n : ℕ) (hn : n ≤ 8) (y : S1024x2048.Idx) (hy : (y 0).val < 128 * n) :
    arg8.view.read (Elt F) (arg8.view.writes (Elt F) G (q8 i arg7 arg8 k0_h4 X7 G n)) y = finV (arg8.view.read (Elt F) G) (arg7.view.read (Elt F) X7) y := by
  induction n with
  | zero => omega
  | succ n ih =>
    have hlt : n < k0_t2_loop.trips := by rw [trips2]; omega
    rw [q8, dif_pos hlt, List.singleton_append]
    by_cases h : (y 0).val < 128 * n
    · rw [View.read_writes_cons_rows_of_not_mem (d := S1024x2048.size) (size := S128x2048.size) arg8.view G _ _ _ y (k0_off4_eq ⟨n, hlt⟩) rfl (Or.inl h)]
      exact ih (by omega) h
    · refine (View.read_writes_cons_rows_of_mem (d := S1024x2048.size) (size := S128x2048.size) arg8.view G _ _ _ y (locOf y) (k0_off4_eq ⟨n, hlt⟩) ?_ rfl).trans ?_
      · show (y 0).val = 128 * n + (y 0).val % 128; omega
      · have e1 : rowsOf (arg8.view.read (Elt F) (arg8.view.writes (Elt F) G (q8 i arg7 arg8 k0_h4 X7 G n))) n (by omega)
            = rowsOf (arg8.view.read (Elt F) G) ((y 0).val / 128) (by omega) := by
          rw [← rowsOf_congr (arg8.view.read (Elt F) G) (show n = (y 0).val / 128 by omega) (by omega)]
          funext j
          exact read_q8_ge i arg7 arg8 k0_h4 X7 G n (by omega) _ (by show 128 * n ≤ 128 * n + (j 0).val; omega)
        rw [readAt_rows arg8 n (by omega) (k0_off4_eq ⟨n, hlt⟩), e1]
        unfold finV
        exact congrArg (fun z => k0_pay1 _ z (locOf y)) (readAt_whole2 arg7 _ X7)

theorem read_p8_all (k0_h1 : k0_cond1 i = 1#1) (X10 : BufTy.Contents (Elt F) arg10.view.ty) (G : BufTy.Contents (Elt F) arg8.view.ty) :
    arg8.view.read (Elt F) (arg8.view.writes (Elt F) G (p8 i arg10 k0_h1 X10 k0_t1_loop.trips)) = twoV (arg10.view.read (Elt F) X10) := by
  funext y
  rw [trips1]
  exact read_p8 i arg8 arg10 k0_h1 X10 G 8 (by omega) y (by have h : (y 0).val < 1024 := (y 0).isLt; omega)

theorem read_p9_all (k0_h1 : k0_cond1 i = 1#1) (X3 : BufTy.Contents (Elt F) arg3.view.ty) (X10 : BufTy.Contents (Elt F) arg10.view.ty) (G : BufTy.Contents (Elt F) arg9.view.ty) :
    arg9.view.read (Elt F) (arg9.view.writes (Elt F) G (p9 i arg3 arg10 k0_h1 X3 X10 k0_t1_loop.trips)) = hnV (arg10.view.read (Elt F) X10) (arg3.view.read (Elt F) X3) := by
  funext y
  rw [trips1]
  exact read_p9 i arg3 arg9 arg10 k0_h1 X3 X10 G 8 (by omega) y (by have h : (y 0).val < 1024 := (y 0).isLt; omega)

theorem read_q8_all (k0_h4 : k0_cond4 i = 1#1) (X7 : BufTy.Contents (Elt F) arg7.view.ty) (G : BufTy.Contents (Elt F) arg8.view.ty) :
    arg8.view.read (Elt F) (arg8.view.writes (Elt F) G (q8 i arg7 arg8 k0_h4 X7 G k0_t2_loop.trips)) = finV (arg8.view.read (Elt F) G) (arg7.view.read (Elt F) X7) := by
  funext y
  rw [trips2]
  exact read_q8 i arg7 arg8 k0_h4 X7 G 8 (by omega) y (by have h : (y 0).val < 1024 := (y 0).isLt; omega)

end Reads

end Cert.FfnIdeal.Hand

end
-- ==== Proof.FfnIdealBase.lean ====
/- The feed-forward kernel: its arrays, blocks and branch conditions, and the one transfer it keeps in flight. -/
module

public import proofs.«01_k».proof.Proof.FfnIdealLoops
public import proofs.«01_k».proof.Proof.Gen.FfnIdeal.Skeleton
public import proofs.«01_k».proof.Proof.Gen.FfnIdeal.Launch
public import proofs.«01_k».proof.Proof.Gen.FfnIdeal.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.WordCmp

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1
theorem hcond1 : ∀ t : Fin cfg0.N, cond1 (grid0.coords t) ↔ t.val % 11 = 0 :=
  (by decide +kernel : ∀ t : Fin grid0.N, cond1 (grid0.coords t) ↔ t.val % 11 = 0)
theorem hcond2 : ∀ t : Fin cfg0.N, cond2 (grid0.coords t) ↔ t.val < 11 :=
  (by decide +kernel : ∀ t : Fin grid0.N, cond2 (grid0.coords t) ↔ t.val < 11)
theorem hcond3 : ∀ t : Fin cfg0.N, cond3 (grid0.coords t) ↔ t.val % 11 = 1 ∧ t.val < 77 :=
  (by decide +kernel : ∀ t : Fin grid0.N, cond3 (grid0.coords t) ↔ t.val % 11 = 1 ∧ t.val < 77)
theorem hcond4 : ∀ t : Fin cfg0.N, cond4 (grid0.coords t) ↔ t.val % 11 = 10 :=
  (by decide +kernel : ∀ t : Fin grid0.N, cond4 (grid0.coords t) ↔ t.val % 11 = 10)

abbrev ms0_0 (t : Fin cfg0.N) : Memref sig .tc .vmem S1x1x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .f32 := win0_5.stage (cfg0.slots t 5)
abbrev hs0_5 (t : Fin cfg0.N) : (ms0_5 t).IsWhole := hstage0_5 ((cfg0.slots t 5).cast nbuf0_5)

abbrev scM0_0 : Memref sig .tc .vmem S1024x2048 .bf16 := Memref.whole cc0_scratch0
abbrev scM0_1 : Memref sig .tc .vmem S1024x2048 .f32 := Memref.whole cc0_scratch1
abbrev hbM0_0 : Memref sig .tc .hbm S8192x2048 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- The kernel's one transfer semaphore. -/
abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 10) 0) := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp (MM F)) = iprop(hbPt0 c hbM0_0 (V m c main_arg0)) := by
  rw [BI.bigSep_eq_bigSepL_of_eq [main_arg0] (by decide) (by decide)]; rfl
theorem PhiD0_eq (c : Dev nD) :
    (Pipeline.ΦD osem0 spec0 H0 (V m) c : sProp (MM F))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0) ∗ iprop(hbPt0 c hbM0_0 (V m c main_arg0))) := by
  rw [Pipeline.ΦD_eq, scopedRest0_eq, ownSems00_eq, hbmPts0_eq]; simp only [scM0_0, scM0_1, owns_whole]; try rfl

instance : NeZero grid0.N := ⟨by rw [N_0]; decide⟩

theorem inb_src (b : Fin 8) : ∀ a, (![1024 * b.val, 0] : Fin 2 → Nat) a + S1024x2048.size a ≤ S8192x2048.size a := by
  have := b.isLt; intro a; fin_cases a <;> simp <;> omega
/-- Tile `b` of the operand, as the transfers name their source. -/
def srcB (b : Fin 8) : Memref sig .tc .hbm S1024x2048 .f32 :=
  hbM0_0.slice (Rect.unit (s := S8192x2048) ![1024 * b.val, 0] S1024x2048.size (inb_src b)) (fun _ => rfl)
abbrev bk (n : ℕ) : Fin 8 := ⟨n % 8, Nat.mod_lt _ (by decide)⟩
abbrev cellR : SemLoc sig := SemLoc.dma cc0_scratch2.sem
theorem cellR_eq : cellR = SemLoc.dma 10 := by decide

section Xfer
variable (c : Dev nD) (W : HbBuf0 (F := F) c hbM0_0)
abbrev slotP (f : HbBuf0 (F := F) c scM0_1) : sProp (MM F) := scM0_1.view.loc (c : Thread nD τ) ↦[scM0_1.view.set]{fullShare} f
abbrev cellP : sProp (MM F) := semVal ((c : Thread nD τ), cellR) 0
abbrev srcP (b : Fin 8) : sProp (MM F) := (srcB b).view.loc (c : Thread nD τ) ↦[(srcB b).view.set]{fullShare} W
/-- The operand outside tile `b`. -/
def restP (b : Fin 8) : sProp (MM F) := ((c : Thread nD τ).loc main_arg0) ↦[Finset.univ \ (srcB b).view.set]{fullShare} W
abbrev wholeP : sProp (MM F) := ((c : Thread nD τ).loc main_arg0) ↦[Finset.univ]{fullShare} W
/-- The scratch once tile `b` has landed in it. -/
abbrev landed (b : Fin 8) (f : HbBuf0 (F := F) c scM0_1) : HbBuf0 (F := F) c scM0_1 :=
  scM0_1.view.writes (Elt F) f [⟨Rect.whole S1024x2048, ReadAs.same.apply ((srcB b).view.read (Elt F) W)⟩]
abbrev flightP (b : Fin 8) (f : HbBuf0 (F := F) c scM0_1) : sProp (MM F) :=
  Transfers.Flight countersEmb (c : Thread nD τ) cellR default (scM0_1.view.amount cellR)
    iprop(slotP c (landed c W b f) ∗ srcP c W b)
/-- Tile `b` as a vector. -/
abbrev xt (b : Fin 8) : Vec F S1024x2048 .f32 := (srcB b).view.read (Elt F) W
theorem read_landed (b : Fin 8) (f : HbBuf0 (F := F) c scM0_1) : scM0_1.view.read (Elt F) (landed c W b f) = xt c W b := by
  funext y
  have h : (Rect.whole S1024x2048).emb y = y := funext fun a => Fin.ext (by show 0 + 1 * (y a).val = (y a).val; omega)
  exact (congrArg (scM0_1.view.read (Elt F) (landed c W b f)) h.symm).trans
    (View.read_writes_cons_emb scM0_1.view f (Rect.whole S1024x2048) _ [] y)
theorem src_split (b : Fin 8) : wholeP (F := F) c W ⊣⊢ iprop(srcP c W b ∗ restP c W b) := by
  unfold restP; exact pointsTo_split_subset (Finset.subset_univ _)
end Xfer

section Canon
theorem coff_1 : ∀ t : Fin grid0.N, cond1 (grid0.coords t) → cond2 (grid0.coords t) → (![0, 0] : Fin 2 → Nat) = ![1024 * (bk (t.val / 11)).val, 0] := by decide +kernel
@[sl_canon] theorem canon_1 (t : Fin grid0.N) (h0 : cond1 (grid0.coords t)) (h1 : cond2 (grid0.coords t)) :
    hbM0_0.slice (Rect.unit (s := S8192x2048) ![0, 0] S1024x2048.size inb_S8192x2048_S1024x2048_0_0) (fun _ => rfl) = srcB (bk (t.val / 11)) :=
  Memref.slice_unit_congr _ (coff_1 t h0 h1) _ _ (fun _ => rfl) (fun _ => rfl)
theorem coff_2 : ∀ t : Fin grid0.N, cond1 (grid0.coords t) → k0_off1 (grid0.coords t) = ![1024 * (bk (t.val / 11)).val, 0] := by decide +kernel
@[sl_canon] theorem canon_2 (t : Fin grid0.N) (h0 : cond1 (grid0.coords t)) :
    hbM0_0.slice (Rect.unit (s := S8192x2048) (k0_off1 (grid0.coords t)) S1024x2048.size (k0_off1_inb (grid0.coords t) h0)) (fun _ => rfl) = srcB (bk (t.val / 11)) :=
  Memref.slice_unit_congr _ (coff_2 t h0) _ _ (fun _ => rfl) (fun _ => rfl)
theorem coff_3 : ∀ t : Fin grid0.N, cond3 (grid0.coords t) → k0_off3 (grid0.coords t) = ![1024 * (bk (t.val / 11 + 1)).val, 0] := by decide +kernel
@[sl_canon] theorem canon_3 (t : Fin grid0.N) (h0 : cond3 (grid0.coords t)) :
    hbM0_0.slice (Rect.unit (s := S8192x2048) (k0_off3 (grid0.coords t)) S1024x2048.size (k0_off3_inb (grid0.coords t) h0)) (fun _ => rfl) = srcB (bk (t.val / 11 + 1)) :=
  Memref.slice_unit_congr _ (coff_3 t h0) _ _ (fun _ => rfl) (fun _ => rfl)
end Canon

end Cert.FfnIdeal.Hand

end
-- ==== Proof.FfnIdealRun.lean ====
/- The feed-forward kernel's body, point by point. -/
module

public import proofs.«01_k».proof.Proof.FfnIdealBase
public import proofs.«01_k».proof.Proof.Gen.FfnIdeal.Skeleton
public import proofs.«01_k».proof.Proof.Gen.FfnIdeal.Launch
public import proofs.«01_k».proof.Proof.Gen.FfnIdeal.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.WordCmp

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

set_option maxHeartbeats 1000000 in
/-- The first point: the first tile is copied in and awaited, normalised, and the first block of hidden columns added to its double. -/
theorem run_A (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc1 : cond1 (grid0.coords t)) (hc2 : cond2 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ cellP c ∗ (∃ f, slotP (F := F) c f) ∗ hbPt0 c hbM0_0 fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 (hnV (xt c fh (bk (t.val / 11))) x0) x1 x2 (twoV (xt c fh (bk (t.val / 11)))) x3) ∗ owns (c : Thread nD τ) arg9 fullShare (hnV (xt c fh (bk (t.val / 11))) x0) ∗ cellP c ∗ (∃ f, slotP (F := F) c f) ∗ hbPt0 c hbM0_0 fh ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
  haveI : Fact (cond1 (grid0.coords t)) := ⟨hc1⟩
  haveI : Fact (cond2 (grid0.coords t)) := ⟨hc2⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_1 t hc1 hc2
  have hcanon1 := canon_2 t hc1
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, HS0⟩, Hc, ⟨%fs, Hs⟩, Hw, HW, Hk⟩
  obtain rfl := harg3.eq_unread hf0; obtain rfl := harg4.eq_unread hf1; obtain rfl := harg5.eq_unread hf2; obtain rfl := harg6.eq_unread hf3; obtain rfl := harg7.eq_unread hf4
  ihave Hsp := (src_split c fh (bk (t.val / 11))).1 $$ Hw
  icases Hsp with ⟨Hh, Hr⟩
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_whole2 arg8 _ _ _ _).trans ?_
    exact pay4_congr ((readAt_whole2 arg9 _ _).trans ((read_p9_all (grid0.coords t) arg3 arg9 scM0_1 hc1 _ _ _).trans (congrArg₂ hnV (read_landed c fh (bk (t.val / 11)) _) (harg3.read_unread _)))) ((readAt_whole2 arg4 _ _).trans (harg4.read_unread _)) ((readAt_whole2 arg5 _ _).trans (harg5.read_unread _)) ((readAt_whole2 arg8 _ _).trans ((read_p8_all (grid0.coords t) arg8 scM0_1 hc1 _ _).trans (congrArg twoV (read_landed c fh (bk (t.val / 11)) _)))) ((readAt_whole2 arg6 _ _).trans (harg6.read_unread _))
  isplitl [HS0]
  · iexists _; isplitr; swap; · iexact HS0
    ipureintro
    exact ((read_p9_all (grid0.coords t) arg3 arg9 scM0_1 hc1 _ _ _).trans (congrArg₂ hnV (read_landed c fh (bk (t.val / 11)) _) (harg3.read_unread _)))
  isplitl [Hc]; · iexact Hc
  isplitl [Hs]; · iexists _; iexact Hs
  isplitl [Hh Hr]
  · iapply (src_split c fh (bk (t.val / 11))).2; isplitl [Hh]; · iexact Hh
    iexact Hr
  iexists _; iexact HW

set_option maxHeartbeats 1000000 in
/-- The second point of a tile that another follows: the next tile is sent for, and a block of hidden columns added. -/
theorem run_B (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc1 : ¬cond1 (grid0.coords t)) (hc3 : cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (a8 : Vec F S1024x2048 .f32) (h9 : Vec F S1024x2048 .bf16) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare a8 ∗ owns (c : Thread nD τ) arg9 fullShare h9 ∗ cellP c ∗ (∃ f, slotP (F := F) c f) ∗ hbPt0 c hbM0_0 fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 h9 x1 x2 a8 x3) ∗ owns (c : Thread nD τ) arg9 fullShare h9 ∗ (∃ f, flightP c fh (bk (t.val / 11 + 1)) f) ∗ restP c fh (bk (t.val / 11 + 1)) ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
  haveI : Fact (¬cond1 (grid0.coords t)) := ⟨hc1⟩
  haveI : Fact (cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_3 t hc3
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, Hc, ⟨%fs, Hs⟩, Hw, HW, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6
  ihave Hsp := (src_split c fh (bk (t.val / 11 + 1))).1 $$ Hw
  icases Hsp with ⟨Hh, Hr⟩
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_whole2 arg8 _ _ _ _).trans ?_
    rw [readAt_whole2 arg9, readAt_whole2 arg4, readAt_whole2 arg5, readAt_whole2 arg8, readAt_whole2 arg6, harg9.read_unread, harg4.read_unread, harg5.read_unread, harg8.read_unread, harg6.read_unread]
  isplitl [HS0]
  · iexists _; isplitr; swap; · iexact HS0
    ipureintro
    exact harg9.read_unread _
  isplitl [Hc]; · iexists _; iexact Hc
  isplitl [Hr]; · iexact Hr
  iexists _; iexact HW

set_option maxHeartbeats 1000000 in
/-- The last point of a tile: the last block of hidden columns added, and half the sum normalised. -/
theorem run_C (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc1 : ¬cond1 (grid0.coords t)) (hc3 : ¬cond3 (grid0.coords t)) (hc4 : cond4 (grid0.coords t))
    (x0 : Vec F S1x1x2048 .f32) (x1 : Vec F S2048x512 .bf16) (x2 : Vec F S2048x512 .bf16) (x3 : Vec F S512x2048 .bf16) (x4 : Vec F S1x2048 .f32) (a8 : Vec F S1024x2048 .f32) (h9 : Vec F S1024x2048 .bf16) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare a8 ∗ owns (c : Thread nD τ) arg9 fullShare h9 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (finV (k0_pay4 h9 x1 x2 a8 x3) x4) ∗ owns (c : Thread nD τ) arg9 fullShare h9 ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
  haveI : Fact (¬cond1 (grid0.coords t)) := ⟨hc1⟩
  haveI : Fact (¬cond3 (grid0.coords t)) := ⟨hc3⟩
  haveI : Fact (cond4 (grid0.coords t)) := ⟨hc4⟩
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, HW, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.writes_append]
    refine (read_q8_all (grid0.coords t) arg7 arg8 hc4 _ _).trans (congrArg₂ finV ((read_whole2 arg8 _ _ _ _).trans ?_) (harg7.read_unread _))
    exact pay4_congr ((readAt_whole2 arg9 _ _).trans (harg9.read_unread _)) ((readAt_whole2 arg4 _ _).trans (harg4.read_unread _)) ((readAt_whole2 arg5 _ _).trans (harg5.read_unread _)) ((readAt_whole2 arg8 _ _).trans (harg8.read_unread _)) ((readAt_whole2 arg6 _ _).trans (harg6.read_unread _))
  isplitl [HS0]
  · iexists _; isplitr; swap; · iexact HS0
    ipureintro
    exact harg9.read_unread _
  iexists _; iexact HW

set_option maxHeartbeats 1000000 in
/-- The first point of a later tile: the tile, in flight, is awaited, normalised, and the first block of hidden columns added to its double. -/
theorem run_D (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc1 : cond1 (grid0.coords t)) (hc2 : ¬cond2 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ f, flightP c fh (bk (t.val / 11)) f) ∗ restP c fh (bk (t.val / 11)) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 (hnV (xt c fh (bk (t.val / 11))) x0) x1 x2 (twoV (xt c fh (bk (t.val / 11)))) x3) ∗ owns (c : Thread nD τ) arg9 fullShare (hnV (xt c fh (bk (t.val / 11))) x0) ∗ cellP c ∗ (∃ f, slotP (F := F) c f) ∗ hbPt0 c hbM0_0 fh ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
  haveI : Fact (cond1 (grid0.coords t)) := ⟨hc1⟩
  haveI : Fact (¬cond2 (grid0.coords t)) := ⟨hc2⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_2 t hc1
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, HS0⟩, ⟨%fs, Hc⟩, Hr, HW, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_whole2 arg8 _ _ _ _).trans ?_
    exact pay4_congr ((readAt_whole2 arg9 _ _).trans ((read_p9_all (grid0.coords t) arg3 arg9 scM0_1 hc1 _ _ _).trans (congrArg₂ hnV (read_landed c fh (bk (t.val / 11)) _) (harg3.read_unread _)))) ((readAt_whole2 arg4 _ _).trans (harg4.read_unread _)) ((readAt_whole2 arg5 _ _).trans (harg5.read_unread _)) ((readAt_whole2 arg8 _ _).trans ((read_p8_all (grid0.coords t) arg8 scM0_1 hc1 _ _).trans (congrArg twoV (read_landed c fh (bk (t.val / 11)) _)))) ((readAt_whole2 arg6 _ _).trans (harg6.read_unread _))
  isplitl [HS0]
  · iexists _; isplitr; swap; · iexact HS0
    ipureintro
    exact ((read_p9_all (grid0.coords t) arg3 arg9 scM0_1 hc1 _ _ _).trans (congrArg₂ hnV (read_landed c fh (bk (t.val / 11)) _) (harg3.read_unread _)))
  isplitl [Hc]; · iexact Hc
  isplitl [Hc_dst]; · iexists _; iexact Hc_dst
  isplitl [Hc_src Hr]
  · iapply (src_split c fh (bk (t.val / 11))).2; isplitl [Hc_src]; · iexact Hc_src
    iexact Hr
  iexists _; iexact HW

set_option maxHeartbeats 1000000 in
/-- Any other point but the last of a tile: a block of hidden columns added. -/
theorem run_E (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc1 : ¬cond1 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (a8 : Vec F S1024x2048 .f32) (h9 : Vec F S1024x2048 .bf16) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare a8 ∗ owns (c : Thread nD τ) arg9 fullShare h9 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 h9 x1 x2 a8 x3) ∗ owns (c : Thread nD τ) arg9 fullShare h9 ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
  haveI : Fact (¬cond1 (grid0.coords t)) := ⟨hc1⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, HS0⟩, HW, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_whole2 arg8 _ _ _ _).trans ?_
    rw [readAt_whole2 arg9, readAt_whole2 arg4, readAt_whole2 arg5, readAt_whole2 arg8, readAt_whole2 arg6, harg9.read_unread, harg4.read_unread, harg5.read_unread, harg8.read_unread, harg6.read_unread]
  isplitl [HS0]
  · iexists _; isplitr; swap; · iexact HS0
    ipureintro
    exact harg9.read_unread _
  iexists _; iexact HW

end Cert.FfnIdeal.Hand

end
-- ==== Proof.FfnIdealHand.lean ====
/- The feed-forward kernel on the pipeline: what its buffers hold after each point, the body at every point, and the run. -/
module

public import proofs.«01_k».proof.Proof.FfnIdealRun
public import proofs.«01_k».proof.Proof.Gen.FfnIdeal.Skeleton
public import proofs.«01_k».proof.Proof.Gen.FfnIdeal.Launch
public import proofs.«01_k».proof.Proof.Gen.FfnIdeal.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.Claim
public import Idealize.ShloMosaic.Lib.WordCmp

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

variable (m : (ℓ : Loc nD τ sig) → Buf (Elt F) ℓ) (ρ : Dev nD → PrngReg)

/-- The normalised tile the scratch holds after point `n`. -/
def hnAt (c : Dev nD) : (n : ℕ) → n < cfg0.N → Vec F S1024x2048 .bf16
  | 0, hn => hnV (xt c (V m c main_arg0) (bk (0 / 11))) (iblk m c 0 ⟨0, hn⟩)
  | n + 1, hn => if (n + 1) % 11 = 0 then hnV (xt c (V m c main_arg0) (bk ((n + 1) / 11))) (iblk m c 0 ⟨n + 1, hn⟩)
    else hnAt c n (Nat.lt_of_succ_lt hn)

/-- What the output's buffer holds after point `n`. -/
def outAt (c : Dev nD) : (n : ℕ) → n < cfg0.N → Vec F S1024x2048 .f32
  | 0, hn => k0_pay4 (hnV (xt c (V m c main_arg0) (bk (0 / 11))) (iblk m c 0 ⟨0, hn⟩)) (iblk m c 1 ⟨0, hn⟩) (iblk m c 2 ⟨0, hn⟩) (twoV (xt c (V m c main_arg0) (bk (0 / 11)))) (iblk m c 3 ⟨0, hn⟩)
  | n + 1, hn =>
    if (n + 1) % 11 = 0 then
      k0_pay4 (hnV (xt c (V m c main_arg0) (bk ((n + 1) / 11))) (iblk m c 0 ⟨n + 1, hn⟩)) (iblk m c 1 ⟨n + 1, hn⟩) (iblk m c 2 ⟨n + 1, hn⟩) (twoV (xt c (V m c main_arg0) (bk ((n + 1) / 11)))) (iblk m c 3 ⟨n + 1, hn⟩)
    else if (n + 1) % 11 = 10 then
      finV (k0_pay4 (hnAt m c (n + 1) hn) (iblk m c 1 ⟨n + 1, hn⟩) (iblk m c 2 ⟨n + 1, hn⟩) (outAt c n (Nat.lt_of_succ_lt hn)) (iblk m c 3 ⟨n + 1, hn⟩)) (iblk m c 4 ⟨n + 1, hn⟩)
    else k0_pay4 (hnAt m c (n + 1) hn) (iblk m c 1 ⟨n + 1, hn⟩) (iblk m c 2 ⟨n + 1, hn⟩) (outAt c n (Nat.lt_of_succ_lt hn)) (iblk m c 3 ⟨n + 1, hn⟩)

theorem hnAt_first (c : Dev nD) (t : Fin cfg0.N) (h0 : t.val % 11 = 0) :
    hnAt m c t.val t.isLt = hnV (xt c (V m c main_arg0) (bk (t.val / 11))) (iblk m c 0 t) := by
  obtain ⟨n, hn⟩ := t
  cases n with
  | zero => rfl
  | succ n => exact if_pos h0
theorem hnAt_next (c : Dev nD) (t : Fin cfg0.N) (h0 : ¬t.val % 11 = 0) :
    hnAt m c t.val t.isLt = hnAt m c (t.val - 1) (Nat.lt_of_le_of_lt (Nat.sub_le _ _) t.isLt) := by
  obtain ⟨n, hn⟩ := t
  cases n with
  | zero => exact absurd (Nat.zero_mod _) h0
  | succ n => exact if_neg h0
theorem outAt_first (c : Dev nD) (t : Fin cfg0.N) (h0 : t.val % 11 = 0) :
    outAt m c t.val t.isLt = k0_pay4 (hnV (xt c (V m c main_arg0) (bk (t.val / 11))) (iblk m c 0 t)) (iblk m c 1 t) (iblk m c 2 t) (twoV (xt c (V m c main_arg0) (bk (t.val / 11)))) (iblk m c 3 t) := by
  obtain ⟨n, hn⟩ := t
  cases n with
  | zero => rfl
  | succ n => exact if_pos h0
theorem outAt_last (c : Dev nD) (t : Fin cfg0.N) (h4 : t.val % 11 = 10) :
    outAt m c t.val t.isLt = finV (k0_pay4 (hnAt m c t.val t.isLt) (iblk m c 1 t) (iblk m c 2 t) (outAt m c (t.val - 1) (Nat.lt_of_le_of_lt (Nat.sub_le _ _) t.isLt)) (iblk m c 3 t)) (iblk m c 4 t) := by
  obtain ⟨n, hn⟩ := t
  cases n with
  | zero => exact absurd h4 (by show ¬(0 % 11 = 10); decide)
  | succ n => exact (if_neg (by dsimp only at h4; omega)).trans (if_pos h4)
theorem outAt_mid (c : Dev nD) (t : Fin cfg0.N) (h0 : ¬t.val % 11 = 0) (h4 : ¬t.val % 11 = 10) :
    outAt m c t.val t.isLt = k0_pay4 (hnAt m c t.val t.isLt) (iblk m c 1 t) (iblk m c 2 t) (outAt m c (t.val - 1) (Nat.lt_of_le_of_lt (Nat.sub_le _ _) t.isLt)) (iblk m c 3 t) := by
  obtain ⟨n, hn⟩ := t
  cases n with
  | zero => exact absurd (Nat.zero_mod _) h0
  | succ n => exact (if_neg h0).trans (if_neg h4)

/-- Before point `k` a tile is in flight. -/
def infl (k : ℕ) : Prop := (k % 11 = 0 ∧ 0 < k ∧ k < 88) ∨ (2 ≤ k % 11 ∧ k < 77)
instance (k : ℕ) : Decidable (infl k) := inferInstanceAs (Decidable (_ ∨ _))

/-- The transfer before point `k`. -/
def xPart (c : Dev nD) (k : ℕ) : sProp (MM F) :=
  if infl k then iprop((∃ f, flightP c (V m c main_arg0) (bk ((k + 9) / 11)) f) ∗ restP c (V m c main_arg0) (bk ((k + 9) / 11)))
  else iprop(cellP c ∗ (∃ f, slotP (F := F) c f) ∗ hbPt0 c hbM0_0 (V m c main_arg0))
theorem xPart_idle (c : Dev nD) (k : ℕ) (h : ¬infl k) : xPart m c k = iprop(cellP c ∗ (∃ f, slotP (F := F) c f) ∗ hbPt0 c hbM0_0 (V m c main_arg0)) := if_neg h
theorem xPart_flight (c : Dev nD) (k : ℕ) (h : infl k) (b : ℕ) (hb : (k + 9) / 11 = b) :
    xPart m c k = iprop((∃ f, flightP c (V m c main_arg0) (bk b) f) ∗ restP c (V m c main_arg0) (bk b)) := by
  subst hb; exact if_pos h
theorem xPart_same (c : Dev nD) (k : ℕ) (h : infl k ↔ infl (k + 1)) (hb : infl k → (k + 9) / 11 = (k + 1 + 9) / 11) : xPart m c (k + 1) = xPart m c k := by
  by_cases hk : infl k
  · rw [xPart_flight m c k hk _ rfl, xPart_flight m c (k + 1) (h.mp hk) _ (hb hk).symm]
  · rw [xPart_idle m c k hk, xPart_idle m c (k + 1) (fun x => hk (h.mpr x))]

/-- The invariant before point `k`. -/
def PhiR (c : Dev nD) (k : ℕ) : sProp (MM F) :=
  iprop((∃ r, prngReg c r) ∗ (∃ d, owns (c : Thread nD τ) scM0_0 fullShare d ∗ ⌜∀ h : k - 1 < cfg0.N, ¬k % 11 = 0 → d = hnAt m c (k - 1) h⌝) ∗ xPart m c k)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (h0 : ¬t.val % 11 = 0) (d) :
    (dats m 0 c).before 5 t d = outAt m c (t.val - 1) (Nat.lt_of_le_of_lt (Nat.sub_le _ _) t.isLt) := by
  have hN : t.val < 88 := lt_of_lt_of_eq t.isLt (show cfg0.N = 88 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp (MM F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5]
  rw [PhiR_castSucc m c t, PhiR_succ m c t]
  unfold Dat.owesAt Pipeline.owesWithin
  rw [show (dats m 0 c).owed t.castSucc = 0 from rfl, show (dats m 0 c).owed t.succ = 0 from rfl]
  unfold PhiR
  have hgN : grid0.N = 88 := N_0
  have hN : t.val < 88 := lt_of_lt_of_eq t.isLt (show cfg0.N = 88 from N_0)
  have hcN : cfg0.N = 88 := N_0
  by_cases h0 : t.val % 11 = 0
  · by_cases h1 : t.val < 11
    · skip
      rw [outAt_first m c t h0, xPart_idle m c t.val (by unfold infl; omega), xPart_idle m c (t.val + 1) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%d5, H5⟩⟩
      icases Hx with ⟨Hc, Hs, Hw⟩
      iapply (run_A c t _ _ _ _ _ _ _ _ _ _ _ _ _ _ ((hcond1 t).mpr h0) ((hcond2 t).mpr h1) (fun h => by have := (hcond3 t).mp h; omega) (fun h => by have := (hcond4 t).mp h; omega) (iblk m c 0 t) (iblk m c 1 t) (iblk m c 2 t) (iblk m c 3 t) (iblk m c 4 t) (V m c main_arg0) W _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [Hc]; · iexact Hc
      isplitl [Hs]; · iexact Hs
      isplitl [Hw]; · iexact Hw
      isplitl [HW]; · iexact HW
      iintro ⟨H0, H1, H2, H3, H4, H5, HS0, Hc, Hs, Hw, ⟨%W', HW'⟩⟩
      isplitl [Hg HS0 Hc Hs Hw]
      · isplitl [Hg]; · iexact Hg
        isplitl [HS0]
        · iexists _; isplitl [HS0]; · iexact HS0
          ipureintro; intro hlt hne; exact (hnAt_first m c t h0).symm
        isplitl [Hc]; · iexact Hc
        isplitl [Hs]; · iexact Hs
        iexact Hw
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · skip
      rw [outAt_first m c t h0, xPart_flight m c t.val (by unfold infl; omega) (t.val / 11) (by omega), xPart_idle m c (t.val + 1) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%d5, H5⟩⟩
      icases Hx with ⟨Hf, Hr⟩
      iapply (run_D c t _ _ _ _ _ _ _ _ _ _ _ _ _ _ ((hcond1 t).mpr h0) (fun h => h1 ((hcond2 t).mp h)) (fun h => by have := (hcond3 t).mp h; omega) (fun h => by have := (hcond4 t).mp h; omega) (iblk m c 0 t) (iblk m c 1 t) (iblk m c 2 t) (iblk m c 3 t) (iblk m c 4 t) (V m c main_arg0) W _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [Hf]; · iexact Hf
      isplitl [Hr]; · iexact Hr
      isplitl [HW]; · iexact HW
      iintro ⟨H0, H1, H2, H3, H4, H5, HS0, Hc, Hs, Hw, ⟨%W', HW'⟩⟩
      isplitl [Hg HS0 Hc Hs Hw]
      · isplitl [Hg]; · iexact Hg
        isplitl [HS0]
        · iexists _; isplitl [HS0]; · iexact HS0
          ipureintro; intro hlt hne; exact (hnAt_first m c t h0).symm
        isplitl [Hc]; · iexact Hc
        isplitl [Hs]; · iexact Hs
        iexact Hw
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
  · simp only [before0_5 m c t h0]
    by_cases h4 : t.val % 11 = 10
    · skip
      rw [outAt_last m c t h4, xPart_same m c t.val (by unfold infl; omega) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%d5, H5⟩⟩
      obtain rfl : dh = hnAt m c t.val t.isLt := (hdh (by omega) h0).trans (hnAt_next m c t h0).symm
      iapply (run_C c t _ _ _ _ _ _ _ _ _ _ _ _ _ _ (fun h => h0 ((hcond1 t).mp h)) (fun h => by have := (hcond3 t).mp h; omega) ((hcond4 t).mpr h4) (iblk m c 0 t) (iblk m c 1 t) (iblk m c 2 t) (iblk m c 3 t) (iblk m c 4 t) (outAt m c (t.val - 1) (by omega)) (hnAt m c t.val t.isLt) W _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HW]; · iexact HW
      iintro ⟨H0, H1, H2, H3, H4, H5, HS0, ⟨%W', HW'⟩⟩
      isplitl [Hg HS0 Hx]
      · isplitl [Hg]; · iexact Hg
        isplitl [HS0]
        · iexists _; isplitl [HS0]; · iexact HS0
          ipureintro; intro hlt hne; rfl
        iexact Hx
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · by_cases h3 : t.val % 11 = 1 ∧ t.val < 77
      · skip
        rw [outAt_mid m c t h0 h4, xPart_idle m c t.val (by unfold infl; omega), xPart_flight m c (t.val + 1) (by unfold infl; omega) (t.val / 11 + 1) (by omega)]
        iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%d5, H5⟩⟩
        obtain rfl : dh = hnAt m c t.val t.isLt := (hdh (by omega) h0).trans (hnAt_next m c t h0).symm
        icases Hx with ⟨Hc, Hs, Hw⟩
        iapply (run_B c t _ _ _ _ _ _ _ _ _ _ _ _ _ _ (fun h => h0 ((hcond1 t).mp h)) ((hcond3 t).mpr h3) (fun h => by have := (hcond4 t).mp h; omega) (iblk m c 0 t) (iblk m c 1 t) (iblk m c 2 t) (iblk m c 3 t) (iblk m c 4 t) (outAt m c (t.val - 1) (by omega)) (hnAt m c t.val t.isLt) (V m c main_arg0) W _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [Hc]; · iexact Hc
        isplitl [Hs]; · iexact Hs
        isplitl [Hw]; · iexact Hw
        isplitl [HW]; · iexact HW
        iintro ⟨H0, H1, H2, H3, H4, H5, HS0, Hf, Hr, ⟨%W', HW'⟩⟩
        isplitl [Hg HS0 Hf Hr]
        · isplitl [Hg]; · iexact Hg
          isplitl [HS0]
          · iexists _; isplitl [HS0]; · iexact HS0
            ipureintro; intro hlt hne; rfl
          isplitl [Hf]; · iexact Hf
          iexact Hr
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5
      · skip
        rw [outAt_mid m c t h0 h4, xPart_same m c t.val (by unfold infl; omega) (by unfold infl; omega)]
        iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%d5, H5⟩⟩
        obtain rfl : dh = hnAt m c t.val t.isLt := (hdh (by omega) h0).trans (hnAt_next m c t h0).symm
        iapply (run_E c t _ _ _ _ _ _ _ _ _ _ _ _ _ _ (fun h => h0 ((hcond1 t).mp h)) (fun h => by have := (hcond3 t).mp h; omega) (fun h => by have := (hcond4 t).mp h; omega) (iblk m c 0 t) (iblk m c 1 t) (iblk m c 2 t) (iblk m c 3 t) (iblk m c 4 t) (outAt m c (t.val - 1) (by omega)) (hnAt m c t.val t.isLt) W _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HW]; · iexact HW
        iintro ⟨H0, H1, H2, H3, H4, H5, HS0, ⟨%W', HW'⟩⟩
        isplitl [Hg HS0 Hx]
        · isplitl [Hg]; · iexact Hg
          isplitl [HS0]
          · iexists _; isplitl [HS0]; · iexact HS0
            ipureintro; intro hlt hne; rfl
          iexact Hx
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [xPart_idle m c 0 (by unfold infl; omega)]
  unfold cellP
  rw [cellR_eq]
  unfold owns
  iintro ⟨⟨⟨%dh, HS0⟩, ⟨%dx, %fx, -, Hs⟩⟩, Hg, Hc, Hw⟩
  isplitl [Hg]; · iexact Hg
  isplitl [HS0]
  · iexists dh; isplitl [HS0]; · iexact HS0
    ipureintro; intro _ h; exact absurd rfl h
  isplitl [Hc]; · iexact Hc
  isplitl [Hs]; · iexists _; iexact Hs
  iexact Hw
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [xPart_idle m c grid0.N (by rw [N_0]; unfold infl; omega)]
  unfold cellP
  rw [cellR_eq]
  iintro ⟨Hg, ⟨%dh, HS0, -⟩, Hc, ⟨%fx, Hs⟩, Hw⟩
  isplitl [HS0 Hs]
  · isplitl [HS0]; · iexists dh; iexact HS0
    unfold owns
    iexists _, _; isplitr; swap; · iexact Hs
    ipureintro; rfl
  isplitl [Hg]; · iexact Hg
  isplitl [Hc]; · iexact Hc
  iexact Hw

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Hand

end
-- ==== Proof.FfnValue.lean ====
module

public import proofs.«01_k».proof.Defs
public import proofs.«01_k».proof.Proof.FfnHand
public import proofs.«01_k».proof.Proof.FfnIdealHand
public import proofs.«01_k».proof.Proof.Gen.FfnRefIdeal.Run
public import Idealize.ShloMosaic.Lib.Pipeline.ValueKit
public import Idealize.ShloMosaic.Lib.Pointwise
public import Idealize.ShloMosaic.Lib.Quiescent

/-! The feed-forward layer with its residual and the final norm. -/

@[expose] public section

set_option maxRecDepth 16384

noncomputable section

namespace Cert.FfnIdeal.Whole

open Cert.FfnIdeal Cert.FfnIdeal.Gen Cert.FfnIdeal.Hand
open Idealize.ShloMosaic Idealize.ShloMosaic.TcCoe
open Idealize.SL.Sem

/-! ## The mathematics -/

/-- A row divided by its root mean square, times a gain. -/
def normAt (x g : Fin 2048 → EReal) (l : Fin 2048) : EReal :=
  x l * Ideal.rsqrt (Ideal.div (∑ k, x k * x k) (Ideal.ofBits .f32 0x45000000#32) + Ideal.ofBits .f32 0x358637BD#32) * g l

/-- One hidden column from its gate and its up projection. -/
def gateAt (h a b : Fin 2048 → EReal) : EReal :=
  (∑ k, h k * a k) * Ideal.div 1 (1 + Ideal.exp (-∑ k, h k * a k)) * ∑ k, h k * b k

/-- Half the feed-forward of a row, added to the row. -/
def mixAt (x g : Fin 2048 → EReal) (wg wu : Fin 2048 → Fin 5632 → EReal) (wd : Fin 5632 → Fin 2048 → EReal) (l : Fin 2048) : EReal :=
  x l + Ideal.ofBits .f32 0x3F000000#32 * ∑ j, gateAt (normAt x g) (fun k => wg k j) (fun k => wu k j) * wd j l

theorem half_eq : Ideal.ofBits .f32 0x3F000000#32 = (((1 : ℝ) / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- Half of twice a number and something more is the number and half of that. -/
theorem half_two (x s : EReal) :
    Ideal.ofBits .f32 0x3F000000#32 * (Ideal.ofBits .f32 0x40000000#32 * x + s) = x + Ideal.ofBits .f32 0x3F000000#32 * s := by
  rw [half_eq, two_eq, EReal.left_distrib_of_nonneg_of_ne_top (by exact_mod_cast (by norm_num : (0:ℝ) ≤ 1/2)) (EReal.coe_ne_top _),
    ← mul_assoc, ← EReal.coe_mul]
  norm_num

/-! ## The payloads -/

theorem pay1_apply (v : Vec Ideal S128x2048 .f32) (g : Vec Ideal S1x2048 .f32) (p : Fin 128) (q : Fin 2048) :
    k0_pay1 v g (ix2 p q) = normAt (fun k => Ideal.ofBits .f32 0x3F000000#32 * v (ix2 p k)) (fun k => g (ix2 0 k)) q := by
  unfold normAt
  pointwise [k0_pay1]
theorem pay2_apply (v : Vec Ideal S128x2048 .f32) (g : Vec Ideal S1x1x2048 .f32) (p : Fin 128) (q : Fin 2048) :
    k0_pay2 v g (ix2 p q) = normAt (fun k => v (ix2 p k)) (fun k => g (ix3 0 0 k)) q := by
  unfold normAt
  pointwise [k0_pay2]
theorem pay3_apply (v : Vec Ideal S128x2048 .f32) (p : Fin 128) (q : Fin 2048) :
    k0_pay3 v (ix2 p q) = Ideal.ofBits .f32 0x40000000#32 * v (ix2 p q) := by
  pointwise [k0_pay3]
theorem pay4_apply (v9 : Vec Ideal S1024x2048 .bf16) (v10 : Vec Ideal S2048x512 .bf16) (v12 : Vec Ideal S2048x512 .bf16) (v24 : Vec Ideal S1024x2048 .f32) (v26 : Vec Ideal S512x2048 .bf16) (p : Fin 1024) (q : Fin 2048) :
    k0_pay4 v9 v10 v12 v24 v26 (ix2 p q)
      = v24 (ix2 p q) + ∑ j : Fin 512, gateAt (fun k => v9 (ix2 p k)) (fun k => v10 (ix2 k j)) (fun k => v12 (ix2 k j)) * v26 (ix2 j q) := by
  unfold gateAt
  pointwise [k0_pay4]
  simp only [zero_sub]

theorem rowsOf_apply (x : Vec Ideal S1024x2048 .f32) (p : Fin 1024) (k : Fin 2048) (h : p.val / 128 < 8) (h' : p.val % 128 < 128) :
    rowsOf x (p.val / 128) h (ix2 (⟨p.val % 128, h'⟩ : Fin 128) k) = x (ix2 p k) :=
  congrArg (fun r : Fin 1024 => x (ix2 r k)) (Fin.ext (Nat.div_add_mod p.val 128))

theorem hnV_apply (x : Vec Ideal S1024x2048 .f32) (g : Vec Ideal S1x1x2048 .f32) (p : Fin 1024) (q : Fin 2048) :
    hnV x g (ix2 p q) = normAt (fun k => x (ix2 p k)) (fun k => g (ix3 0 0 k)) q := by
  refine (pay2_apply _ _ _ _).trans ?_
  exact congrArg (fun f => normAt f _ q) (funext fun k => rowsOf_apply x p k _ _)
theorem twoV_apply (x : Vec Ideal S1024x2048 .f32) (p : Fin 1024) (q : Fin 2048) :
    twoV x (ix2 p q) = Ideal.ofBits .f32 0x40000000#32 * x (ix2 p q) := by
  refine (pay3_apply _ _ _).trans ?_
  exact congrArg (fun f => Ideal.ofBits .f32 0x40000000#32 * f) (rowsOf_apply x p q _ _)
theorem finV_apply (x : Vec Ideal S1024x2048 .f32) (g : Vec Ideal S1x2048 .f32) (p : Fin 1024) (q : Fin 2048) :
    finV x g (ix2 p q) = normAt (fun k => Ideal.ofBits .f32 0x3F000000#32 * x (ix2 p k)) (fun k => g (ix2 0 k)) q := by
  refine (pay1_apply _ _ _ _).trans ?_
  exact congrArg (fun f => normAt f _ q) (funext fun k => congrArg (fun f => Ideal.ofBits .f32 0x3F000000#32 * f) (rowsOf_apply x p k _ _))

/-! ## The blocks -/

variable (m : (ℓ : Loc nD τ sig) → Buf (Elt Ideal) ℓ) (c : Dev nD)

theorem idx_g : ∀ t : Fin cfg0.N, win0_0.index t = ![1, 0, 0] :=
  (by decide +kernel : ∀ t : Fin grid0.N, win0_0.index t = ![1, 0, 0])
theorem idx_a : ∀ t : Fin cfg0.N, win0_1.index t = ![0, t.val % 11] :=
  (by decide +kernel : ∀ t : Fin grid0.N, win0_1.index t = ![0, t.val % 11])
theorem idx_b : ∀ t : Fin cfg0.N, win0_2.index t = ![0, t.val % 11] :=
  (by decide +kernel : ∀ t : Fin grid0.N, win0_2.index t = ![0, t.val % 11])
theorem idx_d : ∀ t : Fin cfg0.N, win0_3.index t = ![t.val % 11, 0] :=
  (by decide +kernel : ∀ t : Fin grid0.N, win0_3.index t = ![t.val % 11, 0])
theorem idx_f : ∀ t : Fin cfg0.N, win0_4.index t = ![0, 0] :=
  (by decide +kernel : ∀ t : Fin grid0.N, win0_4.index t = ![0, 0])
theorem idx_o : ∀ t : Fin cfg0.N, win0_5.index t = ![t.val / 11, 0] :=
  (by decide +kernel : ∀ t : Fin grid0.N, win0_5.index t = ![t.val / 11, 0])

/-- The operands by their coordinates. -/
def xOf (r : Fin 8192) (k : Fin 2048) : EReal := m ((c.tc : Thread nD τ).loc main_arg0) (ix2 r k)
def gOf (k : Fin 2048) : EReal := m ((c.tc : Thread nD τ).loc main_arg1) (ix3 1 0 k)
def aOf (k : Fin 2048) (j : Fin 5632) : EReal := m ((c.tc : Thread nD τ).loc main_arg2) (ix2 k j)
def bOf (k : Fin 2048) (j : Fin 5632) : EReal := m ((c.tc : Thread nD τ).loc main_arg3) (ix2 k j)
def dOf (j : Fin 5632) (l : Fin 2048) : EReal := m ((c.tc : Thread nD τ).loc main_arg4) (ix2 j l)
def fOf (k : Fin 2048) : EReal := m ((c.tc : Thread nD τ).loc main_arg5) (ix2 0 k)

theorem tlt (t : Fin cfg0.N) : t.val < 88 := lt_of_lt_of_eq t.isLt N_0

theorem blk_g (t : Fin cfg0.N) (k : Fin 2048) : iblk m c 0 t (ix3 0 0 k) = gOf m c k := by
  unfold gOf; blk_ext! [iblk, V, idx_g t]
theorem blk_a (t : Fin cfg0.N) (k : Fin 2048) (j : Fin 512) :
    iblk m c 1 t (ix2 k j) = aOf m c k ⟨512 * (t.val % 11) + j.val, by omega⟩ := by
  unfold aOf; blk_ext! [iblk, V, idx_a t]
theorem blk_b (t : Fin cfg0.N) (k : Fin 2048) (j : Fin 512) :
    iblk m c 2 t (ix2 k j) = bOf m c k ⟨512 * (t.val % 11) + j.val, by omega⟩ := by
  unfold bOf; blk_ext! [iblk, V, idx_b t]
theorem blk_d (t : Fin cfg0.N) (j : Fin 512) (l : Fin 2048) :
    iblk m c 3 t (ix2 j l) = dOf m c ⟨512 * (t.val % 11) + j.val, by omega⟩ l := by
  unfold dOf; blk_ext! [iblk, V, idx_d t]
theorem blk_f (t : Fin cfg0.N) (k : Fin 2048) : iblk m c 4 t (ix2 0 k) = fOf m c k := by
  unfold fOf; blk_ext! [iblk, V, idx_f t]
theorem blk_x (b : Fin 8) (p : Fin 1024) (k : Fin 2048) :
    xt c (V m c main_arg0) b (ix2 p k) = xOf m c ⟨1024 * b.val + p.val, by omega⟩ k := by
  refine congrArg (m ((c.tc : Thread nD τ).loc main_arg0)) (funext fun a => Fin.ext ?_)
  show (![1024 * b.val, 0] : Fin 2 → ℕ) a + 1 * ((ix2 p k : S1024x2048.Idx) a).val = _
  fin_cases a
  · show 1024 * b.val + 1 * p.val = 1024 * b.val + p.val; omega
  · show 0 + 1 * k.val = k.val; omega

/-! ## The grid points -/

/-- The row of the operand behind row `p` of the tile at point `n`. -/
abbrev rowAt (n : ℕ) (hn : n < cfg0.N) (p : Fin 1024) : Fin 8192 :=
  ⟨1024 * (n / 11) + p.val, by have h : n < 88 := lt_of_lt_of_eq hn N_0; omega⟩

theorem xt_apply (n : ℕ) (hn : n < cfg0.N) (p : Fin 1024) (k : Fin 2048) :
    xt c (V m c main_arg0) (bk (n / 11)) (ix2 p k) = xOf m c (rowAt n hn p) k := by
  refine (blk_x m c _ p k).trans (congrArg (fun r => xOf m c r k) (Fin.ext ?_))
  have h : n < 88 := lt_of_lt_of_eq hn N_0
  show 1024 * (n / 11 % 8) + p.val = 1024 * (n / 11) + p.val
  rw [Nat.mod_eq_of_lt (by omega)]

theorem hnV_point (n : ℕ) (hn : n < cfg0.N) (p : Fin 1024) (q : Fin 2048) :
    hnV (xt c (V m c main_arg0) (bk (n / 11))) (iblk m c 0 ⟨n, hn⟩) (ix2 p q) = normAt (xOf m c (rowAt n hn p)) (gOf m c) q := by
  rw [hnV_apply]
  simp only [xt_apply m c n hn, blk_g]

theorem hnAt_apply : ∀ (n : ℕ) (hn : n < cfg0.N) (p : Fin 1024) (q : Fin 2048),
    hnAt m c n hn (ix2 p q) = normAt (xOf m c (rowAt n hn p)) (gOf m c) q
  | 0, hn, p, q => hnV_point m c 0 hn p q
  | n + 1, hn, p, q => by
    by_cases h0 : (n + 1) % 11 = 0
    · rw [hnAt_first m c ⟨n + 1, hn⟩ h0]; exact hnV_point m c (n + 1) hn p q
    · rw [hnAt_next m c ⟨n + 1, hn⟩ h0]
      refine (hnAt_apply n _ p q).trans (congrArg (fun r => normAt (xOf m c r) (gOf m c) q) (Fin.ext ?_))
      show 1024 * (n / 11) + p.val = 1024 * ((n + 1) / 11) + p.val
      omega

/-- What hidden column `j` contributes to an entry. -/
def term (r : Fin 8192) (q : Fin 2048) (j : ℕ) : EReal :=
  if h : j < 5632 then
    gateAt (normAt (xOf m c r) (gOf m c)) (fun k => aOf m c k ⟨j, h⟩) (fun k => bOf m c k ⟨j, h⟩) * dOf m c ⟨j, h⟩ q
  else 0

theorem pay4_point (n : ℕ) (hn : n < cfg0.N) (v9 : Vec Ideal S1024x2048 .bf16) (o : Vec Ideal S1024x2048 .f32) (p : Fin 1024) (q : Fin 2048)
    (h9 : ∀ k, v9 (ix2 p k) = normAt (xOf m c (rowAt n hn p)) (gOf m c) k) :
    k0_pay4 v9 (iblk m c 1 ⟨n, hn⟩) (iblk m c 2 ⟨n, hn⟩) o (iblk m c 3 ⟨n, hn⟩) (ix2 p q)
      = o (ix2 p q) + ∑ j ∈ Finset.range 512, term m c (rowAt n hn p) q (512 * (n % 11) + j) := by
  rw [pay4_apply, ← Fin.sum_univ_eq_sum_range (fun j => term m c (rowAt n hn p) q (512 * (n % 11) + j)) 512]
  congr 1
  refine Finset.sum_congr rfl fun j _ => ?_
  have hj : 512 * (n % 11) + j.val < 5632 := by omega
  unfold term
  rw [dif_pos hj]
  simp only [h9, blk_a, blk_b, blk_d]

theorem sum_step (f : ℕ → EReal) (x : EReal) (k : ℕ) :
    x + ∑ j ∈ Finset.range (512 * k), f j + ∑ j ∈ Finset.range 512, f (512 * k + j) = x + ∑ j ∈ Finset.range (512 * (k + 1)), f j := by
  rw [show 512 * (k + 1) = 512 * k + 512 by ring, Finset.sum_range_add, add_assoc]

theorem outAt_apply : ∀ (n : ℕ) (hn : n < cfg0.N) (h4 : ¬n % 11 = 10) (p : Fin 1024) (q : Fin 2048),
    outAt m c n hn (ix2 p q) = Ideal.ofBits .f32 0x40000000#32 * xOf m c (rowAt n hn p) q
      + ∑ j ∈ Finset.range (512 * (n % 11 + 1)), term m c (rowAt n hn p) q j := by
  intro n
  induction n with
  | zero =>
    intro hn h4 p q
    rw [outAt_first m c ⟨0, hn⟩ (Nat.zero_mod _), pay4_point m c 0 hn _ _ p q (hnV_point m c 0 hn p), twoV_apply, xt_apply m c 0 hn]
    simp
  | succ n ih =>
    intro hn h4 p q
    by_cases h0 : (n + 1) % 11 = 0
    · rw [outAt_first m c ⟨n + 1, hn⟩ h0, pay4_point m c (n + 1) hn _ _ p q (hnV_point m c (n + 1) hn p), twoV_apply, xt_apply m c (n + 1) hn, h0]
      simp
    · rw [outAt_mid m c ⟨n + 1, hn⟩ h0 h4, pay4_point m c (n + 1) hn _ _ p q (hnAt_apply m c (n + 1) hn p)]
      have hr : rowAt n (Nat.lt_of_succ_lt hn) p = rowAt (n + 1) hn p := Fin.ext (by
        show 1024 * (n / 11) + p.val = 1024 * ((n + 1) / 11) + p.val; omega)
      have hi := ih (Nat.lt_of_succ_lt hn) (by omega) p q
      rw [hr, show n % 11 + 1 = (n + 1) % 11 by omega] at hi
      rw [show outAt m c ((⟨n + 1, hn⟩ : Fin cfg0.N).val - 1) _ (ix2 p q) = _ from hi, sum_step]

/-- The array the kernel leaves. -/
def result (i : S8192x2048.Idx) : EReal :=
  normAt (mixAt (xOf m c (i 0)) (gOf m c) (aOf m c) (bOf m c) (dOf m c)) (fOf m c) (i 1)

theorem outAt_end (n : ℕ) (hn : n < cfg0.N) (h4 : n % 11 = 10) (p : Fin 1024) (q : Fin 2048) :
    outAt m c n hn (ix2 p q) = normAt (mixAt (xOf m c (rowAt n hn p)) (gOf m c) (aOf m c) (bOf m c) (dOf m c)) (fOf m c) q := by
  rw [outAt_last m c ⟨n, hn⟩ h4, finV_apply]
  simp only [blk_f]
  refine congrArg (fun f => normAt f (fOf m c) q) (funext fun l => ?_)
  rw [pay4_point m c n hn _ _ p l (hnAt_apply m c n hn p)]
  have hl : n - 1 < cfg0.N := Nat.lt_of_le_of_lt (Nat.sub_le _ _) hn
  have hr : rowAt (n - 1) hl p = rowAt n hn p := Fin.ext (by
    show 1024 * ((n - 1) / 11) + p.val = 1024 * (n / 11) + p.val; omega)
  have hi := outAt_apply m c (n - 1) hl (by omega) p l
  rw [hr, show (n - 1) % 11 + 1 = n % 11 by omega] at hi
  rw [show outAt m c ((⟨n, hn⟩ : Fin cfg0.N).val - 1) _ (ix2 p l) = _ from hi, sum_step, half_two, h4]
  unfold mixAt
  rw [show 512 * (10 + 1) = 5632 by norm_num, ← Fin.sum_univ_eq_sum_range (fun j => term m c (rowAt n hn p) l j) 5632]
  refine congrArg (fun s => _ + _ * s) (Finset.sum_congr rfl fun j _ => ?_)
  unfold term
  rw [dif_pos j.isLt]

theorem final : (dats m 0 c).arrAt 5 cfg0.N = result m c := by
  refine (dats m 0 c).arrAt_eq_of_covers 5 _ (by decide +kernel) fun t hf y => ?_
  blk_simp
  rw [after0_5]
  obtain ⟨p, q, rfl⟩ : ∃ (p : Fin 1024) (q : Fin 2048), y = ix2 p q := ⟨y 0, y 1, by idx_vars y⟩
  have h4 : t.val % 11 = 10 := (flush0_5 t).1 hf
  have e0 : ((win0_5.blk t).view.emb (ix2 p q) 0 : Fin 8192) = rowAt t.val t.isLt p :=
    Fin.ext (by blk_simp [idx_o t]; show t.val / 11 * 1024 + p.val = 1024 * (t.val / 11) + p.val; omega)
  have e1 : ((win0_5.blk t).view.emb (ix2 p q) 1 : Fin 2048) = q :=
    Fin.ext (by blk_simp [idx_o t])
  refine (outAt_end m c t.val t.isLt h4 p q).trans ?_
  unfold result
  rw [e0, e1]

theorem run_blocks (ρ : Dev nD → PrngReg) : θ_run defs (onTc (τ := τ) (main (F := Ideal))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 5,
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩) (run_main m ρ)

end Cert.FfnIdeal.Whole

namespace Cert.Proof
open Idealize.ShloMosaic Idealize.SL.Sem Cert.FfnRefIdeal

theorem ffnRef_frame : Cert.quiescent_FfnRefIdeal := fun m g _ =>
  (θ_run _ _ _).mono (fun r h => ⟨fun c => (h c).2, sem_eq_zero_of_no_sems (by decide) r.2⟩) (Cert.FfnRefIdeal.Value.run m g)

theorem ffn_algebraic : Cert.algebraic_FfnIdeal_FfnRefIdeal := fun m g m' g' hpre hag =>
  ⟨fun c => Cert.FfnIdeal.Whole.result m c,
    (θ_run _ _ _).mono (fun r h c => ⟨(h c).1.trans (Cert.FfnIdeal.Whole.final m c), (h c).2⟩) (Cert.FfnIdeal.Whole.run_blocks m g),
    (θ_run _ _ _).mono (fun r h c => ⟨(h c).1.trans (by
      obtain ⟨h0, h1, h2, h3, h4, h5⟩ := hag c
      unfold Cert.FfnRefIdeal.Value.res_main_v36
      rw [h0, h1, h2, h3, h4, h5]
      funext i
      obtain ⟨r, l, rfl⟩ : ∃ (r : Fin 8192) (l : Fin 2048), i = ix2 r l := ⟨i 0, i 1, by idx_vars i⟩
      show _ = Cert.FfnIdeal.Whole.normAt (Cert.FfnIdeal.Whole.mixAt (Cert.FfnIdeal.Whole.xOf m c r) _ _ _ _) _ l
      unfold Cert.FfnIdeal.Whole.normAt Cert.FfnIdeal.Whole.mixAt Cert.FfnIdeal.Whole.gateAt Cert.FfnIdeal.Whole.normAt
        Cert.FfnIdeal.Whole.xOf Cert.FfnIdeal.Whole.gOf Cert.FfnIdeal.Whole.aOf Cert.FfnIdeal.Whole.bOf Cert.FfnIdeal.Whole.dOf Cert.FfnIdeal.Whole.fOf
      pointwise), (h c).2⟩) (Cert.FfnRefIdeal.Value.run m' g')⟩

end Cert.Proof

end
-- ==== Proof.ProjRef.lean ====
module

public import proofs.«01_k».proof.Defs
public import proofs.«01_k».proof.Proof.Gen.ProjRefIdeal.Run
public import Idealize.ShloMosaic.Lib.Pipeline.ValueKit
public import Idealize.ShloMosaic.Lib.Pointwise

/-! The input projection: its mathematics, and the reference's entries. -/

@[expose] public section

set_option maxRecDepth 16384

noncomputable section

namespace Cert.ProjSpec

open Idealize.ShloMosaic

/-- A row divided by its root mean square, times a gain. -/
def normAt (x g : Fin 2048 → EReal) (l : Fin 2048) : EReal :=
  x l * Ideal.rsqrt (Ideal.div (∑ k, x k * x k) (Ideal.ofBits .f32 0x45000000#32) + Ideal.ofBits .f32 0x358637BD#32) * g l

/-- The rotary embedding of eight heads of 128 lanes. -/
def rotAt (X : Fin 1024 → EReal) (cs sn : Fin 64 → EReal) (l : Fin 1024) : EReal :=
  if h : l.val % 128 < 64 then X l * cs ⟨l.val % 128, h⟩ - X ⟨l.val + 64, by omega⟩ * sn ⟨l.val % 128, h⟩
  else X ⟨l.val - 64, by omega⟩ * sn ⟨l.val % 128 - 64, by omega⟩ + X l * cs ⟨l.val % 128 - 64, by omega⟩

/-- Columns `1024 j`, …, `1024 j + 1023` of a row. -/
def tileAt (y : Fin 13312 → EReal) (j : ℕ) (hj : j < 13) (q : Fin 1024) : EReal := y ⟨1024 * j + q.val, by omega⟩

/-- One entry of the projection: the attention's and the retention's queries and keys rotated, the rest as it is. -/
def tileOut (X : Fin 1024 → EReal) (ca sa cr sr : Fin 64 → EReal) (j : ℕ) (q : Fin 1024) : EReal :=
  if j = 0 then rotAt X ca sa q * Ideal.ofBits .f32 0x3E0293EE#32
  else if j = 1 then rotAt X ca sa q
  else if j = 3 then rotAt X cr sr q
  else if j = 4 then rotAt X cr sr q * Ideal.ofBits .f32 0x3DB504F3#32
  else X q

def projAt (y : Fin 13312 → EReal) (ca sa cr sr : Fin 64 → EReal) (l : Fin 13312) : EReal :=
  tileOut (tileAt y (l.val / 1024) (by omega)) ca sa cr sr (l.val / 1024) ⟨l.val % 1024, Nat.mod_lt _ (by decide)⟩

section
variable (X : Fin 1024 → EReal) (ca sa cr sr : Fin 64 → EReal) (q : Fin 1024)

theorem tileOut_0 : tileOut X ca sa cr sr 0 q = rotAt X ca sa q * Ideal.ofBits .f32 0x3E0293EE#32 := if_pos rfl

theorem tileOut_1 : tileOut X ca sa cr sr 1 q = rotAt X ca sa q := (if_neg (by decide)).trans (if_pos rfl)

theorem tileOut_3 : tileOut X ca sa cr sr 3 q = rotAt X cr sr q :=
  (if_neg (by decide)).trans ((if_neg (by decide)).trans (if_pos rfl))

theorem tileOut_4 : tileOut X ca sa cr sr 4 q = rotAt X cr sr q * Ideal.ofBits .f32 0x3DB504F3#32 :=
  (if_neg (by decide)).trans ((if_neg (by decide)).trans ((if_neg (by decide)).trans (if_pos rfl)))

theorem tileOut_else (j : ℕ) (h : ¬ (j = 0 ∨ j = 1 ∨ j = 3 ∨ j = 4)) : tileOut X ca sa cr sr j q = X q :=
  (if_neg (by omega)).trans ((if_neg (by omega)).trans ((if_neg (by omega)).trans (if_neg (by omega))))

end

theorem projAt_eq (y : Fin 13312 → EReal) (ca sa cr sr : Fin 64 → EReal) (l : Fin 13312) (j : ℕ) (q : Fin 1024) (hj : j < 13)
    (e : l.val = 1024 * j + q.val) : projAt y ca sa cr sr l = tileOut (tileAt y j hj) ca sa cr sr j q := by
  have hq : (⟨l.val % 1024, Nat.mod_lt _ (by decide)⟩ : Fin 1024) = q := Fin.ext (by show l.val % 1024 = q.val; omega)
  obtain rfl : j = l.val / 1024 := by omega
  unfold projAt
  rw [hq]

end Cert.ProjSpec

namespace Cert.ProjRefIdeal.Whole

open Cert.ProjRefIdeal Cert.ProjRefIdeal.Gen Cert.ProjSpec
open Idealize.ShloMosaic Idealize.ShloMosaic.TcCoe
open Idealize.SL.Sem

/-- The projection of the normalised rows. -/
def dotT (m : (ℓ : Loc nD τ sig) → Buf (Elt Ideal) ℓ) (c : Dev nD) : FVec Ideal S8192x13312 .f32 :=
  (Host.dotGeneral dot_S8192x2048_S2048x13312_S8192x13312_1_0_0_1_n_n none (mulf (mulf (m ((c.tc : Thread nD τ).loc main_arg0)) (broadcastInDim S8192x2048 ![0, 1] bcast_S8192x1_S8192x2048_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![0, 0, 0] (m ((c.tc : Thread nD τ).loc main_arg1)) slices_S2x1x2048_S1x1x2048_0_0_0) shapeCasts_S1x1x2048_S1x2048))) (extf .f32 (m ((c.tc : Thread nD τ).loc main_arg2)) bitsLt_bf16_f32))
def rotT (X : FVec Ideal S8192x1024 .f32) (cs sn : FVec Ideal S4096x64 .f32) : FVec Ideal S8192x1024 .f32 :=
  (shapeCast _ (concatenate S2x4096x8x128 3 [⟨S2x4096x8x64, (subf (mulf (extractStridedSlice S2x4096x8x64 ![0, 0, 0, 0] (shapeCast _ X shapeCasts_S8192x1024_S2x4096x8x128) slices_S2x4096x8x128_S2x4096x8x64_0_0_0_0) (broadcastInDim S2x4096x8x64 ![0, 1, 2, 3] bcast_S1x4096x1x64_S2x4096x8x64_0_1_2_3 (broadcastInDim S1x4096x1x64 ![1, 3] bcast_S4096x64_S1x4096x1x64_1_3 cs))) (mulf (extractStridedSlice S2x4096x8x64 ![0, 0, 0, 64] (shapeCast _ X shapeCasts_S8192x1024_S2x4096x8x128) slices_S2x4096x8x128_S2x4096x8x64_0_0_0_64) (broadcastInDim S2x4096x8x64 ![0, 1, 2, 3] bcast_S1x4096x1x64_S2x4096x8x64_0_1_2_3 (broadcastInDim S1x4096x1x64 ![1, 3] bcast_S4096x64_S1x4096x1x64_1_3 sn))))⟩, ⟨S2x4096x8x64, (addf (mulf (extractStridedSlice S2x4096x8x64 ![0, 0, 0, 0] (shapeCast _ X shapeCasts_S8192x1024_S2x4096x8x128) slices_S2x4096x8x128_S2x4096x8x64_0_0_0_0) (broadcastInDim S2x4096x8x64 ![0, 1, 2, 3] bcast_S1x4096x1x64_S2x4096x8x64_0_1_2_3 (broadcastInDim S1x4096x1x64 ![1, 3] bcast_S4096x64_S1x4096x1x64_1_3 sn))) (mulf (extractStridedSlice S2x4096x8x64 ![0, 0, 0, 64] (shapeCast _ X shapeCasts_S8192x1024_S2x4096x8x128) slices_S2x4096x8x128_S2x4096x8x64_0_0_0_64) (broadcastInDim S2x4096x8x64 ![0, 1, 2, 3] bcast_S1x4096x1x64_S2x4096x8x64_0_1_2_3 (broadcastInDim S1x4096x1x64 ![1, 3] bcast_S4096x64_S1x4096x1x64_1_3 cs))))⟩] concatenates_S2x4096x8x64_S2x4096x8x64_S2x4096x8x128_d3) shapeCasts_S2x4096x8x128_S8192x1024)
def sliceY0 (Y : FVec Ideal S8192x13312 .f32) : FVec Ideal S8192x1024 .f32 :=
  extractStridedSlice S8192x1024 ![0, 0] Y slices_S8192x13312_S8192x1024_0_0
def sliceY1024 (Y : FVec Ideal S8192x13312 .f32) : FVec Ideal S8192x1024 .f32 :=
  extractStridedSlice S8192x1024 ![0, 1024] Y slices_S8192x13312_S8192x1024_0_1024
def sliceY3072 (Y : FVec Ideal S8192x13312 .f32) : FVec Ideal S8192x1024 .f32 :=
  extractStridedSlice S8192x1024 ![0, 3072] Y slices_S8192x13312_S8192x1024_0_3072
def sliceY4096 (Y : FVec Ideal S8192x13312 .f32) : FVec Ideal S8192x1024 .f32 :=
  extractStridedSlice S8192x1024 ![0, 4096] Y slices_S8192x13312_S8192x1024_0_4096
def outT (Y : FVec Ideal S8192x13312 .f32) (ca sa cr sr : FVec Ideal S4096x64 .f32) : FVec Ideal S8192x13312 .bf16 :=
  truncf .bf16 ((concatenate S8192x13312 1 [⟨S8192x1024, ((mulf (rotT (sliceY0 Y) ca sa) (broadcastInDim S8192x1024 ![] bcast_S_S8192x1024 (constant S_ .f32 0x3E0293EE#32))) : (⟨S8192x1024, .f32⟩ : BufTy).Contents (Elt Ideal))⟩, ⟨S8192x1024, ((rotT (sliceY1024 Y) ca sa) : (⟨S8192x1024, .f32⟩ : BufTy).Contents (Elt Ideal))⟩, ⟨S8192x1024, ((extractStridedSlice S8192x1024 ![0, 2048] Y slices_S8192x13312_S8192x1024_0_2048) : (⟨S8192x1024, .f32⟩ : BufTy).Contents (Elt Ideal))⟩, ⟨S8192x1024, ((rotT (sliceY3072 Y) cr sr) : (⟨S8192x1024, .f32⟩ : BufTy).Contents (Elt Ideal))⟩, ⟨S8192x1024, ((mulf (rotT (sliceY4096 Y) cr sr) (broadcastInDim S8192x1024 ![] bcast_S_S8192x1024 (constant S_ .f32 0x3DB504F3#32))) : (⟨S8192x1024, .f32⟩ : BufTy).Contents (Elt Ideal))⟩, ⟨S8192x8192, ((extractStridedSlice S8192x8192 ![0, 5120] Y slices_S8192x13312_S8192x8192_0_5120) : (⟨S8192x8192, .f32⟩ : BufTy).Contents (Elt Ideal))⟩] concatenates_S8192x1024_S8192x1024_S8192x1024_S8192x1024_S8192x1024_S8192x8192_S8192x13312_d1 : (⟨S8192x13312, .f32⟩ : BufTy).Contents (Elt Ideal))) bitsLt_bf16_f32

theorem res_eq (m : (ℓ : Loc nD τ sig) → Buf (Elt Ideal) ℓ) (c : Dev nD) : Cert.ProjRefIdeal.Value.res_main_v95 m c
    = outT (dotT m c) (m ((c.tc : Thread nD τ).loc main_arg3)) (m ((c.tc : Thread nD τ).loc main_arg4))
        (m ((c.tc : Thread nD τ).loc main_arg5)) (m ((c.tc : Thread nD τ).loc main_arg6)) := rfl

theorem dotT_apply (m : (ℓ : Loc nD τ sig) → Buf (Elt Ideal) ℓ) (c : Dev nD) (r : Fin 8192) (l : Fin 13312) :
    dotT m c (ix2 r l) = ∑ k, normAt (fun k => m ((c.tc : Thread nD τ).loc main_arg0) (ix2 r k)) (fun k => m ((c.tc : Thread nD τ).loc main_arg1) (ix3 0 0 k)) k
      * m ((c.tc : Thread nD τ).loc main_arg2) (ix2 k l) := by
  unfold normAt
  pointwise [dotT]

theorem rotT_apply (X : FVec Ideal S8192x1024 .f32) (cs sn : FVec Ideal S4096x64 .f32) (r : Fin 8192) (l : Fin 1024) :
    rotT X cs sn (ix2 r l) = rotAt (fun q => X (ix2 r q)) (fun k => cs (ix2 ⟨r.val % 4096, Nat.mod_lt _ (by decide)⟩ k))
      (fun k => sn (ix2 ⟨r.val % 4096, Nat.mod_lt _ (by decide)⟩ k)) l := by
  have e1 : ∀ h : l.val % 128 < 64, (⟨l.val / 128 * 128 + (64 + l.val % 128), by omega⟩ : Fin 1024) = ⟨l.val + 64, by omega⟩ :=
    fun h => Fin.ext (by show l.val / 128 * 128 + (64 + l.val % 128) = l.val + 64; omega)
  have e2 : ∀ h : ¬ l.val % 128 < 64, (⟨l.val / 128 * 128 + (l.val % 128 - 64), by omega⟩ : Fin 1024) = ⟨l.val - 64, by omega⟩ :=
    fun h => Fin.ext (by show l.val / 128 * 128 + (l.val % 128 - 64) = l.val - 64; omega)
  have e3 : ∀ h : ¬ l.val % 128 < 64, (⟨l.val / 128 * 128 + (64 + (l.val % 128 - 64)), by omega⟩ : Fin 1024) = l :=
    fun h => Fin.ext (by show l.val / 128 * 128 + (64 + (l.val % 128 - 64)) = l.val; omega)
  unfold rotAt
  pointwise [rotT]
  refine dite_congr rfl (fun h => ?_) (fun h => ?_)
  · exact congrArg (fun q => X (ix2 r l) * _ - X (ix2 r q) * _) (e1 h)
  · exact congrArg₂ (fun q q' => X (ix2 r q) * _ + X (ix2 r q') * _) (e2 h) (e3 h)

theorem slice0_apply (Y : FVec Ideal S8192x13312 .f32) (r : Fin 8192) (j : ℕ) (hj : j < 13) (e : j = 0) (q : Fin 1024) :
    sliceY0 Y (ix2 r q) = tileAt (fun k => Y (ix2 r k)) j hj q := by
  subst e
  unfold tileAt
  pointwise [sliceY0]

theorem slice1024_apply (Y : FVec Ideal S8192x13312 .f32) (r : Fin 8192) (j : ℕ) (hj : j < 13) (e : j = 1) (q : Fin 1024) :
    sliceY1024 Y (ix2 r q) = tileAt (fun k => Y (ix2 r k)) j hj q := by
  subst e
  unfold tileAt
  pointwise [sliceY1024]

theorem slice3072_apply (Y : FVec Ideal S8192x13312 .f32) (r : Fin 8192) (j : ℕ) (hj : j < 13) (e : j = 3) (q : Fin 1024) :
    sliceY3072 Y (ix2 r q) = tileAt (fun k => Y (ix2 r k)) j hj q := by
  subst e
  unfold tileAt
  pointwise [sliceY3072]

theorem slice4096_apply (Y : FVec Ideal S8192x13312 .f32) (r : Fin 8192) (j : ℕ) (hj : j < 13) (e : j = 4) (q : Fin 1024) :
    sliceY4096 Y (ix2 r q) = tileAt (fun k => Y (ix2 r k)) j hj q := by
  subst e
  unfold tileAt
  pointwise [sliceY4096]

theorem outT_apply (Y : FVec Ideal S8192x13312 .f32) (ca sa cr sr : FVec Ideal S4096x64 .f32) (r : Fin 8192) (l : Fin 13312) :
    outT Y ca sa cr sr (ix2 r l) = projAt (fun k => Y (ix2 r k)) (fun k => ca (ix2 ⟨r.val % 4096, Nat.mod_lt _ (by decide)⟩ k)) (fun k => sa (ix2 ⟨r.val % 4096, Nat.mod_lt _ (by decide)⟩ k))
      (fun k => cr (ix2 ⟨r.val % 4096, Nat.mod_lt _ (by decide)⟩ k)) (fun k => sr (ix2 ⟨r.val % 4096, Nat.mod_lt _ (by decide)⟩ k)) l := by
  unfold outT
  pointwise
  by_cases h0 : l.val < 1024
  · refine (dif_pos h0).trans (Eq.trans ?_ ((projAt_eq _ _ _ _ _ l 0 ⟨l.val, h0⟩ (by decide) (by show l.val = 1024 * 0 + (l.val); omega)).trans (tileOut_0 _ _ _ _ _ _)).symm)
    exact congrArg (fun a : EReal => a * _) ((rotT_apply (sliceY0 Y) ca sa r ⟨l.val, h0⟩).trans (congrArg (fun X => rotAt X _ _ _) (funext fun q => slice0_apply Y r 0 (by decide) rfl q)))
  refine (dif_neg h0).trans ?_
  by_cases h1 : l.val - 1024 < 1024
  · refine (dif_pos h1).trans (Eq.trans ?_ ((projAt_eq _ _ _ _ _ l 1 ⟨l.val - 1024, h1⟩ (by decide) (by show l.val = 1024 * 1 + (l.val - 1024); omega)).trans (tileOut_1 _ _ _ _ _ _)).symm)
    exact congrArg (fun a : EReal => a) ((rotT_apply (sliceY1024 Y) ca sa r ⟨l.val - 1024, h1⟩).trans (congrArg (fun X => rotAt X _ _ _) (funext fun q => slice1024_apply Y r 1 (by decide) rfl q)))
  refine (dif_neg h1).trans ?_
  by_cases h2 : l.val - 1024 - 1024 < 1024
  · refine (dif_pos h2).trans (Eq.trans ?_ ((projAt_eq _ _ _ _ _ l 2 ⟨l.val - 1024 - 1024, h2⟩ (by decide) (by show l.val = 1024 * 2 + (l.val - 1024 - 1024); omega)).trans (tileOut_else _ _ _ _ _ _ 2 (by decide))).symm)
    rfl
  refine (dif_neg h2).trans ?_
  by_cases h3 : l.val - 1024 - 1024 - 1024 < 1024
  · refine (dif_pos h3).trans (Eq.trans ?_ ((projAt_eq _ _ _ _ _ l 3 ⟨l.val - 1024 - 1024 - 1024, h3⟩ (by decide) (by show l.val = 1024 * 3 + (l.val - 1024 - 1024 - 1024); omega)).trans (tileOut_3 _ _ _ _ _ _)).symm)
    exact congrArg (fun a : EReal => a) ((rotT_apply (sliceY3072 Y) cr sr r ⟨l.val - 1024 - 1024 - 1024, h3⟩).trans (congrArg (fun X => rotAt X _ _ _) (funext fun q => slice3072_apply Y r 3 (by decide) rfl q)))
  refine (dif_neg h3).trans ?_
  by_cases h4 : l.val - 1024 - 1024 - 1024 - 1024 < 1024
  · refine (dif_pos h4).trans (Eq.trans ?_ ((projAt_eq _ _ _ _ _ l 4 ⟨l.val - 1024 - 1024 - 1024 - 1024, h4⟩ (by decide) (by show l.val = 1024 * 4 + (l.val - 1024 - 1024 - 1024 - 1024); omega)).trans (tileOut_4 _ _ _ _ _ _)).symm)
    exact congrArg (fun a : EReal => a * _) ((rotT_apply (sliceY4096 Y) cr sr r ⟨l.val - 1024 - 1024 - 1024 - 1024, h4⟩).trans (congrArg (fun X => rotAt X _ _ _) (funext fun q => slice4096_apply Y r 4 (by decide) rfl q)))
  refine (dif_neg h4).trans ?_
  unfold projAt
  refine Eq.trans ?_ (tileOut_else _ _ _ _ _ _ _ (by omega)).symm
  unfold tileAt
  refine congrArg (fun k => Y (ix2 r k)) (Fin.ext ?_)
  show 5120 + (l.val - 1024 - 1024 - 1024 - 1024 - 1024) = 1024 * (l.val / 1024) + l.val % 1024
  omega

end Cert.ProjRefIdeal.Whole

end
-- ==== Proof.ProjValue.lean ====
module

public import proofs.«01_k».proof.Defs
public import proofs.«01_k».proof.Proof.Gen.ProjIdeal.Value
public import proofs.«01_k».proof.Proof.ProjRef
public import Idealize.ShloMosaic.Lib.Pipeline.ReadBack
public import Idealize.ShloMosaic.Lib.Quiescent

/-! The input projection's kernel: the normalised row block kept across a row of grid points, and its four arrays. -/

@[expose] public section

set_option maxRecDepth 16384

noncomputable section

namespace Cert.ProjIdeal.Whole

open Cert.ProjIdeal Cert.ProjIdeal.Gen Cert.ProjSpec
open Idealize.ShloMosaic Idealize.ShloMosaic.TcCoe
open Idealize.SL.Sem

theorem pay16_apply (s : EReal) (T : Vec Ideal S1024x128 .f32) (p : Fin 1024) (x : Fin 128) :
    k0_pay16 (F := Ideal) s T (ix2 p x) = T (ix2 p x) * s := by
  pointwise [k0_pay16]

theorem pay17_apply (s : EReal) (T : Vec Ideal S1024x128 .f32) (p : Fin 1024) (x : Fin 128) :
    k0_pay17 (F := Ideal) s T (ix2 p x) = T (ix2 p x) * s := by
  pointwise [k0_pay17]

theorem pay31_apply (s : EReal) (T : Vec Ideal S1024x128 .f32) (p : Fin 1024) (x : Fin 128) :
    k0_pay31 (F := Ideal) s T (ix2 p x) = T (ix2 p x) * s := by
  pointwise [k0_pay31]

theorem pay32_apply (s : EReal) (T : Vec Ideal S1024x128 .f32) (p : Fin 1024) (x : Fin 128) :
    k0_pay32 (F := Ideal) s T (ix2 p x) = T (ix2 p x) * s := by
  pointwise [k0_pay32]

theorem pay15_apply (A : Vec Ideal S1024x2048 .bf16) (W : Vec Ideal S2048x1024 .bf16) (p q : Fin 1024) :
    k0_pay15 (F := Ideal) A W (ix2 p q) = ∑ k, A (ix2 p k) * W (ix2 k q) := by
  pointwise [k0_pay15]

theorem pay30_apply (A : Vec Ideal S1024x2048 .bf16) (W : Vec Ideal S2048x1024 .bf16) (p q : Fin 1024) :
    k0_pay30 (F := Ideal) A W (ix2 p q) = ∑ k, A (ix2 p k) * W (ix2 k q) := by
  pointwise [k0_pay30]

/-- A head of 128 lanes rotated, at row `p` and lane `x` of columns `o`, …, `o + 127`. -/
def headAt (Y : FVec Ideal S1024x1024 .f32) (C S : FVec Ideal S1024x128 .f32) (o : ℕ) (ho : o + 128 ≤ 1024) (p : Fin 1024) (x : Fin 128) : EReal :=
  Y (ix2 p ⟨o + x.val, by omega⟩) * C (ix2 p x) + Y (ix2 p ⟨o + (x.val + 128 - 64) % 128, by omega⟩) * S (ix2 p x)

theorem k0_pay19_apply (Y : FVec Ideal S1024x1024 .f32) (C S : FVec Ideal S1024x128 .f32) (p : Fin 1024) (x : Fin 128) :
    k0_pay19 (F := Ideal) Y C S (ix2 p x) = headAt Y C S 128 (by decide) p x := by
  unfold headAt
  pointwise [k0_pay19]

theorem k0_pay20_apply (Y : FVec Ideal S1024x1024 .f32) (C S : FVec Ideal S1024x128 .f32) (p : Fin 1024) (x : Fin 128) :
    k0_pay20 (F := Ideal) Y C S (ix2 p x) = headAt Y C S 256 (by decide) p x := by
  unfold headAt
  pointwise [k0_pay20]

theorem k0_pay21_apply (Y : FVec Ideal S1024x1024 .f32) (C S : FVec Ideal S1024x128 .f32) (p : Fin 1024) (x : Fin 128) :
    k0_pay21 (F := Ideal) Y C S (ix2 p x) = headAt Y C S 384 (by decide) p x := by
  unfold headAt
  pointwise [k0_pay21]

theorem k0_pay22_apply (Y : FVec Ideal S1024x1024 .f32) (C S : FVec Ideal S1024x128 .f32) (p : Fin 1024) (x : Fin 128) :
    k0_pay22 (F := Ideal) Y C S (ix2 p x) = headAt Y C S 512 (by decide) p x := by
  unfold headAt
  pointwise [k0_pay22]

theorem k0_pay23_apply (Y : FVec Ideal S1024x1024 .f32) (C S : FVec Ideal S1024x128 .f32) (p : Fin 1024) (x : Fin 128) :
    k0_pay23 (F := Ideal) Y C S (ix2 p x) = headAt Y C S 640 (by decide) p x := by
  unfold headAt
  pointwise [k0_pay23]

theorem k0_pay5_apply (Y : FVec Ideal S1024x1024 .f32) (C S : FVec Ideal S1024x128 .f32) (p : Fin 1024) (x : Fin 128) :
    k0_pay5 (F := Ideal) Y C S (ix2 p x) = headAt Y C S 896 (by decide) p x := by
  unfold headAt
  pointwise [k0_pay5]

theorem k0_pay4_apply (Y : FVec Ideal S1024x1024 .f32) (C S : FVec Ideal S1024x128 .f32) (p : Fin 1024) (x : Fin 128) :
    k0_pay4 (F := Ideal) S (k0_pay25 Y C) (k0_pay26 Y) (ix2 p x) = headAt Y C S 768 (by decide) p x := by
  unfold headAt
  pointwise [k0_pay4, k0_pay25, k0_pay26, k0_pay24]

theorem k0_pay34_apply (Y : FVec Ideal S1024x1024 .f32) (C S : FVec Ideal S1024x128 .f32) (p : Fin 1024) (x : Fin 128) :
    k0_pay34 (F := Ideal) Y C S (ix2 p x) = headAt Y C S 128 (by decide) p x := by
  unfold headAt
  pointwise [k0_pay34]

theorem k0_pay35_apply (Y : FVec Ideal S1024x1024 .f32) (C S : FVec Ideal S1024x128 .f32) (p : Fin 1024) (x : Fin 128) :
    k0_pay35 (F := Ideal) Y C S (ix2 p x) = headAt Y C S 256 (by decide) p x := by
  unfold headAt
  pointwise [k0_pay35]

theorem k0_pay36_apply (Y : FVec Ideal S1024x1024 .f32) (C S : FVec Ideal S1024x128 .f32) (p : Fin 1024) (x : Fin 128) :
    k0_pay36 (F := Ideal) Y C S (ix2 p x) = headAt Y C S 384 (by decide) p x := by
  unfold headAt
  pointwise [k0_pay36]

theorem k0_pay37_apply (Y : FVec Ideal S1024x1024 .f32) (C S : FVec Ideal S1024x128 .f32) (p : Fin 1024) (x : Fin 128) :
    k0_pay37 (F := Ideal) Y C S (ix2 p x) = headAt Y C S 512 (by decide) p x := by
  unfold headAt
  pointwise [k0_pay37]

theorem k0_pay38_apply (Y : FVec Ideal S1024x1024 .f32) (C S : FVec Ideal S1024x128 .f32) (p : Fin 1024) (x : Fin 128) :
    k0_pay38 (F := Ideal) Y C S (ix2 p x) = headAt Y C S 640 (by decide) p x := by
  unfold headAt
  pointwise [k0_pay38]

theorem k0_pay7_apply (Y : FVec Ideal S1024x1024 .f32) (C S : FVec Ideal S1024x128 .f32) (p : Fin 1024) (x : Fin 128) :
    k0_pay7 (F := Ideal) Y C S (ix2 p x) = headAt Y C S 896 (by decide) p x := by
  unfold headAt
  pointwise [k0_pay7]

theorem k0_pay6_apply (Y : FVec Ideal S1024x1024 .f32) (C S : FVec Ideal S1024x128 .f32) (p : Fin 1024) (x : Fin 128) :
    k0_pay6 (F := Ideal) S (k0_pay40 Y C) (k0_pay41 Y) (ix2 p x) = headAt Y C S 768 (by decide) p x := by
  unfold headAt
  pointwise [k0_pay6, k0_pay40, k0_pay41, k0_pay39]

theorem k0_pay18_apply (s : EReal) (A : Vec Ideal S1024x2048 .bf16) (W : Vec Ideal S2048x1024 .bf16) (T U : Vec Ideal S1024x128 .f32) (p : Fin 1024) (x : Fin 128) :
    k0_pay18 (F := Ideal) s A W T U (ix2 p x) = headAt (k0_pay15 (F := Ideal) A W) (k0_pay16 (F := Ideal) s T) (k0_pay17 (F := Ideal) s U) 0 (by decide) p x := by
  unfold headAt
  rw [pay16_apply, pay17_apply]
  have e0 : (⟨0 + x.val, by omega⟩ : Fin 1024) = ⟨x.val, by omega⟩ := Fin.ext (Nat.zero_add _)
  have e1 : (⟨0 + (x.val + 128 - 64) % 128, by omega⟩ : Fin 1024) = ⟨(x.val + 128 - 64) % 128, by omega⟩ := Fin.ext (Nat.zero_add _)
  rw [e0, e1]
  simp only [pay15_apply]
  pointwise [k0_pay18, k0_pay15, k0_pay16, k0_pay17]

theorem k0_pay33_apply (s : EReal) (A : Vec Ideal S1024x2048 .bf16) (W : Vec Ideal S2048x1024 .bf16) (T U : Vec Ideal S1024x128 .f32) (p : Fin 1024) (x : Fin 128) :
    k0_pay33 (F := Ideal) s A W T U (ix2 p x) = headAt (k0_pay30 (F := Ideal) A W) (k0_pay31 (F := Ideal) s T) (k0_pay32 (F := Ideal) s U) 0 (by decide) p x := by
  unfold headAt
  rw [pay31_apply, pay32_apply]
  have e0 : (⟨0 + x.val, by omega⟩ : Fin 1024) = ⟨x.val, by omega⟩ := Fin.ext (Nat.zero_add _)
  have e1 : (⟨0 + (x.val + 128 - 64) % 128, by omega⟩ : Fin 1024) = ⟨(x.val + 128 - 64) % 128, by omega⟩ := Fin.ext (Nat.zero_add _)
  rw [e0, e1]
  simp only [pay30_apply]
  pointwise [k0_pay33, k0_pay30, k0_pay31, k0_pay32]

theorem pay1_apply (X : Vec Ideal S1024x2048 .f32) (G : Vec Ideal S1x1x2048 .f32) (p : Fin 1024) (k : Fin 2048) :
    k0_pay1 (F := Ideal) X G (ix2 p k) = normAt (fun k => X (ix2 p k)) (fun k => G (ix3 0 0 k)) k := by
  unfold normAt
  pointwise [k0_pay1]

theorem pay11_apply (A : Vec Ideal S1024x2048 .bf16) (W : Vec Ideal S2048x1024 .bf16) (p q : Fin 1024) :
    k0_pay11 (F := Ideal) A W (ix2 p q) = ∑ k, A (ix2 p k) * W (ix2 k q) := by
  pointwise [k0_pay11]

theorem piece_eq (Y : FVec Ideal S1024x1024 .f32) (C S : FVec Ideal S1024x128 .f32) (w : Vec Ideal S1024x128 .bf16) (k : ℕ) (hk : 128 * k + 128 ≤ 1024)
    (h : ∀ p x, w (ix2 p x) = headAt Y C S (128 * k) hk p x) (p q : Fin 1024) (x : S1024x128.Idx)
    (hx : ∀ a, ((ix2 p q : S1024x1024.Idx) a : ℕ) = (![0, 128 * k] : Fin 2 → ℕ) a + x a) :
    w x = headAt Y C S (q.val / 128 * 128) (by omega) p ⟨q.val % 128, Nat.mod_lt _ (by decide)⟩ := by
  obtain ⟨p', x', rfl⟩ : ∃ (p' : Fin 1024) (x' : Fin 128), x = ix2 p' x' := ⟨x 0, x 1, by idx_vars x⟩
  have h0 : p.val = 0 + p'.val := hx 0
  have h1 : q.val = 128 * k + x'.val := hx 1
  obtain rfl : p = p' := Fin.ext (by omega)
  have e : (⟨q.val % 128, Nat.mod_lt _ (by decide)⟩ : Fin 128) = x' := Fin.ext (by show q.val % 128 = x'.val; omega)
  rw [h p x', e]
  have e2 : q.val / 128 * 128 = 128 * k := by omega
  simp only [e2]

theorem tiles_apply (Y : FVec Ideal S1024x1024 .f32) (C S : FVec Ideal S1024x128 .f32) (w0 : Vec Ideal S1024x128 .bf16) (w1 : Vec Ideal S1024x128 .bf16) (w2 : Vec Ideal S1024x128 .bf16) (w3 : Vec Ideal S1024x128 .bf16) (w4 : Vec Ideal S1024x128 .bf16) (w5 : Vec Ideal S1024x128 .bf16) (w6 : Vec Ideal S1024x128 .bf16) (w7 : Vec Ideal S1024x128 .bf16)
    (h0 : ∀ p x, w0 (ix2 p x) = headAt Y C S 0 (by decide) p x)
    (h1 : ∀ p x, w1 (ix2 p x) = headAt Y C S 128 (by decide) p x)
    (h2 : ∀ p x, w2 (ix2 p x) = headAt Y C S 256 (by decide) p x)
    (h3 : ∀ p x, w3 (ix2 p x) = headAt Y C S 384 (by decide) p x)
    (h4 : ∀ p x, w4 (ix2 p x) = headAt Y C S 512 (by decide) p x)
    (h5 : ∀ p x, w5 (ix2 p x) = headAt Y C S 640 (by decide) p x)
    (h6 : ∀ p x, w6 (ix2 p x) = headAt Y C S 768 (by decide) p x)
    (h7 : ∀ p x, w7 (ix2 p x) = headAt Y C S 896 (by decide) p x)
    (p q : Fin 1024) :
    View.canon [⟨Rect.unit ![0, 896] ![1024, 128] inb_S1024x1024_S1024x128_0_896, w7⟩, ⟨Rect.unit ![0, 768] ![1024, 128] inb_S1024x1024_S1024x128_0_768, w6⟩, ⟨Rect.unit ![0, 640] ![1024, 128] inb_S1024x1024_S1024x128_0_640, w5⟩, ⟨Rect.unit ![0, 512] ![1024, 128] inb_S1024x1024_S1024x128_0_512, w4⟩, ⟨Rect.unit ![0, 384] ![1024, 128] inb_S1024x1024_S1024x128_0_384, w3⟩, ⟨Rect.unit ![0, 256] ![1024, 128] inb_S1024x1024_S1024x128_0_256, w2⟩, ⟨Rect.unit ![0, 128] ![1024, 128] inb_S1024x1024_S1024x128_0_128, w1⟩, ⟨Rect.unit ![0, 0] ![1024, 128] inb_S1024x1024_S1024x128_0_0, w0⟩] (ix2 p q)
      = headAt Y C S (q.val / 128 * 128) (by omega) p ⟨q.val % 128, Nat.mod_lt _ (by decide)⟩ := by
  refine View.canon_eq_of_allAt _ _ _ (View.cover_of_tiled_head _ _ _ (by rfl) _) ?_
  refine View.allAt_cons_unit _ _ _ _ _ (fun x hx => piece_eq Y C S w7 7 (by decide) h7 p q x hx) ?_
  refine View.allAt_cons_unit _ _ _ _ _ (fun x hx => piece_eq Y C S w6 6 (by decide) h6 p q x hx) ?_
  refine View.allAt_cons_unit _ _ _ _ _ (fun x hx => piece_eq Y C S w5 5 (by decide) h5 p q x hx) ?_
  refine View.allAt_cons_unit _ _ _ _ _ (fun x hx => piece_eq Y C S w4 4 (by decide) h4 p q x hx) ?_
  refine View.allAt_cons_unit _ _ _ _ _ (fun x hx => piece_eq Y C S w3 3 (by decide) h3 p q x hx) ?_
  refine View.allAt_cons_unit _ _ _ _ _ (fun x hx => piece_eq Y C S w2 2 (by decide) h2 p q x hx) ?_
  refine View.allAt_cons_unit _ _ _ _ _ (fun x hx => piece_eq Y C S w1 1 (by decide) h1 p q x hx) ?_
  refine View.allAt_cons_unit _ _ _ _ _ (fun x hx => piece_eq Y C S w0 0 (by decide) h0 p q x hx) ?_
  exact View.allAt_nil _ _

variable (m : (ℓ : Loc nD τ sig) → Buf (Elt Ideal) ℓ) (c : Dev nD)

theorem sc_A (t : Fin cfg0.N) (h0 : t.val % 13 = 0) : (outsAt0 m c t.val t.isLt).2.2.2.2 = k0_pay1 (iblk m c 0 t) (iblk m c 1 t) := by
  rw [outsAt0_A m c t h0 (by omega) (by omega) (by omega)]
  dsimp only
  frame_out

theorem sc_B (t : Fin cfg0.N) (h0 : t.val % 13 = 1) :
    (outsAt0 m c t.val t.isLt).2.2.2.2 = (outsAt0 m c (t.val - 1) (by omega)).2.2.2.2 := by
  rw [outsAt0_B m c t (by omega) (by omega) (by omega) (by omega)]
  rfl

theorem sc_D (t : Fin cfg0.N) (h0 : t.val % 13 = 3 ∨ t.val % 13 = 4) :
    (outsAt0 m c t.val t.isLt).2.2.2.2 = (outsAt0 m c (t.val - 1) (by omega)).2.2.2.2 := by
  rw [outsAt0_D m c t (by omega) (by omega) (by omega) (by omega)]
  rfl

theorem sc_C (t : Fin cfg0.N) (h0 : ¬ (t.val % 13 = 0 ∨ t.val % 13 = 1 ∨ t.val % 13 = 3 ∨ t.val % 13 = 4)) :
    (outsAt0 m c t.val t.isLt).2.2.2.2 = (outsAt0 m c (t.val - 1) (by omega)).2.2.2.2 := by
  rw [outsAt0_C m c t (by omega) (by omega) (by omega) h0]
  rfl

theorem out_A (t : Fin cfg0.N) (h0 : t.val % 13 = 0) (p q : Fin 1024) : (outsAt0 m c t.val t.isLt).1 (ix2 p q)
    = headAt (k0_pay15 (F := Ideal) (k0_pay1 (F := Ideal) (iblk m c 0 t) (iblk m c 1 t)) (iblk m c 2 t)) (k0_pay16 (F := Ideal) (k0_pay2 (grid0.coords t)) (iblk m c 3 t))
        (k0_pay17 (F := Ideal) (k0_pay2 (grid0.coords t)) (iblk m c 4 t)) (q.val / 128 * 128) (by omega) p ⟨q.val % 128, Nat.mod_lt _ (by decide)⟩ := by
  rw [outsAt0_A m c t h0 (by omega) (by omega) (by omega)]
  dsimp only
  frame_out

  exact tiles_apply _ _ _ _ _ _ _ _ _ _ _ (k0_pay18_apply _ _ _ _ _) (k0_pay19_apply _ _ _) (k0_pay20_apply _ _ _) (k0_pay21_apply _ _ _) (k0_pay22_apply _ _ _) (k0_pay23_apply _ _ _) (k0_pay4_apply _ _ _) (k0_pay5_apply _ _ _) p q

theorem out_B (t : Fin cfg0.N) (h0 : t.val % 13 = 1) (p q : Fin 1024) : (outsAt0 m c t.val t.isLt).1 (ix2 p q)
    = headAt (k0_pay15 (F := Ideal) (outsAt0 m c (t.val - 1) (by omega)).2.2.2.2 (iblk m c 2 t)) (k0_pay16 (F := Ideal) (k0_pay2 (grid0.coords t)) (iblk m c 3 t))
        (k0_pay17 (F := Ideal) (k0_pay2 (grid0.coords t)) (iblk m c 4 t)) (q.val / 128 * 128) (by omega) p ⟨q.val % 128, Nat.mod_lt _ (by decide)⟩ := by
  rw [outsAt0_B m c t (by omega) (by omega) (by omega) (by omega)]
  dsimp only
  frame_out
  simp only [read_unread_whole]
  exact tiles_apply _ _ _ _ _ _ _ _ _ _ _ (k0_pay18_apply _ _ _ _ _) (k0_pay19_apply _ _ _) (k0_pay20_apply _ _ _) (k0_pay21_apply _ _ _) (k0_pay22_apply _ _ _) (k0_pay23_apply _ _ _) (k0_pay4_apply _ _ _) (k0_pay5_apply _ _ _) p q

theorem out_D (t : Fin cfg0.N) (h0 : t.val % 13 = 3 ∨ t.val % 13 = 4) (p q : Fin 1024) : (outsAt0 m c t.val t.isLt).1 (ix2 p q)
    = headAt (k0_pay30 (F := Ideal) (outsAt0 m c (t.val - 1) (by omega)).2.2.2.2 (iblk m c 2 t)) (k0_pay31 (F := Ideal) (k0_pay3 (grid0.coords t)) (iblk m c 5 t))
        (k0_pay32 (F := Ideal) (k0_pay3 (grid0.coords t)) (iblk m c 6 t)) (q.val / 128 * 128) (by omega) p ⟨q.val % 128, Nat.mod_lt _ (by decide)⟩ := by
  rw [outsAt0_D m c t (by omega) (by omega) (by omega) (by omega)]
  dsimp only
  frame_out
  simp only [read_unread_whole]
  exact tiles_apply _ _ _ _ _ _ _ _ _ _ _ (k0_pay33_apply _ _ _ _ _) (k0_pay34_apply _ _ _) (k0_pay35_apply _ _ _) (k0_pay36_apply _ _ _) (k0_pay37_apply _ _ _) (k0_pay38_apply _ _ _) (k0_pay6_apply _ _ _) (k0_pay7_apply _ _ _) p q

theorem out_C (t : Fin cfg0.N) (h0 : ¬ (t.val % 13 = 0 ∨ t.val % 13 = 1 ∨ t.val % 13 = 3 ∨ t.val % 13 = 4)) :
    (outsAt0 m c t.val t.isLt).1 = k0_pay11 (outsAt0 m c (t.val - 1) (by omega)).2.2.2.2 (iblk m c 2 t) := by
  rw [outsAt0_C m c t (by omega) (by omega) (by omega) h0]
  dsimp only
  frame_out
  simp only [read_unread_whole]

theorem pay8_apply (v : Vec Ideal S1x32x5632 .f32) (a : Fin 32) (l : Fin 5632) : k0_pay8 (F := Ideal) v (ix2 a l) = v (ix3 0 a l) := by
  pointwise [k0_pay8]

theorem pay12_apply (v : Vec Ideal S1x32x5632 .f32) (a : Fin 32) (l : Fin 5632) : k0_pay12 (F := Ideal) v (ix2 a l) = v (ix3 0 a l) := by
  pointwise [k0_pay12]

theorem pay27_apply (v : Vec Ideal S1x32x5632 .f32) (a : Fin 32) (l : Fin 5632) : k0_pay27 (F := Ideal) v (ix2 a l) = v (ix3 0 a l) := by
  pointwise [k0_pay27]

theorem pay9_apply (v : Vec Ideal S1x32x5632 .f32) (a : Fin 32) (l : Fin 5632) : k0_pay9 (F := Ideal) v (ix2 a l) = v (ix3 0 a l) := by
  pointwise [k0_pay9]

theorem pay13_apply (v : Vec Ideal S1x32x5632 .f32) (a : Fin 32) (l : Fin 5632) : k0_pay13 (F := Ideal) v (ix2 a l) = v (ix3 0 a l) := by
  pointwise [k0_pay13]

theorem pay28_apply (v : Vec Ideal S1x32x5632 .f32) (a : Fin 32) (l : Fin 5632) : k0_pay28 (F := Ideal) v (ix2 a l) = v (ix3 0 a l) := by
  pointwise [k0_pay28]

theorem pay10_apply (v : Vec Ideal S1x64x2048 .f32) (a : Fin 64) (l : Fin 2048) : k0_pay10 (F := Ideal) v (ix2 a l) = v (ix3 0 a l) := by
  pointwise [k0_pay10]

theorem pay14_apply (v : Vec Ideal S1x64x2048 .f32) (a : Fin 64) (l : Fin 2048) : k0_pay14 (F := Ideal) v (ix2 a l) = v (ix3 0 a l) := by
  pointwise [k0_pay14]

theorem pay29_apply (v : Vec Ideal S1x64x2048 .f32) (a : Fin 64) (l : Fin 2048) : k0_pay29 (F := Ideal) v (ix2 a l) = v (ix3 0 a l) := by
  pointwise [k0_pay29]

theorem out_11 (t : Fin cfg0.N) (a : Fin 32) (l : Fin 5632) : (outsAt0 m c t.val t.isLt).2.1 (ix2 a l) = iblk m c 7 t (ix3 0 a l) := by
  by_cases h0 : t.val % 13 = 0
  · rw [outsAt0_A m c t h0 (by omega) (by omega) (by omega)]
    dsimp only
    frame_out
    exact pay12_apply _ a l
  by_cases h1 : t.val % 13 = 1
  · rw [outsAt0_B m c t (by omega) (by omega) (by omega) (by omega)]
    dsimp only
    frame_out
    exact pay12_apply _ a l
  by_cases h2 : t.val % 13 = 3 ∨ t.val % 13 = 4
  · rw [outsAt0_D m c t (by omega) (by omega) (by omega) (by omega)]
    dsimp only
    frame_out
    exact pay27_apply _ a l
  · rw [outsAt0_C m c t (by omega) (by omega) (by omega) (by omega)]
    dsimp only
    frame_out
    exact pay8_apply _ a l

theorem out_12 (t : Fin cfg0.N) (a : Fin 32) (l : Fin 5632) : (outsAt0 m c t.val t.isLt).2.2.1 (ix2 a l) = iblk m c 8 t (ix3 0 a l) := by
  by_cases h0 : t.val % 13 = 0
  · rw [outsAt0_A m c t h0 (by omega) (by omega) (by omega)]
    dsimp only
    frame_out
    exact pay13_apply _ a l
  by_cases h1 : t.val % 13 = 1
  · rw [outsAt0_B m c t (by omega) (by omega) (by omega) (by omega)]
    dsimp only
    frame_out
    exact pay13_apply _ a l
  by_cases h2 : t.val % 13 = 3 ∨ t.val % 13 = 4
  · rw [outsAt0_D m c t (by omega) (by omega) (by omega) (by omega)]
    dsimp only
    frame_out
    exact pay28_apply _ a l
  · rw [outsAt0_C m c t (by omega) (by omega) (by omega) (by omega)]
    dsimp only
    frame_out
    exact pay9_apply _ a l

theorem out_13 (t : Fin cfg0.N) (a : Fin 64) (l : Fin 2048) : (outsAt0 m c t.val t.isLt).2.2.2.1 (ix2 a l) = iblk m c 9 t (ix3 0 a l) := by
  by_cases h0 : t.val % 13 = 0
  · rw [outsAt0_A m c t h0 (by omega) (by omega) (by omega)]
    dsimp only
    frame_out
    exact pay14_apply _ a l
  by_cases h1 : t.val % 13 = 1
  · rw [outsAt0_B m c t (by omega) (by omega) (by omega) (by omega)]
    dsimp only
    frame_out
    exact pay14_apply _ a l
  by_cases h2 : t.val % 13 = 3 ∨ t.val % 13 = 4
  · rw [outsAt0_D m c t (by omega) (by omega) (by omega) (by omega)]
    dsimp only
    frame_out
    exact pay29_apply _ a l
  · rw [outsAt0_C m c t (by omega) (by omega) (by omega) (by omega)]
    dsimp only
    frame_out
    exact pay10_apply _ a l

theorem idx_0 : ∀ t : Fin cfg0.N, win0_0.index t = ![t.val / 13, 0] :=
  (by decide +kernel : ∀ t : Fin grid0.N, win0_0.index t = ![t.val / 13, 0])
theorem idx_1 : ∀ t : Fin cfg0.N, win0_1.index t = ![0, 0, 0] :=
  (by decide +kernel : ∀ t : Fin grid0.N, win0_1.index t = ![0, 0, 0])
theorem idx_2 : ∀ t : Fin cfg0.N, win0_2.index t = ![0, t.val % 13] :=
  (by decide +kernel : ∀ t : Fin grid0.N, win0_2.index t = ![0, t.val % 13])
theorem idx_3 : ∀ t : Fin cfg0.N, win0_3.index t = ![t.val / 13 % 4, 0] :=
  (by decide +kernel : ∀ t : Fin grid0.N, win0_3.index t = ![t.val / 13 % 4, 0])
theorem idx_4 : ∀ t : Fin cfg0.N, win0_4.index t = ![t.val / 13 % 4, 0] :=
  (by decide +kernel : ∀ t : Fin grid0.N, win0_4.index t = ![t.val / 13 % 4, 0])
theorem idx_5 : ∀ t : Fin cfg0.N, win0_5.index t = ![t.val / 13 % 4, 0] :=
  (by decide +kernel : ∀ t : Fin grid0.N, win0_5.index t = ![t.val / 13 % 4, 0])
theorem idx_6 : ∀ t : Fin cfg0.N, win0_6.index t = ![t.val / 13 % 4, 0] :=
  (by decide +kernel : ∀ t : Fin grid0.N, win0_6.index t = ![t.val / 13 % 4, 0])
theorem idx_7 : ∀ t : Fin cfg0.N, win0_7.index t = ![0, min t.val 63, 0] :=
  (by decide +kernel : ∀ t : Fin grid0.N, win0_7.index t = ![0, min t.val 63, 0])
theorem idx_8 : ∀ t : Fin cfg0.N, win0_8.index t = ![0, min t.val 63, 0] :=
  (by decide +kernel : ∀ t : Fin grid0.N, win0_8.index t = ![0, min t.val 63, 0])
theorem idx_9 : ∀ t : Fin cfg0.N, win0_9.index t = ![0, min t.val 87, 0] :=
  (by decide +kernel : ∀ t : Fin grid0.N, win0_9.index t = ![0, min t.val 87, 0])
theorem idx_10 : ∀ t : Fin cfg0.N, win0_10.index t = ![t.val / 13, t.val % 13] :=
  (by decide +kernel : ∀ t : Fin grid0.N, win0_10.index t = ![t.val / 13, t.val % 13])
theorem idx_11 : ∀ t : Fin cfg0.N, win0_11.index t = ![min t.val 63, 0] :=
  (by decide +kernel : ∀ t : Fin grid0.N, win0_11.index t = ![min t.val 63, 0])
theorem idx_12 : ∀ t : Fin cfg0.N, win0_12.index t = ![min t.val 63, 0] :=
  (by decide +kernel : ∀ t : Fin grid0.N, win0_12.index t = ![min t.val 63, 0])
theorem idx_13 : ∀ t : Fin cfg0.N, win0_13.index t = ![min t.val 87, 0] :=
  (by decide +kernel : ∀ t : Fin grid0.N, win0_13.index t = ![min t.val 87, 0])

theorem lt_rows (n : ℕ) (hn : n < cfg0.N) (p : Fin 1024) : 1024 * (n / 13) + p.val < 8192 := by
  have : n < 104 := hn
  omega

/-- The row, of 8192, that row `p` of grid point `n`'s block is. -/
abbrev rowAt (n : ℕ) (hn : n < cfg0.N) (p : Fin 1024) : Fin 8192 := ⟨1024 * (n / 13) + p.val, lt_rows n hn p⟩
/-- Its position, of 4096. -/
abbrev posAt (n : ℕ) (p : Fin 1024) : Fin 4096 := ⟨1024 * (n / 13 % 4) + p.val, by omega⟩

def xOf (r : Fin 8192) (k : Fin 2048) : EReal := m ((c.tc : Thread nD τ).loc main_arg0) (ix2 r k)
def gOf (k : Fin 2048) : EReal := m ((c.tc : Thread nD τ).loc main_arg1) (ix3 0 0 k)
def wOf (k : Fin 2048) (l : Fin 13312) : EReal := m ((c.tc : Thread nD τ).loc main_arg2) (ix2 k l)

theorem blk_x (t : Fin cfg0.N) (p : Fin 1024) (k : Fin 2048) : iblk m c 0 t (ix2 p k) = xOf m c (rowAt t.val t.isLt p) k := by
  unfold xOf; blk_ext! [iblk, V, idx_0 t]
theorem blk_g (t : Fin cfg0.N) (k : Fin 2048) : iblk m c 1 t (ix3 0 0 k) = gOf m c k := by
  unfold gOf; blk_ext! [iblk, V, idx_1 t]
theorem blk_w (t : Fin cfg0.N) (k : Fin 2048) (q : Fin 1024) :
    iblk m c 2 t (ix2 k q) = wOf m c k ⟨1024 * (t.val % 13) + q.val, by omega⟩ := by
  unfold wOf; blk_ext! [iblk, V, idx_2 t]

def cosT (x : FVec Ideal S4096x64 .f32) : FVec Ideal S4096x128 .f32 :=
  concatenate S4096x128 1 [⟨S4096x64, x⟩, ⟨S4096x64, x⟩] concatenates_S4096x64_S4096x64_S4096x128_d1
def sinT (x : FVec Ideal S4096x64 .f32) : FVec Ideal S4096x128 .f32 :=
  concatenate S4096x128 1 [⟨S4096x64, (Host.negf x : FVec Ideal S4096x64 .f32)⟩, ⟨S4096x64, x⟩] concatenates_S4096x64_S4096x64_S4096x128_d1

theorem cosT_apply (x : FVec Ideal S4096x64 .f32) (r : Fin 4096) (d : Fin 128) :
    cosT x (ix2 r d) = if h : d.val < 64 then x (ix2 r ⟨d.val, h⟩) else x (ix2 r ⟨d.val - 64, by omega⟩) := by
  pointwise [cosT]
theorem sinT_apply (x : FVec Ideal S4096x64 .f32) (r : Fin 4096) (d : Fin 128) :
    sinT x (ix2 r d) = if h : d.val < 64 then - x (ix2 r ⟨d.val, h⟩) else x (ix2 r ⟨d.val - 64, by omega⟩) := by
  pointwise [sinT]

theorem V_3 : V m c main_v0 = cosT (m ((c.tc : Thread nD τ).loc main_arg3)) := by
  unfold cosT; show StableHlo.after hostOps0 _ _ = _; after_results_simp <;> rfl
theorem V_4 : V m c main_v2 = sinT (m ((c.tc : Thread nD τ).loc main_arg4)) := by
  unfold sinT; show StableHlo.after hostOps0 _ _ = _; after_results_simp <;> rfl
theorem V_5 : V m c main_v3 = cosT (m ((c.tc : Thread nD τ).loc main_arg5)) := by
  unfold cosT; show StableHlo.after hostOps0 _ _ = _; after_results_simp <;> rfl
theorem V_6 : V m c main_v5 = sinT (m ((c.tc : Thread nD τ).loc main_arg6)) := by
  unfold sinT; show StableHlo.after hostOps0 _ _ = _; after_results_simp <;> rfl

theorem blk_3 (t : Fin cfg0.N) (p : Fin 1024) (d : Fin 128) : iblk m c 3 t (ix2 p d) = V m c main_v0 (ix2 (posAt t.val p) d) := by
  generalize hV : V m c main_v0 = T
  blk_ext! [iblk, hV, idx_3 t]
theorem blk_4 (t : Fin cfg0.N) (p : Fin 1024) (d : Fin 128) : iblk m c 4 t (ix2 p d) = V m c main_v2 (ix2 (posAt t.val p) d) := by
  generalize hV : V m c main_v2 = T
  blk_ext! [iblk, hV, idx_4 t]
theorem blk_5 (t : Fin cfg0.N) (p : Fin 1024) (d : Fin 128) : iblk m c 5 t (ix2 p d) = V m c main_v3 (ix2 (posAt t.val p) d) := by
  generalize hV : V m c main_v3 = T
  blk_ext! [iblk, hV, idx_5 t]
theorem blk_6 (t : Fin cfg0.N) (p : Fin 1024) (d : Fin 128) : iblk m c 6 t (ix2 p d) = V m c main_v5 (ix2 (posAt t.val p) d) := by
  generalize hV : V m c main_v5 = T
  blk_ext! [iblk, hV, idx_6 t]

theorem sc_val (n : ℕ) (hn : n < cfg0.N) (p : Fin 1024) (k : Fin 2048) :
    (outsAt0 m c n hn).2.2.2.2 (ix2 p k) = normAt (xOf m c (rowAt n hn p)) (gOf m c) k := by
  induction n with
  | zero =>
    refine (congrFun (sc_A m c ⟨0, hn⟩ rfl) _).trans ((pay1_apply _ _ p k).trans ?_)
    exact congrArg₂ (fun x g => normAt x g k) (funext fun k => blk_x m c ⟨0, hn⟩ p k) (funext fun k => blk_g m c ⟨0, hn⟩ k)
  | succ n ih =>
    have hn' : n < cfg0.N := by omega
    by_cases h0 : (n + 1) % 13 = 0
    · refine (congrFun (sc_A m c ⟨n + 1, hn⟩ h0) _).trans ((pay1_apply _ _ p k).trans ?_)
      exact congrArg₂ (fun x g => normAt x g k) (funext fun k => blk_x m c ⟨n + 1, hn⟩ p k) (funext fun k => blk_g m c ⟨n + 1, hn⟩ k)
    have hr : rowAt (n + 1) hn p = rowAt n hn' p :=
      Fin.ext (by show 1024 * ((n + 1) / 13) + p.val = 1024 * (n / 13) + p.val; omega)
    rw [hr]
    refine Eq.trans ?_ (ih hn')
    by_cases h1 : (n + 1) % 13 = 1
    · exact congrFun (sc_B m c ⟨n + 1, hn⟩ h1) _
    by_cases h2 : (n + 1) % 13 = 3 ∨ (n + 1) % 13 = 4
    · exact congrFun (sc_D m c ⟨n + 1, hn⟩ h2) _
    · exact congrFun (sc_C m c ⟨n + 1, hn⟩ (by show ¬ ((n + 1) % 13 = 0 ∨ (n + 1) % 13 = 1 ∨ (n + 1) % 13 = 3 ∨ (n + 1) % 13 = 4); omega)) _

theorem sc_prev (t : Fin cfg0.N) (h : ¬ t.val % 13 = 0) (p : Fin 1024) (k : Fin 2048) :
    (outsAt0 m c (t.val - 1) (by omega)).2.2.2.2 (ix2 p k) = normAt (xOf m c (rowAt t.val t.isLt p)) (gOf m c) k := by
  refine (sc_val m c (t.val - 1) (by omega) p k).trans ?_
  have hr : rowAt (t.val - 1) (by omega) p = rowAt t.val t.isLt p :=
    Fin.ext (by show 1024 * ((t.val - 1) / 13) + p.val = 1024 * (t.val / 13) + p.val; omega)
  rw [hr]

/-- The projection of a row. -/
def yOf (r : Fin 8192) (l : Fin 13312) : EReal := ∑ k, normAt (xOf m c r) (gOf m c) k * wOf m c k l

theorem coord1 : ∀ t : Fin cfg0.N, (grid0.coords t 1).val = t.val % 13 :=
  (by decide +kernel : ∀ t : Fin grid0.N, (grid0.coords t 1).val = t.val % 13)

theorem one_bits : Ideal.ofBits .f32 0x3F800000#32 = ((1 : ℝ) : EReal) := by
  simp [Ideal.ofBits, Ideal.ieee, -EReal.coe_mul]; norm_num
theorem sa_bits : ∃ s : ℝ, 0 ≤ s ∧ Ideal.ofBits .f32 0x3E0293EE#32 = (s : EReal) :=
  ⟨8557550 / 67108864, by norm_num, by simp [Ideal.ofBits, Ideal.ieee, -EReal.coe_mul]; norm_num⟩
theorem sr_bits : ∃ s : ℝ, 0 ≤ s ∧ Ideal.ofBits .f32 0x3DB504F3#32 = (s : EReal) :=
  ⟨11863283 / 134217728, by norm_num, by simp [Ideal.ofBits, Ideal.ieee, -EReal.coe_mul]; norm_num⟩

theorem scale2_0 (t : Fin cfg0.N) (h : t.val % 13 = 0) : k0_pay2 (F := Ideal) (grid0.coords t) = Ideal.ofBits .f32 0x3E0293EE#32 := by
  unfold k0_pay2
  rw [coord1 t, h]
  rfl
theorem scale2_1 (t : Fin cfg0.N) (h : t.val % 13 = 1) : k0_pay2 (F := Ideal) (grid0.coords t) = Ideal.ofBits .f32 0x3F800000#32 := by
  unfold k0_pay2
  rw [coord1 t, h]
  rfl
theorem scale3_3 (t : Fin cfg0.N) (h : t.val % 13 = 3) : k0_pay3 (F := Ideal) (grid0.coords t) = Ideal.ofBits .f32 0x3F800000#32 := by
  unfold k0_pay3
  rw [coord1 t, h]
  rfl
theorem scale3_4 (t : Fin cfg0.N) (h : t.val % 13 = 4) : k0_pay3 (F := Ideal) (grid0.coords t) = Ideal.ofBits .f32 0x3DB504F3#32 := by
  unfold k0_pay3
  rw [coord1 t, h]
  rfl

theorem head_rot (Y : FVec Ideal S1024x1024 .f32) (C S : FVec Ideal S1024x128 .f32) (X : Fin 1024 → EReal) (cs sn : Fin 64 → EReal) (s : ℝ) (hs : 0 ≤ s)
    (p : Fin 1024) (hY : ∀ q, Y (ix2 p q) = X q)
    (hC : ∀ d : Fin 128, C (ix2 p d) = (if h : d.val < 64 then cs ⟨d.val, h⟩ else cs ⟨d.val - 64, by omega⟩) * (s : EReal))
    (hS : ∀ d : Fin 128, S (ix2 p d) = (if h : d.val < 64 then - sn ⟨d.val, h⟩ else sn ⟨d.val - 64, by omega⟩) * (s : EReal)) (q : Fin 1024) :
    headAt Y C S (q.val / 128 * 128) (by omega) p ⟨q.val % 128, Nat.mod_lt _ (by decide)⟩ = rotAt X cs sn q * (s : EReal) := by
  unfold headAt rotAt
  rw [hY, hY, hC, hS]
  have e0 : (⟨q.val / 128 * 128 + q.val % 128, by omega⟩ : Fin 1024) = q :=
    Fin.ext (by show q.val / 128 * 128 + q.val % 128 = q.val; omega)
  have h0 : (0 : EReal) ≤ (s : EReal) := EReal.coe_nonneg.mpr hs
  by_cases h : q.val % 128 < 64
  · have e1 : (⟨q.val / 128 * 128 + (q.val % 128 + 128 - 64) % 128, by omega⟩ : Fin 1024) = ⟨q.val + 64, by omega⟩ :=
      Fin.ext (by show q.val / 128 * 128 + (q.val % 128 + 128 - 64) % 128 = q.val + 64; omega)
    simp only [h, dif_pos, e0, e1]
    rw [sub_eq_add_neg, EReal.right_distrib_of_nonneg_of_ne_top h0 (EReal.coe_ne_top s), mul_assoc, ← mul_neg, mul_assoc]
  · have e1 : (⟨q.val / 128 * 128 + (q.val % 128 + 128 - 64) % 128, by omega⟩ : Fin 1024) = ⟨q.val - 64, by omega⟩ :=
      Fin.ext (by show q.val / 128 * 128 + (q.val % 128 + 128 - 64) % 128 = q.val - 64; omega)
    simp only [h, dif_neg, e0, e1, not_false_eq_true]
    rw [EReal.right_distrib_of_nonneg_of_ne_top h0 (EReal.coe_ne_top s), mul_assoc, mul_assoc, add_comm]

/-- A row of a table of angles, by the row of the stream: two sequences of 4096 share it. -/
def tabOf (x : FVec Ideal S4096x64 .f32) (r : Fin 8192) (k : Fin 64) : EReal := x (ix2 ⟨r.val % 4096, Nat.mod_lt _ (by decide)⟩ k)

theorem pos_eq (t : Fin cfg0.N) (p : Fin 1024) :
    posAt t.val p = ⟨(rowAt t.val t.isLt p).val % 4096, Nat.mod_lt _ (by decide)⟩ :=
  Fin.ext (by show 1024 * (t.val / 13 % 4) + p.val = (1024 * (t.val / 13) + p.val) % 4096; omega)

/-- What the kernel leaves as the projection. -/
def result : FVec Ideal S8192x13312 .bf16 := fun i =>
  projAt (yOf m c (i 0)) (tabOf (m ((c.tc : Thread nD τ).loc main_arg3)) (i 0)) (tabOf (m ((c.tc : Thread nD τ).loc main_arg4)) (i 0))
    (tabOf (m ((c.tc : Thread nD τ).loc main_arg5)) (i 0)) (tabOf (m ((c.tc : Thread nD τ).loc main_arg6)) (i 0)) (i 1)

theorem cos_row (t : Fin cfg0.N) (x : FVec Ideal S4096x64 .f32) (p : Fin 1024) (d : Fin 128) :
    cosT x (ix2 (posAt t.val p) d) = if h : d.val < 64 then tabOf x (rowAt t.val t.isLt p) ⟨d.val, h⟩ else tabOf x (rowAt t.val t.isLt p) ⟨d.val - 64, by omega⟩ := by
  rw [cosT_apply, pos_eq t p]
  rfl
theorem sin_row (t : Fin cfg0.N) (x : FVec Ideal S4096x64 .f32) (p : Fin 1024) (d : Fin 128) :
    sinT x (ix2 (posAt t.val p) d) = if h : d.val < 64 then - tabOf x (rowAt t.val t.isLt p) ⟨d.val, h⟩ else tabOf x (rowAt t.val t.isLt p) ⟨d.val - 64, by omega⟩ := by
  rw [sinT_apply, pos_eq t p]
  rfl

theorem dot_row (t : Fin cfg0.N) (A : Vec Ideal S1024x2048 .bf16) (p q : Fin 1024)
    (hA : ∀ k, A (ix2 p k) = normAt (xOf m c (rowAt t.val t.isLt p)) (gOf m c) k) :
    ∑ k, A (ix2 p k) * iblk m c 2 t (ix2 k q) = tileAt (yOf m c (rowAt t.val t.isLt p)) (t.val % 13) (by omega) q :=
  Finset.sum_congr rfl fun k _ => congrArg₂ (fun a b : EReal => a * b) (hA k) (blk_w m c t k q)

theorem out_val (t : Fin cfg0.N) (p q : Fin 1024) : (outsAt0 m c t.val t.isLt).1 (ix2 p q)
    = tileOut (tileAt (yOf m c (rowAt t.val t.isLt p)) (t.val % 13) (by omega))
      (tabOf (m ((c.tc : Thread nD τ).loc main_arg3)) (rowAt t.val t.isLt p)) (tabOf (m ((c.tc : Thread nD τ).loc main_arg4)) (rowAt t.val t.isLt p))
      (tabOf (m ((c.tc : Thread nD τ).loc main_arg5)) (rowAt t.val t.isLt p)) (tabOf (m ((c.tc : Thread nD τ).loc main_arg6)) (rowAt t.val t.isLt p))
      (t.val % 13) q := by
  by_cases h0 : t.val % 13 = 0
  · obtain ⟨s, hs, he⟩ := sa_bits
    have hσ := ((scale2_0 t h0).trans he)
    refine (out_A m c t h0 p q).trans ((head_rot _ _ _ (tileAt (yOf m c (rowAt t.val t.isLt p)) (t.val % 13) (by omega)) (tabOf (m ((c.tc : Thread nD τ).loc main_arg3)) (rowAt t.val t.isLt p))
      (tabOf (m ((c.tc : Thread nD τ).loc main_arg4)) (rowAt t.val t.isLt p)) s hs p
      (fun q' => (pay15_apply _ _ p q').trans (dot_row m c t _ p q' (fun k => (pay1_apply _ _ p k).trans (congrArg₂ (fun x g => normAt x g k) (funext fun k => blk_x m c t p k) (funext fun k => blk_g m c t k)))))
      (fun d => (pay16_apply _ _ p d).trans (congrArg₂ (fun a b : EReal => a * b) ((blk_3 m c t p d).trans ((congrFun (V_3 m c) _).trans (cos_row t _ p d))) hσ))
      (fun d => (pay17_apply _ _ p d).trans (congrArg₂ (fun a b : EReal => a * b) ((blk_4 m c t p d).trans ((congrFun (V_4 m c) _).trans (sin_row t _ p d))) hσ)) q).trans ?_)
    simp only [h0]
    rw [tileOut_0, he]
  by_cases h1 : t.val % 13 = 1
  · obtain ⟨s, hs, he⟩ : ∃ s : ℝ, 0 ≤ s ∧ Ideal.ofBits .f32 0x3F800000#32 = (s : EReal) := ⟨1, zero_le_one, one_bits⟩
    have hσ := ((scale2_1 t h1).trans he)
    refine (out_B m c t h1 p q).trans ((head_rot _ _ _ (tileAt (yOf m c (rowAt t.val t.isLt p)) (t.val % 13) (by omega)) (tabOf (m ((c.tc : Thread nD τ).loc main_arg3)) (rowAt t.val t.isLt p))
      (tabOf (m ((c.tc : Thread nD τ).loc main_arg4)) (rowAt t.val t.isLt p)) s hs p
      (fun q' => (pay15_apply _ _ p q').trans (dot_row m c t _ p q' (fun k => sc_prev m c t (by omega) p k)))
      (fun d => (pay16_apply _ _ p d).trans (congrArg₂ (fun a b : EReal => a * b) ((blk_3 m c t p d).trans ((congrFun (V_3 m c) _).trans (cos_row t _ p d))) hσ))
      (fun d => (pay17_apply _ _ p d).trans (congrArg₂ (fun a b : EReal => a * b) ((blk_4 m c t p d).trans ((congrFun (V_4 m c) _).trans (sin_row t _ p d))) hσ)) q).trans ?_)
    have h1s : (s : EReal) = 1 := he.symm.trans (one_bits.trans EReal.coe_one)
    simp only [h1]
    rw [tileOut_1, h1s, mul_one]
  by_cases h3 : t.val % 13 = 3
  · obtain ⟨s, hs, he⟩ : ∃ s : ℝ, 0 ≤ s ∧ Ideal.ofBits .f32 0x3F800000#32 = (s : EReal) := ⟨1, zero_le_one, one_bits⟩
    have hσ := ((scale3_3 t h3).trans he)
    refine (out_D m c t (Or.inl h3) p q).trans ((head_rot _ _ _ (tileAt (yOf m c (rowAt t.val t.isLt p)) (t.val % 13) (by omega)) (tabOf (m ((c.tc : Thread nD τ).loc main_arg5)) (rowAt t.val t.isLt p))
      (tabOf (m ((c.tc : Thread nD τ).loc main_arg6)) (rowAt t.val t.isLt p)) s hs p
      (fun q' => (pay30_apply _ _ p q').trans (dot_row m c t _ p q' (fun k => sc_prev m c t (by omega) p k)))
      (fun d => (pay31_apply _ _ p d).trans (congrArg₂ (fun a b : EReal => a * b) ((blk_5 m c t p d).trans ((congrFun (V_5 m c) _).trans (cos_row t _ p d))) hσ))
      (fun d => (pay32_apply _ _ p d).trans (congrArg₂ (fun a b : EReal => a * b) ((blk_6 m c t p d).trans ((congrFun (V_6 m c) _).trans (sin_row t _ p d))) hσ)) q).trans ?_)
    have h1s : (s : EReal) = 1 := he.symm.trans (one_bits.trans EReal.coe_one)
    simp only [h3]
    rw [tileOut_3, h1s, mul_one]
  by_cases h4 : t.val % 13 = 4
  · obtain ⟨s, hs, he⟩ := sr_bits
    have hσ := ((scale3_4 t h4).trans he)
    refine (out_D m c t (Or.inr h4) p q).trans ((head_rot _ _ _ (tileAt (yOf m c (rowAt t.val t.isLt p)) (t.val % 13) (by omega)) (tabOf (m ((c.tc : Thread nD τ).loc main_arg5)) (rowAt t.val t.isLt p))
      (tabOf (m ((c.tc : Thread nD τ).loc main_arg6)) (rowAt t.val t.isLt p)) s hs p
      (fun q' => (pay30_apply _ _ p q').trans (dot_row m c t _ p q' (fun k => sc_prev m c t (by omega) p k)))
      (fun d => (pay31_apply _ _ p d).trans (congrArg₂ (fun a b : EReal => a * b) ((blk_5 m c t p d).trans ((congrFun (V_5 m c) _).trans (cos_row t _ p d))) hσ))
      (fun d => (pay32_apply _ _ p d).trans (congrArg₂ (fun a b : EReal => a * b) ((blk_6 m c t p d).trans ((congrFun (V_6 m c) _).trans (sin_row t _ p d))) hσ)) q).trans ?_)
    simp only [h4]
    rw [tileOut_4, he]
  refine ((congrFun (out_C m c t (by omega)) _).trans ((pay11_apply _ _ p q).trans (dot_row m c t _ p q (fun k => sc_prev m c t h0 p k)))).trans ?_
  exact (tileOut_else _ _ _ _ _ _ _ (by omega)).symm

theorem final : (dats m 0 c).arrAt 10 cfg0.N = result m c := by
  refine (dats m 0 c).arrAt_eq_of_covers 10 _ (by decide +kernel) fun t hf y => ?_
  blk_simp
  rw [after0_10]
  obtain ⟨p, q, rfl⟩ : ∃ (p : Fin 1024) (q : Fin 1024), y = ix2 p q := ⟨y 0, y 1, by idx_vars y⟩
  have e0 : ((win0_10.blk t).view.emb (ix2 p q) 0 : Fin 8192) = rowAt t.val t.isLt p :=
    Fin.ext (by blk_simp [idx_10 t]; show t.val / 13 * 1024 + p.val = 1024 * (t.val / 13) + p.val; omega)
  have e1 : ((win0_10.blk t).view.emb (ix2 p q) 1 : Fin 13312).val = 1024 * (t.val % 13) + q.val := by
    blk_simp [idx_10 t]; show t.val % 13 * 1024 + q.val = 1024 * (t.val % 13) + q.val; omega
  refine (out_val m c t p q).trans ?_
  unfold result
  rw [e0]
  exact (projAt_eq _ _ _ _ _ _ (t.val % 13) q (by omega) e1).symm

abbrev rowC7 (n : ℕ) (a : Fin 32) : Fin 2048 := ⟨32 * min n 63 + a.val, by omega⟩

def cast7 : FVec Ideal S2048x5632 .bf16 := fun i => m ((c.tc : Thread nD τ).loc main_arg7) (ix3 0 (i 0) (i 1))

theorem blk_7 (t : Fin cfg0.N) (a : Fin 32) (l : Fin 5632) :
    iblk m c 7 t (ix3 0 a l) = m ((c.tc : Thread nD τ).loc main_arg7) (ix3 0 (rowC7 t.val a) l) := by
  blk_ext! [iblk, V, idx_7 t]

theorem final_7 : (dats m 0 c).arrAt 11 cfg0.N = cast7 m c := by
  refine (dats m 0 c).arrAt_eq_of_covers 11 _ (by decide +kernel) fun t hf y => ?_
  blk_simp
  rw [after0_11]
  obtain ⟨a, l, rfl⟩ : ∃ (a : Fin 32) (l : Fin 5632), y = ix2 a l := ⟨y 0, y 1, by idx_vars y⟩
  have e0 : ((win0_11.blk t).view.emb (ix2 a l) 0 : Fin 2048) = rowC7 t.val a :=
    Fin.ext (by blk_simp [idx_11 t]; show min t.val 63 * 32 + a.val = 32 * min t.val 63 + a.val; omega)
  have e1 : ((win0_11.blk t).view.emb (ix2 a l) 1 : Fin 5632) = l :=
    Fin.ext (by blk_simp [idx_11 t])
  refine (out_11 m c t a l).trans ((blk_7 m c t a l).trans ?_)
  unfold cast7
  rw [e0, e1]
  try rfl

abbrev rowC8 (n : ℕ) (a : Fin 32) : Fin 2048 := ⟨32 * min n 63 + a.val, by omega⟩

def cast8 : FVec Ideal S2048x5632 .bf16 := fun i => m ((c.tc : Thread nD τ).loc main_arg8) (ix3 0 (i 0) (i 1))

theorem blk_8 (t : Fin cfg0.N) (a : Fin 32) (l : Fin 5632) :
    iblk m c 8 t (ix3 0 a l) = m ((c.tc : Thread nD τ).loc main_arg8) (ix3 0 (rowC8 t.val a) l) := by
  blk_ext! [iblk, V, idx_8 t]

theorem final_8 : (dats m 0 c).arrAt 12 cfg0.N = cast8 m c := by
  refine (dats m 0 c).arrAt_eq_of_covers 12 _ (by decide +kernel) fun t hf y => ?_
  blk_simp
  rw [after0_12]
  obtain ⟨a, l, rfl⟩ : ∃ (a : Fin 32) (l : Fin 5632), y = ix2 a l := ⟨y 0, y 1, by idx_vars y⟩
  have e0 : ((win0_12.blk t).view.emb (ix2 a l) 0 : Fin 2048) = rowC8 t.val a :=
    Fin.ext (by blk_simp [idx_12 t]; show min t.val 63 * 32 + a.val = 32 * min t.val 63 + a.val; omega)
  have e1 : ((win0_12.blk t).view.emb (ix2 a l) 1 : Fin 5632) = l :=
    Fin.ext (by blk_simp [idx_12 t])
  refine (out_12 m c t a l).trans ((blk_8 m c t a l).trans ?_)
  unfold cast8
  rw [e0, e1]
  try rfl

abbrev rowC9 (n : ℕ) (a : Fin 64) : Fin 5632 := ⟨64 * min n 87 + a.val, by omega⟩

def cast9 : FVec Ideal S5632x2048 .bf16 := fun i => m ((c.tc : Thread nD τ).loc main_arg9) (ix3 0 (i 0) (i 1))

theorem blk_9 (t : Fin cfg0.N) (a : Fin 64) (l : Fin 2048) :
    iblk m c 9 t (ix3 0 a l) = m ((c.tc : Thread nD τ).loc main_arg9) (ix3 0 (rowC9 t.val a) l) := by
  blk_ext! [iblk, V, idx_9 t]

theorem final_9 : (dats m 0 c).arrAt 13 cfg0.N = cast9 m c := by
  refine (dats m 0 c).arrAt_eq_of_covers 13 _ (by decide +kernel) fun t hf y => ?_
  blk_simp
  rw [after0_13]
  obtain ⟨a, l, rfl⟩ : ∃ (a : Fin 64) (l : Fin 2048), y = ix2 a l := ⟨y 0, y 1, by idx_vars y⟩
  have e0 : ((win0_13.blk t).view.emb (ix2 a l) 0 : Fin 5632) = rowC9 t.val a :=
    Fin.ext (by blk_simp [idx_13 t]; show min t.val 87 * 64 + a.val = 64 * min t.val 87 + a.val; omega)
  have e1 : ((win0_13.blk t).view.emb (ix2 a l) 1 : Fin 2048) = l :=
    Fin.ext (by blk_simp [idx_13 t])
  refine (out_13 m c t a l).trans ((blk_9 m c t a l).trans ?_)
  unfold cast9
  rw [e0, e1]
  try rfl

end Cert.ProjIdeal.Whole

namespace Cert.Proof
open Idealize.ShloMosaic Idealize.SL.Sem Cert.ProjRefIdeal

theorem projRef_frame : Cert.quiescent_ProjRefIdeal := fun m g _ =>
  (θ_run _ _ _).mono (fun r h => ⟨fun c => (h c).2.2.2.2, sem_eq_zero_of_no_sems (by decide) r.2⟩) (Cert.ProjRefIdeal.Value.run m g)

theorem proj_algebraic : Cert.algebraic_ProjIdeal_ProjRefIdeal := fun m g m' g' hpre hag =>
  ⟨fun c => Cert.ProjIdeal.Whole.result m c, fun c => Cert.ProjIdeal.Whole.cast7 m c, fun c => Cert.ProjIdeal.Whole.cast8 m c, fun c => Cert.ProjIdeal.Whole.cast9 m c,
    (θ_run _ _ _).mono (fun r h c => ⟨(h c).1.trans (Cert.ProjIdeal.Whole.final m c), (h c).2.1.trans (Cert.ProjIdeal.Whole.final_7 m c),
      (h c).2.2.1.trans (Cert.ProjIdeal.Whole.final_8 m c), (h c).2.2.2.1.trans (Cert.ProjIdeal.Whole.final_9 m c), (h c).2.2.2.2⟩) (Cert.ProjIdeal.Value.run_blocks m g),
    (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [Cert.ProjRefIdeal.Whole.res_eq, h3, h4, h5, h6]
        funext i
        obtain ⟨r, l, rfl⟩ : ∃ (r : Fin 8192) (l : Fin 13312), i = ix2 r l := ⟨i 0, i 1, by idx_vars i⟩
        refine (Cert.ProjRefIdeal.Whole.outT_apply _ _ _ _ _ r l).trans ?_
        refine congrArg (fun y => Cert.ProjSpec.projAt y _ _ _ _ l) (funext fun k => ?_)
        refine (Cert.ProjRefIdeal.Whole.dotT_apply m' c r k).trans ?_
        rw [h0, h1, h2]
        rfl
      · rw [h7]
        funext i
        obtain ⟨r, l, rfl⟩ : ∃ (r : Fin 2048) (l : Fin 5632), i = ix2 r l := ⟨i 0, i 1, by idx_vars i⟩
        show _ = m ((c.tc : Thread Cert.ProjIdeal.nD Cert.ProjIdeal.τ).loc Cert.ProjIdeal.main_arg7) (ix3 0 r l)
        pointwise
      · rw [h8]
        funext i
        obtain ⟨r, l, rfl⟩ : ∃ (r : Fin 2048) (l : Fin 5632), i = ix2 r l := ⟨i 0, i 1, by idx_vars i⟩
        show _ = m ((c.tc : Thread Cert.ProjIdeal.nD Cert.ProjIdeal.τ).loc Cert.ProjIdeal.main_arg8) (ix3 0 r l)
        pointwise
      · rw [h9]
        funext i
        obtain ⟨r, l, rfl⟩ : ∃ (r : Fin 5632) (l : Fin 2048), i = ix2 r l := ⟨i 0, i 1, by idx_vars i⟩
        show _ = m ((c.tc : Thread Cert.ProjIdeal.nD Cert.ProjIdeal.τ).loc Cert.ProjIdeal.main_arg9) (ix3 0 r l)
        pointwise) (Cert.ProjRefIdeal.Value.run m' g')⟩

end Cert.Proof

end
-- ==== Proof.HalfLoops.lean ====
/- The half-step feed-forward kernel with its cast jobs's two counted loops, each by an invariant: the pieces its trips before the k-th have
   written, listed, and what a whole buffer reads as once all eight trips have run. -/
module

public import proofs.«01_k».proof.Proof.Gen.Half.Skeleton
public import proofs.«01_k».proof.Proof.Gen.Half.Launch
public import proofs.«01_k».proof.Proof.Gen.Half.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.Pointwise

@[expose] public section

set_option maxRecDepth 16384

noncomputable section

namespace Cert.Half.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Half.Gen

variable {F : FTy → Type} [FloatOps F]

abbrev MM (F : FTy → Type) := MT nD τ sig Unit (Elt F) ℕ (Pipeline.UD sig nD τ) ℕ

/-- The rows `128 r`, …, `128 r + 127` of a tile. -/
def rowsOf (x : Vec F S1024x2048 .f32) (r : ℕ) (hr : r < 8) : Vec F S128x2048 .f32 :=
  fun j => x (ix2 (⟨128 * r + (j 0).val, by have h : (j 0).val < 128 := (j 0).isLt; omega⟩ : Fin 1024) (j 1 : Fin 2048))

/-- The normalised tile, rounded to bf16. -/
def hnV (x : Vec F S1024x2048 .f32) (g : Vec F S1x1x2048 .f32) : Vec F S1024x2048 .bf16 :=
  fun y => k0_pay6 (rowsOf x ((y 0).val / 128) (by have h : (y 0).val < 1024 := (y 0).isLt; omega)) g
    (ix2 (⟨(y 0).val % 128, Nat.mod_lt _ (by decide)⟩ : Fin 128) (y 1 : Fin 2048))

/-- Twice the tile. -/
def twoV (x : Vec F S1024x2048 .f32) : Vec F S1024x2048 .f32 :=
  fun y => k0_pay7 (rowsOf x ((y 0).val / 128) (by have h : (y 0).val < 1024 := (y 0).isLt; omega))
    (ix2 (⟨(y 0).val % 128, Nat.mod_lt _ (by decide)⟩ : Fin 128) (y 1 : Fin 2048))

/-- Half the accumulated tile. -/
def finV (x : Vec F S1024x2048 .f32) : Vec F S1024x2048 .f32 :=
  fun y => k0_pay5 (rowsOf x ((y 0).val / 128) (by have h : (y 0).val < 1024 := (y 0).isLt; omega))
    (ix2 (⟨(y 0).val % 128, Nat.mod_lt _ (by decide)⟩ : Fin 128) (y 1 : Fin 2048))

theorem trips1 : k0_t1_loop.trips = 8 := by decide +kernel
theorem trips2 : k0_t2_loop.trips = 8 := by decide +kernel

section Pieces
variable (i : grid0.Coords) (arg2 : Memref sig .tc .hbm S8192x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x13312 .f32) (harg8 : arg8.IsWhole) (arg9 : Memref sig .tc .vmem S1x16x2048 .f32) (harg9 : arg9.IsWhole) (arg10 : Memref sig .tc .vmem S1x32x2048 .f32) (harg10 : arg10.IsWhole) (arg11 : Memref sig .tc .vmem S1x32x2048 .f32) (harg11 : arg11.IsWhole) (arg12 : Memref sig .tc .vmem S1024x2048 .f32) (harg12 : arg12.IsWhole) (arg13 : Memref sig .tc .vmem S32x13312 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S32x2048 .bf16) (harg16 : arg16.IsWhole) (arg17 : Memref sig .tc .vmem S1024x2048 .bf16) (harg17 : arg17.IsWhole) (arg18 : Memref sig .tc .vmem S1024x2048 .f32) (harg18 : arg18.IsWhole) (arg19 : DmaSems sig S_)

/-- The rows trip `k` of the first loop addresses. -/
abbrev rect1 (k0_h1 : k0_cond1 i = 1#1) (k : Fin k0_t1_loop.trips) : Rect S1024x2048 :=
  Rect.unit (s := S1024x2048) (k0_off2 k) S128x2048.size (k0_off2_inb i k k0_h1)
abbrev rect2 (k0_h4 : k0_cond4 i = 1#1) (k : Fin k0_t2_loop.trips) : Rect S1024x2048 :=
  Rect.unit (s := S1024x2048) (k0_off4 k) S128x2048.size (k0_off4_inb i k k0_h4)

/-- What the first loop's trips before the `k`-th wrote into the output window, the last first. -/
def p8 (k0_h1 : k0_cond1 i = 1#1) (X10 : BufTy.Contents (Elt F) arg18.view.ty) : ℕ → List (View.Piece (Elt F) S1024x2048 .f32)
  | 0 => []
  | k + 1 => if h : k < k0_t1_loop.trips then
      [⟨rect1 i k0_h1 ⟨k, h⟩, k0_pay7 (arg18.view.readAt (Elt F) (rect1 i k0_h1 ⟨k, h⟩).toLoadRect X10)⟩] ++ p8 k0_h1 X10 k
      else p8 k0_h1 X10 k

/-- And into the normalised tile's scratch. -/
def p9 (k0_h1 : k0_cond1 i = 1#1) (X3 : BufTy.Contents (Elt F) arg3.view.ty) (X10 : BufTy.Contents (Elt F) arg18.view.ty) : ℕ → List (View.Piece (Elt F) S1024x2048 .bf16)
  | 0 => []
  | k + 1 => if h : k < k0_t1_loop.trips then
      [⟨rect1 i k0_h1 ⟨k, h⟩, k0_pay6 (arg18.view.readAt (Elt F) (rect1 i k0_h1 ⟨k, h⟩).toLoadRect X10)
        (arg3.view.readAt (Elt F) (Rect.unit (s := S1x1x2048) ![0, 0, 0] S1x1x2048.size inb_S1x1x2048_S1x1x2048_0_0_0).toLoadRect X3)⟩] ++ p9 k0_h1 X3 X10 k
      else p9 k0_h1 X3 X10 k

/-- What the last loop's trips before the `k`-th wrote over the output window, found at `G`. -/
def q8 (k0_h4 : k0_cond4 i = 1#1) (G : BufTy.Contents (Elt F) arg12.view.ty) : ℕ → List (View.Piece (Elt F) S1024x2048 .f32)
  | 0 => []
  | k + 1 => if h : k < k0_t2_loop.trips then
      [⟨rect2 i k0_h4 ⟨k, h⟩, k0_pay5 (arg12.view.readAt (Elt F) (rect2 i k0_h4 ⟨k, h⟩).toLoadRect (arg12.view.writes (Elt F) G (q8 k0_h4 G k)))⟩] ++ q8 k0_h4 G k
      else q8 k0_h4 G k

set_option warn.classDefReducibility false in
/-- The first loop by its invariant. -/
@[sl_loop] def loop1 (𝒱 : Variants) (c : Dev nD) (bd : Option 𝒱.V) (E : Set ℕ) (k0_h1 : k0_cond1 i = 1#1)
    (X3 : BufTy.Contents (Elt F) arg3.view.ty) (X10 : BufTy.Contents (Elt F) arg18.view.ty) (G8 : BufTy.Contents (Elt F) arg12.view.ty) (G9 : BufTy.Contents (Elt F) arg17.view.ty) :
    Idealize.ShloMosaic.LoopInv (M := (MM F)) Idealize.ShloMosaic.frame (wpE (defs₀ (F := F)) 𝒱 (c : Thread nD τ) bd) E
      k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 k0_h1) where
  inv k _ := iprop((arg3.view.loc (c : Thread nD τ) ↦[arg3.view.set]{fullShare} X3) ∗ (arg18.view.loc (c : Thread nD τ) ↦[arg18.view.set]{fullShare} X10)
    ∗ (∃ f, (arg12.view.loc (c : Thread nD τ) ↦[arg12.view.set]{fullShare} f) ∗ ⌜f = arg12.view.writes (Elt F) G8 (p8 i arg18 k0_h1 X10 k)⌝)
    ∗ (∃ f, (arg17.view.loc (c : Thread nD τ) ↦[arg17.view.set]{fullShare} f) ∗ ⌜f = arg17.view.writes (Elt F) G9 (p9 i arg3 arg18 k0_h1 X3 X10 k)⌝))
  step k acc := by
    have hk : k.val < 8 := Nat.lt_of_lt_of_le k.isLt k0_t1_abs.2.1
    iintro ⟨H3, H10, ⟨%f8, H8, %h8⟩, ⟨%f9, H9, %h9⟩⟩
    unfold k0_t1_body
    sl_exec
    sl_step
    isplitl [H3]; · iexact H3
    isplitl [H10]; · iexact H10
    isplitl [H8]
    · iexists _; isplitl [H8]; · iexact H8
      ipureintro; rw [p8, dif_pos k.isLt, View.writes_append, h8]
    · iexists _; isplitl [H9]; · iexact H9
      ipureintro; rw [p9, dif_pos k.isLt, View.writes_append, h9]

set_option warn.classDefReducibility false in
/-- The last loop by its invariant. -/
@[sl_loop] def loop2 (𝒱 : Variants) (c : Dev nD) (bd : Option 𝒱.V) (E : Set ℕ) (k0_h4 : k0_cond4 i = 1#1)
    (G8 : BufTy.Contents (Elt F) arg12.view.ty) :
    Idealize.ShloMosaic.LoopInv (M := (MM F)) Idealize.ShloMosaic.frame (wpE (defs₀ (F := F)) 𝒱 (c : Thread nD τ) bd) E
      k0_t2_loop.lb k0_t2_loop.ub k0_t2_loop.st (k0_t2_ok i k0_h4) () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 k0_h4) where
  inv k _ := iprop((∃ f, (arg12.view.loc (c : Thread nD τ) ↦[arg12.view.set]{fullShare} f) ∗ ⌜f = arg12.view.writes (Elt F) G8 (q8 i arg12 k0_h4 G8 k)⌝))
  step k acc := by
    have hk : k.val < 8 := Nat.lt_of_lt_of_le k.isLt k0_t2_abs.2.1
    iintro ⟨%f8, H8, %h8⟩
    unfold k0_t2_body
    sl_exec
    sl_step
    iexists _; isplitl [H8]; · iexact H8
    ipureintro; rw [q8, dif_pos k.isLt, View.writes_append, h8]

end Pieces

section Reads
variable (i : grid0.Coords) (arg2 : Memref sig .tc .hbm S8192x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x13312 .f32) (harg8 : arg8.IsWhole) (arg9 : Memref sig .tc .vmem S1x16x2048 .f32) (harg9 : arg9.IsWhole) (arg10 : Memref sig .tc .vmem S1x32x2048 .f32) (harg10 : arg10.IsWhole) (arg11 : Memref sig .tc .vmem S1x32x2048 .f32) (harg11 : arg11.IsWhole) (arg12 : Memref sig .tc .vmem S1024x2048 .f32) (harg12 : arg12.IsWhole) (arg13 : Memref sig .tc .vmem S32x13312 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S32x2048 .bf16) (harg16 : arg16.IsWhole) (arg17 : Memref sig .tc .vmem S1024x2048 .bf16) (harg17 : arg17.IsWhole) (arg18 : Memref sig .tc .vmem S1024x2048 .f32) (harg18 : arg18.IsWhole) (arg19 : DmaSems sig S_)

theorem pay4_congr {a a' : Vec F S1024x2048 .bf16} {b b' d d' : Vec F S2048x512 .bf16} {o o' : Vec F S1024x2048 .f32} {w w' : Vec F S512x2048 .bf16}
    (h1 : a = a') (h2 : b = b') (h3 : d = d') (h4 : o = o') (h5 : w = w') : k0_pay8 a b d o w = k0_pay8 a' b' d' o' w' := by
  rw [h1, h2, h3, h4, h5]

/-- The local index of row `y 0` in its group of 128. -/
abbrev locOf (y : S1024x2048.Idx) : S128x2048.Idx :=
  ix2 (⟨(y 0).val % 128, Nat.mod_lt _ (by decide)⟩ : Fin 128) (y 1 : Fin 2048)

theorem readAt_whole2 {e : EltTy} {a b : ℕ} (m : Memref sig .tc .vmem (⟨2, ![a, b]⟩ : Shape) e) (inb) (f : BufTy.Contents (Elt F) m.view.ty) :
    m.view.readAt (Elt F) (Rect.unit (s := (⟨2, ![a, b]⟩ : Shape)) ![0, 0] ![a, b] inb).toLoadRect f = m.view.read (Elt F) f := by
  funext x
  refine congrArg (m.view.read (Elt F) f) (funext fun a => Fin.ext ?_)
  show (![0, 0] : Fin 2 → ℕ) a + 1 * (x a).val = (x a).val
  fin_cases a <;> simp

theorem readAt_whole3 {e : EltTy} {a b d : ℕ} (m : Memref sig .tc .vmem (⟨3, ![a, b, d]⟩ : Shape) e) (inb) (f : BufTy.Contents (Elt F) m.view.ty) :
    m.view.readAt (Elt F) (Rect.unit (s := (⟨3, ![a, b, d]⟩ : Shape)) ![0, 0, 0] ![a, b, d] inb).toLoadRect f = m.view.read (Elt F) f := by
  funext x
  refine congrArg (m.view.read (Elt F) f) (funext fun a => Fin.ext ?_)
  show (![0, 0, 0] : Fin 3 → ℕ) a + 1 * (x a).val = (x a).val
  fin_cases a <;> simp

theorem read_whole2 {e : EltTy} {a b : ℕ} (m : Memref sig .tc .vmem (⟨2, ![a, b]⟩ : Shape) e) (inb) (f : BufTy.Contents (Elt F) m.view.ty)
    (w : (⟨2, ![a, b]⟩ : Shape).Idx → Elt F e) (L : List (View.Piece (Elt F) (⟨2, ![a, b]⟩ : Shape) e)) :
    m.view.read (Elt F) (m.view.writes (Elt F) f ((⟨Rect.unit (s := (⟨2, ![a, b]⟩ : Shape)) ![0, 0] ![a, b] inb, w⟩ : View.Piece (Elt F) (⟨2, ![a, b]⟩ : Shape) e) :: L)) = w := by
  funext y
  exact View.read_writes_cons_unit_of_mem m.view f inb w L y y rfl (fun a => by fin_cases a <;> simp)

/-- Rows `128 k`, …, `128 k + 127` as a load reads them. -/
theorem readAt_rows (m : Memref sig .tc .vmem S1024x2048 .f32) {off : Fin 2 → ℕ} (k : ℕ) (hk : k < 8) (ho : off = ![128 * k, 0]) (inb)
    (f : BufTy.Contents (Elt F) m.view.ty) :
    m.view.readAt (Elt F) (Rect.unit (s := S1024x2048) off S128x2048.size inb).toLoadRect f = rowsOf (m.view.read (Elt F) f) k hk := by
  subst ho
  funext x
  refine congrArg (m.view.read (Elt F) f) (funext fun a => Fin.ext ?_)
  show (![128 * k, 0] : Fin 2 → ℕ) a + 1 * (x a).val = _
  fin_cases a
  · show 128 * k + 1 * (x 0).val = 128 * k + (x 0).val; omega
  · show 0 + 1 * (x 1).val = (x 1).val; omega

theorem rowsOf_congr (x : Vec F S1024x2048 .f32) {r r' : ℕ} (h : r = r') (hr : r < 8) (hr' : r' < 8) : rowsOf x r hr = rowsOf x r' hr' := by
  subst h; rfl

theorem read_p8 (k0_h1 : k0_cond1 i = 1#1) (X10 : BufTy.Contents (Elt F) arg18.view.ty) (G : BufTy.Contents (Elt F) arg12.view.ty)
    (n : ℕ) (hn : n ≤ 8) (y : S1024x2048.Idx) (hy : (y 0).val < 128 * n) :
    arg12.view.read (Elt F) (arg12.view.writes (Elt F) G (p8 i arg18 k0_h1 X10 n)) y = twoV (arg18.view.read (Elt F) X10) y := by
  induction n with
  | zero => omega
  | succ n ih =>
    have hlt : n < k0_t1_loop.trips := by rw [trips1]; omega
    rw [p8, dif_pos hlt, List.singleton_append]
    by_cases h : (y 0).val < 128 * n
    · rw [View.read_writes_cons_rows_of_not_mem (d := S1024x2048.size) (size := S128x2048.size) arg12.view G _ _ _ y (k0_off2_eq ⟨n, hlt⟩) rfl (Or.inl h)]
      exact ih (by omega) h
    · refine (View.read_writes_cons_rows_of_mem (d := S1024x2048.size) (size := S128x2048.size) arg12.view G _ _ _ y (locOf y) (k0_off2_eq ⟨n, hlt⟩) ?_ rfl).trans ?_
      · show (y 0).val = 128 * n + (y 0).val % 128; omega
      · rw [readAt_rows arg18 n (by omega) (k0_off2_eq ⟨n, hlt⟩)]
        unfold twoV
        rw [rowsOf_congr _ (show n = (y 0).val / 128 by omega)]

theorem read_p9 (k0_h1 : k0_cond1 i = 1#1) (X3 : BufTy.Contents (Elt F) arg3.view.ty) (X10 : BufTy.Contents (Elt F) arg18.view.ty) (G : BufTy.Contents (Elt F) arg17.view.ty)
    (n : ℕ) (hn : n ≤ 8) (y : S1024x2048.Idx) (hy : (y 0).val < 128 * n) :
    arg17.view.read (Elt F) (arg17.view.writes (Elt F) G (p9 i arg3 arg18 k0_h1 X3 X10 n)) y = hnV (arg18.view.read (Elt F) X10) (arg3.view.read (Elt F) X3) y := by
  induction n with
  | zero => omega
  | succ n ih =>
    have hlt : n < k0_t1_loop.trips := by rw [trips1]; omega
    rw [p9, dif_pos hlt, List.singleton_append]
    by_cases h : (y 0).val < 128 * n
    · rw [View.read_writes_cons_rows_of_not_mem (d := S1024x2048.size) (size := S128x2048.size) arg17.view G _ _ _ y (k0_off2_eq ⟨n, hlt⟩) rfl (Or.inl h)]
      exact ih (by omega) h
    · refine (View.read_writes_cons_rows_of_mem (d := S1024x2048.size) (size := S128x2048.size) arg17.view G _ _ _ y (locOf y) (k0_off2_eq ⟨n, hlt⟩) ?_ rfl).trans ?_
      · show (y 0).val = 128 * n + (y 0).val % 128; omega
      · rw [readAt_rows arg18 n (by omega) (k0_off2_eq ⟨n, hlt⟩)]
        unfold hnV
        rw [rowsOf_congr _ (show n = (y 0).val / 128 by omega)]
        exact congrArg (fun z => k0_pay6 _ z (locOf y)) (readAt_whole3 arg3 _ X3)

theorem read_q8_ge (k0_h4 : k0_cond4 i = 1#1) (G : BufTy.Contents (Elt F) arg12.view.ty)
    (n : ℕ) (hn : n ≤ 8) (y : S1024x2048.Idx) (hy : 128 * n ≤ (y 0).val) :
    arg12.view.read (Elt F) (arg12.view.writes (Elt F) G (q8 i arg12 k0_h4 G n)) y = arg12.view.read (Elt F) G y := by
  induction n with
  | zero => rfl
  | succ n ih =>
    have hlt : n < k0_t2_loop.trips := by rw [trips2]; omega
    rw [q8, dif_pos hlt, List.singleton_append]
    rw [View.read_writes_cons_rows_of_not_mem (d := S1024x2048.size) (size := S128x2048.size) arg12.view G _ _ _ y (k0_off4_eq ⟨n, hlt⟩) rfl (Or.inr (by show 128 * n + 128 ≤ _; omega))]
    exact ih (by omega) (by omega)

theorem read_q8 (k0_h4 : k0_cond4 i = 1#1) (G : BufTy.Contents (Elt F) arg12.view.ty)
    (n : ℕ) (hn : n ≤ 8) (y : S1024x2048.Idx) (hy : (y 0).val < 128 * n) :
    arg12.view.read (Elt F) (arg12.view.writes (Elt F) G (q8 i arg12 k0_h4 G n)) y = finV (arg12.view.read (Elt F) G) y := by
  induction n with
  | zero => omega
  | succ n ih =>
    have hlt : n < k0_t2_loop.trips := by rw [trips2]; omega
    rw [q8, dif_pos hlt, List.singleton_append]
    by_cases h : (y 0).val < 128 * n
    · rw [View.read_writes_cons_rows_of_not_mem (d := S1024x2048.size) (size := S128x2048.size) arg12.view G _ _ _ y (k0_off4_eq ⟨n, hlt⟩) rfl (Or.inl h)]
      exact ih (by omega) h
    · refine (View.read_writes_cons_rows_of_mem (d := S1024x2048.size) (size := S128x2048.size) arg12.view G _ _ _ y (locOf y) (k0_off4_eq ⟨n, hlt⟩) ?_ rfl).trans ?_
      · show (y 0).val = 128 * n + (y 0).val % 128; omega
      · have e1 : rowsOf (arg12.view.read (Elt F) (arg12.view.writes (Elt F) G (q8 i arg12 k0_h4 G n))) n (by omega)
            = rowsOf (arg12.view.read (Elt F) G) ((y 0).val / 128) (by omega) := by
          rw [← rowsOf_congr (arg12.view.read (Elt F) G) (show n = (y 0).val / 128 by omega) (by omega)]
          funext j
          exact read_q8_ge i arg12 k0_h4 G n (by omega) _ (by show 128 * n ≤ 128 * n + (j 0).val; omega)
        rw [readAt_rows arg12 n (by omega) (k0_off4_eq ⟨n, hlt⟩), e1]
        rfl

theorem read_p8_all (k0_h1 : k0_cond1 i = 1#1) (X10 : BufTy.Contents (Elt F) arg18.view.ty) (G : BufTy.Contents (Elt F) arg12.view.ty) :
    arg12.view.read (Elt F) (arg12.view.writes (Elt F) G (p8 i arg18 k0_h1 X10 k0_t1_loop.trips)) = twoV (arg18.view.read (Elt F) X10) := by
  funext y
  rw [trips1]
  exact read_p8 i arg12 arg18 k0_h1 X10 G 8 (by omega) y (by have h : (y 0).val < 1024 := (y 0).isLt; omega)

theorem read_p9_all (k0_h1 : k0_cond1 i = 1#1) (X3 : BufTy.Contents (Elt F) arg3.view.ty) (X10 : BufTy.Contents (Elt F) arg18.view.ty) (G : BufTy.Contents (Elt F) arg17.view.ty) :
    arg17.view.read (Elt F) (arg17.view.writes (Elt F) G (p9 i arg3 arg18 k0_h1 X3 X10 k0_t1_loop.trips)) = hnV (arg18.view.read (Elt F) X10) (arg3.view.read (Elt F) X3) := by
  funext y
  rw [trips1]
  exact read_p9 i arg3 arg17 arg18 k0_h1 X3 X10 G 8 (by omega) y (by have h : (y 0).val < 1024 := (y 0).isLt; omega)

theorem read_q8_all (k0_h4 : k0_cond4 i = 1#1) (G : BufTy.Contents (Elt F) arg12.view.ty) :
    arg12.view.read (Elt F) (arg12.view.writes (Elt F) G (q8 i arg12 k0_h4 G k0_t2_loop.trips)) = finV (arg12.view.read (Elt F) G) := by
  funext y
  rw [trips2]
  exact read_q8 i arg12 k0_h4 G 8 (by omega) y (by have h : (y 0).val < 1024 := (y 0).isLt; omega)

end Reads

end Cert.Half.Hand

end
-- ==== Proof.HalfBase.lean ====
/- The half-step feed-forward kernel with its cast jobs: its arrays, blocks and branch conditions, and the one transfer it keeps in flight. -/
module

public import proofs.«01_k».proof.Proof.HalfLoops
public import proofs.«01_k».proof.Proof.Gen.Half.Skeleton
public import proofs.«01_k».proof.Proof.Gen.Half.Launch
public import proofs.«01_k».proof.Proof.Gen.Half.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.WordCmp

@[expose] public section

set_option maxRecDepth 16384

noncomputable section

namespace Cert.Half.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Half.Gen

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c))),
      ((h c).1 7).trans (((dats 0 c).arrAt_in 7 rfl _).trans ((hA c 7).trans (V_main_arg8 m c))),
      ((h c).1 8).trans (((dats 0 c).arrAt_in 8 rfl _).trans ((hA c 8).trans (V_main_arg9 m c)))⟩) h

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1
theorem hcond1 : ∀ t : Fin cfg0.N, cond1 (grid0.coords t) ↔ t.val % 11 = 0 :=
  (by decide +kernel : ∀ t : Fin grid0.N, cond1 (grid0.coords t) ↔ t.val % 11 = 0)
theorem hcond2 : ∀ t : Fin cfg0.N, cond2 (grid0.coords t) ↔ t.val < 11 :=
  (by decide +kernel : ∀ t : Fin grid0.N, cond2 (grid0.coords t) ↔ t.val < 11)
theorem hcond3 : ∀ t : Fin cfg0.N, cond3 (grid0.coords t) ↔ t.val % 11 = 1 ∧ t.val < 77 :=
  (by decide +kernel : ∀ t : Fin grid0.N, cond3 (grid0.coords t) ↔ t.val % 11 = 1 ∧ t.val < 77)
theorem hcond4 : ∀ t : Fin cfg0.N, cond4 (grid0.coords t) ↔ t.val % 11 = 10 :=
  (by decide +kernel : ∀ t : Fin grid0.N, cond4 (grid0.coords t) ↔ t.val % 11 = 10)

abbrev ms0_0 (t : Fin cfg0.N) : Memref sig .tc .vmem S1x1x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x13312 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x13312 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S32x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x2048 .bf16 := win0_13.stage (cfg0.slots t 13)
abbrev hs0_13 (t : Fin cfg0.N) : (ms0_13 t).IsWhole := hstage0_13 ((cfg0.slots t 13).cast nbuf0_13)

abbrev scM0_0 : Memref sig .tc .vmem S1024x2048 .bf16 := Memref.whole cc0_scratch0
abbrev scM0_1 : Memref sig .tc .vmem S1024x2048 .f32 := Memref.whole cc0_scratch1
abbrev hbM0_0 : Memref sig .tc .hbm S8192x2048 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- The kernel's one transfer semaphore. -/
abbrev osem0 : Fin 1 → SemLoc sig := fun j => (![SemLoc.dma 26] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 26) 0) := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp (MM F)) = iprop(hbPt0 c hbM0_0 (V m c main_arg0)) := by
  rw [BI.bigSep_eq_bigSepL_of_eq [main_arg0] (by decide) (by decide)]; rfl
theorem PhiD0_eq (c : Dev nD) :
    (Pipeline.ΦD osem0 spec0 H0 (V m) c : sProp (MM F))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 26) 0) ∗ iprop(hbPt0 c hbM0_0 (V m c main_arg0))) := by
  rw [Pipeline.ΦD_eq, scopedRest0_eq, ownSems00_eq, hbmPts0_eq]; simp only [scM0_0, scM0_1, owns_whole]; try rfl

instance : NeZero grid0.N := ⟨by rw [N_0]; decide⟩

theorem inb_src (b : Fin 8) : ∀ a, (![1024 * b.val, 0] : Fin 2 → Nat) a + S1024x2048.size a ≤ S8192x2048.size a := by
  have := b.isLt; intro a; fin_cases a <;> simp <;> omega
/-- Tile `b` of the operand, as the transfers name their source. -/
def srcB (b : Fin 8) : Memref sig .tc .hbm S1024x2048 .f32 :=
  hbM0_0.slice (Rect.unit (s := S8192x2048) ![1024 * b.val, 0] S1024x2048.size (inb_src b)) (fun _ => rfl)
abbrev bk (n : ℕ) : Fin 8 := ⟨n % 8, Nat.mod_lt _ (by decide)⟩
abbrev cellR : SemLoc sig := SemLoc.dma cc0_scratch2.sem
theorem cellR_eq : cellR = SemLoc.dma 26 := by decide

section Xfer
variable (c : Dev nD) (W : HbBuf0 (F := F) c hbM0_0)
abbrev slotP (f : HbBuf0 (F := F) c scM0_1) : sProp (MM F) := scM0_1.view.loc (c : Thread nD τ) ↦[scM0_1.view.set]{fullShare} f
abbrev cellP : sProp (MM F) := semVal ((c : Thread nD τ), cellR) 0
abbrev srcP (b : Fin 8) : sProp (MM F) := (srcB b).view.loc (c : Thread nD τ) ↦[(srcB b).view.set]{fullShare} W
/-- The operand outside tile `b`. -/
def restP (b : Fin 8) : sProp (MM F) := ((c : Thread nD τ).loc main_arg0) ↦[Finset.univ \ (srcB b).view.set]{fullShare} W
abbrev wholeP : sProp (MM F) := ((c : Thread nD τ).loc main_arg0) ↦[Finset.univ]{fullShare} W
/-- The scratch once tile `b` has landed in it. -/
abbrev landed (b : Fin 8) (f : HbBuf0 (F := F) c scM0_1) : HbBuf0 (F := F) c scM0_1 :=
  scM0_1.view.writes (Elt F) f [⟨Rect.whole S1024x2048, ReadAs.same.apply ((srcB b).view.read (Elt F) W)⟩]
abbrev flightP (b : Fin 8) (f : HbBuf0 (F := F) c scM0_1) : sProp (MM F) :=
  Transfers.Flight countersEmb (c : Thread nD τ) cellR default (scM0_1.view.amount cellR)
    iprop(slotP c (landed c W b f) ∗ srcP c W b)
/-- Tile `b` as a vector. -/
abbrev xt (b : Fin 8) : Vec F S1024x2048 .f32 := (srcB b).view.read (Elt F) W
theorem read_landed (b : Fin 8) (f : HbBuf0 (F := F) c scM0_1) : scM0_1.view.read (Elt F) (landed c W b f) = xt c W b := by
  funext y
  have h : (Rect.whole S1024x2048).emb y = y := funext fun a => Fin.ext (by show 0 + 1 * (y a).val = (y a).val; omega)
  exact (congrArg (scM0_1.view.read (Elt F) (landed c W b f)) h.symm).trans
    (View.read_writes_cons_emb scM0_1.view f (Rect.whole S1024x2048) _ [] y)
theorem src_split (b : Fin 8) : wholeP (F := F) c W ⊣⊢ iprop(srcP c W b ∗ restP c W b) := by
  unfold restP; exact pointsTo_split_subset (Finset.subset_univ _)
end Xfer

section Canon
theorem coff_1 : ∀ t : Fin grid0.N, cond1 (grid0.coords t) → cond2 (grid0.coords t) → (![0, 0] : Fin 2 → Nat) = ![1024 * (bk (t.val / 11)).val, 0] := by decide +kernel
@[sl_canon] theorem canon_1 (t : Fin grid0.N) (h0 : cond1 (grid0.coords t)) (h1 : cond2 (grid0.coords t)) :
    hbM0_0.slice (Rect.unit (s := S8192x2048) ![0, 0] S1024x2048.size inb_S8192x2048_S1024x2048_0_0) (fun _ => rfl) = srcB (bk (t.val / 11)) :=
  Memref.slice_unit_congr _ (coff_1 t h0 h1) _ _ (fun _ => rfl) (fun _ => rfl)
theorem coff_2 : ∀ t : Fin grid0.N, cond1 (grid0.coords t) → k0_off1 (grid0.coords t) = ![1024 * (bk (t.val / 11)).val, 0] := by decide +kernel
@[sl_canon] theorem canon_2 (t : Fin grid0.N) (h0 : cond1 (grid0.coords t)) :
    hbM0_0.slice (Rect.unit (s := S8192x2048) (k0_off1 (grid0.coords t)) S1024x2048.size (k0_off1_inb (grid0.coords t) h0)) (fun _ => rfl) = srcB (bk (t.val / 11)) :=
  Memref.slice_unit_congr _ (coff_2 t h0) _ _ (fun _ => rfl) (fun _ => rfl)
theorem coff_3 : ∀ t : Fin grid0.N, cond3 (grid0.coords t) → k0_off3 (grid0.coords t) = ![1024 * (bk (t.val / 11 + 1)).val, 0] := by decide +kernel
@[sl_canon] theorem canon_3 (t : Fin grid0.N) (h0 : cond3 (grid0.coords t)) :
    hbM0_0.slice (Rect.unit (s := S8192x2048) (k0_off3 (grid0.coords t)) S1024x2048.size (k0_off3_inb (grid0.coords t) h0)) (fun _ => rfl) = srcB (bk (t.val / 11 + 1)) :=
  Memref.slice_unit_congr _ (coff_3 t h0) _ _ (fun _ => rfl) (fun _ => rfl)
end Canon

end Cert.Half.Hand

end
-- ==== Proof.HalfRun.lean ====
/- The half-step feed-forward kernel with its cast jobs's body, point by point. -/
module

public import proofs.«01_k».proof.Proof.HalfBase
public import proofs.«01_k».proof.Proof.Gen.Half.Skeleton
public import proofs.«01_k».proof.Proof.Gen.Half.Launch
public import proofs.«01_k».proof.Proof.Gen.Half.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.WordCmp

@[expose] public section

set_option maxRecDepth 16384

noncomputable section

namespace Cert.Half.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Half.Gen

variable {F : FTy → Type} [FloatOps F]

set_option maxHeartbeats 1000000 in
/-- The first point: the first tile is copied in and awaited, normalised, and the first block of hidden columns added to its double. -/
theorem run_A (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x13312 .f32) (harg8 : arg8.IsWhole) (arg9 : Memref sig .tc .vmem S1x16x2048 .f32) (harg9 : arg9.IsWhole) (arg10 : Memref sig .tc .vmem S1x32x2048 .f32) (harg10 : arg10.IsWhole) (arg11 : Memref sig .tc .vmem S1x32x2048 .f32) (harg11 : arg11.IsWhole) (arg12 : Memref sig .tc .vmem S1024x2048 .f32) (harg12 : arg12.IsWhole) (arg13 : Memref sig .tc .vmem S32x13312 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S32x2048 .bf16) (harg16 : arg16.IsWhole) (arg17 : Memref sig .tc .vmem S1024x2048 .bf16) (harg17 : arg17.IsWhole) (hc1 : cond1 (grid0.coords t)) (hc2 : cond2 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x13312 .f32) (x6 : Vec F S1x16x2048 .f32) (x7 : Vec F S1x32x2048 .f32) (x8 : Vec F S1x32x2048 .f32) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ cellP c ∗ (∃ f, slotP (F := F) c f) ∗ hbPt0 c hbM0_0 fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay8 (hnV (xt c fh (bk (t.val / 11))) x0) x1 x2 (twoV (xt c fh (bk (t.val / 11)))) x3) ∗ owns (c : Thread nD τ) arg13 fullShare (k0_pay1 x5) ∗ owns (c : Thread nD τ) arg14 fullShare (k0_pay2 x6) ∗ owns (c : Thread nD τ) arg15 fullShare (k0_pay3 x7) ∗ owns (c : Thread nD τ) arg16 fullShare (k0_pay4 x8) ∗ owns (c : Thread nD τ) arg17 fullShare (hnV (xt c fh (bk (t.val / 11))) x0) ∗ cellP c ∗ (∃ f, slotP (F := F) c f) ∗ hbPt0 c hbM0_0 fh ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 scM0_1 (Memref.isWhole_whole _) cc0_scratch2) K := by
  haveI : Fact (cond1 (grid0.coords t)) := ⟨hc1⟩
  haveI : Fact (cond2 (grid0.coords t)) := ⟨hc2⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_1 t hc1 hc2
  have hcanon1 := canon_2 t hc1
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%g3, %hg3, J3⟩, ⟨%d5, %f5, -, H5⟩, ⟨%e0, %u0, -, D0⟩, ⟨%e1, %u1, -, D1⟩, ⟨%e2, %u2, -, D2⟩, ⟨%e3, %u3, -, D3⟩, ⟨%d6, %f6, -, HS0⟩, Hc, ⟨%fs, Hs⟩, Hw, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2; obtain rfl := harg11.eq_unread hg3
  ihave Hsp := (src_split c fh (bk (t.val / 11))).1 $$ Hw
  icases Hsp with ⟨Hh, Hr⟩
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [J3]
  · iexists _; isplitr; · ipureintro; exact harg11.read_unread _
    iexact J3
  isplitl [H5]
  · iexists _; isplitr; swap; · iexact H5
    ipureintro
    refine (read_whole2 arg12 _ _ _ _).trans ?_
    exact pay4_congr ((readAt_whole2 arg17 _ _).trans ((read_p9_all (grid0.coords t) arg3 arg17 scM0_1 hc1 _ _ _).trans (congrArg₂ hnV (read_landed c fh (bk (t.val / 11)) _) (harg3.read_unread _)))) ((readAt_whole2 arg4 _ _).trans (harg4.read_unread _)) ((readAt_whole2 arg5 _ _).trans (harg5.read_unread _)) ((readAt_whole2 arg12 _ _).trans ((read_p8_all (grid0.coords t) arg12 scM0_1 hc1 _ _).trans (congrArg twoV (read_landed c fh (bk (t.val / 11)) _)))) ((readAt_whole2 arg6 _ _).trans (harg6.read_unread _))
  isplitl [D0]
  · iexists _; isplitr; swap; · iexact D0
    ipureintro
    exact (read_whole2 arg13 _ _ _ _).trans (congrArg k0_pay1 ((readAt_whole3 arg8 _ _).trans (harg8.read_unread _)))
  isplitl [D1]
  · iexists _; isplitr; swap; · iexact D1
    ipureintro
    exact (read_whole2 arg14 _ _ _ _).trans (congrArg k0_pay2 ((readAt_whole3 arg9 _ _).trans (harg9.read_unread _)))
  isplitl [D2]
  · iexists _; isplitr; swap; · iexact D2
    ipureintro
    exact (read_whole2 arg15 _ _ _ _).trans (congrArg k0_pay3 ((readAt_whole3 arg10 _ _).trans (harg10.read_unread _)))
  isplitl [D3]
  · iexists _; isplitr; swap; · iexact D3
    ipureintro
    exact (read_whole2 arg16 _ _ _ _).trans (congrArg k0_pay4 ((readAt_whole3 arg11 _ _).trans (harg11.read_unread _)))
  isplitl [HS0]
  · iexists _; isplitr; swap; · iexact HS0
    ipureintro
    exact ((read_p9_all (grid0.coords t) arg3 arg17 scM0_1 hc1 _ _ _).trans (congrArg₂ hnV (read_landed c fh (bk (t.val / 11)) _) (harg3.read_unread _)))
  isplitl [Hc]; · iexact Hc
  isplitl [Hs]; · iexists _; iexact Hs
  isplitl [Hh Hr]
  · iapply (src_split c fh (bk (t.val / 11))).2; isplitl [Hh]; · iexact Hh
    iexact Hr
  iexists _; iexact HW

set_option maxHeartbeats 1000000 in
/-- The second point of a tile that another follows: the next tile is sent for, and a block of hidden columns added. -/
theorem run_B (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x13312 .f32) (harg8 : arg8.IsWhole) (arg9 : Memref sig .tc .vmem S1x16x2048 .f32) (harg9 : arg9.IsWhole) (arg10 : Memref sig .tc .vmem S1x32x2048 .f32) (harg10 : arg10.IsWhole) (arg11 : Memref sig .tc .vmem S1x32x2048 .f32) (harg11 : arg11.IsWhole) (arg12 : Memref sig .tc .vmem S1024x2048 .f32) (harg12 : arg12.IsWhole) (arg13 : Memref sig .tc .vmem S32x13312 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S32x2048 .bf16) (harg16 : arg16.IsWhole) (arg17 : Memref sig .tc .vmem S1024x2048 .bf16) (harg17 : arg17.IsWhole) (hc1 : ¬cond1 (grid0.coords t)) (hc3 : cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x13312 .f32) (x6 : Vec F S1x16x2048 .f32) (x7 : Vec F S1x32x2048 .f32) (x8 : Vec F S1x32x2048 .f32) (a8 : Vec F S1024x2048 .f32) (h9 : Vec F S1024x2048 .bf16) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare a8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare h9 ∗ cellP c ∗ (∃ f, slotP (F := F) c f) ∗ hbPt0 c hbM0_0 fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay8 h9 x1 x2 a8 x3) ∗ owns (c : Thread nD τ) arg13 fullShare (k0_pay1 x5) ∗ owns (c : Thread nD τ) arg14 fullShare (k0_pay2 x6) ∗ owns (c : Thread nD τ) arg15 fullShare (k0_pay3 x7) ∗ owns (c : Thread nD τ) arg16 fullShare (k0_pay4 x8) ∗ owns (c : Thread nD τ) arg17 fullShare h9 ∗ (∃ f, flightP c fh (bk (t.val / 11 + 1)) f) ∗ restP c fh (bk (t.val / 11 + 1)) ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 scM0_1 (Memref.isWhole_whole _) cc0_scratch2) K := by
  haveI : Fact (¬cond1 (grid0.coords t)) := ⟨hc1⟩
  haveI : Fact (cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_3 t hc3
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%g3, %hg3, J3⟩, ⟨%f5, %hf5, H5⟩, ⟨%e0, %u0, -, D0⟩, ⟨%e1, %u1, -, D1⟩, ⟨%e2, %u2, -, D2⟩, ⟨%e3, %u3, -, D3⟩, ⟨%f6, %hf6, HS0⟩, Hc, ⟨%fs, Hs⟩, Hw, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2; obtain rfl := harg11.eq_unread hg3
  obtain rfl := harg12.eq_unread hf5; obtain rfl := harg17.eq_unread hf6
  ihave Hsp := (src_split c fh (bk (t.val / 11 + 1))).1 $$ Hw
  icases Hsp with ⟨Hh, Hr⟩
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [J3]
  · iexists _; isplitr; · ipureintro; exact harg11.read_unread _
    iexact J3
  isplitl [H5]
  · iexists _; isplitr; swap; · iexact H5
    ipureintro
    refine (read_whole2 arg12 _ _ _ _).trans ?_
    rw [readAt_whole2 arg17, readAt_whole2 arg4, readAt_whole2 arg5, readAt_whole2 arg12, readAt_whole2 arg6, harg17.read_unread, harg4.read_unread, harg5.read_unread, harg12.read_unread, harg6.read_unread]
  isplitl [D0]
  · iexists _; isplitr; swap; · iexact D0
    ipureintro
    exact (read_whole2 arg13 _ _ _ _).trans (congrArg k0_pay1 ((readAt_whole3 arg8 _ _).trans (harg8.read_unread _)))
  isplitl [D1]
  · iexists _; isplitr; swap; · iexact D1
    ipureintro
    exact (read_whole2 arg14 _ _ _ _).trans (congrArg k0_pay2 ((readAt_whole3 arg9 _ _).trans (harg9.read_unread _)))
  isplitl [D2]
  · iexists _; isplitr; swap; · iexact D2
    ipureintro
    exact (read_whole2 arg15 _ _ _ _).trans (congrArg k0_pay3 ((readAt_whole3 arg10 _ _).trans (harg10.read_unread _)))
  isplitl [D3]
  · iexists _; isplitr; swap; · iexact D3
    ipureintro
    exact (read_whole2 arg16 _ _ _ _).trans (congrArg k0_pay4 ((readAt_whole3 arg11 _ _).trans (harg11.read_unread _)))
  isplitl [HS0]
  · iexists _; isplitr; swap; · iexact HS0
    ipureintro
    exact harg17.read_unread _
  isplitl [Hc]; · iexists _; iexact Hc
  isplitl [Hr]; · iexact Hr
  iexists _; iexact HW

set_option maxHeartbeats 1000000 in
/-- The last point of a tile: the last block of hidden columns added, and the sum halved. -/
theorem run_C (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x13312 .f32) (harg8 : arg8.IsWhole) (arg9 : Memref sig .tc .vmem S1x16x2048 .f32) (harg9 : arg9.IsWhole) (arg10 : Memref sig .tc .vmem S1x32x2048 .f32) (harg10 : arg10.IsWhole) (arg11 : Memref sig .tc .vmem S1x32x2048 .f32) (harg11 : arg11.IsWhole) (arg12 : Memref sig .tc .vmem S1024x2048 .f32) (harg12 : arg12.IsWhole) (arg13 : Memref sig .tc .vmem S32x13312 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S32x2048 .bf16) (harg16 : arg16.IsWhole) (arg17 : Memref sig .tc .vmem S1024x2048 .bf16) (harg17 : arg17.IsWhole) (hc1 : ¬cond1 (grid0.coords t)) (hc3 : ¬cond3 (grid0.coords t)) (hc4 : cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x13312 .f32) (x6 : Vec F S1x16x2048 .f32) (x7 : Vec F S1x32x2048 .f32) (x8 : Vec F S1x32x2048 .f32) (a8 : Vec F S1024x2048 .f32) (h9 : Vec F S1024x2048 .bf16) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare a8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare h9 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (finV (k0_pay8 h9 x1 x2 a8 x3)) ∗ owns (c : Thread nD τ) arg13 fullShare (k0_pay1 x5) ∗ owns (c : Thread nD τ) arg14 fullShare (k0_pay2 x6) ∗ owns (c : Thread nD τ) arg15 fullShare (k0_pay3 x7) ∗ owns (c : Thread nD τ) arg16 fullShare (k0_pay4 x8) ∗ owns (c : Thread nD τ) arg17 fullShare h9 ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 scM0_1 (Memref.isWhole_whole _) cc0_scratch2) K := by
  haveI : Fact (¬cond1 (grid0.coords t)) := ⟨hc1⟩
  haveI : Fact (¬cond3 (grid0.coords t)) := ⟨hc3⟩
  haveI : Fact (cond4 (grid0.coords t)) := ⟨hc4⟩
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%g3, %hg3, J3⟩, ⟨%f5, %hf5, H5⟩, ⟨%e0, %u0, -, D0⟩, ⟨%e1, %u1, -, D1⟩, ⟨%e2, %u2, -, D2⟩, ⟨%e3, %u3, -, D3⟩, ⟨%f6, %hf6, HS0⟩, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2; obtain rfl := harg11.eq_unread hg3
  obtain rfl := harg12.eq_unread hf5; obtain rfl := harg17.eq_unread hf6
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [J3]
  · iexists _; isplitr; · ipureintro; exact harg11.read_unread _
    iexact J3
  isplitl [H5]
  · iexists _; isplitr; swap; · iexact H5
    ipureintro
    rw [View.writes_append]
    refine (read_q8_all (grid0.coords t) arg12 hc4 _).trans (congrArg finV ((read_whole2 arg12 _ _ _ _).trans ?_))
    exact pay4_congr ((readAt_whole2 arg17 _ _).trans (harg17.read_unread _)) ((readAt_whole2 arg4 _ _).trans (harg4.read_unread _)) ((readAt_whole2 arg5 _ _).trans (harg5.read_unread _)) ((readAt_whole2 arg12 _ _).trans (harg12.read_unread _)) ((readAt_whole2 arg6 _ _).trans (harg6.read_unread _))
  isplitl [D0]
  · iexists _; isplitr; swap; · iexact D0
    ipureintro
    exact (read_whole2 arg13 _ _ _ _).trans (congrArg k0_pay1 ((readAt_whole3 arg8 _ _).trans (harg8.read_unread _)))
  isplitl [D1]
  · iexists _; isplitr; swap; · iexact D1
    ipureintro
    exact (read_whole2 arg14 _ _ _ _).trans (congrArg k0_pay2 ((readAt_whole3 arg9 _ _).trans (harg9.read_unread _)))
  isplitl [D2]
  · iexists _; isplitr; swap; · iexact D2
    ipureintro
    exact (read_whole2 arg15 _ _ _ _).trans (congrArg k0_pay3 ((readAt_whole3 arg10 _ _).trans (harg10.read_unread _)))
  isplitl [D3]
  · iexists _; isplitr; swap; · iexact D3
    ipureintro
    exact (read_whole2 arg16 _ _ _ _).trans (congrArg k0_pay4 ((readAt_whole3 arg11 _ _).trans (harg11.read_unread _)))
  isplitl [HS0]
  · iexists _; isplitr; swap; · iexact HS0
    ipureintro
    exact harg17.read_unread _
  iexists _; iexact HW

set_option maxHeartbeats 1000000 in
/-- The first point of a later tile: the tile, in flight, is awaited, normalised, and the first block of hidden columns added to its double. -/
theorem run_D (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x13312 .f32) (harg8 : arg8.IsWhole) (arg9 : Memref sig .tc .vmem S1x16x2048 .f32) (harg9 : arg9.IsWhole) (arg10 : Memref sig .tc .vmem S1x32x2048 .f32) (harg10 : arg10.IsWhole) (arg11 : Memref sig .tc .vmem S1x32x2048 .f32) (harg11 : arg11.IsWhole) (arg12 : Memref sig .tc .vmem S1024x2048 .f32) (harg12 : arg12.IsWhole) (arg13 : Memref sig .tc .vmem S32x13312 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S32x2048 .bf16) (harg16 : arg16.IsWhole) (arg17 : Memref sig .tc .vmem S1024x2048 .bf16) (harg17 : arg17.IsWhole) (hc1 : cond1 (grid0.coords t)) (hc2 : ¬cond2 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x13312 .f32) (x6 : Vec F S1x16x2048 .f32) (x7 : Vec F S1x32x2048 .f32) (x8 : Vec F S1x32x2048 .f32) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, flightP c fh (bk (t.val / 11)) f) ∗ restP c fh (bk (t.val / 11)) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay8 (hnV (xt c fh (bk (t.val / 11))) x0) x1 x2 (twoV (xt c fh (bk (t.val / 11)))) x3) ∗ owns (c : Thread nD τ) arg13 fullShare (k0_pay1 x5) ∗ owns (c : Thread nD τ) arg14 fullShare (k0_pay2 x6) ∗ owns (c : Thread nD τ) arg15 fullShare (k0_pay3 x7) ∗ owns (c : Thread nD τ) arg16 fullShare (k0_pay4 x8) ∗ owns (c : Thread nD τ) arg17 fullShare (hnV (xt c fh (bk (t.val / 11))) x0) ∗ cellP c ∗ (∃ f, slotP (F := F) c f) ∗ hbPt0 c hbM0_0 fh ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 scM0_1 (Memref.isWhole_whole _) cc0_scratch2) K := by
  haveI : Fact (cond1 (grid0.coords t)) := ⟨hc1⟩
  haveI : Fact (¬cond2 (grid0.coords t)) := ⟨hc2⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_2 t hc1
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%g3, %hg3, J3⟩, ⟨%d5, %f5, -, H5⟩, ⟨%e0, %u0, -, D0⟩, ⟨%e1, %u1, -, D1⟩, ⟨%e2, %u2, -, D2⟩, ⟨%e3, %u3, -, D3⟩, ⟨%d6, %f6, -, HS0⟩, ⟨%fs, Hc⟩, Hr, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2; obtain rfl := harg11.eq_unread hg3
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [J3]
  · iexists _; isplitr; · ipureintro; exact harg11.read_unread _
    iexact J3
  isplitl [H5]
  · iexists _; isplitr; swap; · iexact H5
    ipureintro
    refine (read_whole2 arg12 _ _ _ _).trans ?_
    exact pay4_congr ((readAt_whole2 arg17 _ _).trans ((read_p9_all (grid0.coords t) arg3 arg17 scM0_1 hc1 _ _ _).trans (congrArg₂ hnV (read_landed c fh (bk (t.val / 11)) _) (harg3.read_unread _)))) ((readAt_whole2 arg4 _ _).trans (harg4.read_unread _)) ((readAt_whole2 arg5 _ _).trans (harg5.read_unread _)) ((readAt_whole2 arg12 _ _).trans ((read_p8_all (grid0.coords t) arg12 scM0_1 hc1 _ _).trans (congrArg twoV (read_landed c fh (bk (t.val / 11)) _)))) ((readAt_whole2 arg6 _ _).trans (harg6.read_unread _))
  isplitl [D0]
  · iexists _; isplitr; swap; · iexact D0
    ipureintro
    exact (read_whole2 arg13 _ _ _ _).trans (congrArg k0_pay1 ((readAt_whole3 arg8 _ _).trans (harg8.read_unread _)))
  isplitl [D1]
  · iexists _; isplitr; swap; · iexact D1
    ipureintro
    exact (read_whole2 arg14 _ _ _ _).trans (congrArg k0_pay2 ((readAt_whole3 arg9 _ _).trans (harg9.read_unread _)))
  isplitl [D2]
  · iexists _; isplitr; swap; · iexact D2
    ipureintro
    exact (read_whole2 arg15 _ _ _ _).trans (congrArg k0_pay3 ((readAt_whole3 arg10 _ _).trans (harg10.read_unread _)))
  isplitl [D3]
  · iexists _; isplitr; swap; · iexact D3
    ipureintro
    exact (read_whole2 arg16 _ _ _ _).trans (congrArg k0_pay4 ((readAt_whole3 arg11 _ _).trans (harg11.read_unread _)))
  isplitl [HS0]
  · iexists _; isplitr; swap; · iexact HS0
    ipureintro
    exact ((read_p9_all (grid0.coords t) arg3 arg17 scM0_1 hc1 _ _ _).trans (congrArg₂ hnV (read_landed c fh (bk (t.val / 11)) _) (harg3.read_unread _)))
  isplitl [Hc]; · iexact Hc
  isplitl [Hc_dst]; · iexists _; iexact Hc_dst
  isplitl [Hc_src Hr]
  · iapply (src_split c fh (bk (t.val / 11))).2; isplitl [Hc_src]; · iexact Hc_src
    iexact Hr
  iexists _; iexact HW

set_option maxHeartbeats 1000000 in
/-- Any other point but the last of a tile: a block of hidden columns added. -/
theorem run_E (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x13312 .f32) (harg8 : arg8.IsWhole) (arg9 : Memref sig .tc .vmem S1x16x2048 .f32) (harg9 : arg9.IsWhole) (arg10 : Memref sig .tc .vmem S1x32x2048 .f32) (harg10 : arg10.IsWhole) (arg11 : Memref sig .tc .vmem S1x32x2048 .f32) (harg11 : arg11.IsWhole) (arg12 : Memref sig .tc .vmem S1024x2048 .f32) (harg12 : arg12.IsWhole) (arg13 : Memref sig .tc .vmem S32x13312 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S32x2048 .bf16) (harg16 : arg16.IsWhole) (arg17 : Memref sig .tc .vmem S1024x2048 .bf16) (harg17 : arg17.IsWhole) (hc1 : ¬cond1 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x13312 .f32) (x6 : Vec F S1x16x2048 .f32) (x7 : Vec F S1x32x2048 .f32) (x8 : Vec F S1x32x2048 .f32) (a8 : Vec F S1024x2048 .f32) (h9 : Vec F S1024x2048 .bf16) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare a8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare h9 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay8 h9 x1 x2 a8 x3) ∗ owns (c : Thread nD τ) arg13 fullShare (k0_pay1 x5) ∗ owns (c : Thread nD τ) arg14 fullShare (k0_pay2 x6) ∗ owns (c : Thread nD τ) arg15 fullShare (k0_pay3 x7) ∗ owns (c : Thread nD τ) arg16 fullShare (k0_pay4 x8) ∗ owns (c : Thread nD τ) arg17 fullShare h9 ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 scM0_1 (Memref.isWhole_whole _) cc0_scratch2) K := by
  haveI : Fact (¬cond1 (grid0.coords t)) := ⟨hc1⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%g3, %hg3, J3⟩, ⟨%f5, %hf5, H5⟩, ⟨%e0, %u0, -, D0⟩, ⟨%e1, %u1, -, D1⟩, ⟨%e2, %u2, -, D2⟩, ⟨%e3, %u3, -, D3⟩, ⟨%f6, %hf6, HS0⟩, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2; obtain rfl := harg11.eq_unread hg3
  obtain rfl := harg12.eq_unread hf5; obtain rfl := harg17.eq_unread hf6
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [J3]
  · iexists _; isplitr; · ipureintro; exact harg11.read_unread _
    iexact J3
  isplitl [H5]
  · iexists _; isplitr; swap; · iexact H5
    ipureintro
    refine (read_whole2 arg12 _ _ _ _).trans ?_
    rw [readAt_whole2 arg17, readAt_whole2 arg4, readAt_whole2 arg5, readAt_whole2 arg12, readAt_whole2 arg6, harg17.read_unread, harg4.read_unread, harg5.read_unread, harg12.read_unread, harg6.read_unread]
  isplitl [D0]
  · iexists _; isplitr; swap; · iexact D0
    ipureintro
    exact (read_whole2 arg13 _ _ _ _).trans (congrArg k0_pay1 ((readAt_whole3 arg8 _ _).trans (harg8.read_unread _)))
  isplitl [D1]
  · iexists _; isplitr; swap; · iexact D1
    ipureintro
    exact (read_whole2 arg14 _ _ _ _).trans (congrArg k0_pay2 ((readAt_whole3 arg9 _ _).trans (harg9.read_unread _)))
  isplitl [D2]
  · iexists _; isplitr; swap; · iexact D2
    ipureintro
    exact (read_whole2 arg15 _ _ _ _).trans (congrArg k0_pay3 ((readAt_whole3 arg10 _ _).trans (harg10.read_unread _)))
  isplitl [D3]
  · iexists _; isplitr; swap; · iexact D3
    ipureintro
    exact (read_whole2 arg16 _ _ _ _).trans (congrArg k0_pay4 ((readAt_whole3 arg11 _ _).trans (harg11.read_unread _)))
  isplitl [HS0]
  · iexists _; isplitr; swap; · iexact HS0
    ipureintro
    exact harg17.read_unread _
  iexists _; iexact HW

end Cert.Half.Hand

end
-- ==== Proof.HalfHand.lean ====
/- The half-step feed-forward kernel with its cast jobs on the pipeline: what its buffers hold after each point, the body at every point, and the run. -/
module

public import proofs.«01_k».proof.Proof.HalfRun
public import proofs.«01_k».proof.Proof.Gen.Half.Skeleton
public import proofs.«01_k».proof.Proof.Gen.Half.Launch
public import proofs.«01_k».proof.Proof.Gen.Half.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.Claim
public import Idealize.ShloMosaic.Lib.WordCmp

@[expose] public section

set_option maxRecDepth 16384

noncomputable section

namespace Cert.Half.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Half.Gen

variable {F : FTy → Type} [FloatOps F]

variable (m : (ℓ : Loc nD τ sig) → Buf (Elt F) ℓ) (ρ : Dev nD → PrngReg)

/-- The normalised tile the scratch holds after point `n`. -/
def hnAt (c : Dev nD) : (n : ℕ) → n < cfg0.N → Vec F S1024x2048 .bf16
  | 0, hn => hnV (xt c (V m c main_arg0) (bk (0 / 11))) (iblk m c 0 ⟨0, hn⟩)
  | n + 1, hn => if (n + 1) % 11 = 0 then hnV (xt c (V m c main_arg0) (bk ((n + 1) / 11))) (iblk m c 0 ⟨n + 1, hn⟩)
    else hnAt c n (Nat.lt_of_succ_lt hn)

/-- What the output's buffer holds after point `n`. -/
def outAt (c : Dev nD) : (n : ℕ) → n < cfg0.N → Vec F S1024x2048 .f32
  | 0, hn => k0_pay8 (hnV (xt c (V m c main_arg0) (bk (0 / 11))) (iblk m c 0 ⟨0, hn⟩)) (iblk m c 1 ⟨0, hn⟩) (iblk m c 2 ⟨0, hn⟩) (twoV (xt c (V m c main_arg0) (bk (0 / 11)))) (iblk m c 3 ⟨0, hn⟩)
  | n + 1, hn =>
    if (n + 1) % 11 = 0 then
      k0_pay8 (hnV (xt c (V m c main_arg0) (bk ((n + 1) / 11))) (iblk m c 0 ⟨n + 1, hn⟩)) (iblk m c 1 ⟨n + 1, hn⟩) (iblk m c 2 ⟨n + 1, hn⟩) (twoV (xt c (V m c main_arg0) (bk ((n + 1) / 11)))) (iblk m c 3 ⟨n + 1, hn⟩)
    else if (n + 1) % 11 = 10 then
      finV (k0_pay8 (hnAt m c (n + 1) hn) (iblk m c 1 ⟨n + 1, hn⟩) (iblk m c 2 ⟨n + 1, hn⟩) (outAt c n (Nat.lt_of_succ_lt hn)) (iblk m c 3 ⟨n + 1, hn⟩))
    else k0_pay8 (hnAt m c (n + 1) hn) (iblk m c 1 ⟨n + 1, hn⟩) (iblk m c 2 ⟨n + 1, hn⟩) (outAt c n (Nat.lt_of_succ_lt hn)) (iblk m c 3 ⟨n + 1, hn⟩)

theorem hnAt_first (c : Dev nD) (t : Fin cfg0.N) (h0 : t.val % 11 = 0) :
    hnAt m c t.val t.isLt = hnV (xt c (V m c main_arg0) (bk (t.val / 11))) (iblk m c 0 t) := by
  obtain ⟨n, hn⟩ := t
  cases n with
  | zero => rfl
  | succ n => exact if_pos h0
theorem hnAt_next (c : Dev nD) (t : Fin cfg0.N) (h0 : ¬t.val % 11 = 0) :
    hnAt m c t.val t.isLt = hnAt m c (t.val - 1) (Nat.lt_of_le_of_lt (Nat.sub_le _ _) t.isLt) := by
  obtain ⟨n, hn⟩ := t
  cases n with
  | zero => exact absurd (Nat.zero_mod _) h0
  | succ n => exact if_neg h0
theorem outAt_first (c : Dev nD) (t : Fin cfg0.N) (h0 : t.val % 11 = 0) :
    outAt m c t.val t.isLt = k0_pay8 (hnV (xt c (V m c main_arg0) (bk (t.val / 11))) (iblk m c 0 t)) (iblk m c 1 t) (iblk m c 2 t) (twoV (xt c (V m c main_arg0) (bk (t.val / 11)))) (iblk m c 3 t) := by
  obtain ⟨n, hn⟩ := t
  cases n with
  | zero => rfl
  | succ n => exact if_pos h0
theorem outAt_last (c : Dev nD) (t : Fin cfg0.N) (h4 : t.val % 11 = 10) :
    outAt m c t.val t.isLt = finV (k0_pay8 (hnAt m c t.val t.isLt) (iblk m c 1 t) (iblk m c 2 t) (outAt m c (t.val - 1) (Nat.lt_of_le_of_lt (Nat.sub_le _ _) t.isLt)) (iblk m c 3 t)) := by
  obtain ⟨n, hn⟩ := t
  cases n with
  | zero => exact absurd h4 (by show ¬(0 % 11 = 10); decide)
  | succ n => exact (if_neg (by dsimp only at h4; omega)).trans (if_pos h4)
theorem outAt_mid (c : Dev nD) (t : Fin cfg0.N) (h0 : ¬t.val % 11 = 0) (h4 : ¬t.val % 11 = 10) :
    outAt m c t.val t.isLt = k0_pay8 (hnAt m c t.val t.isLt) (iblk m c 1 t) (iblk m c 2 t) (outAt m c (t.val - 1) (Nat.lt_of_le_of_lt (Nat.sub_le _ _) t.isLt)) (iblk m c 3 t) := by
  obtain ⟨n, hn⟩ := t
  cases n with
  | zero => exact absurd (Nat.zero_mod _) h0
  | succ n => exact (if_neg h0).trans (if_neg h4)

/-- Before point `k` a tile is in flight. -/
def infl (k : ℕ) : Prop := (k % 11 = 0 ∧ 0 < k ∧ k < 88) ∨ (2 ≤ k % 11 ∧ k < 77)
instance (k : ℕ) : Decidable (infl k) := inferInstanceAs (Decidable (_ ∨ _))

/-- The transfer before point `k`. -/
def xPart (c : Dev nD) (k : ℕ) : sProp (MM F) :=
  if infl k then iprop((∃ f, flightP c (V m c main_arg0) (bk ((k + 9) / 11)) f) ∗ restP c (V m c main_arg0) (bk ((k + 9) / 11)))
  else iprop(cellP c ∗ (∃ f, slotP (F := F) c f) ∗ hbPt0 c hbM0_0 (V m c main_arg0))
theorem xPart_idle (c : Dev nD) (k : ℕ) (h : ¬infl k) : xPart m c k = iprop(cellP c ∗ (∃ f, slotP (F := F) c f) ∗ hbPt0 c hbM0_0 (V m c main_arg0)) := if_neg h
theorem xPart_flight (c : Dev nD) (k : ℕ) (h : infl k) (b : ℕ) (hb : (k + 9) / 11 = b) :
    xPart m c k = iprop((∃ f, flightP c (V m c main_arg0) (bk b) f) ∗ restP c (V m c main_arg0) (bk b)) := by
  subst hb; exact if_pos h
theorem xPart_same (c : Dev nD) (k : ℕ) (h : infl k ↔ infl (k + 1)) (hb : infl k → (k + 9) / 11 = (k + 1 + 9) / 11) : xPart m c (k + 1) = xPart m c k := by
  by_cases hk : infl k
  · rw [xPart_flight m c k hk _ rfl, xPart_flight m c (k + 1) (h.mp hk) _ (hb hk).symm]
  · rw [xPart_idle m c k hk, xPart_idle m c (k + 1) (fun x => hk (h.mpr x))]

/-- The invariant before point `k`. -/
def PhiR (c : Dev nD) (k : ℕ) : sProp (MM F) :=
  iprop((∃ r, prngReg c r) ∗ (∃ d, owns (c : Thread nD τ) scM0_0 fullShare d ∗ ⌜∀ h : k - 1 < cfg0.N, ¬k % 11 = 0 → d = hnAt m c (k - 1) h⌝) ∗ xPart m c k)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t.val t.isLt
    | ⟨10, _⟩ => k0_pay1 (iblk m c 5 t)
    | ⟨11, _⟩ => k0_pay2 (iblk m c 6 t)
    | ⟨12, _⟩ => k0_pay3 (iblk m c 7 t)
    | ⟨13, _⟩ => k0_pay4 (iblk m c 8 t)
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t.val t.isLt := by dsimp only [dats]
theorem after0_10 (c : Dev nD) (t : Fin cfg0.N) : (dats m 0 c).after 10 t = k0_pay1 (iblk m c 5 t) := by dsimp only [dats]
theorem after0_11 (c : Dev nD) (t : Fin cfg0.N) : (dats m 0 c).after 11 t = k0_pay2 (iblk m c 6 t) := by dsimp only [dats]
theorem after0_12 (c : Dev nD) (t : Fin cfg0.N) : (dats m 0 c).after 12 t = k0_pay3 (iblk m c 7 t) := by dsimp only [dats]
theorem after0_13 (c : Dev nD) (t : Fin cfg0.N) : (dats m 0 c).after 13 t = k0_pay4 (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (h0 : ¬t.val % 11 = 0) (d) :
    (dats m 0 c).before 9 t d = outAt m c (t.val - 1) (Nat.lt_of_le_of_lt (Nat.sub_le _ _) t.isLt) := by
  have hN : t.val < 88 := lt_of_lt_of_eq t.isLt (show cfg0.N = 88 from N_0)
  rw [Dat.before_out_kept _ 9 rfl t (by omega) (Bool.eq_false_iff.mpr fun h => by have := (flush0_9 _).mp h; dsimp only at this; omega)
    (fun _ => rfl) (fun _ _ => rfl)]
  dsimp only [dats]

def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp (MM F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 4000000 in
set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [after0_0, after0_1, after0_2, after0_3, after0_4, after0_5, after0_6, after0_7, after0_8, after0_9, after0_10, after0_11, after0_12, after0_13]
  rw [PhiR_castSucc m c t, PhiR_succ m c t]
  unfold Dat.owesAt Pipeline.owesWithin
  rw [show (dats m 0 c).owed t.castSucc = 0 from rfl, show (dats m 0 c).owed t.succ = 0 from rfl]
  unfold PhiR
  have hgN : grid0.N = 88 := N_0
  have hN : t.val < 88 := lt_of_lt_of_eq t.isLt (show cfg0.N = 88 from N_0)
  have hcN : cfg0.N = 88 := N_0
  by_cases h0 : t.val % 11 = 0
  · by_cases h1 : t.val < 11
    · skip
      rw [outAt_first m c t h0, xPart_idle m c t.val (by unfold infl; omega), xPart_idle m c (t.val + 1) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%g3, J3⟩, ⟨%d5, H5⟩, ⟨%e0, D0⟩, ⟨%e1, D1⟩, ⟨%e2, D2⟩, ⟨%e3, D3⟩⟩
      icases Hx with ⟨Hc, Hs, Hw⟩
      iapply (run_A c t _ _ _ _ _ _ _ _ _ _ _ _ _ _ _ _ _ _ _ _ _ _ _ _ _ _ _ _ _ _ ((hcond1 t).mpr h0) ((hcond2 t).mpr h1) (fun h => by have := (hcond3 t).mp h; omega) (fun h => by have := (hcond4 t).mp h; omega) (iblk m c 0 t) (iblk m c 1 t) (iblk m c 2 t) (iblk m c 3 t) (iblk m c 4 t) (iblk m c 5 t) (iblk m c 6 t) (iblk m c 7 t) (iblk m c 8 t) (V m c main_arg0) W _)
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [J3]; · iexact J3
      isplitl [H5]; · iexists _; iexact H5
      isplitl [D0]; · iexists _; iexact D0
      isplitl [D1]; · iexists _; iexact D1
      isplitl [D2]; · iexists _; iexact D2
      isplitl [D3]; · iexists _; iexact D3
      isplitl [HS0]; · iexists _; iexact HS0
      isplitl [Hc]; · iexact Hc
      isplitl [Hs]; · iexact Hs
      isplitl [Hw]; · iexact Hw
      isplitl [HW]; · iexact HW
      iintro ⟨H0, H1, H2, H3, H4, J0, J1, J2, J3, H5, D0, D1, D2, D3, HS0, Hc, Hs, Hw, ⟨%W', HW'⟩⟩
      isplitl [Hg HS0 Hc Hs Hw]
      · isplitl [Hg]; · iexact Hg
        isplitl [HS0]
        · iexists _; isplitl [HS0]; · iexact HS0
          ipureintro; intro hlt hne; exact (hnAt_first m c t h0).symm
        isplitl [Hc]; · iexact Hc
        isplitl [Hs]; · iexact Hs
        iexact Hw
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [J3]; · iexact J3
      isplitl [H5]; · iexact H5
      isplitl [D0]; · iexact D0
      isplitl [D1]; · iexact D1
      isplitl [D2]; · iexact D2
      iexact D3
    · skip
      rw [outAt_first m c t h0, xPart_flight m c t.val (by unfold infl; omega) (t.val / 11) (by omega), xPart_idle m c (t.val + 1) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%g3, J3⟩, ⟨%d5, H5⟩, ⟨%e0, D0⟩, ⟨%e1, D1⟩, ⟨%e2, D2⟩, ⟨%e3, D3⟩⟩
      icases Hx with ⟨Hf, Hr⟩
      iapply (run_D c t _ _ _ _ _ _ _ _ _ _ _ _ _ _ _ _ _ _ _ _ _ _ _ _ _ _ _ _ _ _ ((hcond1 t).mpr h0) (fun h => h1 ((hcond2 t).mp h)) (fun h => by have := (hcond3 t).mp h; omega) (fun h => by have := (hcond4 t).mp h; omega) (iblk m c 0 t) (iblk m c 1 t) (iblk m c 2 t) (iblk m c 3 t) (iblk m c 4 t) (iblk m c 5 t) (iblk m c 6 t) (iblk m c 7 t) (iblk m c 8 t) (V m c main_arg0) W _)
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [J3]; · iexact J3
      isplitl [H5]; · iexists _; iexact H5
      isplitl [D0]; · iexists _; iexact D0
      isplitl [D1]; · iexists _; iexact D1
      isplitl [D2]; · iexists _; iexact D2
      isplitl [D3]; · iexists _; iexact D3
      isplitl [HS0]; · iexists _; iexact HS0
      isplitl [Hf]; · iexact Hf
      isplitl [Hr]; · iexact Hr
      isplitl [HW]; · iexact HW
      iintro ⟨H0, H1, H2, H3, H4, J0, J1, J2, J3, H5, D0, D1, D2, D3, HS0, Hc, Hs, Hw, ⟨%W', HW'⟩⟩
      isplitl [Hg HS0 Hc Hs Hw]
      · isplitl [Hg]; · iexact Hg
        isplitl [HS0]
        · iexists _; isplitl [HS0]; · iexact HS0
          ipureintro; intro hlt hne; exact (hnAt_first m c t h0).symm
        isplitl [Hc]; · iexact Hc
        isplitl [Hs]; · iexact Hs
        iexact Hw
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [J3]; · iexact J3
      isplitl [H5]; · iexact H5
      isplitl [D0]; · iexact D0
      isplitl [D1]; · iexact D1
      isplitl [D2]; · iexact D2
      iexact D3
  · simp only [before0_9 m c t h0]
    by_cases h4 : t.val % 11 = 10
    · skip
      rw [outAt_last m c t h4, xPart_same m c t.val (by unfold infl; omega) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%g3, J3⟩, ⟨%d5, H5⟩, ⟨%e0, D0⟩, ⟨%e1, D1⟩, ⟨%e2, D2⟩, ⟨%e3, D3⟩⟩
      obtain rfl : dh = hnAt m c t.val t.isLt := (hdh (by omega) h0).trans (hnAt_next m c t h0).symm
      iapply (run_C c t _ _ _ _ _ _ _ _ _ _ _ _ _ _ _ _ _ _ _ _ _ _ _ _ _ _ _ _ _ _ (fun h => h0 ((hcond1 t).mp h)) (fun h => by have := (hcond3 t).mp h; omega) ((hcond4 t).mpr h4) (iblk m c 0 t) (iblk m c 1 t) (iblk m c 2 t) (iblk m c 3 t) (iblk m c 4 t) (iblk m c 5 t) (iblk m c 6 t) (iblk m c 7 t) (iblk m c 8 t) (outAt m c (t.val - 1) (by omega)) (hnAt m c t.val t.isLt) W _)
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [J3]; · iexact J3
      isplitl [H5]; · iexact H5
      isplitl [D0]; · iexists _; iexact D0
      isplitl [D1]; · iexists _; iexact D1
      isplitl [D2]; · iexists _; iexact D2
      isplitl [D3]; · iexists _; iexact D3
      isplitl [HS0]; · iexact HS0
      isplitl [HW]; · iexact HW
      iintro ⟨H0, H1, H2, H3, H4, J0, J1, J2, J3, H5, D0, D1, D2, D3, HS0, ⟨%W', HW'⟩⟩
      isplitl [Hg HS0 Hx]
      · isplitl [Hg]; · iexact Hg
        isplitl [HS0]
        · iexists _; isplitl [HS0]; · iexact HS0
          ipureintro; intro hlt hne; rfl
        iexact Hx
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [J3]; · iexact J3
      isplitl [H5]; · iexact H5
      isplitl [D0]; · iexact D0
      isplitl [D1]; · iexact D1
      isplitl [D2]; · iexact D2
      iexact D3
    · by_cases h3 : t.val % 11 = 1 ∧ t.val < 77
      · skip
        rw [outAt_mid m c t h0 h4, xPart_idle m c t.val (by unfold infl; omega), xPart_flight m c (t.val + 1) (by unfold infl; omega) (t.val / 11 + 1) (by omega)]
        iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%g3, J3⟩, ⟨%d5, H5⟩, ⟨%e0, D0⟩, ⟨%e1, D1⟩, ⟨%e2, D2⟩, ⟨%e3, D3⟩⟩
        obtain rfl : dh = hnAt m c t.val t.isLt := (hdh (by omega) h0).trans (hnAt_next m c t h0).symm
        icases Hx with ⟨Hc, Hs, Hw⟩
        iapply (run_B c t _ _ _ _ _ _ _ _ _ _ _ _ _ _ _ _ _ _ _ _ _ _ _ _ _ _ _ _ _ _ (fun h => h0 ((hcond1 t).mp h)) ((hcond3 t).mpr h3) (fun h => by have := (hcond4 t).mp h; omega) (iblk m c 0 t) (iblk m c 1 t) (iblk m c 2 t) (iblk m c 3 t) (iblk m c 4 t) (iblk m c 5 t) (iblk m c 6 t) (iblk m c 7 t) (iblk m c 8 t) (outAt m c (t.val - 1) (by omega)) (hnAt m c t.val t.isLt) (V m c main_arg0) W _)
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [J3]; · iexact J3
        isplitl [H5]; · iexact H5
        isplitl [D0]; · iexists _; iexact D0
        isplitl [D1]; · iexists _; iexact D1
        isplitl [D2]; · iexists _; iexact D2
        isplitl [D3]; · iexists _; iexact D3
        isplitl [HS0]; · iexact HS0
        isplitl [Hc]; · iexact Hc
        isplitl [Hs]; · iexact Hs
        isplitl [Hw]; · iexact Hw
        isplitl [HW]; · iexact HW
        iintro ⟨H0, H1, H2, H3, H4, J0, J1, J2, J3, H5, D0, D1, D2, D3, HS0, Hf, Hr, ⟨%W', HW'⟩⟩
        isplitl [Hg HS0 Hf Hr]
        · isplitl [Hg]; · iexact Hg
          isplitl [HS0]
          · iexists _; isplitl [HS0]; · iexact HS0
            ipureintro; intro hlt hne; rfl
          isplitl [Hf]; · iexact Hf
          iexact Hr
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [J3]; · iexact J3
        isplitl [H5]; · iexact H5
        isplitl [D0]; · iexact D0
        isplitl [D1]; · iexact D1
        isplitl [D2]; · iexact D2
        iexact D3
      · skip
        rw [outAt_mid m c t h0 h4, xPart_same m c t.val (by unfold infl; omega) (by unfold infl; omega)]
        iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%g3, J3⟩, ⟨%d5, H5⟩, ⟨%e0, D0⟩, ⟨%e1, D1⟩, ⟨%e2, D2⟩, ⟨%e3, D3⟩⟩
        obtain rfl : dh = hnAt m c t.val t.isLt := (hdh (by omega) h0).trans (hnAt_next m c t h0).symm
        iapply (run_E c t _ _ _ _ _ _ _ _ _ _ _ _ _ _ _ _ _ _ _ _ _ _ _ _ _ _ _ _ _ _ (fun h => h0 ((hcond1 t).mp h)) (fun h => by have := (hcond3 t).mp h; omega) (fun h => by have := (hcond4 t).mp h; omega) (iblk m c 0 t) (iblk m c 1 t) (iblk m c 2 t) (iblk m c 3 t) (iblk m c 4 t) (iblk m c 5 t) (iblk m c 6 t) (iblk m c 7 t) (iblk m c 8 t) (outAt m c (t.val - 1) (by omega)) (hnAt m c t.val t.isLt) W _)
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [J3]; · iexact J3
        isplitl [H5]; · iexact H5
        isplitl [D0]; · iexists _; iexact D0
        isplitl [D1]; · iexists _; iexact D1
        isplitl [D2]; · iexists _; iexact D2
        isplitl [D3]; · iexists _; iexact D3
        isplitl [HS0]; · iexact HS0
        isplitl [HW]; · iexact HW
        iintro ⟨H0, H1, H2, H3, H4, J0, J1, J2, J3, H5, D0, D1, D2, D3, HS0, ⟨%W', HW'⟩⟩
        isplitl [Hg HS0 Hx]
        · isplitl [Hg]; · iexact Hg
          isplitl [HS0]
          · iexists _; isplitl [HS0]; · iexact HS0
            ipureintro; intro hlt hne; rfl
          iexact Hx
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [J3]; · iexact J3
        isplitl [H5]; · iexact H5
        isplitl [D0]; · iexact D0
        isplitl [D1]; · iexact D1
        isplitl [D2]; · iexact D2
        iexact D3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [xPart_idle m c 0 (by unfold infl; omega)]
  unfold cellP
  rw [cellR_eq]
  unfold owns
  iintro ⟨⟨⟨%dh, HS0⟩, ⟨%dx, %fx, -, Hs⟩⟩, Hg, Hc, Hw⟩
  isplitl [Hg]; · iexact Hg
  isplitl [HS0]
  · iexists dh; isplitl [HS0]; · iexact HS0
    ipureintro; intro _ h; exact absurd rfl h
  isplitl [Hc]; · iexact Hc
  isplitl [Hs]; · iexists _; iexact Hs
  iexact Hw
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [xPart_idle m c grid0.N (by rw [N_0]; unfold infl; omega)]
  unfold cellP
  rw [cellR_eq]
  iintro ⟨Hg, ⟨%dh, HS0, -⟩, Hc, ⟨%fx, Hs⟩, Hw⟩
  isplitl [HS0 Hs]
  · isplitl [HS0]; · iexists dh; iexact HS0
    unfold owns
    iexists _, _; isplitr; swap; · iexact Hs
    ipureintro; rfl
  isplitl [Hg]; · iexact Hg
  isplitl [Hc]; · iexact Hc
  iexact Hw

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Half.Hand

end
-- ==== Proof.HalfValue.lean ====
module

public import proofs.«01_k».proof.Defs
public import proofs.«01_k».proof.Proof.HalfHand
public import proofs.«01_k».proof.Proof.FfnValue
public import proofs.«01_k».proof.Proof.Gen.HalfIdeal.Frame
public import proofs.«01_k».proof.Proof.Gen.HalfIdeal.Skeleton
public import proofs.«01_k».proof.Proof.Gen.HalfRefIdeal.Run
public import Idealize.ShloMosaic.Lib.Pipeline.ValueKit
public import Idealize.ShloMosaic.Lib.Pointwise
public import Idealize.ShloMosaic.Lib.Quiescent

/-! The first half-step feed-forward layer with its residual, and the casts of the weights that follow it. -/

@[expose] public section

set_option maxRecDepth 16384

noncomputable section

namespace Cert.Half.Whole

open Cert.Half Cert.Half.Gen Cert.Half.Hand
open Cert.FfnIdeal.Whole (normAt gateAt mixAt half_two sum_step)
open Idealize.ShloMosaic Idealize.ShloMosaic.TcCoe
open Idealize.SL.Sem

/-! ## The payloads -/

theorem pay1_apply (v : Vec Ideal S128x2048 .f32) (p : Fin 128) (q : Fin 2048) :
    k0_pay5 v (ix2 p q) = Ideal.ofBits .f32 0x3F000000#32 * v (ix2 p q) := by
  pointwise [k0_pay5]
theorem pay2_apply (v : Vec Ideal S128x2048 .f32) (g : Vec Ideal S1x1x2048 .f32) (p : Fin 128) (q : Fin 2048) :
    k0_pay6 v g (ix2 p q) = normAt (fun k => v (ix2 p k)) (fun k => g (ix3 0 0 k)) q := by
  unfold normAt
  pointwise [k0_pay6]
theorem pay3_apply (v : Vec Ideal S128x2048 .f32) (p : Fin 128) (q : Fin 2048) :
    k0_pay7 v (ix2 p q) = Ideal.ofBits .f32 0x40000000#32 * v (ix2 p q) := by
  pointwise [k0_pay7]
theorem pay4_apply (v9 : Vec Ideal S1024x2048 .bf16) (v10 : Vec Ideal S2048x512 .bf16) (v12 : Vec Ideal S2048x512 .bf16) (v24 : Vec Ideal S1024x2048 .f32) (v26 : Vec Ideal S512x2048 .bf16) (p : Fin 1024) (q : Fin 2048) :
    k0_pay8 v9 v10 v12 v24 v26 (ix2 p q)
      = v24 (ix2 p q) + ∑ j : Fin 512, gateAt (fun k => v9 (ix2 p k)) (fun k => v10 (ix2 k j)) (fun k => v12 (ix2 k j)) * v26 (ix2 j q) := by
  unfold gateAt
  pointwise [k0_pay8]
  simp only [zero_sub]

theorem rowsOf_apply (x : Vec Ideal S1024x2048 .f32) (p : Fin 1024) (k : Fin 2048) (h : p.val / 128 < 8) (h' : p.val % 128 < 128) :
    rowsOf x (p.val / 128) h (ix2 (⟨p.val % 128, h'⟩ : Fin 128) k) = x (ix2 p k) :=
  congrArg (fun r : Fin 1024 => x (ix2 r k)) (Fin.ext (Nat.div_add_mod p.val 128))

theorem hnV_apply (x : Vec Ideal S1024x2048 .f32) (g : Vec Ideal S1x1x2048 .f32) (p : Fin 1024) (q : Fin 2048) :
    hnV x g (ix2 p q) = normAt (fun k => x (ix2 p k)) (fun k => g (ix3 0 0 k)) q := by
  refine (pay2_apply _ _ _ _).trans ?_
  exact congrArg (fun f => normAt f _ q) (funext fun k => rowsOf_apply x p k _ _)
theorem twoV_apply (x : Vec Ideal S1024x2048 .f32) (p : Fin 1024) (q : Fin 2048) :
    twoV x (ix2 p q) = Ideal.ofBits .f32 0x40000000#32 * x (ix2 p q) := by
  refine (pay3_apply _ _ _).trans ?_
  exact congrArg (fun f => Ideal.ofBits .f32 0x40000000#32 * f) (rowsOf_apply x p q _ _)
theorem finV_apply (x : Vec Ideal S1024x2048 .f32) (p : Fin 1024) (q : Fin 2048) :
    finV x (ix2 p q) = Ideal.ofBits .f32 0x3F000000#32 * x (ix2 p q) := by
  refine (pay1_apply _ _ _).trans ?_
  exact congrArg (fun f => Ideal.ofBits .f32 0x3F000000#32 * f) (rowsOf_apply x p q _ _)
theorem cast0_apply (v : Vec Ideal S1x32x13312 .f32) (p : Fin 32) (q : Fin 13312) : k0_pay1 v (ix2 p q) = v (ix3 0 p q) := by
  pointwise [k0_pay1]
theorem cast1_apply (v : Vec Ideal S1x16x2048 .f32) (p : Fin 16) (q : Fin 2048) : k0_pay2 v (ix2 p q) = v (ix3 0 p q) := by
  pointwise [k0_pay2]
theorem cast2_apply (v : Vec Ideal S1x32x2048 .f32) (p : Fin 32) (q : Fin 2048) : k0_pay3 v (ix2 p q) = v (ix3 0 p q) := by
  pointwise [k0_pay3]
theorem cast3_apply (v : Vec Ideal S1x32x2048 .f32) (p : Fin 32) (q : Fin 2048) : k0_pay4 v (ix2 p q) = v (ix3 0 p q) := by
  pointwise [k0_pay4]

/-! ## The blocks -/

variable (m : (ℓ : Loc nD τ sig) → Buf (Elt Ideal) ℓ) (c : Dev nD)

theorem idx_g : ∀ t : Fin cfg0.N, win0_0.index t = ![0, 0, 0] :=
  (by decide +kernel : ∀ t : Fin grid0.N, win0_0.index t = ![0, 0, 0])
theorem idx_a : ∀ t : Fin cfg0.N, win0_1.index t = ![0, t.val % 11] :=
  (by decide +kernel : ∀ t : Fin grid0.N, win0_1.index t = ![0, t.val % 11])
theorem idx_b : ∀ t : Fin cfg0.N, win0_2.index t = ![0, t.val % 11] :=
  (by decide +kernel : ∀ t : Fin grid0.N, win0_2.index t = ![0, t.val % 11])
theorem idx_d : ∀ t : Fin cfg0.N, win0_3.index t = ![t.val % 11, 0] :=
  (by decide +kernel : ∀ t : Fin grid0.N, win0_3.index t = ![t.val % 11, 0])
theorem idx_o : ∀ t : Fin cfg0.N, win0_9.index t = ![t.val / 11, 0] :=
  (by decide +kernel : ∀ t : Fin grid0.N, win0_9.index t = ![t.val / 11, 0])
theorem idx_5 : ∀ t : Fin cfg0.N, win0_5.index t = ![0, min t.val 63, 0] :=
  (by decide +kernel : ∀ t : Fin grid0.N, win0_5.index t = ![0, min t.val 63, 0])
theorem idx_10 : ∀ t : Fin cfg0.N, win0_10.index t = ![min t.val 63, 0] :=
  (by decide +kernel : ∀ t : Fin grid0.N, win0_10.index t = ![min t.val 63, 0])
theorem idx_6 : ∀ t : Fin cfg0.N, win0_6.index t = ![0, min t.val 63, 0] :=
  (by decide +kernel : ∀ t : Fin grid0.N, win0_6.index t = ![0, min t.val 63, 0])
theorem idx_11 : ∀ t : Fin cfg0.N, win0_11.index t = ![min t.val 63, 0] :=
  (by decide +kernel : ∀ t : Fin grid0.N, win0_11.index t = ![min t.val 63, 0])
theorem idx_7 : ∀ t : Fin cfg0.N, win0_7.index t = ![0, min t.val 63, 0] :=
  (by decide +kernel : ∀ t : Fin grid0.N, win0_7.index t = ![0, min t.val 63, 0])
theorem idx_12 : ∀ t : Fin cfg0.N, win0_12.index t = ![min t.val 63, 0] :=
  (by decide +kernel : ∀ t : Fin grid0.N, win0_12.index t = ![min t.val 63, 0])
theorem idx_8 : ∀ t : Fin cfg0.N, win0_8.index t = ![0, min t.val 63, 0] :=
  (by decide +kernel : ∀ t : Fin grid0.N, win0_8.index t = ![0, min t.val 63, 0])
theorem idx_13 : ∀ t : Fin cfg0.N, win0_13.index t = ![min t.val 63, 0] :=
  (by decide +kernel : ∀ t : Fin grid0.N, win0_13.index t = ![min t.val 63, 0])

/-- The operands by their coordinates. -/
def xOf (r : Fin 8192) (k : Fin 2048) : EReal := m ((c.tc : Thread nD τ).loc main_arg0) (ix2 r k)
def gOf (k : Fin 2048) : EReal := m ((c.tc : Thread nD τ).loc main_arg1) (ix3 0 0 k)
def aOf (k : Fin 2048) (j : Fin 5632) : EReal := m ((c.tc : Thread nD τ).loc main_arg2) (ix2 k j)
def bOf (k : Fin 2048) (j : Fin 5632) : EReal := m ((c.tc : Thread nD τ).loc main_arg3) (ix2 k j)
def dOf (j : Fin 5632) (l : Fin 2048) : EReal := m ((c.tc : Thread nD τ).loc main_arg4) (ix2 j l)

theorem tlt (t : Fin cfg0.N) : t.val < 88 := lt_of_lt_of_eq t.isLt N_0

theorem blk_g (t : Fin cfg0.N) (k : Fin 2048) : iblk m c 0 t (ix3 0 0 k) = gOf m c k := by
  unfold gOf; blk_ext! [iblk, V, idx_g t]
theorem blk_a (t : Fin cfg0.N) (k : Fin 2048) (j : Fin 512) :
    iblk m c 1 t (ix2 k j) = aOf m c k ⟨512 * (t.val % 11) + j.val, by omega⟩ := by
  unfold aOf; blk_ext! [iblk, V, idx_a t]
theorem blk_b (t : Fin cfg0.N) (k : Fin 2048) (j : Fin 512) :
    iblk m c 2 t (ix2 k j) = bOf m c k ⟨512 * (t.val % 11) + j.val, by omega⟩ := by
  unfold bOf; blk_ext! [iblk, V, idx_b t]
theorem blk_d (t : Fin cfg0.N) (j : Fin 512) (l : Fin 2048) :
    iblk m c 3 t (ix2 j l) = dOf m c ⟨512 * (t.val % 11) + j.val, by omega⟩ l := by
  unfold dOf; blk_ext! [iblk, V, idx_d t]
theorem blk_x (b : Fin 8) (p : Fin 1024) (k : Fin 2048) :
    xt c (V m c main_arg0) b (ix2 p k) = xOf m c ⟨1024 * b.val + p.val, by omega⟩ k := by
  refine congrArg (m ((c.tc : Thread nD τ).loc main_arg0)) (funext fun a => Fin.ext ?_)
  show (![1024 * b.val, 0] : Fin 2 → ℕ) a + 1 * ((ix2 p k : S1024x2048.Idx) a).val = _
  fin_cases a
  · show 1024 * b.val + 1 * p.val = 1024 * b.val + p.val; omega
  · show 0 + 1 * k.val = k.val; omega

/-! ## The grid points -/

/-- The row of the operand behind row `p` of the tile at point `n`. -/
abbrev rowAt (n : ℕ) (hn : n < cfg0.N) (p : Fin 1024) : Fin 8192 :=
  ⟨1024 * (n / 11) + p.val, by have h : n < 88 := lt_of_lt_of_eq hn N_0; omega⟩

theorem xt_apply (n : ℕ) (hn : n < cfg0.N) (p : Fin 1024) (k : Fin 2048) :
    xt c (V m c main_arg0) (bk (n / 11)) (ix2 p k) = xOf m c (rowAt n hn p) k := by
  refine (blk_x m c _ p k).trans (congrArg (fun r => xOf m c r k) (Fin.ext ?_))
  have h : n < 88 := lt_of_lt_of_eq hn N_0
  show 1024 * (n / 11 % 8) + p.val = 1024 * (n / 11) + p.val
  rw [Nat.mod_eq_of_lt (by omega)]

theorem hnV_point (n : ℕ) (hn : n < cfg0.N) (p : Fin 1024) (q : Fin 2048) :
    hnV (xt c (V m c main_arg0) (bk (n / 11))) (iblk m c 0 ⟨n, hn⟩) (ix2 p q) = normAt (xOf m c (rowAt n hn p)) (gOf m c) q := by
  rw [hnV_apply]
  simp only [xt_apply m c n hn, blk_g]

theorem hnAt_apply : ∀ (n : ℕ) (hn : n < cfg0.N) (p : Fin 1024) (q : Fin 2048),
    hnAt m c n hn (ix2 p q) = normAt (xOf m c (rowAt n hn p)) (gOf m c) q
  | 0, hn, p, q => hnV_point m c 0 hn p q
  | n + 1, hn, p, q => by
    by_cases h0 : (n + 1) % 11 = 0
    · rw [hnAt_first m c ⟨n + 1, hn⟩ h0]; exact hnV_point m c (n + 1) hn p q
    · rw [hnAt_next m c ⟨n + 1, hn⟩ h0]
      refine (hnAt_apply n _ p q).trans (congrArg (fun r => normAt (xOf m c r) (gOf m c) q) (Fin.ext ?_))
      show 1024 * (n / 11) + p.val = 1024 * ((n + 1) / 11) + p.val
      omega

/-- What hidden column `j` contributes to an entry. -/
def term (r : Fin 8192) (q : Fin 2048) (j : ℕ) : EReal :=
  if h : j < 5632 then
    gateAt (normAt (xOf m c r) (gOf m c)) (fun k => aOf m c k ⟨j, h⟩) (fun k => bOf m c k ⟨j, h⟩) * dOf m c ⟨j, h⟩ q
  else 0

theorem pay4_point (n : ℕ) (hn : n < cfg0.N) (v9 : Vec Ideal S1024x2048 .bf16) (o : Vec Ideal S1024x2048 .f32) (p : Fin 1024) (q : Fin 2048)
    (h9 : ∀ k, v9 (ix2 p k) = normAt (xOf m c (rowAt n hn p)) (gOf m c) k) :
    k0_pay8 v9 (iblk m c 1 ⟨n, hn⟩) (iblk m c 2 ⟨n, hn⟩) o (iblk m c 3 ⟨n, hn⟩) (ix2 p q)
      = o (ix2 p q) + ∑ j ∈ Finset.range 512, term m c (rowAt n hn p) q (512 * (n % 11) + j) := by
  rw [pay4_apply, ← Fin.sum_univ_eq_sum_range (fun j => term m c (rowAt n hn p) q (512 * (n % 11) + j)) 512]
  congr 1
  refine Finset.sum_congr rfl fun j _ => ?_
  have hj : 512 * (n % 11) + j.val < 5632 := by omega
  unfold term
  rw [dif_pos hj]
  simp only [h9, blk_a, blk_b, blk_d]

theorem outAt_apply : ∀ (n : ℕ) (hn : n < cfg0.N) (h4 : ¬n % 11 = 10) (p : Fin 1024) (q : Fin 2048),
    outAt m c n hn (ix2 p q) = Ideal.ofBits .f32 0x40000000#32 * xOf m c (rowAt n hn p) q
      + ∑ j ∈ Finset.range (512 * (n % 11 + 1)), term m c (rowAt n hn p) q j := by
  intro n
  induction n with
  | zero =>
    intro hn h4 p q
    rw [outAt_first m c ⟨0, hn⟩ (Nat.zero_mod _), pay4_point m c 0 hn _ _ p q (hnV_point m c 0 hn p), twoV_apply, xt_apply m c 0 hn]
    simp
  | succ n ih =>
    intro hn h4 p q
    by_cases h0 : (n + 1) % 11 = 0
    · rw [outAt_first m c ⟨n + 1, hn⟩ h0, pay4_point m c (n + 1) hn _ _ p q (hnV_point m c (n + 1) hn p), twoV_apply, xt_apply m c (n + 1) hn, h0]
      simp
    · rw [outAt_mid m c ⟨n + 1, hn⟩ h0 h4, pay4_point m c (n + 1) hn _ _ p q (hnAt_apply m c (n + 1) hn p)]
      have hr : rowAt n (Nat.lt_of_succ_lt hn) p = rowAt (n + 1) hn p := Fin.ext (by
        show 1024 * (n / 11) + p.val = 1024 * ((n + 1) / 11) + p.val; omega)
      have hi := ih (Nat.lt_of_succ_lt hn) (by omega) p q
      rw [hr, show n % 11 + 1 = (n + 1) % 11 by omega] at hi
      rw [show outAt m c ((⟨n + 1, hn⟩ : Fin cfg0.N).val - 1) _ (ix2 p q) = _ from hi, sum_step]

/-- The array the kernel leaves. -/
def result (i : S8192x2048.Idx) : EReal :=
  mixAt (xOf m c (i 0)) (gOf m c) (aOf m c) (bOf m c) (dOf m c) (i 1)

theorem outAt_end (n : ℕ) (hn : n < cfg0.N) (h4 : n % 11 = 10) (p : Fin 1024) (l : Fin 2048) :
    outAt m c n hn (ix2 p l) = mixAt (xOf m c (rowAt n hn p)) (gOf m c) (aOf m c) (bOf m c) (dOf m c) l := by
  rw [outAt_last m c ⟨n, hn⟩ h4, finV_apply]
  rw [pay4_point m c n hn _ _ p l (hnAt_apply m c n hn p)]
  have hl : n - 1 < cfg0.N := Nat.lt_of_le_of_lt (Nat.sub_le _ _) hn
  have hr : rowAt (n - 1) hl p = rowAt n hn p := Fin.ext (by
    show 1024 * ((n - 1) / 11) + p.val = 1024 * (n / 11) + p.val; omega)
  have hi := outAt_apply m c (n - 1) hl (by omega) p l
  rw [hr, show (n - 1) % 11 + 1 = n % 11 by omega] at hi
  rw [show outAt m c ((⟨n, hn⟩ : Fin cfg0.N).val - 1) _ (ix2 p l) = _ from hi, sum_step, half_two, h4]
  unfold mixAt
  rw [show 512 * (10 + 1) = 5632 by norm_num, ← Fin.sum_univ_eq_sum_range (fun j => term m c (rowAt n hn p) l j) 5632]
  refine congrArg (fun s => _ + _ * s) (Finset.sum_congr rfl fun j _ => ?_)
  unfold term
  rw [dif_pos j.isLt]

theorem final : (dats m 0 c).arrAt 9 cfg0.N = result m c := by
  refine (dats m 0 c).arrAt_eq_of_covers 9 _ (by decide +kernel) fun t hf y => ?_
  blk_simp
  rw [after0_9]
  obtain ⟨p, q, rfl⟩ : ∃ (p : Fin 1024) (q : Fin 2048), y = ix2 p q := ⟨y 0, y 1, by idx_vars y⟩
  have h4 : t.val % 11 = 10 := (flush0_9 t).1 hf
  have e0 : ((win0_9.blk t).view.emb (ix2 p q) 0 : Fin 8192) = rowAt t.val t.isLt p :=
    Fin.ext (by blk_simp [idx_o t]; show t.val / 11 * 1024 + p.val = 1024 * (t.val / 11) + p.val; omega)
  have e1 : ((win0_9.blk t).view.emb (ix2 p q) 1 : Fin 2048) = q :=
    Fin.ext (by blk_simp [idx_o t])
  refine (outAt_end m c t.val t.isLt h4 p q).trans ?_
  unfold result
  rw [e0, e1]

abbrev row6 (n : ℕ) (a : Fin 32) : Fin 2048 := ⟨32 * min n 63 + a.val, by omega⟩

/-- What the cast of argument 6 leaves. -/
def cast6 : FVec Ideal S2048x13312 .bf16 := fun i => m ((c.tc : Thread nD τ).loc main_arg6) (ix3 0 (i 0) (i 1))

theorem blk_5 (t : Fin cfg0.N) (a : Fin 32) (l : Fin 13312) :
    iblk m c 5 t (ix3 0 a l) = m ((c.tc : Thread nD τ).loc main_arg6) (ix3 0 (row6 t.val a) l) := by
  blk_ext! [iblk, V, idx_5 t]

theorem final_6 : (dats m 0 c).arrAt 10 cfg0.N = cast6 m c := by
  refine (dats m 0 c).arrAt_eq_of_covers 10 _ (by decide +kernel) fun t hf y => ?_
  blk_simp
  rw [after0_10]
  obtain ⟨a, l, rfl⟩ : ∃ (a : Fin 32) (l : Fin 13312), y = ix2 a l := ⟨y 0, y 1, by idx_vars y⟩
  have e0 : ((win0_10.blk t).view.emb (ix2 a l) 0 : Fin 2048) = row6 t.val a :=
    Fin.ext (by blk_simp [idx_10 t]; show min t.val 63 * 32 + a.val = 32 * min t.val 63 + a.val; omega)
  have e1 : ((win0_10.blk t).view.emb (ix2 a l) 1 : Fin 13312) = l :=
    Fin.ext (by blk_simp [idx_10 t])
  refine (cast0_apply _ a l).trans ((blk_5 m c t a l).trans ?_)
  unfold cast6
  rw [e0, e1]
  try rfl

abbrev row7 (n : ℕ) (a : Fin 16) : Fin 1024 := ⟨16 * min n 63 + a.val, by omega⟩

/-- What the cast of argument 7 leaves. -/
def cast7 : FVec Ideal S1024x2048 .bf16 := fun i => m ((c.tc : Thread nD τ).loc main_arg7) (ix3 0 (i 0) (i 1))

theorem blk_6 (t : Fin cfg0.N) (a : Fin 16) (l : Fin 2048) :
    iblk m c 6 t (ix3 0 a l) = m ((c.tc : Thread nD τ).loc main_arg7) (ix3 0 (row7 t.val a) l) := by
  blk_ext! [iblk, V, idx_6 t]

theorem final_7 : (dats m 0 c).arrAt 11 cfg0.N = cast7 m c := by
  refine (dats m 0 c).arrAt_eq_of_covers 11 _ (by decide +kernel) fun t hf y => ?_
  blk_simp
  rw [after0_11]
  obtain ⟨a, l, rfl⟩ : ∃ (a : Fin 16) (l : Fin 2048), y = ix2 a l := ⟨y 0, y 1, by idx_vars y⟩
  have e0 : ((win0_11.blk t).view.emb (ix2 a l) 0 : Fin 1024) = row7 t.val a :=
    Fin.ext (by blk_simp [idx_11 t]; show min t.val 63 * 16 + a.val = 16 * min t.val 63 + a.val; omega)
  have e1 : ((win0_11.blk t).view.emb (ix2 a l) 1 : Fin 2048) = l :=
    Fin.ext (by blk_simp [idx_11 t])
  refine (cast1_apply _ a l).trans ((blk_6 m c t a l).trans ?_)
  unfold cast7
  rw [e0, e1]
  try rfl

abbrev row8 (n : ℕ) (a : Fin 32) : Fin 2048 := ⟨32 * min n 63 + a.val, by omega⟩

/-- What the cast of argument 8 leaves. -/
def cast8 : FVec Ideal S2048x2048 .bf16 := fun i => m ((c.tc : Thread nD τ).loc main_arg8) (ix3 0 (i 0) (i 1))

theorem blk_7 (t : Fin cfg0.N) (a : Fin 32) (l : Fin 2048) :
    iblk m c 7 t (ix3 0 a l) = m ((c.tc : Thread nD τ).loc main_arg8) (ix3 0 (row8 t.val a) l) := by
  blk_ext! [iblk, V, idx_7 t]

theorem final_8 : (dats m 0 c).arrAt 12 cfg0.N = cast8 m c := by
  refine (dats m 0 c).arrAt_eq_of_covers 12 _ (by decide +kernel) fun t hf y => ?_
  blk_simp
  rw [after0_12]
  obtain ⟨a, l, rfl⟩ : ∃ (a : Fin 32) (l : Fin 2048), y = ix2 a l := ⟨y 0, y 1, by idx_vars y⟩
  have e0 : ((win0_12.blk t).view.emb (ix2 a l) 0 : Fin 2048) = row8 t.val a :=
    Fin.ext (by blk_simp [idx_12 t]; show min t.val 63 * 32 + a.val = 32 * min t.val 63 + a.val; omega)
  have e1 : ((win0_12.blk t).view.emb (ix2 a l) 1 : Fin 2048) = l :=
    Fin.ext (by blk_simp [idx_12 t])
  refine (cast2_apply _ a l).trans ((blk_7 m c t a l).trans ?_)
  unfold cast8
  rw [e0, e1]
  try rfl

abbrev row9 (n : ℕ) (a : Fin 32) : Fin 2048 := ⟨32 * min n 63 + a.val, by omega⟩

/-- What the cast of argument 9 leaves. -/
def cast9 : FVec Ideal S2048x2048 .bf16 := fun i => m ((c.tc : Thread nD τ).loc main_arg9) (ix3 0 (i 0) (i 1))

theorem blk_8 (t : Fin cfg0.N) (a : Fin 32) (l : Fin 2048) :
    iblk m c 8 t (ix3 0 a l) = m ((c.tc : Thread nD τ).loc main_arg9) (ix3 0 (row9 t.val a) l) := by
  blk_ext! [iblk, V, idx_8 t]

theorem final_9 : (dats m 0 c).arrAt 13 cfg0.N = cast9 m c := by
  refine (dats m 0 c).arrAt_eq_of_covers 13 _ (by decide +kernel) fun t hf y => ?_
  blk_simp
  rw [after0_13]
  obtain ⟨a, l, rfl⟩ : ∃ (a : Fin 32) (l : Fin 2048), y = ix2 a l := ⟨y 0, y 1, by idx_vars y⟩
  have e0 : ((win0_13.blk t).view.emb (ix2 a l) 0 : Fin 2048) = row9 t.val a :=
    Fin.ext (by blk_simp [idx_13 t]; show min t.val 63 * 32 + a.val = 32 * min t.val 63 + a.val; omega)
  have e1 : ((win0_13.blk t).view.emb (ix2 a l) 1 : Fin 2048) = l :=
    Fin.ext (by blk_simp [idx_13 t])
  refine (cast3_apply _ a l).trans ((blk_8 m c t a l).trans ?_)
  unfold cast9
  rw [e0, e1]
  try rfl

theorem run_blocks (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 9 cfg0.N
      ∧ r.2.mem ((c.tc : Thread nD τ).loc main_v0_1) = (dats m 0 c).arrAt 10 cfg0.N
      ∧ r.2.mem ((c.tc : Thread nD τ).loc main_v0_2) = (dats m 0 c).arrAt 11 cfg0.N
      ∧ r.2.mem ((c.tc : Thread nD τ).loc main_v0_3) = (dats m 0 c).arrAt 12 cfg0.N
      ∧ r.2.mem ((c.tc : Thread nD τ).loc main_v0_4) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 9, (h c).1 10, (h c).1 11, (h c).1 12, (h c).1 13,
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c)))⟩) (run_main m ρ)

end Cert.Half.Whole

namespace Cert.Proof
open Idealize.ShloMosaic Idealize.SL.Sem

/-! ## The program read at exact values is the same program -/

set_option maxHeartbeats 2000000 in
theorem half_part_eq : @Cert.HalfIdeal.k0_part1 Ideal _ Cert.HalfIdeal.Gen.facts = @Cert.Half.k0_part1 Ideal _ Cert.Half.Gen.facts := by
  unfold Cert.HalfIdeal.k0_part1 Cert.Half.k0_part1
  with_unfolding_all rfl
set_option maxHeartbeats 2000000 in
theorem half_body_eq : @Cert.HalfIdeal.cc0_ffn Ideal _ Cert.HalfIdeal.Gen.facts = @Cert.Half.cc0_ffn Ideal _ Cert.Half.Gen.facts := by
  unfold Cert.HalfIdeal.cc0_ffn Cert.Half.cc0_ffn
  rw [half_part_eq]
  with_unfolding_all rfl
set_option maxHeartbeats 2000000 in
theorem half_defs0_eq : @Cert.HalfIdeal.defs₀ Ideal _ Cert.HalfIdeal.Gen.facts = @Cert.Half.defs₀ Ideal _ Cert.Half.Gen.facts := by
  unfold Cert.HalfIdeal.defs₀ Cert.Half.defs₀
  rw [half_body_eq]
  refine congrArg Defs.onTc (funext fun l => ?_)
  obtain ⟨_ | n, h⟩ := l
  · funext ⟨t, s⟩; rfl
  · exact absurd h (Nat.not_lt.2 (Nat.le_add_left _ _))
set_option maxHeartbeats 2000000 in
theorem half_defs_eq : @Cert.HalfIdeal.defs Ideal _ Cert.HalfIdeal.Gen.facts = @Cert.Half.defs Ideal _ Cert.Half.Gen.facts := by
  unfold Cert.HalfIdeal.defs Cert.Half.defs
  exact congrArg (Pipeline.defs Cert.Half.pcfgs) half_defs0_eq
set_option maxHeartbeats 2000000 in
theorem half_main_eq : @Cert.HalfIdeal.main Ideal _ = @Cert.Half.main Ideal _ := by
  unfold Cert.HalfIdeal.main Cert.Half.main
  rfl
set_option maxHeartbeats 2000000 in
theorem half_run (s) (Q) (h : θ_run (@Cert.Half.defs Ideal _ Cert.Half.Gen.facts) (onTc (τ := Cert.Half.τ) (@Cert.Half.main Ideal _)) s Q) :
    θ_run (@Cert.HalfIdeal.defs Ideal _ Cert.HalfIdeal.Gen.facts) (onTc (τ := Cert.HalfIdeal.τ) (@Cert.HalfIdeal.main Ideal _)) s Q :=
  (congr (congrArg (fun d p => θ_run d (onTc (τ := Cert.Half.τ) p) s Q) half_defs_eq) half_main_eq).mpr h
theorem halfIdeal_frame : Cert.quiescent_HalfIdeal := fun m ρ _ => half_run _ _ (Cert.Half.Hand.frame (F := Ideal) m ρ)

theorem halfRef_frame : Cert.quiescent_HalfRefIdeal := fun m g _ =>
  (θ_run _ _ _).mono (fun r h => ⟨fun c => (h c).2.2.2.2.2, sem_eq_zero_of_no_sems (by decide) r.2⟩) (Cert.HalfRefIdeal.Value.run m g)

theorem half_algebraic : Cert.algebraic_HalfIdeal_HalfRefIdeal := fun m g m' g' hpre hag =>
  ⟨fun c => Cert.Half.Whole.result m c, fun c => Cert.Half.Whole.cast6 m c, fun c => Cert.Half.Whole.cast7 m c, fun c => Cert.Half.Whole.cast8 m c, fun c => Cert.Half.Whole.cast9 m c,
    half_run _ _ ((θ_run _ _ _).mono (fun r h c => ⟨(h c).1.trans (Cert.Half.Whole.final m c), (h c).2.1.trans (Cert.Half.Whole.final_6 m c), (h c).2.2.1.trans (Cert.Half.Whole.final_7 m c), (h c).2.2.2.1.trans (Cert.Half.Whole.final_8 m c), (h c).2.2.2.2.1.trans (Cert.Half.Whole.final_9 m c), (h c).2.2.2.2.2⟩) (Cert.Half.Whole.run_blocks m g)),
    (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2.1.trans ?_, (h c).2.2.2.2.2⟩
      · rw [h0, h1, h2, h3, h4]
        funext i
        obtain ⟨r, l, rfl⟩ : ∃ (r : Fin 8192) (l : Fin 2048), i = ix2 r l := ⟨i 0, i 1, by idx_vars i⟩
        show _ = Cert.FfnIdeal.Whole.mixAt (Cert.Half.Whole.xOf m c r) _ _ _ _ l
        unfold Cert.FfnIdeal.Whole.mixAt Cert.FfnIdeal.Whole.gateAt Cert.FfnIdeal.Whole.normAt
          Cert.Half.Whole.xOf Cert.Half.Whole.gOf Cert.Half.Whole.aOf Cert.Half.Whole.bOf Cert.Half.Whole.dOf
        pointwise
      · rw [h6]
        funext i
        obtain ⟨r, l, rfl⟩ : ∃ (r : Fin 2048) (l : Fin 13312), i = ix2 r l := ⟨i 0, i 1, by idx_vars i⟩
        show _ = m ((c.tc : Thread Cert.HalfIdeal.nD Cert.HalfIdeal.τ).loc Cert.HalfIdeal.main_arg6) (ix3 0 r l)
        pointwise
      · rw [h7]
        funext i
        obtain ⟨r, l, rfl⟩ : ∃ (r : Fin 1024) (l : Fin 2048), i = ix2 r l := ⟨i 0, i 1, by idx_vars i⟩
        show _ = m ((c.tc : Thread Cert.HalfIdeal.nD Cert.HalfIdeal.τ).loc Cert.HalfIdeal.main_arg7) (ix3 0 r l)
        pointwise
      · rw [h8]
        funext i
        obtain ⟨r, l, rfl⟩ : ∃ (r : Fin 2048) (l : Fin 2048), i = ix2 r l := ⟨i 0, i 1, by idx_vars i⟩
        show _ = m ((c.tc : Thread Cert.HalfIdeal.nD Cert.HalfIdeal.τ).loc Cert.HalfIdeal.main_arg8) (ix3 0 r l)
        pointwise
      · rw [h9]
        funext i
        obtain ⟨r, l, rfl⟩ : ∃ (r : Fin 2048) (l : Fin 2048), i = ix2 r l := ⟨i 0, i 1, by idx_vars i⟩
        show _ = m ((c.tc : Thread Cert.HalfIdeal.nD Cert.HalfIdeal.τ).loc Cert.HalfIdeal.main_arg9) (ix3 0 r l)
        pointwise) (Cert.HalfRefIdeal.Value.run m' g')⟩

end Cert.Proof

end
-- ==== Proof.MidLoops.lean ====
/- The second half-step feed-forward kernel with its cast jobs's two counted loops, each by an invariant: the pieces its trips before the k-th have
   written, listed, and what a whole buffer reads as once all eight trips have run. -/
module

public import proofs.«01_k».proof.Proof.Gen.Mid.Skeleton
public import proofs.«01_k».proof.Proof.Gen.Mid.Launch
public import proofs.«01_k».proof.Proof.Gen.Mid.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.Pointwise

@[expose] public section

set_option maxRecDepth 16384

noncomputable section

namespace Cert.Mid.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Mid.Gen

variable {F : FTy → Type} [FloatOps F]

abbrev MM (F : FTy → Type) := MT nD τ sig Unit (Elt F) ℕ (Pipeline.UD sig nD τ) ℕ

/-- The rows `128 r`, …, `128 r + 127` of a tile. -/
def rowsOf (x : Vec F S1024x2048 .f32) (r : ℕ) (hr : r < 8) : Vec F S128x2048 .f32 :=
  fun j => x (ix2 (⟨128 * r + (j 0).val, by have h : (j 0).val < 128 := (j 0).isLt; omega⟩ : Fin 1024) (j 1 : Fin 2048))

/-- The normalised tile, rounded to bf16. -/
def hnV (x : Vec F S1024x2048 .f32) (g : Vec F S1x1x2048 .f32) : Vec F S1024x2048 .bf16 :=
  fun y => k0_pay5 (rowsOf x ((y 0).val / 128) (by have h : (y 0).val < 1024 := (y 0).isLt; omega)) g
    (ix2 (⟨(y 0).val % 128, Nat.mod_lt _ (by decide)⟩ : Fin 128) (y 1 : Fin 2048))

/-- Twice the tile. -/
def twoV (x : Vec F S1024x2048 .f32) : Vec F S1024x2048 .f32 :=
  fun y => k0_pay6 (rowsOf x ((y 0).val / 128) (by have h : (y 0).val < 1024 := (y 0).isLt; omega))
    (ix2 (⟨(y 0).val % 128, Nat.mod_lt _ (by decide)⟩ : Fin 128) (y 1 : Fin 2048))

/-- Half the accumulated tile. -/
def finV (x : Vec F S1024x2048 .f32) : Vec F S1024x2048 .f32 :=
  fun y => k0_pay4 (rowsOf x ((y 0).val / 128) (by have h : (y 0).val < 1024 := (y 0).isLt; omega))
    (ix2 (⟨(y 0).val % 128, Nat.mod_lt _ (by decide)⟩ : Fin 128) (y 1 : Fin 2048))

theorem trips1 : k0_t1_loop.trips = 8 := by decide +kernel
theorem trips2 : k0_t2_loop.trips = 8 := by decide +kernel

section Pieces
variable (i : grid0.Coords) (arg2 : Memref sig .tc .hbm S8192x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x64x2048 .f32) (harg10 : arg10.IsWhole) (arg11 : Memref sig .tc .vmem S1024x2048 .f32) (harg11 : arg11.IsWhole) (arg12 : Memref sig .tc .vmem S32x5632 .bf16) (harg12 : arg12.IsWhole) (arg13 : Memref sig .tc .vmem S32x5632 .bf16) (harg13 : arg13.IsWhole) (arg14 : Memref sig .tc .vmem S64x2048 .bf16) (harg14 : arg14.IsWhole) (arg15 : Memref sig .tc .vmem S1024x2048 .bf16) (harg15 : arg15.IsWhole) (arg16 : Memref sig .tc .vmem S1024x2048 .f32) (harg16 : arg16.IsWhole) (arg17 : DmaSems sig S_)

/-- The rows trip `k` of the first loop addresses. -/
abbrev rect1 (k0_h1 : k0_cond1 i = 1#1) (k : Fin k0_t1_loop.trips) : Rect S1024x2048 :=
  Rect.unit (s := S1024x2048) (k0_off2 k) S128x2048.size (k0_off2_inb i k k0_h1)
abbrev rect2 (k0_h4 : k0_cond4 i = 1#1) (k : Fin k0_t2_loop.trips) : Rect S1024x2048 :=
  Rect.unit (s := S1024x2048) (k0_off4 k) S128x2048.size (k0_off4_inb i k k0_h4)

/-- What the first loop's trips before the `k`-th wrote into the output window, the last first. -/
def p8 (k0_h1 : k0_cond1 i = 1#1) (X10 : BufTy.Contents (Elt F) arg16.view.ty) : ℕ → List (View.Piece (Elt F) S1024x2048 .f32)
  | 0 => []
  | k + 1 => if h : k < k0_t1_loop.trips then
      [⟨rect1 i k0_h1 ⟨k, h⟩, k0_pay6 (arg16.view.readAt (Elt F) (rect1 i k0_h1 ⟨k, h⟩).toLoadRect X10)⟩] ++ p8 k0_h1 X10 k
      else p8 k0_h1 X10 k

/-- And into the normalised tile's scratch. -/
def p9 (k0_h1 : k0_cond1 i = 1#1) (X3 : BufTy.Contents (Elt F) arg3.view.ty) (X10 : BufTy.Contents (Elt F) arg16.view.ty) : ℕ → List (View.Piece (Elt F) S1024x2048 .bf16)
  | 0 => []
  | k + 1 => if h : k < k0_t1_loop.trips then
      [⟨rect1 i k0_h1 ⟨k, h⟩, k0_pay5 (arg16.view.readAt (Elt F) (rect1 i k0_h1 ⟨k, h⟩).toLoadRect X10)
        (arg3.view.readAt (Elt F) (Rect.unit (s := S1x1x2048) ![0, 0, 0] S1x1x2048.size inb_S1x1x2048_S1x1x2048_0_0_0).toLoadRect X3)⟩] ++ p9 k0_h1 X3 X10 k
      else p9 k0_h1 X3 X10 k

/-- What the last loop's trips before the `k`-th wrote over the output window, found at `G`. -/
def q8 (k0_h4 : k0_cond4 i = 1#1) (G : BufTy.Contents (Elt F) arg11.view.ty) : ℕ → List (View.Piece (Elt F) S1024x2048 .f32)
  | 0 => []
  | k + 1 => if h : k < k0_t2_loop.trips then
      [⟨rect2 i k0_h4 ⟨k, h⟩, k0_pay4 (arg11.view.readAt (Elt F) (rect2 i k0_h4 ⟨k, h⟩).toLoadRect (arg11.view.writes (Elt F) G (q8 k0_h4 G k)))⟩] ++ q8 k0_h4 G k
      else q8 k0_h4 G k

set_option warn.classDefReducibility false in
/-- The first loop by its invariant. -/
@[sl_loop] def loop1 (𝒱 : Variants) (c : Dev nD) (bd : Option 𝒱.V) (E : Set ℕ) (k0_h1 : k0_cond1 i = 1#1)
    (X3 : BufTy.Contents (Elt F) arg3.view.ty) (X10 : BufTy.Contents (Elt F) arg16.view.ty) (G8 : BufTy.Contents (Elt F) arg11.view.ty) (G9 : BufTy.Contents (Elt F) arg15.view.ty) :
    Idealize.ShloMosaic.LoopInv (M := (MM F)) Idealize.ShloMosaic.frame (wpE (defs₀ (F := F)) 𝒱 (c : Thread nD τ) bd) E
      k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h1) where
  inv k _ := iprop((arg3.view.loc (c : Thread nD τ) ↦[arg3.view.set]{fullShare} X3) ∗ (arg16.view.loc (c : Thread nD τ) ↦[arg16.view.set]{fullShare} X10)
    ∗ (∃ f, (arg11.view.loc (c : Thread nD τ) ↦[arg11.view.set]{fullShare} f) ∗ ⌜f = arg11.view.writes (Elt F) G8 (p8 i arg16 k0_h1 X10 k)⌝)
    ∗ (∃ f, (arg15.view.loc (c : Thread nD τ) ↦[arg15.view.set]{fullShare} f) ∗ ⌜f = arg15.view.writes (Elt F) G9 (p9 i arg3 arg16 k0_h1 X3 X10 k)⌝))
  step k acc := by
    have hk : k.val < 8 := Nat.lt_of_lt_of_le k.isLt k0_t1_abs.2.1
    iintro ⟨H3, H10, ⟨%f8, H8, %h8⟩, ⟨%f9, H9, %h9⟩⟩
    unfold k0_t1_body
    sl_exec
    sl_step
    isplitl [H3]; · iexact H3
    isplitl [H10]; · iexact H10
    isplitl [H8]
    · iexists _; isplitl [H8]; · iexact H8
      ipureintro; rw [p8, dif_pos k.isLt, View.writes_append, h8]
    · iexists _; isplitl [H9]; · iexact H9
      ipureintro; rw [p9, dif_pos k.isLt, View.writes_append, h9]

set_option warn.classDefReducibility false in
/-- The last loop by its invariant. -/
@[sl_loop] def loop2 (𝒱 : Variants) (c : Dev nD) (bd : Option 𝒱.V) (E : Set ℕ) (k0_h4 : k0_cond4 i = 1#1)
    (G8 : BufTy.Contents (Elt F) arg11.view.ty) :
    Idealize.ShloMosaic.LoopInv (M := (MM F)) Idealize.ShloMosaic.frame (wpE (defs₀ (F := F)) 𝒱 (c : Thread nD τ) bd) E
      k0_t2_loop.lb k0_t2_loop.ub k0_t2_loop.st (k0_t2_ok i k0_h4) () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h4) where
  inv k _ := iprop((∃ f, (arg11.view.loc (c : Thread nD τ) ↦[arg11.view.set]{fullShare} f) ∗ ⌜f = arg11.view.writes (Elt F) G8 (q8 i arg11 k0_h4 G8 k)⌝))
  step k acc := by
    have hk : k.val < 8 := Nat.lt_of_lt_of_le k.isLt k0_t2_abs.2.1
    iintro ⟨%f8, H8, %h8⟩
    unfold k0_t2_body
    sl_exec
    sl_step
    iexists _; isplitl [H8]; · iexact H8
    ipureintro; rw [q8, dif_pos k.isLt, View.writes_append, h8]

end Pieces

section Reads
variable (i : grid0.Coords) (arg2 : Memref sig .tc .hbm S8192x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x64x2048 .f32) (harg10 : arg10.IsWhole) (arg11 : Memref sig .tc .vmem S1024x2048 .f32) (harg11 : arg11.IsWhole) (arg12 : Memref sig .tc .vmem S32x5632 .bf16) (harg12 : arg12.IsWhole) (arg13 : Memref sig .tc .vmem S32x5632 .bf16) (harg13 : arg13.IsWhole) (arg14 : Memref sig .tc .vmem S64x2048 .bf16) (harg14 : arg14.IsWhole) (arg15 : Memref sig .tc .vmem S1024x2048 .bf16) (harg15 : arg15.IsWhole) (arg16 : Memref sig .tc .vmem S1024x2048 .f32) (harg16 : arg16.IsWhole) (arg17 : DmaSems sig S_)

theorem pay4_congr {a a' : Vec F S1024x2048 .bf16} {b b' d d' : Vec F S2048x512 .bf16} {o o' : Vec F S1024x2048 .f32} {w w' : Vec F S512x2048 .bf16}
    (h1 : a = a') (h2 : b = b') (h3 : d = d') (h4 : o = o') (h5 : w = w') : k0_pay7 a b d o w = k0_pay7 a' b' d' o' w' := by
  rw [h1, h2, h3, h4, h5]

/-- The local index of row `y 0` in its group of 128. -/
abbrev locOf (y : S1024x2048.Idx) : S128x2048.Idx :=
  ix2 (⟨(y 0).val % 128, Nat.mod_lt _ (by decide)⟩ : Fin 128) (y 1 : Fin 2048)

theorem readAt_whole2 {e : EltTy} {a b : ℕ} (m : Memref sig .tc .vmem (⟨2, ![a, b]⟩ : Shape) e) (inb) (f : BufTy.Contents (Elt F) m.view.ty) :
    m.view.readAt (Elt F) (Rect.unit (s := (⟨2, ![a, b]⟩ : Shape)) ![0, 0] ![a, b] inb).toLoadRect f = m.view.read (Elt F) f := by
  funext x
  refine congrArg (m.view.read (Elt F) f) (funext fun a => Fin.ext ?_)
  show (![0, 0] : Fin 2 → ℕ) a + 1 * (x a).val = (x a).val
  fin_cases a <;> simp

theorem readAt_whole3 {e : EltTy} {a b d : ℕ} (m : Memref sig .tc .vmem (⟨3, ![a, b, d]⟩ : Shape) e) (inb) (f : BufTy.Contents (Elt F) m.view.ty) :
    m.view.readAt (Elt F) (Rect.unit (s := (⟨3, ![a, b, d]⟩ : Shape)) ![0, 0, 0] ![a, b, d] inb).toLoadRect f = m.view.read (Elt F) f := by
  funext x
  refine congrArg (m.view.read (Elt F) f) (funext fun a => Fin.ext ?_)
  show (![0, 0, 0] : Fin 3 → ℕ) a + 1 * (x a).val = (x a).val
  fin_cases a <;> simp

theorem read_whole2 {e : EltTy} {a b : ℕ} (m : Memref sig .tc .vmem (⟨2, ![a, b]⟩ : Shape) e) (inb) (f : BufTy.Contents (Elt F) m.view.ty)
    (w : (⟨2, ![a, b]⟩ : Shape).Idx → Elt F e) (L : List (View.Piece (Elt F) (⟨2, ![a, b]⟩ : Shape) e)) :
    m.view.read (Elt F) (m.view.writes (Elt F) f ((⟨Rect.unit (s := (⟨2, ![a, b]⟩ : Shape)) ![0, 0] ![a, b] inb, w⟩ : View.Piece (Elt F) (⟨2, ![a, b]⟩ : Shape) e) :: L)) = w := by
  funext y
  exact View.read_writes_cons_unit_of_mem m.view f inb w L y y rfl (fun a => by fin_cases a <;> simp)

/-- Rows `128 k`, …, `128 k + 127` as a load reads them. -/
theorem readAt_rows (m : Memref sig .tc .vmem S1024x2048 .f32) {off : Fin 2 → ℕ} (k : ℕ) (hk : k < 8) (ho : off = ![128 * k, 0]) (inb)
    (f : BufTy.Contents (Elt F) m.view.ty) :
    m.view.readAt (Elt F) (Rect.unit (s := S1024x2048) off S128x2048.size inb).toLoadRect f = rowsOf (m.view.read (Elt F) f) k hk := by
  subst ho
  funext x
  refine congrArg (m.view.read (Elt F) f) (funext fun a => Fin.ext ?_)
  show (![128 * k, 0] : Fin 2 → ℕ) a + 1 * (x a).val = _
  fin_cases a
  · show 128 * k + 1 * (x 0).val = 128 * k + (x 0).val; omega
  · show 0 + 1 * (x 1).val = (x 1).val; omega

theorem rowsOf_congr (x : Vec F S1024x2048 .f32) {r r' : ℕ} (h : r = r') (hr : r < 8) (hr' : r' < 8) : rowsOf x r hr = rowsOf x r' hr' := by
  subst h; rfl

theorem read_p8 (k0_h1 : k0_cond1 i = 1#1) (X10 : BufTy.Contents (Elt F) arg16.view.ty) (G : BufTy.Contents (Elt F) arg11.view.ty)
    (n : ℕ) (hn : n ≤ 8) (y : S1024x2048.Idx) (hy : (y 0).val < 128 * n) :
    arg11.view.read (Elt F) (arg11.view.writes (Elt F) G (p8 i arg16 k0_h1 X10 n)) y = twoV (arg16.view.read (Elt F) X10) y := by
  induction n with
  | zero => omega
  | succ n ih =>
    have hlt : n < k0_t1_loop.trips := by rw [trips1]; omega
    rw [p8, dif_pos hlt, List.singleton_append]
    by_cases h : (y 0).val < 128 * n
    · rw [View.read_writes_cons_rows_of_not_mem (d := S1024x2048.size) (size := S128x2048.size) arg11.view G _ _ _ y (k0_off2_eq ⟨n, hlt⟩) rfl (Or.inl h)]
      exact ih (by omega) h
    · refine (View.read_writes_cons_rows_of_mem (d := S1024x2048.size) (size := S128x2048.size) arg11.view G _ _ _ y (locOf y) (k0_off2_eq ⟨n, hlt⟩) ?_ rfl).trans ?_
      · show (y 0).val = 128 * n + (y 0).val % 128; omega
      · rw [readAt_rows arg16 n (by omega) (k0_off2_eq ⟨n, hlt⟩)]
        unfold twoV
        rw [rowsOf_congr _ (show n = (y 0).val / 128 by omega)]

theorem read_p9 (k0_h1 : k0_cond1 i = 1#1) (X3 : BufTy.Contents (Elt F) arg3.view.ty) (X10 : BufTy.Contents (Elt F) arg16.view.ty) (G : BufTy.Contents (Elt F) arg15.view.ty)
    (n : ℕ) (hn : n ≤ 8) (y : S1024x2048.Idx) (hy : (y 0).val < 128 * n) :
    arg15.view.read (Elt F) (arg15.view.writes (Elt F) G (p9 i arg3 arg16 k0_h1 X3 X10 n)) y = hnV (arg16.view.read (Elt F) X10) (arg3.view.read (Elt F) X3) y := by
  induction n with
  | zero => omega
  | succ n ih =>
    have hlt : n < k0_t1_loop.trips := by rw [trips1]; omega
    rw [p9, dif_pos hlt, List.singleton_append]
    by_cases h : (y 0).val < 128 * n
    · rw [View.read_writes_cons_rows_of_not_mem (d := S1024x2048.size) (size := S128x2048.size) arg15.view G _ _ _ y (k0_off2_eq ⟨n, hlt⟩) rfl (Or.inl h)]
      exact ih (by omega) h
    · refine (View.read_writes_cons_rows_of_mem (d := S1024x2048.size) (size := S128x2048.size) arg15.view G _ _ _ y (locOf y) (k0_off2_eq ⟨n, hlt⟩) ?_ rfl).trans ?_
      · show (y 0).val = 128 * n + (y 0).val % 128; omega
      · rw [readAt_rows arg16 n (by omega) (k0_off2_eq ⟨n, hlt⟩)]
        unfold hnV
        rw [rowsOf_congr _ (show n = (y 0).val / 128 by omega)]
        exact congrArg (fun z => k0_pay5 _ z (locOf y)) (readAt_whole3 arg3 _ X3)

theorem read_q8_ge (k0_h4 : k0_cond4 i = 1#1) (G : BufTy.Contents (Elt F) arg11.view.ty)
    (n : ℕ) (hn : n ≤ 8) (y : S1024x2048.Idx) (hy : 128 * n ≤ (y 0).val) :
    arg11.view.read (Elt F) (arg11.view.writes (Elt F) G (q8 i arg11 k0_h4 G n)) y = arg11.view.read (Elt F) G y := by
  induction n with
  | zero => rfl
  | succ n ih =>
    have hlt : n < k0_t2_loop.trips := by rw [trips2]; omega
    rw [q8, dif_pos hlt, List.singleton_append]
    rw [View.read_writes_cons_rows_of_not_mem (d := S1024x2048.size) (size := S128x2048.size) arg11.view G _ _ _ y (k0_off4_eq ⟨n, hlt⟩) rfl (Or.inr (by show 128 * n + 128 ≤ _; omega))]
    exact ih (by omega) (by omega)

theorem read_q8 (k0_h4 : k0_cond4 i = 1#1) (G : BufTy.Contents (Elt F) arg11.view.ty)
    (n : ℕ) (hn : n ≤ 8) (y : S1024x2048.Idx) (hy : (y 0).val < 128 * n) :
    arg11.view.read (Elt F) (arg11.view.writes (Elt F) G (q8 i arg11 k0_h4 G n)) y = finV (arg11.view.read (Elt F) G) y := by
  induction n with
  | zero => omega
  | succ n ih =>
    have hlt : n < k0_t2_loop.trips := by rw [trips2]; omega
    rw [q8, dif_pos hlt, List.singleton_append]
    by_cases h : (y 0).val < 128 * n
    · rw [View.read_writes_cons_rows_of_not_mem (d := S1024x2048.size) (size := S128x2048.size) arg11.view G _ _ _ y (k0_off4_eq ⟨n, hlt⟩) rfl (Or.inl h)]
      exact ih (by omega) h
    · refine (View.read_writes_cons_rows_of_mem (d := S1024x2048.size) (size := S128x2048.size) arg11.view G _ _ _ y (locOf y) (k0_off4_eq ⟨n, hlt⟩) ?_ rfl).trans ?_
      · show (y 0).val = 128 * n + (y 0).val % 128; omega
      · have e1 : rowsOf (arg11.view.read (Elt F) (arg11.view.writes (Elt F) G (q8 i arg11 k0_h4 G n))) n (by omega)
            = rowsOf (arg11.view.read (Elt F) G) ((y 0).val / 128) (by omega) := by
          rw [← rowsOf_congr (arg11.view.read (Elt F) G) (show n = (y 0).val / 128 by omega) (by omega)]
          funext j
          exact read_q8_ge i arg11 k0_h4 G n (by omega) _ (by show 128 * n ≤ 128 * n + (j 0).val; omega)
        rw [readAt_rows arg11 n (by omega) (k0_off4_eq ⟨n, hlt⟩), e1]
        rfl

theorem read_p8_all (k0_h1 : k0_cond1 i = 1#1) (X10 : BufTy.Contents (Elt F) arg16.view.ty) (G : BufTy.Contents (Elt F) arg11.view.ty) :
    arg11.view.read (Elt F) (arg11.view.writes (Elt F) G (p8 i arg16 k0_h1 X10 k0_t1_loop.trips)) = twoV (arg16.view.read (Elt F) X10) := by
  funext y
  rw [trips1]
  exact read_p8 i arg11 arg16 k0_h1 X10 G 8 (by omega) y (by have h : (y 0).val < 1024 := (y 0).isLt; omega)

theorem read_p9_all (k0_h1 : k0_cond1 i = 1#1) (X3 : BufTy.Contents (Elt F) arg3.view.ty) (X10 : BufTy.Contents (Elt F) arg16.view.ty) (G : BufTy.Contents (Elt F) arg15.view.ty) :
    arg15.view.read (Elt F) (arg15.view.writes (Elt F) G (p9 i arg3 arg16 k0_h1 X3 X10 k0_t1_loop.trips)) = hnV (arg16.view.read (Elt F) X10) (arg3.view.read (Elt F) X3) := by
  funext y
  rw [trips1]
  exact read_p9 i arg3 arg15 arg16 k0_h1 X3 X10 G 8 (by omega) y (by have h : (y 0).val < 1024 := (y 0).isLt; omega)

theorem read_q8_all (k0_h4 : k0_cond4 i = 1#1) (G : BufTy.Contents (Elt F) arg11.view.ty) :
    arg11.view.read (Elt F) (arg11.view.writes (Elt F) G (q8 i arg11 k0_h4 G k0_t2_loop.trips)) = finV (arg11.view.read (Elt F) G) := by
  funext y
  rw [trips2]
  exact read_q8 i arg11 k0_h4 G 8 (by omega) y (by have h : (y 0).val < 1024 := (y 0).isLt; omega)

end Reads

end Cert.Mid.Hand

end
-- ==== Proof.MidBase.lean ====
/- The second half-step feed-forward kernel with its cast jobs: its arrays, blocks and branch conditions, and the one transfer it keeps in flight. -/
module

public import proofs.«01_k».proof.Proof.MidLoops
public import proofs.«01_k».proof.Proof.Gen.Mid.Skeleton
public import proofs.«01_k».proof.Proof.Gen.Mid.Launch
public import proofs.«01_k».proof.Proof.Gen.Mid.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.WordCmp

@[expose] public section

set_option maxRecDepth 16384

noncomputable section

namespace Cert.Mid.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mid.Gen

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c))),
      ((h c).1 7).trans (((dats 0 c).arrAt_in 7 rfl _).trans ((hA c 7).trans (V_main_arg8 m c)))⟩) h

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1
theorem hcond1 : ∀ t : Fin cfg0.N, cond1 (grid0.coords t) ↔ t.val % 11 = 0 :=
  (by decide +kernel : ∀ t : Fin grid0.N, cond1 (grid0.coords t) ↔ t.val % 11 = 0)
theorem hcond2 : ∀ t : Fin cfg0.N, cond2 (grid0.coords t) ↔ t.val < 11 :=
  (by decide +kernel : ∀ t : Fin grid0.N, cond2 (grid0.coords t) ↔ t.val < 11)
theorem hcond3 : ∀ t : Fin cfg0.N, cond3 (grid0.coords t) ↔ t.val % 11 = 1 ∧ t.val < 77 :=
  (by decide +kernel : ∀ t : Fin grid0.N, cond3 (grid0.coords t) ↔ t.val % 11 = 1 ∧ t.val < 77)
theorem hcond4 : ∀ t : Fin cfg0.N, cond4 (grid0.coords t) ↔ t.val % 11 = 10 :=
  (by decide +kernel : ∀ t : Fin grid0.N, cond4 (grid0.coords t) ↔ t.val % 11 = 10)

abbrev ms0_0 (t : Fin cfg0.N) : Memref sig .tc .vmem S1x1x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x5632 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x5632 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x5632 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x5632 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x2048 .bf16 := win0_11.stage (cfg0.slots t 11)
abbrev hs0_11 (t : Fin cfg0.N) : (ms0_11 t).IsWhole := hstage0_11 ((cfg0.slots t 11).cast nbuf0_11)

abbrev scM0_0 : Memref sig .tc .vmem S1024x2048 .bf16 := Memref.whole cc0_scratch0
abbrev scM0_1 : Memref sig .tc .vmem S1024x2048 .f32 := Memref.whole cc0_scratch1
abbrev hbM0_0 : Memref sig .tc .hbm S8192x2048 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- The kernel's one transfer semaphore. -/
abbrev osem0 : Fin 1 → SemLoc sig := fun j => (![SemLoc.dma 22] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 22) 0) := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp (MM F)) = iprop(hbPt0 c hbM0_0 (V m c main_arg0)) := by
  rw [BI.bigSep_eq_bigSepL_of_eq [main_arg0] (by decide) (by decide)]; rfl
theorem PhiD0_eq (c : Dev nD) :
    (Pipeline.ΦD osem0 spec0 H0 (V m) c : sProp (MM F))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 22) 0) ∗ iprop(hbPt0 c hbM0_0 (V m c main_arg0))) := by
  rw [Pipeline.ΦD_eq, scopedRest0_eq, ownSems00_eq, hbmPts0_eq]; simp only [scM0_0, scM0_1, owns_whole]; try rfl

instance : NeZero grid0.N := ⟨by rw [N_0]; decide⟩

theorem inb_src (b : Fin 8) : ∀ a, (![1024 * b.val, 0] : Fin 2 → Nat) a + S1024x2048.size a ≤ S8192x2048.size a := by
  have := b.isLt; intro a; fin_cases a <;> simp <;> omega
/-- Tile `b` of the operand, as the transfers name their source. -/
def srcB (b : Fin 8) : Memref sig .tc .hbm S1024x2048 .f32 :=
  hbM0_0.slice (Rect.unit (s := S8192x2048) ![1024 * b.val, 0] S1024x2048.size (inb_src b)) (fun _ => rfl)
abbrev bk (n : ℕ) : Fin 8 := ⟨n % 8, Nat.mod_lt _ (by decide)⟩
abbrev cellR : SemLoc sig := SemLoc.dma cc0_scratch2.sem
theorem cellR_eq : cellR = SemLoc.dma 22 := by decide

section Xfer
variable (c : Dev nD) (W : HbBuf0 (F := F) c hbM0_0)
abbrev slotP (f : HbBuf0 (F := F) c scM0_1) : sProp (MM F) := scM0_1.view.loc (c : Thread nD τ) ↦[scM0_1.view.set]{fullShare} f
abbrev cellP : sProp (MM F) := semVal ((c : Thread nD τ), cellR) 0
abbrev srcP (b : Fin 8) : sProp (MM F) := (srcB b).view.loc (c : Thread nD τ) ↦[(srcB b).view.set]{fullShare} W
/-- The operand outside tile `b`. -/
def restP (b : Fin 8) : sProp (MM F) := ((c : Thread nD τ).loc main_arg0) ↦[Finset.univ \ (srcB b).view.set]{fullShare} W
abbrev wholeP : sProp (MM F) := ((c : Thread nD τ).loc main_arg0) ↦[Finset.univ]{fullShare} W
/-- The scratch once tile `b` has landed in it. -/
abbrev landed (b : Fin 8) (f : HbBuf0 (F := F) c scM0_1) : HbBuf0 (F := F) c scM0_1 :=
  scM0_1.view.writes (Elt F) f [⟨Rect.whole S1024x2048, ReadAs.same.apply ((srcB b).view.read (Elt F) W)⟩]
abbrev flightP (b : Fin 8) (f : HbBuf0 (F := F) c scM0_1) : sProp (MM F) :=
  Transfers.Flight countersEmb (c : Thread nD τ) cellR default (scM0_1.view.amount cellR)
    iprop(slotP c (landed c W b f) ∗ srcP c W b)
/-- Tile `b` as a vector. -/
abbrev xt (b : Fin 8) : Vec F S1024x2048 .f32 := (srcB b).view.read (Elt F) W
theorem read_landed (b : Fin 8) (f : HbBuf0 (F := F) c scM0_1) : scM0_1.view.read (Elt F) (landed c W b f) = xt c W b := by
  funext y
  have h : (Rect.whole S1024x2048).emb y = y := funext fun a => Fin.ext (by show 0 + 1 * (y a).val = (y a).val; omega)
  exact (congrArg (scM0_1.view.read (Elt F) (landed c W b f)) h.symm).trans
    (View.read_writes_cons_emb scM0_1.view f (Rect.whole S1024x2048) _ [] y)
theorem src_split (b : Fin 8) : wholeP (F := F) c W ⊣⊢ iprop(srcP c W b ∗ restP c W b) := by
  unfold restP; exact pointsTo_split_subset (Finset.subset_univ _)
end Xfer

section Canon
theorem coff_1 : ∀ t : Fin grid0.N, cond1 (grid0.coords t) → cond2 (grid0.coords t) → (![0, 0] : Fin 2 → Nat) = ![1024 * (bk (t.val / 11)).val, 0] := by decide +kernel
@[sl_canon] theorem canon_1 (t : Fin grid0.N) (h0 : cond1 (grid0.coords t)) (h1 : cond2 (grid0.coords t)) :
    hbM0_0.slice (Rect.unit (s := S8192x2048) ![0, 0] S1024x2048.size inb_S8192x2048_S1024x2048_0_0) (fun _ => rfl) = srcB (bk (t.val / 11)) :=
  Memref.slice_unit_congr _ (coff_1 t h0 h1) _ _ (fun _ => rfl) (fun _ => rfl)
theorem coff_2 : ∀ t : Fin grid0.N, cond1 (grid0.coords t) → k0_off1 (grid0.coords t) = ![1024 * (bk (t.val / 11)).val, 0] := by decide +kernel
@[sl_canon] theorem canon_2 (t : Fin grid0.N) (h0 : cond1 (grid0.coords t)) :
    hbM0_0.slice (Rect.unit (s := S8192x2048) (k0_off1 (grid0.coords t)) S1024x2048.size (k0_off1_inb (grid0.coords t) h0)) (fun _ => rfl) = srcB (bk (t.val / 11)) :=
  Memref.slice_unit_congr _ (coff_2 t h0) _ _ (fun _ => rfl) (fun _ => rfl)
theorem coff_3 : ∀ t : Fin grid0.N, cond3 (grid0.coords t) → k0_off3 (grid0.coords t) = ![1024 * (bk (t.val / 11 + 1)).val, 0] := by decide +kernel
@[sl_canon] theorem canon_3 (t : Fin grid0.N) (h0 : cond3 (grid0.coords t)) :
    hbM0_0.slice (Rect.unit (s := S8192x2048) (k0_off3 (grid0.coords t)) S1024x2048.size (k0_off3_inb (grid0.coords t) h0)) (fun _ => rfl) = srcB (bk (t.val / 11 + 1)) :=
  Memref.slice_unit_congr _ (coff_3 t h0) _ _ (fun _ => rfl) (fun _ => rfl)
end Canon

end Cert.Mid.Hand

end
-- ==== Proof.MidRun.lean ====
/- The second half-step feed-forward kernel with its cast jobs's body, point by point. -/
module

public import proofs.«01_k».proof.Proof.MidBase
public import proofs.«01_k».proof.Proof.Gen.Mid.Skeleton
public import proofs.«01_k».proof.Proof.Gen.Mid.Launch
public import proofs.«01_k».proof.Proof.Gen.Mid.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.WordCmp

@[expose] public section

set_option maxRecDepth 16384

noncomputable section

namespace Cert.Mid.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mid.Gen

variable {F : FTy → Type} [FloatOps F]

set_option maxHeartbeats 1000000 in
/-- The first point: the first tile is copied in and awaited, normalised, and the first block of hidden columns added to its double. -/
theorem run_A (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x64x2048 .f32) (harg10 : arg10.IsWhole) (arg11 : Memref sig .tc .vmem S1024x2048 .f32) (harg11 : arg11.IsWhole) (arg12 : Memref sig .tc .vmem S32x5632 .bf16) (harg12 : arg12.IsWhole) (arg13 : Memref sig .tc .vmem S32x5632 .bf16) (harg13 : arg13.IsWhole) (arg14 : Memref sig .tc .vmem S64x2048 .bf16) (harg14 : arg14.IsWhole) (arg15 : Memref sig .tc .vmem S1024x2048 .bf16) (harg15 : arg15.IsWhole) (hc1 : cond1 (grid0.coords t)) (hc2 : cond2 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x5632 .f32) (x6 : Vec F S1x32x5632 .f32) (x7 : Vec F S1x64x2048 .f32) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ cellP c ∗ (∃ f, slotP (F := F) c f) ∗ hbPt0 c hbM0_0 fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (k0_pay7 (hnV (xt c fh (bk (t.val / 11))) x0) x1 x2 (twoV (xt c fh (bk (t.val / 11)))) x3) ∗ owns (c : Thread nD τ) arg12 fullShare (k0_pay1 x5) ∗ owns (c : Thread nD τ) arg13 fullShare (k0_pay2 x6) ∗ owns (c : Thread nD τ) arg14 fullShare (k0_pay3 x7) ∗ owns (c : Thread nD τ) arg15 fullShare (hnV (xt c fh (bk (t.val / 11))) x0) ∗ cellP c ∗ (∃ f, slotP (F := F) c f) ∗ hbPt0 c hbM0_0 fh ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0_1 (Memref.isWhole_whole _) cc0_scratch2) K := by
  haveI : Fact (cond1 (grid0.coords t)) := ⟨hc1⟩
  haveI : Fact (cond2 (grid0.coords t)) := ⟨hc2⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_1 t hc1 hc2
  have hcanon1 := canon_2 t hc1
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%d5, %f5, -, H5⟩, ⟨%e0, %u0, -, D0⟩, ⟨%e1, %u1, -, D1⟩, ⟨%e2, %u2, -, D2⟩, ⟨%d6, %f6, -, HS0⟩, Hc, ⟨%fs, Hs⟩, Hw, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2
  ihave Hsp := (src_split c fh (bk (t.val / 11))).1 $$ Hw
  icases Hsp with ⟨Hh, Hr⟩
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [H5]
  · iexists _; isplitr; swap; · iexact H5
    ipureintro
    refine (read_whole2 arg11 _ _ _ _).trans ?_
    exact pay4_congr ((readAt_whole2 arg15 _ _).trans ((read_p9_all (grid0.coords t) arg3 arg15 scM0_1 hc1 _ _ _).trans (congrArg₂ hnV (read_landed c fh (bk (t.val / 11)) _) (harg3.read_unread _)))) ((readAt_whole2 arg4 _ _).trans (harg4.read_unread _)) ((readAt_whole2 arg5 _ _).trans (harg5.read_unread _)) ((readAt_whole2 arg11 _ _).trans ((read_p8_all (grid0.coords t) arg11 scM0_1 hc1 _ _).trans (congrArg twoV (read_landed c fh (bk (t.val / 11)) _)))) ((readAt_whole2 arg6 _ _).trans (harg6.read_unread _))
  isplitl [D0]
  · iexists _; isplitr; swap; · iexact D0
    ipureintro
    exact (read_whole2 arg12 _ _ _ _).trans (congrArg k0_pay1 ((readAt_whole3 arg8 _ _).trans (harg8.read_unread _)))
  isplitl [D1]
  · iexists _; isplitr; swap; · iexact D1
    ipureintro
    exact (read_whole2 arg13 _ _ _ _).trans (congrArg k0_pay2 ((readAt_whole3 arg9 _ _).trans (harg9.read_unread _)))
  isplitl [D2]
  · iexists _; isplitr; swap; · iexact D2
    ipureintro
    exact (read_whole2 arg14 _ _ _ _).trans (congrArg k0_pay3 ((readAt_whole3 arg10 _ _).trans (harg10.read_unread _)))
  isplitl [HS0]
  · iexists _; isplitr; swap; · iexact HS0
    ipureintro
    exact ((read_p9_all (grid0.coords t) arg3 arg15 scM0_1 hc1 _ _ _).trans (congrArg₂ hnV (read_landed c fh (bk (t.val / 11)) _) (harg3.read_unread _)))
  isplitl [Hc]; · iexact Hc
  isplitl [Hs]; · iexists _; iexact Hs
  isplitl [Hh Hr]
  · iapply (src_split c fh (bk (t.val / 11))).2; isplitl [Hh]; · iexact Hh
    iexact Hr
  iexists _; iexact HW

set_option maxHeartbeats 1000000 in
/-- The second point of a tile that another follows: the next tile is sent for, and a block of hidden columns added. -/
theorem run_B (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x64x2048 .f32) (harg10 : arg10.IsWhole) (arg11 : Memref sig .tc .vmem S1024x2048 .f32) (harg11 : arg11.IsWhole) (arg12 : Memref sig .tc .vmem S32x5632 .bf16) (harg12 : arg12.IsWhole) (arg13 : Memref sig .tc .vmem S32x5632 .bf16) (harg13 : arg13.IsWhole) (arg14 : Memref sig .tc .vmem S64x2048 .bf16) (harg14 : arg14.IsWhole) (arg15 : Memref sig .tc .vmem S1024x2048 .bf16) (harg15 : arg15.IsWhole) (hc1 : ¬cond1 (grid0.coords t)) (hc3 : cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x5632 .f32) (x6 : Vec F S1x32x5632 .f32) (x7 : Vec F S1x64x2048 .f32) (a8 : Vec F S1024x2048 .f32) (h9 : Vec F S1024x2048 .bf16) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare a8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare h9 ∗ cellP c ∗ (∃ f, slotP (F := F) c f) ∗ hbPt0 c hbM0_0 fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (k0_pay7 h9 x1 x2 a8 x3) ∗ owns (c : Thread nD τ) arg12 fullShare (k0_pay1 x5) ∗ owns (c : Thread nD τ) arg13 fullShare (k0_pay2 x6) ∗ owns (c : Thread nD τ) arg14 fullShare (k0_pay3 x7) ∗ owns (c : Thread nD τ) arg15 fullShare h9 ∗ (∃ f, flightP c fh (bk (t.val / 11 + 1)) f) ∗ restP c fh (bk (t.val / 11 + 1)) ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0_1 (Memref.isWhole_whole _) cc0_scratch2) K := by
  haveI : Fact (¬cond1 (grid0.coords t)) := ⟨hc1⟩
  haveI : Fact (cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_3 t hc3
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%f5, %hf5, H5⟩, ⟨%e0, %u0, -, D0⟩, ⟨%e1, %u1, -, D1⟩, ⟨%e2, %u2, -, D2⟩, ⟨%f6, %hf6, HS0⟩, Hc, ⟨%fs, Hs⟩, Hw, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2
  obtain rfl := harg11.eq_unread hf5; obtain rfl := harg15.eq_unread hf6
  ihave Hsp := (src_split c fh (bk (t.val / 11 + 1))).1 $$ Hw
  icases Hsp with ⟨Hh, Hr⟩
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [H5]
  · iexists _; isplitr; swap; · iexact H5
    ipureintro
    refine (read_whole2 arg11 _ _ _ _).trans ?_
    rw [readAt_whole2 arg15, readAt_whole2 arg4, readAt_whole2 arg5, readAt_whole2 arg11, readAt_whole2 arg6, harg15.read_unread, harg4.read_unread, harg5.read_unread, harg11.read_unread, harg6.read_unread]
  isplitl [D0]
  · iexists _; isplitr; swap; · iexact D0
    ipureintro
    exact (read_whole2 arg12 _ _ _ _).trans (congrArg k0_pay1 ((readAt_whole3 arg8 _ _).trans (harg8.read_unread _)))
  isplitl [D1]
  · iexists _; isplitr; swap; · iexact D1
    ipureintro
    exact (read_whole2 arg13 _ _ _ _).trans (congrArg k0_pay2 ((readAt_whole3 arg9 _ _).trans (harg9.read_unread _)))
  isplitl [D2]
  · iexists _; isplitr; swap; · iexact D2
    ipureintro
    exact (read_whole2 arg14 _ _ _ _).trans (congrArg k0_pay3 ((readAt_whole3 arg10 _ _).trans (harg10.read_unread _)))
  isplitl [HS0]
  · iexists _; isplitr; swap; · iexact HS0
    ipureintro
    exact harg15.read_unread _
  isplitl [Hc]; · iexists _; iexact Hc
  isplitl [Hr]; · iexact Hr
  iexists _; iexact HW

set_option maxHeartbeats 1000000 in
/-- The last point of a tile: the last block of hidden columns added, and the sum halved. -/
theorem run_C (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x64x2048 .f32) (harg10 : arg10.IsWhole) (arg11 : Memref sig .tc .vmem S1024x2048 .f32) (harg11 : arg11.IsWhole) (arg12 : Memref sig .tc .vmem S32x5632 .bf16) (harg12 : arg12.IsWhole) (arg13 : Memref sig .tc .vmem S32x5632 .bf16) (harg13 : arg13.IsWhole) (arg14 : Memref sig .tc .vmem S64x2048 .bf16) (harg14 : arg14.IsWhole) (arg15 : Memref sig .tc .vmem S1024x2048 .bf16) (harg15 : arg15.IsWhole) (hc1 : ¬cond1 (grid0.coords t)) (hc3 : ¬cond3 (grid0.coords t)) (hc4 : cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x5632 .f32) (x6 : Vec F S1x32x5632 .f32) (x7 : Vec F S1x64x2048 .f32) (a8 : Vec F S1024x2048 .f32) (h9 : Vec F S1024x2048 .bf16) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare a8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare h9 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (finV (k0_pay7 h9 x1 x2 a8 x3)) ∗ owns (c : Thread nD τ) arg12 fullShare (k0_pay1 x5) ∗ owns (c : Thread nD τ) arg13 fullShare (k0_pay2 x6) ∗ owns (c : Thread nD τ) arg14 fullShare (k0_pay3 x7) ∗ owns (c : Thread nD τ) arg15 fullShare h9 ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0_1 (Memref.isWhole_whole _) cc0_scratch2) K := by
  haveI : Fact (¬cond1 (grid0.coords t)) := ⟨hc1⟩
  haveI : Fact (¬cond3 (grid0.coords t)) := ⟨hc3⟩
  haveI : Fact (cond4 (grid0.coords t)) := ⟨hc4⟩
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%f5, %hf5, H5⟩, ⟨%e0, %u0, -, D0⟩, ⟨%e1, %u1, -, D1⟩, ⟨%e2, %u2, -, D2⟩, ⟨%f6, %hf6, HS0⟩, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2
  obtain rfl := harg11.eq_unread hf5; obtain rfl := harg15.eq_unread hf6
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [H5]
  · iexists _; isplitr; swap; · iexact H5
    ipureintro
    rw [View.writes_append]
    refine (read_q8_all (grid0.coords t) arg11 hc4 _).trans (congrArg finV ((read_whole2 arg11 _ _ _ _).trans ?_))
    exact pay4_congr ((readAt_whole2 arg15 _ _).trans (harg15.read_unread _)) ((readAt_whole2 arg4 _ _).trans (harg4.read_unread _)) ((readAt_whole2 arg5 _ _).trans (harg5.read_unread _)) ((readAt_whole2 arg11 _ _).trans (harg11.read_unread _)) ((readAt_whole2 arg6 _ _).trans (harg6.read_unread _))
  isplitl [D0]
  · iexists _; isplitr; swap; · iexact D0
    ipureintro
    exact (read_whole2 arg12 _ _ _ _).trans (congrArg k0_pay1 ((readAt_whole3 arg8 _ _).trans (harg8.read_unread _)))
  isplitl [D1]
  · iexists _; isplitr; swap; · iexact D1
    ipureintro
    exact (read_whole2 arg13 _ _ _ _).trans (congrArg k0_pay2 ((readAt_whole3 arg9 _ _).trans (harg9.read_unread _)))
  isplitl [D2]
  · iexists _; isplitr; swap; · iexact D2
    ipureintro
    exact (read_whole2 arg14 _ _ _ _).trans (congrArg k0_pay3 ((readAt_whole3 arg10 _ _).trans (harg10.read_unread _)))
  isplitl [HS0]
  · iexists _; isplitr; swap; · iexact HS0
    ipureintro
    exact harg15.read_unread _
  iexists _; iexact HW

set_option maxHeartbeats 1000000 in
/-- The first point of a later tile: the tile, in flight, is awaited, normalised, and the first block of hidden columns added to its double. -/
theorem run_D (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x64x2048 .f32) (harg10 : arg10.IsWhole) (arg11 : Memref sig .tc .vmem S1024x2048 .f32) (harg11 : arg11.IsWhole) (arg12 : Memref sig .tc .vmem S32x5632 .bf16) (harg12 : arg12.IsWhole) (arg13 : Memref sig .tc .vmem S32x5632 .bf16) (harg13 : arg13.IsWhole) (arg14 : Memref sig .tc .vmem S64x2048 .bf16) (harg14 : arg14.IsWhole) (arg15 : Memref sig .tc .vmem S1024x2048 .bf16) (harg15 : arg15.IsWhole) (hc1 : cond1 (grid0.coords t)) (hc2 : ¬cond2 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x5632 .f32) (x6 : Vec F S1x32x5632 .f32) (x7 : Vec F S1x64x2048 .f32) (fh : HbBuf0 (F := F) c hbM0_0) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, flightP c fh (bk (t.val / 11)) f) ∗ restP c fh (bk (t.val / 11)) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (k0_pay7 (hnV (xt c fh (bk (t.val / 11))) x0) x1 x2 (twoV (xt c fh (bk (t.val / 11)))) x3) ∗ owns (c : Thread nD τ) arg12 fullShare (k0_pay1 x5) ∗ owns (c : Thread nD τ) arg13 fullShare (k0_pay2 x6) ∗ owns (c : Thread nD τ) arg14 fullShare (k0_pay3 x7) ∗ owns (c : Thread nD τ) arg15 fullShare (hnV (xt c fh (bk (t.val / 11))) x0) ∗ cellP c ∗ (∃ f, slotP (F := F) c f) ∗ hbPt0 c hbM0_0 fh ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0_1 (Memref.isWhole_whole _) cc0_scratch2) K := by
  haveI : Fact (cond1 (grid0.coords t)) := ⟨hc1⟩
  haveI : Fact (¬cond2 (grid0.coords t)) := ⟨hc2⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  have hcanon0 := canon_2 t hc1
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%d5, %f5, -, H5⟩, ⟨%e0, %u0, -, D0⟩, ⟨%e1, %u1, -, D1⟩, ⟨%e2, %u2, -, D2⟩, ⟨%d6, %f6, -, HS0⟩, ⟨%fs, Hc⟩, Hr, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [H5]
  · iexists _; isplitr; swap; · iexact H5
    ipureintro
    refine (read_whole2 arg11 _ _ _ _).trans ?_
    exact pay4_congr ((readAt_whole2 arg15 _ _).trans ((read_p9_all (grid0.coords t) arg3 arg15 scM0_1 hc1 _ _ _).trans (congrArg₂ hnV (read_landed c fh (bk (t.val / 11)) _) (harg3.read_unread _)))) ((readAt_whole2 arg4 _ _).trans (harg4.read_unread _)) ((readAt_whole2 arg5 _ _).trans (harg5.read_unread _)) ((readAt_whole2 arg11 _ _).trans ((read_p8_all (grid0.coords t) arg11 scM0_1 hc1 _ _).trans (congrArg twoV (read_landed c fh (bk (t.val / 11)) _)))) ((readAt_whole2 arg6 _ _).trans (harg6.read_unread _))
  isplitl [D0]
  · iexists _; isplitr; swap; · iexact D0
    ipureintro
    exact (read_whole2 arg12 _ _ _ _).trans (congrArg k0_pay1 ((readAt_whole3 arg8 _ _).trans (harg8.read_unread _)))
  isplitl [D1]
  · iexists _; isplitr; swap; · iexact D1
    ipureintro
    exact (read_whole2 arg13 _ _ _ _).trans (congrArg k0_pay2 ((readAt_whole3 arg9 _ _).trans (harg9.read_unread _)))
  isplitl [D2]
  · iexists _; isplitr; swap; · iexact D2
    ipureintro
    exact (read_whole2 arg14 _ _ _ _).trans (congrArg k0_pay3 ((readAt_whole3 arg10 _ _).trans (harg10.read_unread _)))
  isplitl [HS0]
  · iexists _; isplitr; swap; · iexact HS0
    ipureintro
    exact ((read_p9_all (grid0.coords t) arg3 arg15 scM0_1 hc1 _ _ _).trans (congrArg₂ hnV (read_landed c fh (bk (t.val / 11)) _) (harg3.read_unread _)))
  isplitl [Hc]; · iexact Hc
  isplitl [Hc_dst]; · iexists _; iexact Hc_dst
  isplitl [Hc_src Hr]
  · iapply (src_split c fh (bk (t.val / 11))).2; isplitl [Hc_src]; · iexact Hc_src
    iexact Hr
  iexists _; iexact HW

set_option maxHeartbeats 1000000 in
/-- Any other point but the last of a tile: a block of hidden columns added. -/
theorem run_E (c : Dev nD) (t : Fin cfg0.N) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x32x5632 .f32) (harg8 : arg8.IsWhole) (arg9 : Memref sig .tc .vmem S1x32x5632 .f32) (harg9 : arg9.IsWhole) (arg10 : Memref sig .tc .vmem S1x64x2048 .f32) (harg10 : arg10.IsWhole) (arg11 : Memref sig .tc .vmem S1024x2048 .f32) (harg11 : arg11.IsWhole) (arg12 : Memref sig .tc .vmem S32x5632 .bf16) (harg12 : arg12.IsWhole) (arg13 : Memref sig .tc .vmem S32x5632 .bf16) (harg13 : arg13.IsWhole) (arg14 : Memref sig .tc .vmem S64x2048 .bf16) (harg14 : arg14.IsWhole) (arg15 : Memref sig .tc .vmem S1024x2048 .bf16) (harg15 : arg15.IsWhole) (hc1 : ¬cond1 (grid0.coords t)) (hc3 : ¬cond3 (grid0.coords t)) (hc4 : ¬cond4 (grid0.coords t))
    (x0 : Vec F S1x1x2048 .f32) (x1 : Vec F S2048x512 .bf16) (x2 : Vec F S2048x512 .bf16) (x3 : Vec F S512x2048 .bf16) (x4 : Vec F S1x2048 .f32) (x5 : Vec F S1x32x5632 .f32) (x6 : Vec F S1x32x5632 .f32) (x7 : Vec F S1x64x2048 .f32) (a8 : Vec F S1024x2048 .f32) (h9 : Vec F S1024x2048 .bf16) (W : Waits sig Unit) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare a8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare h9 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (k0_pay7 h9 x1 x2 a8 x3) ∗ owns (c : Thread nD τ) arg12 fullShare (k0_pay1 x5) ∗ owns (c : Thread nD τ) arg13 fullShare (k0_pay2 x6) ∗ owns (c : Thread nD τ) arg14 fullShare (k0_pay3 x7) ∗ owns (c : Thread nD τ) arg15 fullShare h9 ∗ (∃ W', owes (c : Thread nD τ) 0 W')) -∗ K ⟨⟩))
      ⊢ wp frame (wpE (defs₀ (F := F)) Variants.none c none) Set.univ (cc0_ffn (grid0.coords t) (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 scM0_1 (Memref.isWhole_whole _) cc0_scratch2) K := by
  haveI : Fact (¬cond1 (grid0.coords t)) := ⟨hc1⟩
  haveI : Fact (¬cond3 (grid0.coords t)) := ⟨hc3⟩
  haveI : Fact (¬cond4 (grid0.coords t)) := ⟨hc4⟩
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, J0⟩, ⟨%g1, %hg1, J1⟩, ⟨%g2, %hg2, J2⟩, ⟨%f5, %hf5, H5⟩, ⟨%e0, %u0, -, D0⟩, ⟨%e1, %u1, -, D1⟩, ⟨%e2, %u2, -, D2⟩, ⟨%f6, %hf6, HS0⟩, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hg0; obtain rfl := harg9.eq_unread hg1; obtain rfl := harg10.eq_unread hg2
  obtain rfl := harg11.eq_unread hf5; obtain rfl := harg15.eq_unread hf6
  sl_exec (disch := first | sl_exact hc1 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [J0]
  · iexists _; isplitr; · ipureintro; exact harg8.read_unread _
    iexact J0
  isplitl [J1]
  · iexists _; isplitr; · ipureintro; exact harg9.read_unread _
    iexact J1
  isplitl [J2]
  · iexists _; isplitr; · ipureintro; exact harg10.read_unread _
    iexact J2
  isplitl [H5]
  · iexists _; isplitr; swap; · iexact H5
    ipureintro
    refine (read_whole2 arg11 _ _ _ _).trans ?_
    rw [readAt_whole2 arg15, readAt_whole2 arg4, readAt_whole2 arg5, readAt_whole2 arg11, readAt_whole2 arg6, harg15.read_unread, harg4.read_unread, harg5.read_unread, harg11.read_unread, harg6.read_unread]
  isplitl [D0]
  · iexists _; isplitr; swap; · iexact D0
    ipureintro
    exact (read_whole2 arg12 _ _ _ _).trans (congrArg k0_pay1 ((readAt_whole3 arg8 _ _).trans (harg8.read_unread _)))
  isplitl [D1]
  · iexists _; isplitr; swap; · iexact D1
    ipureintro
    exact (read_whole2 arg13 _ _ _ _).trans (congrArg k0_pay2 ((readAt_whole3 arg9 _ _).trans (harg9.read_unread _)))
  isplitl [D2]
  · iexists _; isplitr; swap; · iexact D2
    ipureintro
    exact (read_whole2 arg14 _ _ _ _).trans (congrArg k0_pay3 ((readAt_whole3 arg10 _ _).trans (harg10.read_unread _)))
  isplitl [HS0]
  · iexists _; isplitr; swap; · iexact HS0
    ipureintro
    exact harg15.read_unread _
  iexists _; iexact HW

end Cert.Mid.Hand

end
-- ==== Proof.MidHand.lean ====
/- The second half-step feed-forward kernel with its cast jobs on the pipeline: what its buffers hold after each point, the body at every point, and the run. -/
module

public import proofs.«01_k».proof.Proof.MidRun
public import proofs.«01_k».proof.Proof.Gen.Mid.Skeleton
public import proofs.«01_k».proof.Proof.Gen.Mid.Launch
public import proofs.«01_k».proof.Proof.Gen.Mid.Points
public import Idealize.ShloMosaic.Lib.Exec
public import Idealize.ShloMosaic.Lib.Tactic
public import Idealize.ShloMosaic.Lib.WritesUnit
public import Idealize.ShloMosaic.Lib.WholeRead
public import Idealize.ShloMosaic.Lib.Pipeline.Kit
public import Idealize.ShloMosaic.Lib.Pipeline.FrameBody
public import Idealize.ShloMosaic.Lib.Ring
public import Idealize.ShloMosaic.Lib.Claim
public import Idealize.ShloMosaic.Lib.WordCmp

@[expose] public section

set_option maxRecDepth 16384

noncomputable section

namespace Cert.Mid.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mid.Gen

variable {F : FTy → Type} [FloatOps F]

variable (m : (ℓ : Loc nD τ sig) → Buf (Elt F) ℓ) (ρ : Dev nD → PrngReg)

/-- The normalised tile the scratch holds after point `n`. -/
def hnAt (c : Dev nD) : (n : ℕ) → n < cfg0.N → Vec F S1024x2048 .bf16
  | 0, hn => hnV (xt c (V m c main_arg0) (bk (0 / 11))) (iblk m c 0 ⟨0, hn⟩)
  | n + 1, hn => if (n + 1) % 11 = 0 then hnV (xt c (V m c main_arg0) (bk ((n + 1) / 11))) (iblk m c 0 ⟨n + 1, hn⟩)
    else hnAt c n (Nat.lt_of_succ_lt hn)

/-- What the output's buffer holds after point `n`. -/
def outAt (c : Dev nD) : (n : ℕ) → n < cfg0.N → Vec F S1024x2048 .f32
  | 0, hn => k0_pay7 (hnV (xt c (V m c main_arg0) (bk (0 / 11))) (iblk m c 0 ⟨0, hn⟩)) (iblk m c 1 ⟨0, hn⟩) (iblk m c 2 ⟨0, hn⟩) (twoV (xt c (V m c main_arg0) (bk (0 / 11)))) (iblk m c 3 ⟨0, hn⟩)
  | n + 1, hn =>
    if (n + 1) % 11 = 0 then
      k0_pay7 (hnV (xt c (V m c main_arg0) (bk ((n + 1) / 11))) (iblk m c 0 ⟨n + 1, hn⟩)) (iblk m c 1 ⟨n + 1, hn⟩) (iblk m c 2 ⟨n + 1, hn⟩) (twoV (xt c (V m c main_arg0) (bk ((n + 1) / 11)))) (iblk m c 3 ⟨n + 1, hn⟩)
    else if (n + 1) % 11 = 10 then
      finV (k0_pay7 (hnAt m c (n + 1) hn) (iblk m c 1 ⟨n + 1, hn⟩) (iblk m c 2 ⟨n + 1, hn⟩) (outAt c n (Nat.lt_of_succ_lt hn)) (iblk m c 3 ⟨n + 1, hn⟩))
    else k0_pay7 (hnAt m c (n + 1) hn) (iblk m c 1 ⟨n + 1, hn⟩) (iblk m c 2 ⟨n + 1, hn⟩) (outAt c n (Nat.lt_of_succ_lt hn)) (iblk m c 3 ⟨n + 1, hn⟩)

theorem hnAt_first (c : Dev nD) (t : Fin cfg0.N) (h0 : t.val % 11 = 0) :
    hnAt m c t.val t.isLt = hnV (xt c (V m c main_arg0) (bk (t.val / 11))) (iblk m c 0 t) := by
  obtain ⟨n, hn⟩ := t
  cases n with
  | zero => rfl
  | succ n => exact if_pos h0
theorem hnAt_next (c : Dev nD) (t : Fin cfg0.N) (h0 : ¬t.val % 11 = 0) :
    hnAt m c t.val t.isLt = hnAt m c (t.val - 1) (Nat.lt_of_le_of_lt (Nat.sub_le _ _) t.isLt) := by
  obtain ⟨n, hn⟩ := t
  cases n with
  | zero => exact absurd (Nat.zero_mod _) h0
  | succ n => exact if_neg h0
theorem outAt_first (c : Dev nD) (t : Fin cfg0.N) (h0 : t.val % 11 = 0) :
    outAt m c t.val t.isLt = k0_pay7 (hnV (xt c (V m c main_arg0) (bk (t.val / 11))) (iblk m c 0 t)) (iblk m c 1 t) (iblk m c 2 t) (twoV (xt c (V m c main_arg0) (bk (t.val / 11)))) (iblk m c 3 t) := by
  obtain ⟨n, hn⟩ := t
  cases n with
  | zero => rfl
  | succ n => exact if_pos h0
theorem outAt_last (c : Dev nD) (t : Fin cfg0.N) (h4 : t.val % 11 = 10) :
    outAt m c t.val t.isLt = finV (k0_pay7 (hnAt m c t.val t.isLt) (iblk m c 1 t) (iblk m c 2 t) (outAt m c (t.val - 1) (Nat.lt_of_le_of_lt (Nat.sub_le _ _) t.isLt)) (iblk m c 3 t)) := by
  obtain ⟨n, hn⟩ := t
  cases n with
  | zero => exact absurd h4 (by show ¬(0 % 11 = 10); decide)
  | succ n => exact (if_neg (by dsimp only at h4; omega)).trans (if_pos h4)
theorem outAt_mid (c : Dev nD) (t : Fin cfg0.N) (h0 : ¬t.val % 11 = 0) (h4 : ¬t.val % 11 = 10) :
    outAt m c t.val t.isLt = k0_pay7 (hnAt m c t.val t.isLt) (iblk m c 1 t) (iblk m c 2 t) (outAt m c (t.val - 1) (Nat.lt_of_le_of_lt (Nat.sub_le _ _) t.isLt)) (iblk m c 3 t) := by
  obtain ⟨n, hn⟩ := t
  cases n with
  | zero => exact absurd (Nat.zero_mod _) h0
  | succ n => exact (if_neg h0).trans (if_neg h4)

/-- Before point `k` a tile is in flight. -/
def infl (k : ℕ) : Prop := (k % 11 = 0 ∧ 0 < k ∧ k < 88) ∨ (2 ≤ k % 11 ∧ k < 77)
instance (k : ℕ) : Decidable (infl k) := inferInstanceAs (Decidable (_ ∨ _))

/-- The transfer before point `k`. -/
def xPart (c : Dev nD) (k : ℕ) : sProp (MM F) :=
  if infl k then iprop((∃ f, flightP c (V m c main_arg0) (bk ((k + 9) / 11)) f) ∗ restP c (V m c main_arg0) (bk ((k + 9) / 11)))
  else iprop(cellP c ∗ (∃ f, slotP (F := F) c f) ∗ hbPt0 c hbM0_0 (V m c main_arg0))
theorem xPart_idle (c : Dev nD) (k : ℕ) (h : ¬infl k) : xPart m c k = iprop(cellP c ∗ (∃ f, slotP (F := F) c f) ∗ hbPt0 c hbM0_0 (V m c main_arg0)) := if_neg h
theorem xPart_flight (c : Dev nD) (k : ℕ) (h : infl k) (b : ℕ) (hb : (k + 9) / 11 = b) :
    xPart m c k = iprop((∃ f, flightP c (V m c main_arg0) (bk b) f) ∗ restP c (V m c main_arg0) (bk b)) := by
  subst hb; exact if_pos h
theorem xPart_same (c : Dev nD) (k : ℕ) (h : infl k ↔ infl (k + 1)) (hb : infl k → (k + 9) / 11 = (k + 1 + 9) / 11) : xPart m c (k + 1) = xPart m c k := by
  by_cases hk : infl k
  · rw [xPart_flight m c k hk _ rfl, xPart_flight m c (k + 1) (h.mp hk) _ (hb hk).symm]
  · rw [xPart_idle m c k hk, xPart_idle m c (k + 1) (fun x => hk (h.mpr x))]

/-- The invariant before point `k`. -/
def PhiR (c : Dev nD) (k : ℕ) : sProp (MM F) :=
  iprop((∃ r, prngReg c r) ∗ (∃ d, owns (c : Thread nD τ) scM0_0 fullShare d ∗ ⌜∀ h : k - 1 < cfg0.N, ¬k % 11 = 0 → d = hnAt m c (k - 1) h⌝) ∗ xPart m c k)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
    | ⟨9, _⟩ => k0_pay1 (iblk m c 5 t)
    | ⟨10, _⟩ => k0_pay2 (iblk m c 6 t)
    | ⟨11, _⟩ => k0_pay3 (iblk m c 7 t)
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val t.isLt := by dsimp only [dats]
theorem after0_9 (c : Dev nD) (t : Fin cfg0.N) : (dats m 0 c).after 9 t = k0_pay1 (iblk m c 5 t) := by dsimp only [dats]
theorem after0_10 (c : Dev nD) (t : Fin cfg0.N) : (dats m 0 c).after 10 t = k0_pay2 (iblk m c 6 t) := by dsimp only [dats]
theorem after0_11 (c : Dev nD) (t : Fin cfg0.N) : (dats m 0 c).after 11 t = k0_pay3 (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (h0 : ¬t.val % 11 = 0) (d) :
    (dats m 0 c).before 8 t d = outAt m c (t.val - 1) (Nat.lt_of_le_of_lt (Nat.sub_le _ _) t.isLt) := by
  have hN : t.val < 88 := lt_of_lt_of_eq t.isLt (show cfg0.N = 88 from N_0)
  rw [Dat.before_out_kept _ 8 rfl t (by omega) (Bool.eq_false_iff.mpr fun h => by have := (flush0_8 _).mp h; dsimp only at this; omega)
    (fun _ => rfl) (fun _ _ => rfl)]
  dsimp only [dats]

def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp (MM F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [after0_0, after0_1, after0_2, after0_3, after0_4, after0_5, after0_6, after0_7, after0_8, after0_9, after0_10, after0_11]
  rw [PhiR_castSucc m c t, PhiR_succ m c t]
  unfold Dat.owesAt Pipeline.owesWithin
  rw [show (dats m 0 c).owed t.castSucc = 0 from rfl, show (dats m 0 c).owed t.succ = 0 from rfl]
  unfold PhiR
  have hgN : grid0.N = 88 := N_0
  have hN : t.val < 88 := lt_of_lt_of_eq t.isLt (show cfg0.N = 88 from N_0)
  have hcN : cfg0.N = 88 := N_0
  by_cases h0 : t.val % 11 = 0
  · by_cases h1 : t.val < 11
    · skip
      rw [outAt_first m c t h0, xPart_idle m c t.val (by unfold infl; omega), xPart_idle m c (t.val + 1) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%d5, H5⟩, ⟨%e0, D0⟩, ⟨%e1, D1⟩, ⟨%e2, D2⟩⟩
      icases Hx with ⟨Hc, Hs, Hw⟩
      iapply (run_A c t _ _ _ _ _ _ _ _ _ _ _ _ _ _ _ _ _ _ _ _ _ _ _ _ _ _ ((hcond1 t).mpr h0) ((hcond2 t).mpr h1) (fun h => by have := (hcond3 t).mp h; omega) (fun h => by have := (hcond4 t).mp h; omega) (iblk m c 0 t) (iblk m c 1 t) (iblk m c 2 t) (iblk m c 3 t) (iblk m c 4 t) (iblk m c 5 t) (iblk m c 6 t) (iblk m c 7 t) (V m c main_arg0) W _)
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [H5]; · iexists _; iexact H5
      isplitl [D0]; · iexists _; iexact D0
      isplitl [D1]; · iexists _; iexact D1
      isplitl [D2]; · iexists _; iexact D2
      isplitl [HS0]; · iexists _; iexact HS0
      isplitl [Hc]; · iexact Hc
      isplitl [Hs]; · iexact Hs
      isplitl [Hw]; · iexact Hw
      isplitl [HW]; · iexact HW
      iintro ⟨H0, H1, H2, H3, H4, J0, J1, J2, H5, D0, D1, D2, HS0, Hc, Hs, Hw, ⟨%W', HW'⟩⟩
      isplitl [Hg HS0 Hc Hs Hw]
      · isplitl [Hg]; · iexact Hg
        isplitl [HS0]
        · iexists _; isplitl [HS0]; · iexact HS0
          ipureintro; intro hlt hne; exact (hnAt_first m c t h0).symm
        isplitl [Hc]; · iexact Hc
        isplitl [Hs]; · iexact Hs
        iexact Hw
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [H5]; · iexact H5
      isplitl [D0]; · iexact D0
      isplitl [D1]; · iexact D1
      iexact D2
    · skip
      rw [outAt_first m c t h0, xPart_flight m c t.val (by unfold infl; omega) (t.val / 11) (by omega), xPart_idle m c (t.val + 1) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%d5, H5⟩, ⟨%e0, D0⟩, ⟨%e1, D1⟩, ⟨%e2, D2⟩⟩
      icases Hx with ⟨Hf, Hr⟩
      iapply (run_D c t _ _ _ _ _ _ _ _ _ _ _ _ _ _ _ _ _ _ _ _ _ _ _ _ _ _ ((hcond1 t).mpr h0) (fun h => h1 ((hcond2 t).mp h)) (fun h => by have := (hcond3 t).mp h; omega) (fun h => by have := (hcond4 t).mp h; omega) (iblk m c 0 t) (iblk m c 1 t) (iblk m c 2 t) (iblk m c 3 t) (iblk m c 4 t) (iblk m c 5 t) (iblk m c 6 t) (iblk m c 7 t) (V m c main_arg0) W _)
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [H5]; · iexists _; iexact H5
      isplitl [D0]; · iexists _; iexact D0
      isplitl [D1]; · iexists _; iexact D1
      isplitl [D2]; · iexists _; iexact D2
      isplitl [HS0]; · iexists _; iexact HS0
      isplitl [Hf]; · iexact Hf
      isplitl [Hr]; · iexact Hr
      isplitl [HW]; · iexact HW
      iintro ⟨H0, H1, H2, H3, H4, J0, J1, J2, H5, D0, D1, D2, HS0, Hc, Hs, Hw, ⟨%W', HW'⟩⟩
      isplitl [Hg HS0 Hc Hs Hw]
      · isplitl [Hg]; · iexact Hg
        isplitl [HS0]
        · iexists _; isplitl [HS0]; · iexact HS0
          ipureintro; intro hlt hne; exact (hnAt_first m c t h0).symm
        isplitl [Hc]; · iexact Hc
        isplitl [Hs]; · iexact Hs
        iexact Hw
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [H5]; · iexact H5
      isplitl [D0]; · iexact D0
      isplitl [D1]; · iexact D1
      iexact D2
  · simp only [before0_8 m c t h0]
    by_cases h4 : t.val % 11 = 10
    · skip
      rw [outAt_last m c t h4, xPart_same m c t.val (by unfold infl; omega) (by unfold infl; omega)]
      iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%d5, H5⟩, ⟨%e0, D0⟩, ⟨%e1, D1⟩, ⟨%e2, D2⟩⟩
      obtain rfl : dh = hnAt m c t.val t.isLt := (hdh (by omega) h0).trans (hnAt_next m c t h0).symm
      iapply (run_C c t _ _ _ _ _ _ _ _ _ _ _ _ _ _ _ _ _ _ _ _ _ _ _ _ _ _ (fun h => h0 ((hcond1 t).mp h)) (fun h => by have := (hcond3 t).mp h; omega) ((hcond4 t).mpr h4) (iblk m c 0 t) (iblk m c 1 t) (iblk m c 2 t) (iblk m c 3 t) (iblk m c 4 t) (iblk m c 5 t) (iblk m c 6 t) (iblk m c 7 t) (outAt m c (t.val - 1) (by omega)) (hnAt m c t.val t.isLt) W _)
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [H5]; · iexact H5
      isplitl [D0]; · iexists _; iexact D0
      isplitl [D1]; · iexists _; iexact D1
      isplitl [D2]; · iexists _; iexact D2
      isplitl [HS0]; · iexact HS0
      isplitl [HW]; · iexact HW
      iintro ⟨H0, H1, H2, H3, H4, J0, J1, J2, H5, D0, D1, D2, HS0, ⟨%W', HW'⟩⟩
      isplitl [Hg HS0 Hx]
      · isplitl [Hg]; · iexact Hg
        isplitl [HS0]
        · iexists _; isplitl [HS0]; · iexact HS0
          ipureintro; intro hlt hne; rfl
        iexact Hx
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [J0]; · iexact J0
      isplitl [J1]; · iexact J1
      isplitl [J2]; · iexact J2
      isplitl [H5]; · iexact H5
      isplitl [D0]; · iexact D0
      isplitl [D1]; · iexact D1
      iexact D2
    · by_cases h3 : t.val % 11 = 1 ∧ t.val < 77
      · skip
        rw [outAt_mid m c t h0 h4, xPart_idle m c t.val (by unfold infl; omega), xPart_flight m c (t.val + 1) (by unfold infl; omega) (t.val / 11 + 1) (by omega)]
        iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%d5, H5⟩, ⟨%e0, D0⟩, ⟨%e1, D1⟩, ⟨%e2, D2⟩⟩
        obtain rfl : dh = hnAt m c t.val t.isLt := (hdh (by omega) h0).trans (hnAt_next m c t h0).symm
        icases Hx with ⟨Hc, Hs, Hw⟩
        iapply (run_B c t _ _ _ _ _ _ _ _ _ _ _ _ _ _ _ _ _ _ _ _ _ _ _ _ _ _ (fun h => h0 ((hcond1 t).mp h)) ((hcond3 t).mpr h3) (fun h => by have := (hcond4 t).mp h; omega) (iblk m c 0 t) (iblk m c 1 t) (iblk m c 2 t) (iblk m c 3 t) (iblk m c 4 t) (iblk m c 5 t) (iblk m c 6 t) (iblk m c 7 t) (outAt m c (t.val - 1) (by omega)) (hnAt m c t.val t.isLt) (V m c main_arg0) W _)
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [H5]; · iexact H5
        isplitl [D0]; · iexists _; iexact D0
        isplitl [D1]; · iexists _; iexact D1
        isplitl [D2]; · iexists _; iexact D2
        isplitl [HS0]; · iexact HS0
        isplitl [Hc]; · iexact Hc
        isplitl [Hs]; · iexact Hs
        isplitl [Hw]; · iexact Hw
        isplitl [HW]; · iexact HW
        iintro ⟨H0, H1, H2, H3, H4, J0, J1, J2, H5, D0, D1, D2, HS0, Hf, Hr, ⟨%W', HW'⟩⟩
        isplitl [Hg HS0 Hf Hr]
        · isplitl [Hg]; · iexact Hg
          isplitl [HS0]
          · iexists _; isplitl [HS0]; · iexact HS0
            ipureintro; intro hlt hne; rfl
          isplitl [Hf]; · iexact Hf
          iexact Hr
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [H5]; · iexact H5
        isplitl [D0]; · iexact D0
        isplitl [D1]; · iexact D1
        iexact D2
      · skip
        rw [outAt_mid m c t h0 h4, xPart_same m c t.val (by unfold infl; omega) (by unfold infl; omega)]
        iintro ⟨⟨Hg, ⟨%dh, HS0, %hdh⟩, Hx⟩, ⟨%W, -, HW⟩, ⟨%d0, H0⟩, ⟨%d1, H1⟩, ⟨%d2, H2⟩, ⟨%d3, H3⟩, ⟨%d4, H4⟩, ⟨%g0, J0⟩, ⟨%g1, J1⟩, ⟨%g2, J2⟩, ⟨%d5, H5⟩, ⟨%e0, D0⟩, ⟨%e1, D1⟩, ⟨%e2, D2⟩⟩
        obtain rfl : dh = hnAt m c t.val t.isLt := (hdh (by omega) h0).trans (hnAt_next m c t h0).symm
        iapply (run_E c t _ _ _ _ _ _ _ _ _ _ _ _ _ _ _ _ _ _ _ _ _ _ _ _ _ _ (fun h => h0 ((hcond1 t).mp h)) (fun h => by have := (hcond3 t).mp h; omega) (fun h => by have := (hcond4 t).mp h; omega) (iblk m c 0 t) (iblk m c 1 t) (iblk m c 2 t) (iblk m c 3 t) (iblk m c 4 t) (iblk m c 5 t) (iblk m c 6 t) (iblk m c 7 t) (outAt m c (t.val - 1) (by omega)) (hnAt m c t.val t.isLt) W _)
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [H5]; · iexact H5
        isplitl [D0]; · iexists _; iexact D0
        isplitl [D1]; · iexists _; iexact D1
        isplitl [D2]; · iexists _; iexact D2
        isplitl [HS0]; · iexact HS0
        isplitl [HW]; · iexact HW
        iintro ⟨H0, H1, H2, H3, H4, J0, J1, J2, H5, D0, D1, D2, HS0, ⟨%W', HW'⟩⟩
        isplitl [Hg HS0 Hx]
        · isplitl [Hg]; · iexact Hg
          isplitl [HS0]
          · iexists _; isplitl [HS0]; · iexact HS0
            ipureintro; intro hlt hne; rfl
          iexact Hx
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [J0]; · iexact J0
        isplitl [J1]; · iexact J1
        isplitl [J2]; · iexact J2
        isplitl [H5]; · iexact H5
        isplitl [D0]; · iexact D0
        isplitl [D1]; · iexact D1
        iexact D2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [xPart_idle m c 0 (by unfold infl; omega)]
  unfold cellP
  rw [cellR_eq]
  unfold owns
  iintro ⟨⟨⟨%dh, HS0⟩, ⟨%dx, %fx, -, Hs⟩⟩, Hg, Hc, Hw⟩
  isplitl [Hg]; · iexact Hg
  isplitl [HS0]
  · iexists dh; isplitl [HS0]; · iexact HS0
    ipureintro; intro _ h; exact absurd rfl h
  isplitl [Hc]; · iexact Hc
  isplitl [Hs]; · iexists _; iexact Hs
  iexact Hw
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [xPart_idle m c grid0.N (by rw [N_0]; unfold infl; omega)]
  unfold cellP
  rw [cellR_eq]
  iintro ⟨Hg, ⟨%dh, HS0, -⟩, Hc, ⟨%fx, Hs⟩, Hw⟩
  isplitl [HS0 Hs]
  · isplitl [HS0]; · iexists dh; iexact HS0
    unfold owns
    iexists _, _; isplitr; swap; · iexact Hs
    ipureintro; rfl
  isplitl [Hg]; · iexact Hg
  isplitl [Hc]; · iexact Hc
  iexact Hw

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Mid.Hand

end
-- ==== Proof.MidValue.lean ====
module

public import proofs.«01_k».proof.Defs
public import proofs.«01_k».proof.Proof.MidHand
public import proofs.«01_k».proof.Proof.FfnValue
public import proofs.«01_k».proof.Proof.Gen.MidIdeal.Frame
public import proofs.«01_k».proof.Proof.Gen.MidIdeal.Skeleton
public import proofs.«01_k».proof.Proof.Gen.MidRefIdeal.Run
public import Idealize.ShloMosaic.Lib.Pipeline.ValueKit
public import Idealize.ShloMosaic.Lib.Pointwise
public import Idealize.ShloMosaic.Lib.Quiescent

/-! The second half-step feed-forward layer with its residual, and the casts of the next layer's weights. -/

@[expose] public section

set_option maxRecDepth 16384

noncomputable section

namespace Cert.Mid.Whole

open Cert.Mid Cert.Mid.Gen Cert.Mid.Hand
open Cert.FfnIdeal.Whole (normAt gateAt mixAt half_two sum_step)
open Idealize.ShloMosaic Idealize.ShloMosaic.TcCoe
open Idealize.SL.Sem

/-! ## The payloads -/

theorem pay1_apply (v : Vec Ideal S128x2048 .f32) (p : Fin 128) (q : Fin 2048) :
    k0_pay4 v (ix2 p q) = Ideal.ofBits .f32 0x3F000000#32 * v (ix2 p q) := by
  pointwise [k0_pay4]
theorem pay2_apply (v : Vec Ideal S128x2048 .f32) (g : Vec Ideal S1x1x2048 .f32) (p : Fin 128) (q : Fin 2048) :
    k0_pay5 v g (ix2 p q) = normAt (fun k => v (ix2 p k)) (fun k => g (ix3 0 0 k)) q := by
  unfold normAt
  pointwise [k0_pay5]
theorem pay3_apply (v : Vec Ideal S128x2048 .f32) (p : Fin 128) (q : Fin 2048) :
    k0_pay6 v (ix2 p q) = Ideal.ofBits .f32 0x40000000#32 * v (ix2 p q) := by
  pointwise [k0_pay6]
theorem pay4_apply (v9 : Vec Ideal S1024x2048 .bf16) (v10 : Vec Ideal S2048x512 .bf16) (v12 : Vec Ideal S2048x512 .bf16) (v24 : Vec Ideal S1024x2048 .f32) (v26 : Vec Ideal S512x2048 .bf16) (p : Fin 1024) (q : Fin 2048) :
    k0_pay7 v9 v10 v12 v24 v26 (ix2 p q)
      = v24 (ix2 p q) + ∑ j : Fin 512, gateAt (fun k => v9 (ix2 p k)) (fun k => v10 (ix2 k j)) (fun k => v12 (ix2 k j)) * v26 (ix2 j q) := by
  unfold gateAt
  pointwise [k0_pay7]
  simp only [zero_sub]

theorem rowsOf_apply (x : Vec Ideal S1024x2048 .f32) (p : Fin 1024) (k : Fin 2048) (h : p.val / 128 < 8) (h' : p.val % 128 < 128) :
    rowsOf x (p.val / 128) h (ix2 (⟨p.val % 128, h'⟩ : Fin 128) k) = x (ix2 p k) :=
  congrArg (fun r : Fin 1024 => x (ix2 r k)) (Fin.ext (Nat.div_add_mod p.val 128))

theorem hnV_apply (x : Vec Ideal S1024x2048 .f32) (g : Vec Ideal S1x1x2048 .f32) (p : Fin 1024) (q : Fin 2048) :
    hnV x g (ix2 p q) = normAt (fun k => x (ix2 p k)) (fun k => g (ix3 0 0 k)) q := by
  refine (pay2_apply _ _ _ _).trans ?_
  exact congrArg (fun f => normAt f _ q) (funext fun k => rowsOf_apply x p k _ _)
theorem twoV_apply (x : Vec Ideal S1024x2048 .f32) (p : Fin 1024) (q : Fin 2048) :
    twoV x (ix2 p q) = Ideal.ofBits .f32 0x40000000#32 * x (ix2 p q) := by
  refine (pay3_apply _ _ _).trans ?_
  exact congrArg (fun f => Ideal.ofBits .f32 0x40000000#32 * f) (rowsOf_apply x p q _ _)
theorem finV_apply (x : Vec Ideal S1024x2048 .f32) (p : Fin 1024) (q : Fin 2048) :
    finV x (ix2 p q) = Ideal.ofBits .f32 0x3F000000#32 * x (ix2 p q) := by
  refine (pay1_apply _ _ _).trans ?_
  exact congrArg (fun f => Ideal.ofBits .f32 0x3F000000#32 * f) (rowsOf_apply x p q _ _)
theorem cast0_apply (v : Vec Ideal S1x32x5632 .f32) (p : Fin 32) (q : Fin 5632) : k0_pay1 v (ix2 p q) = v (ix3 0 p q) := by
  pointwise [k0_pay1]
theorem cast1_apply (v : Vec Ideal S1x32x5632 .f32) (p : Fin 32) (q : Fin 5632) : k0_pay2 v (ix2 p q) = v (ix3 0 p q) := by
  pointwise [k0_pay2]
theorem cast2_apply (v : Vec Ideal S1x64x2048 .f32) (p : Fin 64) (q : Fin 2048) : k0_pay3 v (ix2 p q) = v (ix3 0 p q) := by
  pointwise [k0_pay3]

/-! ## The blocks -/

variable (m : (ℓ : Loc nD τ sig) → Buf (Elt Ideal) ℓ) (c : Dev nD)

theorem idx_g : ∀ t : Fin cfg0.N, win0_0.index t = ![0, 0, 0] :=
  (by decide +kernel : ∀ t : Fin grid0.N, win0_0.index t = ![0, 0, 0])
theorem idx_a : ∀ t : Fin cfg0.N, win0_1.index t = ![0, t.val % 11] :=
  (by decide +kernel : ∀ t : Fin grid0.N, win0_1.index t = ![0, t.val % 11])
theorem idx_b : ∀ t : Fin cfg0.N, win0_2.index t = ![0, t.val % 11] :=
  (by decide +kernel : ∀ t : Fin grid0.N, win0_2.index t = ![0, t.val % 11])
theorem idx_d : ∀ t : Fin cfg0.N, win0_3.index t = ![t.val % 11, 0] :=
  (by decide +kernel : ∀ t : Fin grid0.N, win0_3.index t = ![t.val % 11, 0])
theorem idx_o : ∀ t : Fin cfg0.N, win0_8.index t = ![t.val / 11, 0] :=
  (by decide +kernel : ∀ t : Fin grid0.N, win0_8.index t = ![t.val / 11, 0])
theorem idx_5 : ∀ t : Fin cfg0.N, win0_5.index t = ![1, min t.val 63, 0] :=
  (by decide +kernel : ∀ t : Fin grid0.N, win0_5.index t = ![1, min t.val 63, 0])
theorem idx_9 : ∀ t : Fin cfg0.N, win0_9.index t = ![min t.val 63, 0] :=
  (by decide +kernel : ∀ t : Fin grid0.N, win0_9.index t = ![min t.val 63, 0])
theorem idx_6 : ∀ t : Fin cfg0.N, win0_6.index t = ![1, min t.val 63, 0] :=
  (by decide +kernel : ∀ t : Fin grid0.N, win0_6.index t = ![1, min t.val 63, 0])
theorem idx_10 : ∀ t : Fin cfg0.N, win0_10.index t = ![min t.val 63, 0] :=
  (by decide +kernel : ∀ t : Fin grid0.N, win0_10.index t = ![min t.val 63, 0])
theorem idx_7 : ∀ t : Fin cfg0.N, win0_7.index t = ![1, min t.val 87, 0] :=
  (by decide +kernel : ∀ t : Fin grid0.N, win0_7.index t = ![1, min t.val 87, 0])
theorem idx_11 : ∀ t : Fin cfg0.N, win0_11.index t = ![min t.val 87, 0] :=
  (by decide +kernel : ∀ t : Fin grid0.N, win0_11.index t = ![min t.val 87, 0])

/-- The operands by their coordinates. -/
def xOf (r : Fin 8192) (k : Fin 2048) : EReal := m ((c.tc : Thread nD τ).loc main_arg0) (ix2 r k)
def gOf (k : Fin 2048) : EReal := m ((c.tc : Thread nD τ).loc main_arg1) (ix3 0 0 k)
def aOf (k : Fin 2048) (j : Fin 5632) : EReal := m ((c.tc : Thread nD τ).loc main_arg2) (ix2 k j)
def bOf (k : Fin 2048) (j : Fin 5632) : EReal := m ((c.tc : Thread nD τ).loc main_arg3) (ix2 k j)
def dOf (j : Fin 5632) (l : Fin 2048) : EReal := m ((c.tc : Thread nD τ).loc main_arg4) (ix2 j l)

theorem tlt (t : Fin cfg0.N) : t.val < 88 := lt_of_lt_of_eq t.isLt N_0

theorem blk_g (t : Fin cfg0.N) (k : Fin 2048) : iblk m c 0 t (ix3 0 0 k) = gOf m c k := by
  unfold gOf; blk_ext! [iblk, V, idx_g t]
theorem blk_a (t : Fin cfg0.N) (k : Fin 2048) (j : Fin 512) :
    iblk m c 1 t (ix2 k j) = aOf m c k ⟨512 * (t.val % 11) + j.val, by omega⟩ := by
  unfold aOf; blk_ext! [iblk, V, idx_a t]
theorem blk_b (t : Fin cfg0.N) (k : Fin 2048) (j : Fin 512) :
    iblk m c 2 t (ix2 k j) = bOf m c k ⟨512 * (t.val % 11) + j.val, by omega⟩ := by
  unfold bOf; blk_ext! [iblk, V, idx_b t]
theorem blk_d (t : Fin cfg0.N) (j : Fin 512) (l : Fin 2048) :
    iblk m c 3 t (ix2 j l) = dOf m c ⟨512 * (t.val % 11) + j.val, by omega⟩ l := by
  unfold dOf; blk_ext! [iblk, V, idx_d t]
theorem blk_x (b : Fin 8) (p : Fin 1024) (k : Fin 2048) :
    xt c (V m c main_arg0) b (ix2 p k) = xOf m c ⟨1024 * b.val + p.val, by omega⟩ k := by
  refine congrArg (m ((c.tc : Thread nD τ).loc main_arg0)) (funext fun a => Fin.ext ?_)
  show (![1024 * b.val, 0] : Fin 2 → ℕ) a + 1 * ((ix2 p k : S1024x2048.Idx) a).val = _
  fin_cases a
  · show 1024 * b.val + 1 * p.val = 1024 * b.val + p.val; omega
  · show 0 + 1 * k.val = k.val; omega

/-! ## The grid points -/

/-- The row of the operand behind row `p` of the tile at point `n`. -/
abbrev rowAt (n : ℕ) (hn : n < cfg0.N) (p : Fin 1024) : Fin 8192 :=
  ⟨1024 * (n / 11) + p.val, by have h : n < 88 := lt_of_lt_of_eq hn N_0; omega⟩

theorem xt_apply (n : ℕ) (hn : n < cfg0.N) (p : Fin 1024) (k : Fin 2048) :
    xt c (V m c main_arg0) (bk (n / 11)) (ix2 p k) = xOf m c (rowAt n hn p) k := by
  refine (blk_x m c _ p k).trans (congrArg (fun r => xOf m c r k) (Fin.ext ?_))
  have h : n < 88 := lt_of_lt_of_eq hn N_0
  show 1024 * (n / 11 % 8) + p.val = 1024 * (n / 11) + p.val
  rw [Nat.mod_eq_of_lt (by omega)]

theorem hnV_point (n : ℕ) (hn : n < cfg0.N) (p : Fin 1024) (q : Fin 2048) :
    hnV (xt c (V m c main_arg0) (bk (n / 11))) (iblk m c 0 ⟨n, hn⟩) (ix2 p q) = normAt (xOf m c (rowAt n hn p)) (gOf m c) q := by
  rw [hnV_apply]
  simp only [xt_apply m c n hn, blk_g]

theorem hnAt_apply : ∀ (n : ℕ) (hn : n < cfg0.N) (p : Fin 1024) (q : Fin 2048),
    hnAt m c n hn (ix2 p q) = normAt (xOf m c (rowAt n hn p)) (gOf m c) q
  | 0, hn, p, q => hnV_point m c 0 hn p q
  | n + 1, hn, p, q => by
    by_cases h0 : (n + 1) % 11 = 0
    · rw [hnAt_first m c ⟨n + 1, hn⟩ h0]; exact hnV_point m c (n + 1) hn p q
    · rw [hnAt_next m c ⟨n + 1, hn⟩ h0]
      refine (hnAt_apply n _ p q).trans (congrArg (fun r => normAt (xOf m c r) (gOf m c) q) (Fin.ext ?_))
      show 1024 * (n / 11) + p.val = 1024 * ((n + 1) / 11) + p.val
      omega

/-- What hidden column `j` contributes to an entry. -/
def term (r : Fin 8192) (q : Fin 2048) (j : ℕ) : EReal :=
  if h : j < 5632 then
    gateAt (normAt (xOf m c r) (gOf m c)) (fun k => aOf m c k ⟨j, h⟩) (fun k => bOf m c k ⟨j, h⟩) * dOf m c ⟨j, h⟩ q
  else 0

theorem pay4_point (n : ℕ) (hn : n < cfg0.N) (v9 : Vec Ideal S1024x2048 .bf16) (o : Vec Ideal S1024x2048 .f32) (p : Fin 1024) (q : Fin 2048)
    (h9 : ∀ k, v9 (ix2 p k) = normAt (xOf m c (rowAt n hn p)) (gOf m c) k) :
    k0_pay7 v9 (iblk m c 1 ⟨n, hn⟩) (iblk m c 2 ⟨n, hn⟩) o (iblk m c 3 ⟨n, hn⟩) (ix2 p q)
      = o (ix2 p q) + ∑ j ∈ Finset.range 512, term m c (rowAt n hn p) q (512 * (n % 11) + j) := by
  rw [pay4_apply, ← Fin.sum_univ_eq_sum_range (fun j => term m c (rowAt n hn p) q (512 * (n % 11) + j)) 512]
  congr 1
  refine Finset.sum_congr rfl fun j _ => ?_
  have hj : 512 * (n % 11) + j.val < 5632 := by omega
  unfold term
  rw [dif_pos hj]
  simp only [h9, blk_a, blk_b, blk_d]

theorem outAt_apply : ∀ (n : ℕ) (hn : n < cfg0.N) (h4 : ¬n % 11 = 10) (p : Fin 1024) (q : Fin 2048),
    outAt m c n hn (ix2 p q) = Ideal.ofBits .f32 0x40000000#32 * xOf m c (rowAt n hn p) q
      + ∑ j ∈ Finset.range (512 * (n % 11 + 1)), term m c (rowAt n hn p) q j := by
  intro n
  induction n with
  | zero =>
    intro hn h4 p q
    rw [outAt_first m c ⟨0, hn⟩ (Nat.zero_mod _), pay4_point m c 0 hn _ _ p q (hnV_point m c 0 hn p), twoV_apply, xt_apply m c 0 hn]
    simp
  | succ n ih =>
    intro hn h4 p q
    by_cases h0 : (n + 1) % 11 = 0
    · rw [outAt_first m c ⟨n + 1, hn⟩ h0, pay4_point m c (n + 1) hn _ _ p q (hnV_point m c (n + 1) hn p), twoV_apply, xt_apply m c (n + 1) hn, h0]
      simp
    · rw [outAt_mid m c ⟨n + 1, hn⟩ h0 h4, pay4_point m c (n + 1) hn _ _ p q (hnAt_apply m c (n + 1) hn p)]
      have hr : rowAt n (Nat.lt_of_succ_lt hn) p = rowAt (n + 1) hn p := Fin.ext (by
        show 1024 * (n / 11) + p.val = 1024 * ((n + 1) / 11) + p.val; omega)
      have hi := ih (Nat.lt_of_succ_lt hn) (by omega) p q
      rw [hr, show n % 11 + 1 = (n + 1) % 11 by omega] at hi
      rw [show outAt m c ((⟨n + 1, hn⟩ : Fin cfg0.N).val - 1) _ (ix2 p q) = _ from hi, sum_step]

/-- The array the kernel leaves. -/
def result (i : S8192x2048.Idx) : EReal :=
  mixAt (xOf m c (i 0)) (gOf m c) (aOf m c) (bOf m c) (dOf m c) (i 1)

theorem outAt_end (n : ℕ) (hn : n < cfg0.N) (h4 : n % 11 = 10) (p : Fin 1024) (l : Fin 2048) :
    outAt m c n hn (ix2 p l) = mixAt (xOf m c (rowAt n hn p)) (gOf m c) (aOf m c) (bOf m c) (dOf m c) l := by
  rw [outAt_last m c ⟨n, hn⟩ h4, finV_apply]
  rw [pay4_point m c n hn _ _ p l (hnAt_apply m c n hn p)]
  have hl : n - 1 < cfg0.N := Nat.lt_of_le_of_lt (Nat.sub_le _ _) hn
  have hr : rowAt (n - 1) hl p = rowAt n hn p := Fin.ext (by
    show 1024 * ((n - 1) / 11) + p.val = 1024 * (n / 11) + p.val; omega)
  have hi := outAt_apply m c (n - 1) hl (by omega) p l
  rw [hr, show (n - 1) % 11 + 1 = n % 11 by omega] at hi
  rw [show outAt m c ((⟨n, hn⟩ : Fin cfg0.N).val - 1) _ (ix2 p l) = _ from hi, sum_step, half_two, h4]
  unfold mixAt
  rw [show 512 * (10 + 1) = 5632 by norm_num, ← Fin.sum_univ_eq_sum_range (fun j => term m c (rowAt n hn p) l j) 5632]
  refine congrArg (fun s => _ + _ * s) (Finset.sum_congr rfl fun j _ => ?_)
  unfold term
  rw [dif_pos j.isLt]

theorem final : (dats m 0 c).arrAt 8 cfg0.N = result m c := by
  refine (dats m 0 c).arrAt_eq_of_covers 8 _ (by decide +kernel) fun t hf y => ?_
  blk_simp
  rw [after0_8]
  obtain ⟨p, q, rfl⟩ : ∃ (p : Fin 1024) (q : Fin 2048), y = ix2 p q := ⟨y 0, y 1, by idx_vars y⟩
  have h4 : t.val % 11 = 10 := (flush0_8 t).1 hf
  have e0 : ((win0_8.blk t).view.emb (ix2 p q) 0 : Fin 8192) = rowAt t.val t.isLt p :=
    Fin.ext (by blk_simp [idx_o t]; show t.val / 11 * 1024 + p.val = 1024 * (t.val / 11) + p.val; omega)
  have e1 : ((win0_8.blk t).view.emb (ix2 p q) 1 : Fin 2048) = q :=
    Fin.ext (by blk_simp [idx_o t])
  refine (outAt_end m c t.val t.isLt h4 p q).trans ?_
  unfold result
  rw [e0, e1]

abbrev row6 (n : ℕ) (a : Fin 32) : Fin 2048 := ⟨32 * min n 63 + a.val, by omega⟩

/-- What the cast of argument 6 leaves. -/
def cast6 : FVec Ideal S2048x5632 .bf16 := fun i => m ((c.tc : Thread nD τ).loc main_arg6) (ix3 1 (i 0) (i 1))

theorem blk_5 (t : Fin cfg0.N) (a : Fin 32) (l : Fin 5632) :
    iblk m c 5 t (ix3 0 a l) = m ((c.tc : Thread nD τ).loc main_arg6) (ix3 1 (row6 t.val a) l) := by
  blk_ext! [iblk, V, idx_5 t]

theorem final_6 : (dats m 0 c).arrAt 9 cfg0.N = cast6 m c := by
  refine (dats m 0 c).arrAt_eq_of_covers 9 _ (by decide +kernel) fun t hf y => ?_
  blk_simp
  rw [after0_9]
  obtain ⟨a, l, rfl⟩ : ∃ (a : Fin 32) (l : Fin 5632), y = ix2 a l := ⟨y 0, y 1, by idx_vars y⟩
  have e0 : ((win0_9.blk t).view.emb (ix2 a l) 0 : Fin 2048) = row6 t.val a :=
    Fin.ext (by blk_simp [idx_9 t]; show min t.val 63 * 32 + a.val = 32 * min t.val 63 + a.val; omega)
  have e1 : ((win0_9.blk t).view.emb (ix2 a l) 1 : Fin 5632) = l :=
    Fin.ext (by blk_simp [idx_9 t])
  refine (cast0_apply _ a l).trans ((blk_5 m c t a l).trans ?_)
  unfold cast6
  rw [e0, e1]
  try rfl

abbrev row7 (n : ℕ) (a : Fin 32) : Fin 2048 := ⟨32 * min n 63 + a.val, by omega⟩

/-- What the cast of argument 7 leaves. -/
def cast7 : FVec Ideal S2048x5632 .bf16 := fun i => m ((c.tc : Thread nD τ).loc main_arg7) (ix3 1 (i 0) (i 1))

theorem blk_6 (t : Fin cfg0.N) (a : Fin 32) (l : Fin 5632) :
    iblk m c 6 t (ix3 0 a l) = m ((c.tc : Thread nD τ).loc main_arg7) (ix3 1 (row7 t.val a) l) := by
  blk_ext! [iblk, V, idx_6 t]

theorem final_7 : (dats m 0 c).arrAt 10 cfg0.N = cast7 m c := by
  refine (dats m 0 c).arrAt_eq_of_covers 10 _ (by decide +kernel) fun t hf y => ?_
  blk_simp
  rw [after0_10]
  obtain ⟨a, l, rfl⟩ : ∃ (a : Fin 32) (l : Fin 5632), y = ix2 a l := ⟨y 0, y 1, by idx_vars y⟩
  have e0 : ((win0_10.blk t).view.emb (ix2 a l) 0 : Fin 2048) = row7 t.val a :=
    Fin.ext (by blk_simp [idx_10 t]; show min t.val 63 * 32 + a.val = 32 * min t.val 63 + a.val; omega)
  have e1 : ((win0_10.blk t).view.emb (ix2 a l) 1 : Fin 5632) = l :=
    Fin.ext (by blk_simp [idx_10 t])
  refine (cast1_apply _ a l).trans ((blk_6 m c t a l).trans ?_)
  unfold cast7
  rw [e0, e1]
  try rfl

abbrev row8 (n : ℕ) (a : Fin 64) : Fin 5632 := ⟨64 * min n 87 + a.val, by omega⟩

/-- What the cast of argument 8 leaves. -/
def cast8 : FVec Ideal S5632x2048 .bf16 := fun i => m ((c.tc : Thread nD τ).loc main_arg8) (ix3 1 (i 0) (i 1))

theorem blk_7 (t : Fin cfg0.N) (a : Fin 64) (l : Fin 2048) :
    iblk m c 7 t (ix3 0 a l) = m ((c.tc : Thread nD τ).loc main_arg8) (ix3 1 (row8 t.val a) l) := by
  blk_ext! [iblk, V, idx_7 t]

theorem final_8 : (dats m 0 c).arrAt 11 cfg0.N = cast8 m c := by
  refine (dats m 0 c).arrAt_eq_of_covers 11 _ (by decide +kernel) fun t hf y => ?_
  blk_simp
  rw [after0_11]
  obtain ⟨a, l, rfl⟩ : ∃ (a : Fin 64) (l : Fin 2048), y = ix2 a l := ⟨y 0, y 1, by idx_vars y⟩
  have e0 : ((win0_11.blk t).view.emb (ix2 a l) 0 : Fin 5632) = row8 t.val a :=
    Fin.ext (by blk_simp [idx_11 t]; show min t.val 87 * 64 + a.val = 64 * min t.val 87 + a.val; omega)
  have e1 : ((win0_11.blk t).view.emb (ix2 a l) 1 : Fin 2048) = l :=
    Fin.ext (by blk_simp [idx_11 t])
  refine (cast2_apply _ a l).trans ((blk_7 m c t a l).trans ?_)
  unfold cast8
  rw [e0, e1]
  try rfl

theorem run_blocks (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 8 cfg0.N
      ∧ r.2.mem ((c.tc : Thread nD τ).loc main_v0_1) = (dats m 0 c).arrAt 9 cfg0.N
      ∧ r.2.mem ((c.tc : Thread nD τ).loc main_v0_2) = (dats m 0 c).arrAt 10 cfg0.N
      ∧ r.2.mem ((c.tc : Thread nD τ).loc main_v0_3) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 8, (h c).1 9, (h c).1 10, (h c).1 11,
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩) (run_main m ρ)

end Cert.Mid.Whole

namespace Cert.Proof
open Idealize.ShloMosaic Idealize.SL.Sem

/-! ## The program read at exact values is the same program -/

set_option maxHeartbeats 2000000 in
theorem mid_part_eq : @Cert.MidIdeal.k0_part1 Ideal _ Cert.MidIdeal.Gen.facts = @Cert.Mid.k0_part1 Ideal _ Cert.Mid.Gen.facts := by
  unfold Cert.MidIdeal.k0_part1 Cert.Mid.k0_part1
  with_unfolding_all rfl
set_option maxHeartbeats 2000000 in
theorem mid_body_eq : @Cert.MidIdeal.cc0_ffn Ideal _ Cert.MidIdeal.Gen.facts = @Cert.Mid.cc0_ffn Ideal _ Cert.Mid.Gen.facts := by
  unfold Cert.MidIdeal.cc0_ffn Cert.Mid.cc0_ffn
  rw [mid_part_eq]
  with_unfolding_all rfl
set_option maxHeartbeats 2000000 in
theorem mid_defs0_eq : @Cert.MidIdeal.defs₀ Ideal _ Cert.MidIdeal.Gen.facts = @Cert.Mid.defs₀ Ideal _ Cert.Mid.Gen.facts := by
  unfold Cert.MidIdeal.defs₀ Cert.Mid.defs₀
  rw [mid_body_eq]
  refine congrArg Defs.onTc (funext fun l => ?_)
  obtain ⟨_ | n, h⟩ := l
  · funext ⟨t, s⟩; rfl
  · exact absurd h (Nat.not_lt.2 (Nat.le_add_left _ _))
set_option maxHeartbeats 2000000 in
theorem mid_defs_eq : @Cert.MidIdeal.defs Ideal _ Cert.MidIdeal.Gen.facts = @Cert.Mid.defs Ideal _ Cert.Mid.Gen.facts := by
  unfold Cert.MidIdeal.defs Cert.Mid.defs
  exact congrArg (Pipeline.defs Cert.Mid.pcfgs) mid_defs0_eq
set_option maxHeartbeats 2000000 in
theorem mid_main_eq : @Cert.MidIdeal.main Ideal _ = @Cert.Mid.main Ideal _ := by
  unfold Cert.MidIdeal.main Cert.Mid.main
  rfl
set_option maxHeartbeats 2000000 in
theorem mid_run (s) (Q) (h : θ_run (@Cert.Mid.defs Ideal _ Cert.Mid.Gen.facts) (onTc (τ := Cert.Mid.τ) (@Cert.Mid.main Ideal _)) s Q) :
    θ_run (@Cert.MidIdeal.defs Ideal _ Cert.MidIdeal.Gen.facts) (onTc (τ := Cert.MidIdeal.τ) (@Cert.MidIdeal.main Ideal _)) s Q :=
  (congr (congrArg (fun d p => θ_run d (onTc (τ := Cert.Mid.τ) p) s Q) mid_defs_eq) mid_main_eq).mpr h
theorem midIdeal_frame : Cert.quiescent_MidIdeal := fun m ρ _ => mid_run _ _ (Cert.Mid.Hand.frame (F := Ideal) m ρ)

theorem midRef_frame : Cert.quiescent_MidRefIdeal := fun m g _ =>
  (θ_run _ _ _).mono (fun r h => ⟨fun c => (h c).2.2.2.2, sem_eq_zero_of_no_sems (by decide) r.2⟩) (Cert.MidRefIdeal.Value.run m g)

theorem mid_algebraic : Cert.algebraic_MidIdeal_MidRefIdeal := fun m g m' g' hpre hag =>
  ⟨fun c => Cert.Mid.Whole.result m c, fun c => Cert.Mid.Whole.cast6 m c, fun c => Cert.Mid.Whole.cast7 m c, fun c => Cert.Mid.Whole.cast8 m c,
    mid_run _ _ ((θ_run _ _ _).mono (fun r h c => ⟨(h c).1.trans (Cert.Mid.Whole.final m c), (h c).2.1.trans (Cert.Mid.Whole.final_6 m c), (h c).2.2.1.trans (Cert.Mid.Whole.final_7 m c), (h c).2.2.2.1.trans (Cert.Mid.Whole.final_8 m c), (h c).2.2.2.2⟩) (Cert.Mid.Whole.run_blocks m g)),
    (θ_run _ _ _).mono (fun r h c => by
      obtain ⟨h0, h1, h2, h3, h4, h5, h6, h7, h8⟩ := hag c
      refine ⟨(h c).1.trans ?_, (h c).2.1.trans ?_, (h c).2.2.1.trans ?_, (h c).2.2.2.1.trans ?_, (h c).2.2.2.2⟩
      · rw [h0, h1, h2, h3, h4]
        funext i
        obtain ⟨r, l, rfl⟩ : ∃ (r : Fin 8192) (l : Fin 2048), i = ix2 r l := ⟨i 0, i 1, by idx_vars i⟩
        show _ = Cert.FfnIdeal.Whole.mixAt (Cert.Mid.Whole.xOf m c r) _ _ _ _ l
        unfold Cert.FfnIdeal.Whole.mixAt Cert.FfnIdeal.Whole.gateAt Cert.FfnIdeal.Whole.normAt
          Cert.Mid.Whole.xOf Cert.Mid.Whole.gOf Cert.Mid.Whole.aOf Cert.Mid.Whole.bOf Cert.Mid.Whole.dOf
        pointwise
      · rw [h6]
        funext i
        obtain ⟨r, l, rfl⟩ : ∃ (r : Fin 2048) (l : Fin 5632), i = ix2 r l := ⟨i 0, i 1, by idx_vars i⟩
        show _ = m ((c.tc : Thread Cert.MidIdeal.nD Cert.MidIdeal.τ).loc Cert.MidIdeal.main_arg6) (ix3 1 r l)
        pointwise
      · rw [h7]
        funext i
        obtain ⟨r, l, rfl⟩ : ∃ (r : Fin 2048) (l : Fin 5632), i = ix2 r l := ⟨i 0, i 1, by idx_vars i⟩
        show _ = m ((c.tc : Thread Cert.MidIdeal.nD Cert.MidIdeal.τ).loc Cert.MidIdeal.main_arg7) (ix3 1 r l)
        pointwise
      · rw [h8]
        funext i
        obtain ⟨r, l, rfl⟩ : ∃ (r : Fin 5632) (l : Fin 2048), i = ix2 r l := ⟨i 0, i 1, by idx_vars i⟩
        show _ = m ((c.tc : Thread Cert.MidIdeal.nD Cert.MidIdeal.τ).loc Cert.MidIdeal.main_arg8) (ix3 1 r l)
        pointwise) (Cert.MidRefIdeal.Value.run m' g')⟩

end Cert.Proof

end
-- ==== Proof.Pre.lean ====
/-
  What the precondition says: every factor `xi` of the retained state is neither negative nor infinite.
-/
module

public import proofs.«01_k».proof.Defs
public import proofs.«01_k».proof.Proof.KernelValue
public import proofs.«01_k».proof.Proof.Gen.Pre_xi_nonnegative
public import Idealize.ShloMosaic.Lib.ReduceAll
public import Idealize.ShloMosaic.Lib.Pointwise

@[expose] public section

noncomputable section

namespace Cert.RetIdeal.Chunks

open Idealize.ShloMosaic Idealize.ShloMosaic.TcCoe
open Idealize.SL.Sem

theorem xiReal_of_pre (m : (ℓ : Loc nD τ sig) → Buf (Elt Ideal) ℓ) (hpre : Cert.Pre_RetIdeal_xi_nonnegative m) (c : Dev nD) : XiReal m c := by
  intro h i
  have hp := congrFun (hpre c) (fun a => a.elim0)
  unfold Cert.Pre_xi_nonnegative.fn at hp
  have hb := Host.reduce_andi_all _ _ _ _ _ hp (ix2 h i)
  have hz : Ideal.ofBits .f32 0x00000000#32 = 0 := by simp [Ideal.ofBits, Ideal.ieee]
  replace hb : IntOp.andi (Ideal.cmp .oge (argXi m c h i) (Ideal.ofBits .f32 0x00000000#32))
      (Ideal.cmp .olt (argXi m c h i) (Ideal.ofBits .f32 0x7F800000#32)) = 1#1 := hb
  rw [hz] at hb
  unfold Ideal.cmp at hb
  by_cases h0 : 0 ≤ argXi m c h i <;> by_cases h1 : argXi m c h i < Ideal.ofBits .f32 0x7F800000#32
  · exact ⟨h0, (lt_top_of_lt h1).ne⟩
  all_goals simp [h0, h1, IntOp.andi] at hb

end Cert.RetIdeal.Chunks

end
-- ==== Proof.lean ====
module

public import proofs.«01_k».proof.Defs
public import proofs.«01_k».proof.Proof.Gen.Ret
public import proofs.«01_k».proof.Proof.Gen.Ret.Skeleton
public import proofs.«01_k».proof.Proof.Gen.Ret.Loops
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Loops
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Pre_xi_nonnegative
public import proofs.«01_k».proof.Proof.Gen.RetIdeal.Value
public import proofs.«01_k».proof.Proof.Gen.RetRefIdeal.Run
public import proofs.«01_k».proof.Proof.Gen.Merge.Frame
public import proofs.«01_k».proof.Proof.Gen.Out.Frame
public import proofs.«01_k».proof.Proof.Gen.Proj.Frame
public import proofs.«01_k».proof.Proof.Gen.Ffn.Frame
public import proofs.«01_k».proof.Proof.Gen.FfnIdeal.Frame
public import proofs.«01_k».proof.Proof.Gen.FfnIdeal.Skeleton
public import proofs.«01_k».proof.Proof.Gen.FfnIdeal.Loops
public import proofs.«01_k».proof.Proof.Gen.Ffn.Skeleton
public import proofs.«01_k».proof.Proof.Gen.Ffn.Loops
public import proofs.«01_k».proof.Proof.Gen.MergeIdeal.Value
public import proofs.«01_k».proof.Proof.Gen.OutIdeal.Value
public import proofs.«01_k».proof.Proof.Gen.ProjIdeal.Value
public import proofs.«01_k».proof.Proof.Gen.MergeRefIdeal.Run
public import proofs.«01_k».proof.Proof.Gen.OutRefIdeal.Run
public import proofs.«01_k».proof.Proof.Gen.FfnRefIdeal.Run
public import proofs.«01_k».proof.Proof.Gen.Half.Frame
public import proofs.«01_k».proof.Proof.Gen.HalfIdeal.Frame
public import proofs.«01_k».proof.Proof.Gen.HalfIdeal.Skeleton
public import proofs.«01_k».proof.Proof.Gen.HalfIdeal.Loops
public import proofs.«01_k».proof.Proof.Gen.Half.Skeleton
public import proofs.«01_k».proof.Proof.Gen.Half.Loops
public import proofs.«01_k».proof.Proof.Gen.HalfRefIdeal.Run
public import proofs.«01_k».proof.Proof.Gen.Mid.Frame
public import proofs.«01_k».proof.Proof.Gen.MidIdeal.Frame
public import proofs.«01_k».proof.Proof.Gen.MidIdeal.Skeleton
public import proofs.«01_k».proof.Proof.Gen.MidIdeal.Loops
public import proofs.«01_k».proof.Proof.Gen.Mid.Skeleton
public import proofs.«01_k».proof.Proof.Gen.Mid.Loops
public import proofs.«01_k».proof.Proof.Gen.MidRefIdeal.Run
public import proofs.«01_k».proof.Proof.Gen.ProjRefIdeal.Run
public import proofs.«01_k».proof.Proof.KernelValue
public import proofs.«01_k».proof.Proof.RefValue
public import proofs.«01_k».proof.Proof.MergeValue
public import proofs.«01_k».proof.Proof.OutValue
public import proofs.«01_k».proof.Proof.FfnValue
public import proofs.«01_k».proof.Proof.ProjValue
public import proofs.«01_k».proof.Proof.HalfValue
public import proofs.«01_k».proof.Proof.MidValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Ret

/-- The reference declares no semaphore, so every counter ends at zero. -/
theorem retRef_frame : quiescent_RetRefIdeal := fun m g _ =>
  (θ_run _ _ _).mono (fun r h => ⟨fun c => (h c).2, sem_eq_zero_of_no_sems (by decide) r.2⟩) (Cert.RetRefIdeal.Value.run m g)

/-- Where no factor of the state is negative or infinite, both programs end at the retention of their arguments. -/
theorem ret_algebraic : algebraic_RetIdeal_RetRefIdeal_pre_xi_nonnegative := fun m g m' g' hpre hag =>
  ⟨fun c => Cert.RetIdeal.Chunks.result m c, Cert.RetIdeal.Chunks.runs m g fun c => Cert.RetIdeal.Chunks.xiReal_of_pre m hpre c,
    (θ_run _ _ _).mono (fun r h c => ⟨(h c).1.trans (by
      obtain ⟨h0, h1, h2, h3, h4⟩ := hag c
      funext i
      refine (Cert.RetRefIdeal.Chunks.result_eq m' c i).trans ?_
      unfold Cert.RetRefIdeal.Chunks.argX Cert.RetRefIdeal.Chunks.argDec Cert.RetRefIdeal.Chunks.argZeta
        Cert.RetRefIdeal.Chunks.argXi Cert.RetRefIdeal.Chunks.argCd
      rw [h0, h1, h2, h3, h4]
      rfl), (h c).2⟩) (Cert.RetRefIdeal.Value.run m' g')⟩

theorem claim : Cert.Claim := ⟨Cert.Ret.Gen.facts, Cert.RetIdeal.Gen.facts, Cert.RetRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Half.Gen.facts, Cert.HalfIdeal.Gen.facts, Cert.HalfRefIdeal.Gen.facts, Cert.Mid.Gen.facts, Cert.MidIdeal.Gen.facts, Cert.MidRefIdeal.Gen.facts, Cert.Pre_xi_nonnegative.Gen.facts,
  fun m ρ _ => Cert.Ret.Gen.frame m ρ, fun m ρ _ => Cert.RetIdeal.Gen.frame m ρ, fun m ρ _ => Cert.RetIdeal.Gen.frame m ρ,
  retRef_frame, fun m g _ => retRef_frame m g trivial,
  fun m ρ _ => Cert.Merge.Gen.frame m ρ, fun m ρ _ => Cert.MergeIdeal.Gen.frame m ρ, mergeRef_frame,
  fun m ρ _ => Cert.Out.Gen.frame m ρ, fun m ρ _ => Cert.OutIdeal.Gen.frame m ρ, outRef_frame,
  fun m ρ _ => Cert.Ffn.Hand.frame m ρ, fun m ρ _ => Cert.FfnIdeal.Hand.frame m ρ, ffnRef_frame,
  fun m ρ _ => Cert.Proj.Gen.frame m ρ, fun m ρ _ => Cert.ProjIdeal.Gen.frame m ρ, projRef_frame,
  fun m ρ _ => Cert.Half.Hand.frame m ρ, halfIdeal_frame, halfRef_frame,
  fun m ρ _ => Cert.Mid.Hand.frame m ρ, midIdeal_frame, midRef_frame,
  trivial, ret_algebraic, trivial, merge_algebraic, trivial, out_algebraic, trivial, ffn_algebraic, trivial, proj_algebraic, trivial, half_algebraic, trivial, mid_algebraic⟩

end Cert.Proof

end
